-- ==== Defs.lean ====
def Pre_Kernel [hPre_last_offset : Cert.Pre_last_offset.Facts] (m : (ℓ : Loc Cert.Kernel.nD Cert.Kernel.τ Cert.Kernel.sig) → Buf (Elt Bits) ℓ) : Prop :=
  ∀ c : Dev Cert.Kernel.nD,
    (Cert.Pre_last_offset.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_last_offset : Cert.Pre_last_offset.Facts] (m : (ℓ : Loc Cert.KernelIdeal.nD Cert.KernelIdeal.τ Cert.KernelIdeal.sig) → Buf (Elt Ideal) ℓ) : Prop :=
  ∀ c : Dev Cert.KernelIdeal.nD,
    (Cert.Pre_last_offset.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_ordered_tables [hPre_ordered_tables : Cert.Pre_ordered_tables.Facts] (m : (ℓ : Loc Cert.KernelIdeal.nD Cert.KernelIdeal.τ Cert.KernelIdeal.sig) → Buf (Elt Ideal) ℓ) : Prop :=
  ∀ c : Dev Cert.KernelIdeal.nD,
    (Cert.Pre_ordered_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordered_tables [hPre_ordered_tables : Cert.Pre_ordered_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_last_offset : Cert.Pre_last_offset.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_last_offset : Cert.Pre_last_offset.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_ordered_tables [hKernelIdeal : Cert.KernelIdeal.Facts] [hPre_ordered_tables : Cert.Pre_ordered_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordered_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_ordered_tables [hReferenceIdeal : Cert.ReferenceIdeal.Facts] [hPre_ordered_tables : Cert.Pre_ordered_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def algebraic_KernelIdeal_ReferenceIdeal_pre_ordered_tables [hKernelIdeal : Cert.KernelIdeal.Facts] [hReferenceIdeal : Cert.ReferenceIdeal.Facts] [hPre_ordered_tables : Cert.Pre_ordered_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordered_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v119_1)) (v1 : (c : Dev Cert.KernelIdeal.nD) → Buf (Elt Ideal) ((c.tc : Thread Cert.KernelIdeal.nD Cert.KernelIdeal.τ).loc Cert.KernelIdeal.main_v119_2)) (v2 : (c : Dev Cert.KernelIdeal.nD) → Buf (Elt Ideal) ((c.tc : Thread Cert.KernelIdeal.nD Cert.KernelIdeal.τ).loc Cert.KernelIdeal.main_v119_3)) (v3 : (c : Dev Cert.KernelIdeal.nD) → Buf (Elt Ideal) ((c.tc : Thread Cert.KernelIdeal.nD Cert.KernelIdeal.τ).loc Cert.KernelIdeal.main_v119_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119_1) = v0 c
          ∧ r.2.mem ((c.tc : Thread Cert.KernelIdeal.nD Cert.KernelIdeal.τ).loc Cert.KernelIdeal.main_v119_2) = v1 c
          ∧ r.2.mem ((c.tc : Thread Cert.KernelIdeal.nD Cert.KernelIdeal.τ).loc Cert.KernelIdeal.main_v119_3) = v2 c
          ∧ r.2.mem ((c.tc : Thread Cert.KernelIdeal.nD Cert.KernelIdeal.τ).loc Cert.KernelIdeal.main_v119_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_v294) = v1 c
          ∧ r.2.mem ((c.tc : Thread Cert.ReferenceIdeal.nD Cert.ReferenceIdeal.τ).loc Cert.ReferenceIdeal.main_v322) = v2 c
          ∧ r.2.mem ((c.tc : Thread Cert.ReferenceIdeal.nD Cert.ReferenceIdeal.τ).loc Cert.ReferenceIdeal.main_v323) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel_KernelIdeal : Prop :=
  IdealRules.bf16_pair.Statement Cert.KernelIdeal.S16x128 Cert.KernelIdeal.S8x128

def Claim : Prop :=
  ∃ (hKernel : Cert.Kernel.Facts) (hKernelIdeal : Cert.KernelIdeal.Facts) (hReferenceIdeal : Cert.ReferenceIdeal.Facts) (hPre_last_offset : Cert.Pre_last_offset.Facts) (hPre_ordered_tables : Cert.Pre_ordered_tables.Facts),
    quiescent_Kernel (hKernel := hKernel) (hPre_last_offset := hPre_last_offset)
    ∧ quiescent_KernelIdeal (hKernelIdeal := hKernelIdeal) (hPre_last_offset := hPre_last_offset)
    ∧ quiescent_KernelIdeal_pre_ordered_tables (hKernelIdeal := hKernelIdeal) (hPre_ordered_tables := hPre_ordered_tables)
    ∧ quiescent_ReferenceIdeal (hReferenceIdeal := hReferenceIdeal)
    ∧ quiescent_ReferenceIdeal_pre_ordered_tables (hReferenceIdeal := hReferenceIdeal) (hPre_ordered_tables := hPre_ordered_tables)
    ∧ algebraic_KernelIdeal_ReferenceIdeal_pre_ordered_tables (hKernelIdeal := hKernelIdeal) (hReferenceIdeal := hReferenceIdeal) (hPre_ordered_tables := hPre_ordered_tables)
    ∧ preserves_Kernel_KernelIdeal
-- ==== Pre_last_offset.lean ====
abbrev S3211264 : Shape := ⟨1, ![3211264]⟩
abbrev S1605632 : Shape := ⟨1, ![1605632]⟩
abbrev S25088 : Shape := ⟨1, ![25088]⟩
abbrev S16 : Shape := ⟨1, ![16]⟩
abbrev S97 : Shape := ⟨1, ![97]⟩
abbrev S96 : Shape := ⟨1, ![96]⟩
abbrev S_ : Shape := ⟨0, ![]⟩
abbrev S1 : Shape := ⟨1, ![1]⟩

class Facts : Prop where
  slices_S97_S1_96 : S97.Slices ![96] S1
  shapeCasts_S1_S_ : S1.ShapeCasts S_

variable [Facts]

def fn {F : FTy → Type} [FloatOps F] (main_arg0 : FVec F S3211264 .f32) (main_arg1 : FVec F S3211264 .bf16) (main_arg2 : IVec S1605632 8) (main_arg3 : FVec F S25088 .f32) (main_arg4 : IVec S1605632 8) (main_arg5 : FVec F S25088 .f32) (main_arg6 : FVec F S16 .f32) (main_arg7 : FVec F S16 .f32) (main_arg8 : IVec S97 32) (main_arg9 : FVec F S96 .f32) (main_arg10 : IVec S_ 32) : IVec S_ 1 :=
  let main_v0 : IVec S1 32 := (extractStridedSlice S1 ![96] · slices_S97_S1_96) main_arg8
  let main_v1 : IVec S_ 32 := shapeCast S_ main_v0 shapeCasts_S1_S_
  let main_c : IVec S_ 32 := constantI S_ 32 3203072#32
  let main_v2 : IVec S_ 1 := cmpi .sgt main_v1 main_c
  main_v2
-- ==== Pre_ordered_tables.lean ====
abbrev S3211264 : Shape := ⟨1, ![3211264]⟩
abbrev S1605632 : Shape := ⟨1, ![1605632]⟩
abbrev S25088 : Shape := ⟨1, ![25088]⟩
abbrev S16 : Shape := ⟨1, ![16]⟩
abbrev S97 : Shape := ⟨1, ![97]⟩
abbrev S96 : Shape := ⟨1, ![96]⟩
abbrev S_ : Shape := ⟨0, ![]⟩
abbrev S1 : Shape := ⟨1, ![1]⟩
abbrev S15 : Shape := ⟨1, ![15]⟩

class Facts : Prop where
  slices_S97_S1_96 : S97.Slices ![96] S1
  shapeCasts_S1_S_ : S1.ShapeCasts S_
  slices_S16_S15_0 : S16.Slices ![0] S15
  slices_S16_S15_1 : S16.Slices ![1] S15
  reducesTo_S15_S_d0 : S15.ReducesTo [0] S_
  h_S_ : 0 < S_.numel
  bcast_S_S16 : S_.BroadcastsInDim S16 (![] : Fin 0 → Fin S16.rank)
  reducesTo_S16_S_d0 : S16.ReducesTo [0] S_
  bcast_S_S25088 : S_.BroadcastsInDim S25088 (![] : Fin 0 → Fin S25088.rank)
  reducesTo_S25088_S_d0 : S25088.ReducesTo [0] S_

variable [Facts]

def fn_part1 {F : FTy → Type} [FloatOps F] (main_arg5 : FVec F S25088 .f32) (main_v16 : IVec S_ 1) (main_v17 : FVec F S25088 .f32) : IVec S_ 1 :=
  let main_v18 : IVec S25088 1 := cmpf .oge main_arg5 main_v17
  let main_c_4 : IVec S_ 1 := constantI S_ 1 1#1
  let main_v19 : IVec S_ 1 := (fun x v => Host.reduce IntOp.andi x v reducesTo_S25088_S_d0 h_S_) main_v18 main_c_4
  let main_v20 : IVec S_ 1 := andi main_v16 main_v19
  main_v20

def fn {F : FTy → Type} [FloatOps F] (main_arg0 : FVec F S3211264 .f32) (main_arg1 : FVec F S3211264 .bf16) (main_arg2 : IVec S1605632 8) (main_arg3 : FVec F S25088 .f32) (main_arg4 : IVec S1605632 8) (main_arg5 : FVec F S25088 .f32) (main_arg6 : FVec F S16 .f32) (main_arg7 : FVec F S16 .f32) (main_arg8 : IVec S97 32) (main_arg9 : FVec F S96 .f32) (main_arg10 : IVec S_ 32) : IVec S_ 1 :=
  let main_v0 : IVec S1 32 := (extractStridedSlice S1 ![96] · slices_S97_S1_96) main_arg8
  let main_v1 : IVec S_ 32 := shapeCast S_ main_v0 shapeCasts_S1_S_
  let main_c : IVec S_ 32 := constantI S_ 32 3203072#32
  let main_v2 : IVec S_ 1 := cmpi .sgt main_v1 main_c
  let main_v3 : FVec F S15 .f32 := (extractStridedSlice S15 ![0] · slices_S16_S15_0) main_arg6
  let main_v4 : FVec F S15 .f32 := (extractStridedSlice S15 ![1] · slices_S16_S15_1) main_arg6
  let main_v5 : IVec S15 1 := cmpf .ole main_v3 main_v4
  let main_c_0 : IVec S_ 1 := constantI S_ 1 1#1
  let main_v6 : IVec S_ 1 := (fun x v => Host.reduce IntOp.andi x v reducesTo_S15_S_d0 h_S_) main_v5 main_c_0
  let main_v7 : IVec S_ 1 := andi main_v2 main_v6
  let main_v8 : FVec F S15 .f32 := (extractStridedSlice S15 ![0] · slices_S16_S15_0) main_arg7
  let main_v9 : FVec F S15 .f32 := (extractStridedSlice S15 ![1] · slices_S16_S15_1) main_arg7
  let main_v10 : IVec S15 1 := cmpf .ole main_v8 main_v9
  let main_c_1 : IVec S_ 1 := constantI S_ 1 1#1
  let main_v11 : IVec S_ 1 := (fun x v => Host.reduce IntOp.andi x v reducesTo_S15_S_d0 h_S_) main_v10 main_c_1
  let main_v12 : IVec S_ 1 := andi main_v7 main_v11
  let main_cst : FVec F S_ .f32 := constant S_ .f32 0x00000000#32
  let main_v13 : FVec F S16 .f32 := broadcastInDim S16 ![] bcast_S_S16 main_cst
  let main_v14 : IVec S16 1 := cmpf .oge main_arg7 main_v13
  let main_c_2 : IVec S_ 1 := constantI S_ 1 1#1
  let main_v15 : IVec S_ 1 := (fun x v => Host.reduce IntOp.andi x v reducesTo_S16_S_d0 h_S_) main_v14 main_c_2
  let main_v16 : IVec S_ 1 := andi main_v12 main_v15
  let main_cst_3 : FVec F S_ .f32 := constant S_ .f32 0x00000000#32
  let main_v17 : FVec F S25088 .f32 := broadcastInDim S25088 ![] bcast_S_S25088 main_cst_3
  fn_part1 (F := F) main_arg5 main_v16 main_v17
-- ==== Kernel.lean ====
abbrev S3211264 : Shape := ⟨1, ![3211264]⟩
abbrev S1605632 : Shape := ⟨1, ![1605632]⟩
abbrev S25088 : Shape := ⟨1, ![25088]⟩
abbrev S16 : Shape := ⟨1, ![16]⟩
abbrev S97 : Shape := ⟨1, ![97]⟩
abbrev S96 : Shape := ⟨1, ![96]⟩
abbrev S_ : Shape := ⟨0, ![]⟩
abbrev S4 : Shape := ⟨1, ![4]⟩
abbrev S1 : Shape := ⟨1, ![1]⟩
abbrev S2 : Shape := ⟨1, ![2]⟩
abbrev S15 : Shape := ⟨1, ![15]⟩
abbrev S1x16 : Shape := ⟨2, ![1, 16]⟩
abbrev S8x16 : Shape := ⟨2, ![8, 16]⟩
abbrev S128 : Shape := ⟨1, ![128]⟩
abbrev S4x1 : Shape := ⟨2, ![4, 1]⟩
abbrev S8 : Shape := ⟨1, ![8]⟩
abbrev S8x1 : Shape := ⟨2, ![8, 1]⟩
abbrev S1x128 : Shape := ⟨2, ![1, 128]⟩
abbrev S4x128 : Shape := ⟨2, ![4, 128]⟩
abbrev S25088x128 : Shape := ⟨2, ![25088, 128]⟩
abbrev S12544x128 : Shape := ⟨2, ![12544, 128]⟩
abbrev S49x4x128 : Shape := ⟨3, ![49, 4, 128]⟩
abbrev S512x128 : Shape := ⟨2, ![512, 128]⟩
abbrev S256x128 : Shape := ⟨2, ![256, 128]⟩
abbrev S1x4x128 : Shape := ⟨3, ![1, 4, 128]⟩
abbrev S8x128 : Shape := ⟨2, ![8, 128]⟩
abbrev S1x1x128 : Shape := ⟨3, ![1, 1, 128]⟩
abbrev S8x128x1 : Shape := ⟨3, ![8, 128, 1]⟩
abbrev S32x128 : Shape := ⟨2, ![32, 128]⟩
abbrev S16x128 : Shape := ⟨2, ![16, 128]⟩

abbrev nBuf : Space → Nat
  | .hbm => 171
  | .vmem => 23
  | .smem => 5
  | _ => 0

abbrev hbmTy0_0 (i : Nat) : BufTy := match i % 128 with
  | 0 => ⟨S3211264, .f32⟩
  | 1 => ⟨S3211264, .bf16⟩
  | 2 => ⟨S1605632, .i8⟩
  | 3 => ⟨S25088, .f32⟩
  | 4 => ⟨S1605632, .i8⟩
  | 5 => ⟨S25088, .f32⟩
  | 6 => ⟨S16, .f32⟩
  | 7 => ⟨S16, .f32⟩
  | 8 => ⟨S97, .i32⟩
  | 9 => ⟨S96, .f32⟩
  | 10 => ⟨S_, .i32⟩
  | 11 => ⟨S4, .i32⟩
  | 12 => ⟨S4, .i32⟩
  | 13 => ⟨S4, .i32⟩
  | 14 => ⟨S4, .i32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S1, .f32⟩
  | 31 => ⟨S1, .f32⟩
  | 32 => ⟨S2, .f32⟩
  | 33 => ⟨S_, .f32⟩
  | 34 => ⟨S96, .f32⟩
  | 35 => ⟨S96, .f32⟩
  | 36 => ⟨S96, .f32⟩
  | 37 => ⟨S96, .f32⟩
  | 38 => ⟨S_, .f32⟩
  | 39 => ⟨S1, .f32⟩
  | 40 => ⟨S97, .f32⟩
  | 41 => ⟨S15, .f32⟩
  | 42 => ⟨S15, .f32⟩
  | 43 => ⟨S15, .f32⟩
  | 44 => ⟨S_, .f32⟩
  | 45 => ⟨S15, .f32⟩
  | 46 => ⟨S15, .f32⟩
  | 47 => ⟨S15, .f32⟩
  | 48 => ⟨S15, .f32⟩
  | 49 => ⟨S15, .f32⟩
  | 50 => ⟨S_, .f32⟩
  | 51 => ⟨S15, .f32⟩
  | 52 => ⟨S15, .f32⟩
  | 53 => ⟨S1x16, .f32⟩
  | 54 => ⟨S8x16, .f32⟩
  | 55 => ⟨S128, .f32⟩
  | 56 => ⟨S1x16, .f32⟩
  | 57 => ⟨S8x16, .f32⟩
  | 58 => ⟨S128, .f32⟩
  | 59 => ⟨S_, .f32⟩
  | 60 => ⟨S16, .f32⟩
  | 61 => ⟨S_, .i32⟩
  | 62 => ⟨S4, .i32⟩
  | 63 => ⟨S4, .i1⟩
  | 64 => ⟨S_, .i32⟩
  | 65 => ⟨S4, .i32⟩
  | 66 => ⟨S4, .i32⟩
  | 67 => ⟨S4, .i32⟩
  | 68 => ⟨S4x1, .i32⟩
  | 69 => ⟨S4, .f32⟩
  | 70 => ⟨S_, .i32⟩
  | 71 => ⟨S4, .i32⟩
  | 72 => ⟨S4, .i1⟩
  | 73 => ⟨S_, .i32⟩
  | 74 => ⟨S4, .i32⟩
  | 75 => ⟨S4, .i32⟩
  | 76 => ⟨S4, .i32⟩
  | 77 => ⟨S4x1, .i32⟩
  | 78 => ⟨S16, .f32⟩
  | 79 => ⟨S8, .i32⟩
  | 80 => ⟨S_, .i32⟩
  | 81 => ⟨S8, .i32⟩
  | 82 => ⟨S8, .i32⟩
  | 83 => ⟨S_, .i32⟩
  | 84 => ⟨S8, .i32⟩
  | 85 => ⟨S8, .i32⟩
  | 86 => ⟨S_, .i32⟩
  | 87 => ⟨S8, .i32⟩
  | 88 => ⟨S8, .i1⟩
  | 89 => ⟨S_, .i32⟩
  | 90 => ⟨S8, .i32⟩
  | 91 => ⟨S8, .i32⟩
  | 92 => ⟨S8, .i32⟩
  | 93 => ⟨S8x1, .i32⟩
  | 94 => ⟨S8, .f32⟩
  | 95 => ⟨S_, .i32⟩
  | 96 => ⟨S8, .i32⟩
  | 97 => ⟨S8, .i1⟩
  | 98 => ⟨S_, .i32⟩
  | 99 => ⟨S8, .i32⟩
  | 100 => ⟨S8, .i32⟩
  | 101 => ⟨S8, .i32⟩
  | 102 => ⟨S8x1, .i32⟩
  | 103 => ⟨S16, .f32⟩
  | 104 => ⟨S1x16, .f32⟩
  | 105 => ⟨S8x16, .f32⟩
  | 106 => ⟨S128, .f32⟩
  | 107 => ⟨S_, .f32⟩
  | 108 => ⟨S16, .f32⟩
  | 109 => ⟨S_, .i32⟩
  | 110 => ⟨S4, .i32⟩
  | 111 => ⟨S4, .i1⟩
  | 112 => ⟨S_, .i32⟩
  | 113 => ⟨S4, .i32⟩
  | 114 => ⟨S4, .i32⟩
  | 115 => ⟨S4, .i32⟩
  | 116 => ⟨S4x1, .i32⟩
  | 117 => ⟨S4, .f32⟩
  | 118 => ⟨S_, .i32⟩
  | 119 => ⟨S4, .i32⟩
  | 120 => ⟨S4, .i1⟩
  | 121 => ⟨S_, .i32⟩
  | 122 => ⟨S4, .i32⟩
  | 123 => ⟨S4, .i32⟩
  | 124 => ⟨S4, .i32⟩
  | 125 => ⟨S4x1, .i32⟩
  | 126 => ⟨S16, .f32⟩
  | 127 => ⟨S8, .i32⟩
  | _ => ⟨S3211264, .f32⟩

abbrev hbmTy0_1 (i : Nat) : BufTy := match i % 128 with
  | 0 => ⟨S_, .i32⟩
  | 1 => ⟨S8, .i32⟩
  | 2 => ⟨S8, .i32⟩
  | 3 => ⟨S_, .i32⟩
  | 4 => ⟨S8, .i32⟩
  | 5 => ⟨S8, .i32⟩
  | 6 => ⟨S_, .i32⟩
  | 7 => ⟨S8, .i32⟩
  | 8 => ⟨S8, .i1⟩
  | 9 => ⟨S_, .i32⟩
  | 10 => ⟨S8, .i32⟩
  | 11 => ⟨S8, .i32⟩
  | 12 => ⟨S8, .i32⟩
  | 13 => ⟨S8x1, .i32⟩
  | 14 => ⟨S8, .f32⟩
  | 15 => ⟨S_, .i32⟩
  | 16 => ⟨S8, .i32⟩
  | 17 => ⟨S8, .i1⟩
  | 18 => ⟨S_, .i32⟩
  | 19 => ⟨S8, .i32⟩
  | 20 => ⟨S8, .i32⟩
  | 21 => ⟨S8, .i32⟩
  | 22 => ⟨S8x1, .i32⟩
  | 23 => ⟨S16, .f32⟩
  | 24 => ⟨S1x16, .f32⟩
  | 25 => ⟨S8x16, .f32⟩
  | 26 => ⟨S128, .f32⟩
  | 27 => ⟨S1x128, .f32⟩
  | 28 => ⟨S1x128, .f32⟩
  | 29 => ⟨S1x128, .f32⟩
  | 30 => ⟨S1x128, .f32⟩
  | 31 => ⟨S4x128, .f32⟩
  | 32 => ⟨S25088x128, .f32⟩
  | 33 => ⟨S25088x128, .bf16⟩
  | 34 => ⟨S12544x128, .i8⟩
  | 35 => ⟨S49x4x128, .f32⟩
  | 36 => ⟨S12544x128, .i8⟩
  | 37 => ⟨S49x4x128, .f32⟩
  | 38 => ⟨S25088x128, .f32⟩
  | 39 => ⟨S12544x128, .i8⟩
  | 40 => ⟨S49x4x128, .f32⟩
  | 41 => ⟨S12544x128, .i8⟩
  | 42 => ⟨S49x4x128, .f32⟩
  | _ => ⟨S3211264, .f32⟩

abbrev hbmTy (i : Nat) : BufTy := match i / 128 with
  | 0 => hbmTy0_0 i
  | 1 => hbmTy0_1 i
  | _ => ⟨S3211264, .f32⟩

abbrev bufTy : (tb : Table) → Fin (tcTables nBuf tb) → BufTy
  | .hbm, ⟨i, _⟩ => hbmTy i
  | .local _ .vmem, ⟨0, _⟩ => ⟨S4x128, .f32⟩
  | .local _ .vmem, ⟨1, _⟩ => ⟨S512x128, .f32⟩
  | .local _ .vmem, ⟨2, _⟩ => ⟨S512x128, .f32⟩
  | .local _ .vmem, ⟨3, _⟩ => ⟨S512x128, .bf16⟩
  | .local _ .vmem, ⟨4, _⟩ => ⟨S512x128, .bf16⟩
  | .local _ .vmem, ⟨5, _⟩ => ⟨S256x128, .i8⟩
  | .local _ .vmem, ⟨6, _⟩ => ⟨S256x128, .i8⟩
  | .local _ .vmem, ⟨7, _⟩ => ⟨S1x4x128, .f32⟩
  | .local _ .vmem, ⟨8, _⟩ => ⟨S1x4x128, .f32⟩
  | .local _ .vmem, ⟨9, _⟩ => ⟨S256x128, .i8⟩
  | .local _ .vmem, ⟨10, _⟩ => ⟨S256x128, .i8⟩
  | .local _ .vmem, ⟨11, _⟩ => ⟨S1x4x128, .f32⟩
  | .local _ .vmem, ⟨12, _⟩ => ⟨S1x4x128, .f32⟩
  | .local _ .vmem, ⟨13, _⟩ => ⟨S512x128, .f32⟩
  | .local _ .vmem, ⟨14, _⟩ => ⟨S512x128, .f32⟩
  | .local _ .vmem, ⟨15, _⟩ => ⟨S256x128, .i8⟩
  | .local _ .vmem, ⟨16, _⟩ => ⟨S256x128, .i8⟩
  | .local _ .vmem, ⟨17, _⟩ => ⟨S1x4x128, .f32⟩
  | .local _ .vmem, ⟨18, _⟩ => ⟨S1x4x128, .f32⟩
  | .local _ .vmem, ⟨19, _⟩ => ⟨S256x128, .i8⟩
  | .local _ .vmem, ⟨20, _⟩ => ⟨S256x128, .i8⟩
  | .local _ .vmem, ⟨21, _⟩ => ⟨S1x4x128, .f32⟩
  | .local _ .vmem, ⟨22, _⟩ => ⟨S1x4x128, .f32⟩
  | .local _ .smem, ⟨0, _⟩ => ⟨S97, .i32⟩
  | .local _ .smem, ⟨1, _⟩ => ⟨S97, .f32⟩
  | .local _ .smem, ⟨2, _⟩ => ⟨S15, .f32⟩
  | .local _ .smem, ⟨3, _⟩ => ⟨S15, .f32⟩
  | .local _ .smem, ⟨4, _⟩ => ⟨S2, .f32⟩
  | _, _ => ⟨S3211264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_cst_3 : Ref sig .tc := ⟨.hbm, 18, rfl⟩
abbrev main_v2 : Ref sig .tc := ⟨.hbm, 19, rfl⟩
abbrev main_cst_4 : Ref sig .tc := ⟨.hbm, 20, rfl⟩
abbrev main_v3 : Ref sig .tc := ⟨.hbm, 21, rfl⟩
abbrev main_cst_5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_6 : Ref sig .tc := ⟨.hbm, 26, rfl⟩
abbrev main_v7 : Ref sig .tc := ⟨.hbm, 27, rfl⟩
abbrev main_cst_7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_8 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_9 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_10 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_11 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_12 : Ref sig .tc := ⟨.hbm, 59, rfl⟩
abbrev main_v34 : Ref sig .tc := ⟨.hbm, 60, rfl⟩
abbrev main_c_13 : Ref sig .tc := ⟨.hbm, 61, rfl⟩
abbrev main_v35 : Ref sig .tc := ⟨.hbm, 62, rfl⟩
abbrev main_v36 : Ref sig .tc := ⟨.hbm, 63, rfl⟩
abbrev main_c_14 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_15 : Ref sig .tc := ⟨.hbm, 70, rfl⟩
abbrev main_v42 : Ref sig .tc := ⟨.hbm, 71, rfl⟩
abbrev main_v43 : Ref sig .tc := ⟨.hbm, 72, rfl⟩
abbrev main_c_16 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_17 : Ref sig .tc := ⟨.hbm, 80, rfl⟩
abbrev main_v50 : Ref sig .tc := ⟨.hbm, 81, rfl⟩
abbrev main_v51 : Ref sig .tc := ⟨.hbm, 82, rfl⟩
abbrev main_c_18 : Ref sig .tc := ⟨.hbm, 83, rfl⟩
abbrev main_v52 : Ref sig .tc := ⟨.hbm, 84, rfl⟩
abbrev main_v53 : Ref sig .tc := ⟨.hbm, 85, rfl⟩
abbrev main_c_19 : Ref sig .tc := ⟨.hbm, 86, rfl⟩
abbrev main_v54 : Ref sig .tc := ⟨.hbm, 87, rfl⟩
abbrev main_v55 : Ref sig .tc := ⟨.hbm, 88, rfl⟩
abbrev main_c_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_21 : Ref sig .tc := ⟨.hbm, 95, rfl⟩
abbrev main_v61 : Ref sig .tc := ⟨.hbm, 96, rfl⟩
abbrev main_v62 : Ref sig .tc := ⟨.hbm, 97, rfl⟩
abbrev main_c_22 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_23 : Ref sig .tc := ⟨.hbm, 107, rfl⟩
abbrev main_v71 : Ref sig .tc := ⟨.hbm, 108, rfl⟩
abbrev main_c_24 : Ref sig .tc := ⟨.hbm, 109, rfl⟩
abbrev main_v72 : Ref sig .tc := ⟨.hbm, 110, rfl⟩
abbrev main_v73 : Ref sig .tc := ⟨.hbm, 111, rfl⟩
abbrev main_c_25 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_26 : Ref sig .tc := ⟨.hbm, 118, rfl⟩
abbrev main_v79 : Ref sig .tc := ⟨.hbm, 119, rfl⟩
abbrev main_v80 : Ref sig .tc := ⟨.hbm, 120, rfl⟩
abbrev main_c_27 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_c_28 : Ref sig .tc := ⟨.hbm, 128, rfl⟩
abbrev main_v87 : Ref sig .tc := ⟨.hbm, 129, rfl⟩
abbrev main_v88 : Ref sig .tc := ⟨.hbm, 130, rfl⟩
abbrev main_c_29 : Ref sig .tc := ⟨.hbm, 131, rfl⟩
abbrev main_v89 : Ref sig .tc := ⟨.hbm, 132, rfl⟩
abbrev main_v90 : Ref sig .tc := ⟨.hbm, 133, rfl⟩
abbrev main_c_30 : Ref sig .tc := ⟨.hbm, 134, rfl⟩
abbrev main_v91 : Ref sig .tc := ⟨.hbm, 135, rfl⟩
abbrev main_v92 : Ref sig .tc := ⟨.hbm, 136, rfl⟩
abbrev main_c_31 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_c_32 : Ref sig .tc := ⟨.hbm, 143, rfl⟩
abbrev main_v98 : Ref sig .tc := ⟨.hbm, 144, rfl⟩
abbrev main_v99 : Ref sig .tc := ⟨.hbm, 145, rfl⟩
abbrev main_c_33 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119_0 : Ref sig .tc := ⟨.hbm, 166, rfl⟩
abbrev main_v119_1 : Ref sig .tc := ⟨.hbm, 167, rfl⟩
abbrev main_v119_2 : Ref sig .tc := ⟨.hbm, 168, rfl⟩
abbrev main_v119_3 : Ref sig .tc := ⟨.hbm, 169, rfl⟩
abbrev main_v119_4 : Ref sig .tc := ⟨.hbm, 170, rfl⟩
abbrev cc0_stg5_0 : Ref sig .tc := ⟨.vmem, 0, rfl⟩
abbrev cc0_stg6_0 : Ref sig .tc := ⟨.vmem, 1, rfl⟩
abbrev cc0_stg6_1 : Ref sig .tc := ⟨.vmem, 2, rfl⟩
abbrev cc0_stg7_0 : Ref sig .tc := ⟨.vmem, 3, rfl⟩
abbrev cc0_stg7_1 : Ref sig .tc := ⟨.vmem, 4, rfl⟩
abbrev cc0_stg8_0 : Ref sig .tc := ⟨.vmem, 5, rfl⟩
abbrev cc0_stg8_1 : Ref sig .tc := ⟨.vmem, 6, rfl⟩
abbrev cc0_stg9_0 : Ref sig .tc := ⟨.vmem, 7, rfl⟩
abbrev cc0_stg9_1 : Ref sig .tc := ⟨.vmem, 8, rfl⟩
abbrev cc0_stg10_0 : Ref sig .tc := ⟨.vmem, 9, rfl⟩
abbrev cc0_stg10_1 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [BitOps F]

abbrev grid0 : Pipeline.Grid := ⟨1, ![49], ![false]⟩

def k0_off1 (arg18 : BitVec 32) : Fin 1 → Nat :=
  let c1_i32_12 : BitVec 32 := 1#32
  let v41 : BitVec 32 := Scalar.addi arg18 c1_i32_12
  let v42 : Index := Scalar.indexCast v41
  ![v42.toNat]

def k0_chk1 (arg18 : BitVec 32) : Prop :=
  (∀ a, (k0_off1 arg18) a + S1.size a ≤ S97.size a)
theorem k0_off1_inb : ∀ (arg18 : BitVec 32) (k0_hw1 : k0_chk1 arg18), ∀ a, (k0_off1 arg18) a + S1.size a ≤ S97.size a := fun arg18 k0_hw1 => k0_hw1

@[reducible] def k0_t1_loop : Scf.Loop 32 :=
  let c0_i32_9 : BitVec 32 := 0#32
  let c8_i32 : BitVec 32 := 8#32
  let v39 : BitVec 32 := Scalar.addi c0_i32_9 c8_i32
  let c1_i32_10 : BitVec 32 := 1#32
  ⟨c0_i32_9, v39, c1_i32_10⟩
def k0_off2 (arg20 : BitVec 32) : Fin 1 → Nat :=
  let c1_i32_554 : BitVec 32 := 1#32
  let v1728 : BitVec 32 := Scalar.addi arg20 c1_i32_554
  let v1729 : Index := Scalar.indexCast v1728
  ![v1729.toNat]

def k0_chk2 (arg20 : BitVec 32) : Prop :=
  (∀ a, (k0_off2 arg20) a + S1.size a ≤ S97.size a)
theorem k0_off2_inb : ∀ (arg20 : BitVec 32) (k0_hw2 : k0_chk2 arg20), ∀ a, (k0_off2 arg20) a + S1.size a ≤ S97.size a := fun arg20 k0_hw2 => k0_hw2

def k0_off3 (k0_t1 : Fin k0_t1_loop.trips) : Fin 3 → Nat :=
  let c0_25 : Index := 0#32
  let c0_i32_9 : BitVec 32 := 0#32
  let c1_i32_10 : BitVec 32 := 1#32
  let arg18 : BitVec 32 := Scf.iv c0_i32_9 c1_i32_10 k0_t1
  let c0_i32_13 : BitVec 32 := 0#32
  let v42 : BitVec 1 := Scalar.cmpi .sgt arg18 c0_i32_13
  let v43 : BitVec 32 := Scalar.extui v42
  let c0_i32_14 : BitVec 32 := 0#32
  let v44 : BitVec 1 := Scalar.cmpi .slt arg18 c0_i32_14
  let v45 : BitVec 32 := Scalar.extui v44
  let v46 : BitVec 32 := Scalar.subi v43 v45
  let c2_i32_12 : BitVec 32 := 2#32
  let c0_i32_15 : BitVec 32 := 0#32
  let v47 : BitVec 1 := Scalar.cmpi .sgt c2_i32_12 c0_i32_15
  let v48 : BitVec 32 := Scalar.extui v47
  let c0_i32_16 : BitVec 32 := 0#32
  let v49 : BitVec 1 := Scalar.cmpi .slt c2_i32_12 c0_i32_16
  let v50 : BitVec 32 := Scalar.extui v49
  let v51 : BitVec 32 := Scalar.subi v48 v50
  let v52 : BitVec 1 := Scalar.cmpi .ne v46 v51
  let v53 : BitVec 32 := Scalar.remsi arg18 c2_i32_12
  let c0_i32_17 : BitVec 32 := 0#32
  let v54 : BitVec 1 := Scalar.cmpi .ne v53 c0_i32_17
  let v55 : BitVec 1 := Scalar.andi v52 v54
  let v41 : BitVec 32 := Scalar.divsi arg18 c2_i32_12
  let c1_i32_18 : BitVec 32 := 1#32
  let v56 : BitVec 32 := Scalar.subi v41 c1_i32_18
  let v57 : BitVec 32 := Scalar.select v55 v56 v41
  let v74 : Index := Scalar.indexCast v57
  let c0_26 : Index := 0#32
  ![0, v74.toNat, 0]
def k0_mult1 (k0_t1 : Fin k0_t1_loop.trips) : BitVec 32 :=
  let c0_i32_9 : BitVec 32 := 0#32
  let c1_i32_10 : BitVec 32 := 1#32
  let arg18 : BitVec 32 := Scf.iv c0_i32_9 c1_i32_10 k0_t1
  let c32_i32 : BitVec 32 := 32#32
  let v98 : BitVec 32 := Scalar.muli arg18 c32_i32
  v98
def k0_off4 (k0_t1 : Fin k0_t1_loop.trips) : Fin 2 → Nat :=
  let c0_i32_9 : BitVec 32 := 0#32
  let c1_i32_10 : BitVec 32 := 1#32
  let arg18 : BitVec 32 := Scf.iv c0_i32_9 c1_i32_10 k0_t1
  let c32_i32 : BitVec 32 := 32#32
  let v98 : BitVec 32 := Scalar.muli arg18 c32_i32
  let v99 : BitVec 32 := v98
  let v100 : Index := Scalar.indexCast v99
  let c0_30 : Index := 0#32
  ![v100.toNat, 0]
def k0_mult2 (k0_t1 : Fin k0_t1_loop.trips) : BitVec 32 :=
  let c0_i32_9 : BitVec 32 := 0#32
  let c1_i32_10 : BitVec 32 := 1#32
  let arg18 : BitVec 32 := Scf.iv c0_i32_9 c1_i32_10 k0_t1
  let c64_i32_54 : BitVec 32 := 64#32
  let v188 : BitVec 32 := Scalar.muli arg18 c64_i32_54
  v188
def k0_off5 (v70 : BitVec 32) : Fin 1 → Nat :=
  let v190 : Index := Scalar.indexCast v70
  ![v190.toNat]

def k0_off6 (v70 : BitVec 32) : Fin 1 → Nat :=
  let c1_i32_55 : BitVec 32 := 1#32
  let v192 : BitVec 32 := Scalar.addi v70 c1_i32_55
  let v193 : Index := Scalar.indexCast v192
  ![v193.toNat]
def k0_off7 (v70 : BitVec 32) : Fin 1 → Nat :=
  let c2_i32_57 : BitVec 32 := 2#32
  let v199 : BitVec 32 := Scalar.addi v70 c2_i32_57
  let c96_i32 : BitVec 32 := 96#32
  let v200 : BitVec 32 := Scalar.minsi v199 c96_i32
  let v201 : Index := Scalar.indexCast v200
  ![v201.toNat]

def k0_chk3 (v70 : BitVec 32) : Prop :=
  (∀ a, (k0_off5 v70) a + S1.size a ≤ S97.size a) ∧
  (∀ a, (k0_off6 v70) a + S1.size a ≤ S97.size a) ∧
  (∀ a, (k0_off7 v70) a + S1.size a ≤ S97.size a)
theorem k0_off5_inb : ∀ (v70 : BitVec 32) (k0_hw3 : k0_chk3 v70), ∀ a, (k0_off5 v70) a + S1.size a ≤ S97.size a := fun v70 k0_hw3 => k0_hw3.1
theorem k0_off6_inb : ∀ (v70 : BitVec 32) (k0_hw3 : k0_chk3 v70), ∀ a, (k0_off6 v70) a + S1.size a ≤ S97.size a := fun v70 k0_hw3 => k0_hw3.2.1
theorem k0_off7_inb : ∀ (v70 : BitVec 32) (k0_hw3 : k0_chk3 v70), ∀ a, (k0_off7 v70) a + S1.size a ≤ S97.size a := fun v70 k0_hw3 => k0_hw3.2.2

def k0_off8 (k0_t1 : Fin k0_t1_loop.trips) (c0_i32_58 : BitVec 32) : Fin 2 → Nat :=
  let c0_i32_9 : BitVec 32 := 0#32
  let c1_i32_10 : BitVec 32 := 1#32
  let arg18 : BitVec 32 := Scf.iv c0_i32_9 c1_i32_10 k0_t1
  let c64_i32_54 : BitVec 32 := 64#32
  let v188 : BitVec 32 := Scalar.muli arg18 c64_i32_54
  let v189 : BitVec 32 := v188
  let v206 : BitVec 32 := Scalar.addi v189 c0_i32_58
  let v207 : Index := Scalar.indexCast v206
  let c0_59 : Index := 0#32
  ![v207.toNat, 0]
def k0_off9 (k0_t1 : Fin k0_t1_loop.trips) (c0_i32_64 : BitVec 32) (c0_i32_65 : BitVec 32) : Fin 2 → Nat :=
  let c0_i32_9 : BitVec 32 := 0#32
  let c1_i32_10 : BitVec 32 := 1#32
  let arg18 : BitVec 32 := Scf.iv c0_i32_9 c1_i32_10 k0_t1
  let c64_i32_54 : BitVec 32 := 64#32
  let v188 : BitVec 32 := Scalar.muli arg18 c64_i32_54
  let v189 : BitVec 32 := v188
  let v238 : BitVec 32 := Scalar.addi v189 c0_i32_64
  let v239 : BitVec 32 := Scalar.addi v238 c0_i32_65
  let v240 : Index := Scalar.indexCast v239
  let c0_66 : Index := 0#32
  ![v240.toNat, 0]
def k0_off10 (k0_t1 : Fin k0_t1_loop.trips) : Fin 2 → Nat :=
  let c0_i32_9 : BitVec 32 := 0#32
  let c1_i32_10 : BitVec 32 := 1#32
  let arg18 : BitVec 32 := Scf.iv c0_i32_9 c1_i32_10 k0_t1
  let c32_i32 : BitVec 32 := 32#32
  let v98 : BitVec 32 := Scalar.muli arg18 c32_i32
  let v99 : BitVec 32 := v98
  let v1365 : Index := Scalar.indexCast v99
  let c0_433 : Index := 0#32
  ![v1365.toNat, 0]
def k0_off11 (k0_t1 : Fin k0_t1_loop.trips) : Fin 3 → Nat :=
  let c0_494 : Index := 0#32
  let c0_i32_9 : BitVec 32 := 0#32
  let c1_i32_10 : BitVec 32 := 1#32
  let arg18 : BitVec 32 := Scf.iv c0_i32_9 c1_i32_10 k0_t1
  let c0_i32_13 : BitVec 32 := 0#32
  let v42 : BitVec 1 := Scalar.cmpi .sgt arg18 c0_i32_13
  let v43 : BitVec 32 := Scalar.extui v42
  let c0_i32_14 : BitVec 32 := 0#32
  let v44 : BitVec 1 := Scalar.cmpi .slt arg18 c0_i32_14
  let v45 : BitVec 32 := Scalar.extui v44
  let v46 : BitVec 32 := Scalar.subi v43 v45
  let c2_i32_12 : BitVec 32 := 2#32
  let c0_i32_15 : BitVec 32 := 0#32
  let v47 : BitVec 1 := Scalar.cmpi .sgt c2_i32_12 c0_i32_15
  let v48 : BitVec 32 := Scalar.extui v47
  let c0_i32_16 : BitVec 32 := 0#32
  let v49 : BitVec 1 := Scalar.cmpi .slt c2_i32_12 c0_i32_16
  let v50 : BitVec 32 := Scalar.extui v49
  let v51 : BitVec 32 := Scalar.subi v48 v50
  let v52 : BitVec 1 := Scalar.cmpi .ne v46 v51
  let v53 : BitVec 32 := Scalar.remsi arg18 c2_i32_12
  let c0_i32_17 : BitVec 32 := 0#32
  let v54 : BitVec 1 := Scalar.cmpi .ne v53 c0_i32_17
  let v55 : BitVec 1 := Scalar.andi v52 v54
  let v41 : BitVec 32 := Scalar.divsi arg18 c2_i32_12
  let c1_i32_18 : BitVec 32 := 1#32
  let v56 : BitVec 32 := Scalar.subi v41 c1_i32_18
  let v57 : BitVec 32 := Scalar.select v55 v56 v41
  let v1553 : Index := Scalar.indexCast v57
  let c0_495 : Index := 0#32
  ![0, v1553.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S97 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S97 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S15 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F]
-- ==== ReferenceIdeal.lean ====
abbrev S3211264 : Shape := ⟨1, ![3211264]⟩
abbrev S1605632 : Shape := ⟨1, ![1605632]⟩
abbrev S25088 : Shape := ⟨1, ![25088]⟩
abbrev S16 : Shape := ⟨1, ![16]⟩
abbrev S97 : Shape := ⟨1, ![97]⟩
abbrev S96 : Shape := ⟨1, ![96]⟩
abbrev S_ : Shape := ⟨0, ![]⟩
abbrev S8x2 : Shape := ⟨2, ![8, 2]⟩
abbrev S1605632x1 : Shape := ⟨2, ![1605632, 1]⟩
abbrev S8x1 : Shape := ⟨2, ![8, 1]⟩
abbrev S8 : Shape := ⟨1, ![8]⟩
abbrev S1605632x8 : Shape := ⟨2, ![1605632, 8]⟩
abbrev S1605632x4x2 : Shape := ⟨3, ![1605632, 4, 2]⟩
abbrev S1605632x4x1 : Shape := ⟨3, ![1605632, 4, 1]⟩
abbrev S1605632x4 : Shape := ⟨2, ![1605632, 4]⟩
abbrev S1605632x2x2 : Shape := ⟨3, ![1605632, 2, 2]⟩
abbrev S1605632x2x1 : Shape := ⟨3, ![1605632, 2, 1]⟩
abbrev S1605632x2 : Shape := ⟨2, ![1605632, 2]⟩
abbrev S1605632x1x2 : Shape := ⟨3, ![1605632, 1, 2]⟩
abbrev S1605632x1x1 : Shape := ⟨3, ![1605632, 1, 1]⟩
abbrev S25088x128 : Shape := ⟨2, ![25088, 128]⟩
abbrev S25088x1 : Shape := ⟨2, ![25088, 1]⟩
abbrev S15 : Shape := ⟨1, ![15]⟩
abbrev S25088x128x1 : Shape := ⟨3, ![25088, 128, 1]⟩
abbrev S1x1x15 : Shape := ⟨3, ![1, 1, 15]⟩
abbrev S25088x128x15 : Shape := ⟨3, ![25088, 128, 15]⟩
abbrev S12544x128 : Shape := ⟨2, ![12544, 128]⟩
abbrev S49x4x128 : Shape := ⟨3, ![49, 4, 128]⟩

abbrev nBuf : Space → Nat
  | .hbm => 421
  | .vmem => 0
  | .smem => 0
  | _ => 0

abbrev hbmTy0_0 (i : Nat) : BufTy := match i % 128 with
  | 0 => ⟨S3211264, .f32⟩
  | 1 => ⟨S3211264, .bf16⟩
  | 2 => ⟨S1605632, .i8⟩
  | 3 => ⟨S25088, .f32⟩
  | 4 => ⟨S1605632, .i8⟩
  | 5 => ⟨S25088, .f32⟩
  | 6 => ⟨S16, .f32⟩
  | 7 => ⟨S16, .f32⟩
  | 8 => ⟨S97, .i32⟩
  | 9 => ⟨S96, .f32⟩
  | 10 => ⟨S_, .i32⟩
  | 11 => ⟨S1605632, .i32⟩
  | 12 => ⟨S_, .i32⟩
  | 13 => ⟨S1605632, .i32⟩
  | 14 => ⟨S1605632, .i32⟩
  | 15 => ⟨S8x2, .f32⟩
  | 16 => ⟨S_, .i32⟩
  | 17 => ⟨S1605632, .i32⟩
  | 18 => ⟨S1605632, .i32⟩
  | 19 => ⟨S_, .i32⟩
  | 20 => ⟨S1605632, .i32⟩
  | 21 => ⟨S1605632, .i32⟩
  | 22 => ⟨S_, .i32⟩
  | 23 => ⟨S1605632, .i32⟩
  | 24 => ⟨S1605632, .i1⟩
  | 25 => ⟨S1605632, .i1⟩
  | 26 => ⟨S1605632x1, .i1⟩
  | 27 => ⟨S8x1, .f32⟩
  | 28 => ⟨S8, .f32⟩
  | 29 => ⟨S8x1, .f32⟩
  | 30 => ⟨S8, .f32⟩
  | 31 => ⟨S1605632x8, .i1⟩
  | 32 => ⟨S1605632x8, .f32⟩
  | 33 => ⟨S1605632x8, .f32⟩
  | 34 => ⟨S1605632x8, .f32⟩
  | 35 => ⟨S1605632x4x2, .f32⟩
  | 36 => ⟨S_, .i32⟩
  | 37 => ⟨S1605632, .i32⟩
  | 38 => ⟨S1605632, .i32⟩
  | 39 => ⟨S_, .i32⟩
  | 40 => ⟨S1605632, .i32⟩
  | 41 => ⟨S1605632, .i32⟩
  | 42 => ⟨S_, .i32⟩
  | 43 => ⟨S1605632, .i32⟩
  | 44 => ⟨S1605632, .i1⟩
  | 45 => ⟨S1605632, .i1⟩
  | 46 => ⟨S1605632x1, .i1⟩
  | 47 => ⟨S1605632x4x1, .f32⟩
  | 48 => ⟨S1605632x4, .f32⟩
  | 49 => ⟨S1605632x4x1, .f32⟩
  | 50 => ⟨S1605632x4, .f32⟩
  | 51 => ⟨S1605632x4, .i1⟩
  | 52 => ⟨S1605632x4, .f32⟩
  | 53 => ⟨S1605632x2x2, .f32⟩
  | 54 => ⟨S_, .i32⟩
  | 55 => ⟨S1605632, .i32⟩
  | 56 => ⟨S1605632, .i32⟩
  | 57 => ⟨S_, .i32⟩
  | 58 => ⟨S1605632, .i32⟩
  | 59 => ⟨S1605632, .i32⟩
  | 60 => ⟨S_, .i32⟩
  | 61 => ⟨S1605632, .i32⟩
  | 62 => ⟨S1605632, .i1⟩
  | 63 => ⟨S1605632, .i1⟩
  | 64 => ⟨S1605632x1, .i1⟩
  | 65 => ⟨S1605632x2x1, .f32⟩
  | 66 => ⟨S1605632x2, .f32⟩
  | 67 => ⟨S1605632x2x1, .f32⟩
  | 68 => ⟨S1605632x2, .f32⟩
  | 69 => ⟨S1605632x2, .i1⟩
  | 70 => ⟨S1605632x2, .f32⟩
  | 71 => ⟨S1605632x1x2, .f32⟩
  | 72 => ⟨S_, .i32⟩
  | 73 => ⟨S1605632, .i32⟩
  | 74 => ⟨S1605632, .i32⟩
  | 75 => ⟨S_, .i32⟩
  | 76 => ⟨S1605632, .i32⟩
  | 77 => ⟨S1605632, .i32⟩
  | 78 => ⟨S_, .i32⟩
  | 79 => ⟨S1605632, .i32⟩
  | 80 => ⟨S1605632, .i1⟩
  | 81 => ⟨S1605632, .i1⟩
  | 82 => ⟨S1605632x1, .i1⟩
  | 83 => ⟨S1605632x1x1, .f32⟩
  | 84 => ⟨S1605632x1, .f32⟩
  | 85 => ⟨S1605632x1x1, .f32⟩
  | 86 => ⟨S1605632x1, .f32⟩
  | 87 => ⟨S1605632x1, .f32⟩
  | 88 => ⟨S1605632, .f32⟩
  | 89 => ⟨S_, .i32⟩
  | 90 => ⟨S1605632, .i32⟩
  | 91 => ⟨S1605632, .i32⟩
  | 92 => ⟨S8x2, .f32⟩
  | 93 => ⟨S_, .i32⟩
  | 94 => ⟨S1605632, .i32⟩
  | 95 => ⟨S1605632, .i32⟩
  | 96 => ⟨S_, .i32⟩
  | 97 => ⟨S1605632, .i32⟩
  | 98 => ⟨S1605632, .i32⟩
  | 99 => ⟨S_, .i32⟩
  | 100 => ⟨S1605632, .i32⟩
  | 101 => ⟨S1605632, .i1⟩
  | 102 => ⟨S1605632, .i1⟩
  | 103 => ⟨S1605632x1, .i1⟩
  | 104 => ⟨S8x1, .f32⟩
  | 105 => ⟨S8, .f32⟩
  | 106 => ⟨S8x1, .f32⟩
  | 107 => ⟨S8, .f32⟩
  | 108 => ⟨S1605632x8, .i1⟩
  | 109 => ⟨S1605632x8, .f32⟩
  | 110 => ⟨S1605632x8, .f32⟩
  | 111 => ⟨S1605632x8, .f32⟩
  | 112 => ⟨S1605632x4x2, .f32⟩
  | 113 => ⟨S_, .i32⟩
  | 114 => ⟨S1605632, .i32⟩
  | 115 => ⟨S1605632, .i32⟩
  | 116 => ⟨S_, .i32⟩
  | 117 => ⟨S1605632, .i32⟩
  | 118 => ⟨S1605632, .i32⟩
  | 119 => ⟨S_, .i32⟩
  | 120 => ⟨S1605632, .i32⟩
  | 121 => ⟨S1605632, .i1⟩
  | 122 => ⟨S1605632, .i1⟩
  | 123 => ⟨S1605632x1, .i1⟩
  | 124 => ⟨S1605632x4x1, .f32⟩
  | 125 => ⟨S1605632x4, .f32⟩
  | 126 => ⟨S1605632x4x1, .f32⟩
  | 127 => ⟨S1605632x4, .f32⟩
  | _ => ⟨S3211264, .f32⟩

abbrev hbmTy0_1 (i : Nat) : BufTy := match i % 128 with
  | 0 => ⟨S1605632x4, .i1⟩
  | 1 => ⟨S1605632x4, .f32⟩
  | 2 => ⟨S1605632x2x2, .f32⟩
  | 3 => ⟨S_, .i32⟩
  | 4 => ⟨S1605632, .i32⟩
  | 5 => ⟨S1605632, .i32⟩
  | 6 => ⟨S_, .i32⟩
  | 7 => ⟨S1605632, .i32⟩
  | 8 => ⟨S1605632, .i32⟩
  | 9 => ⟨S_, .i32⟩
  | 10 => ⟨S1605632, .i32⟩
  | 11 => ⟨S1605632, .i1⟩
  | 12 => ⟨S1605632, .i1⟩
  | 13 => ⟨S1605632x1, .i1⟩
  | 14 => ⟨S1605632x2x1, .f32⟩
  | 15 => ⟨S1605632x2, .f32⟩
  | 16 => ⟨S1605632x2x1, .f32⟩
  | 17 => ⟨S1605632x2, .f32⟩
  | 18 => ⟨S1605632x2, .i1⟩
  | 19 => ⟨S1605632x2, .f32⟩
  | 20 => ⟨S1605632x1x2, .f32⟩
  | 21 => ⟨S_, .i32⟩
  | 22 => ⟨S1605632, .i32⟩
  | 23 => ⟨S1605632, .i32⟩
  | 24 => ⟨S_, .i32⟩
  | 25 => ⟨S1605632, .i32⟩
  | 26 => ⟨S1605632, .i32⟩
  | 27 => ⟨S_, .i32⟩
  | 28 => ⟨S1605632, .i32⟩
  | 29 => ⟨S1605632, .i1⟩
  | 30 => ⟨S1605632, .i1⟩
  | 31 => ⟨S1605632x1, .i1⟩
  | 32 => ⟨S1605632x1x1, .f32⟩
  | 33 => ⟨S1605632x1, .f32⟩
  | 34 => ⟨S1605632x1x1, .f32⟩
  | 35 => ⟨S1605632x1, .f32⟩
  | 36 => ⟨S1605632x1, .f32⟩
  | 37 => ⟨S1605632, .f32⟩
  | 38 => ⟨S1605632x1, .f32⟩
  | 39 => ⟨S1605632x1, .f32⟩
  | 40 => ⟨S1605632x2, .f32⟩
  | 41 => ⟨S25088x128, .f32⟩
  | 42 => ⟨S25088x1, .f32⟩
  | 43 => ⟨S25088x128, .f32⟩
  | 44 => ⟨S25088x128, .f32⟩
  | 45 => ⟨S1605632, .i32⟩
  | 46 => ⟨S_, .i32⟩
  | 47 => ⟨S1605632, .i32⟩
  | 48 => ⟨S1605632, .i32⟩
  | 49 => ⟨S8x2, .f32⟩
  | 50 => ⟨S_, .i32⟩
  | 51 => ⟨S1605632, .i32⟩
  | 52 => ⟨S1605632, .i32⟩
  | 53 => ⟨S_, .i32⟩
  | 54 => ⟨S1605632, .i32⟩
  | 55 => ⟨S1605632, .i32⟩
  | 56 => ⟨S_, .i32⟩
  | 57 => ⟨S1605632, .i32⟩
  | 58 => ⟨S1605632, .i1⟩
  | 59 => ⟨S1605632, .i1⟩
  | 60 => ⟨S1605632x1, .i1⟩
  | 61 => ⟨S8x1, .f32⟩
  | 62 => ⟨S8, .f32⟩
  | 63 => ⟨S8x1, .f32⟩
  | 64 => ⟨S8, .f32⟩
  | 65 => ⟨S1605632x8, .i1⟩
  | 66 => ⟨S1605632x8, .f32⟩
  | 67 => ⟨S1605632x8, .f32⟩
  | 68 => ⟨S1605632x8, .f32⟩
  | 69 => ⟨S1605632x4x2, .f32⟩
  | 70 => ⟨S_, .i32⟩
  | 71 => ⟨S1605632, .i32⟩
  | 72 => ⟨S1605632, .i32⟩
  | 73 => ⟨S_, .i32⟩
  | 74 => ⟨S1605632, .i32⟩
  | 75 => ⟨S1605632, .i32⟩
  | 76 => ⟨S_, .i32⟩
  | 77 => ⟨S1605632, .i32⟩
  | 78 => ⟨S1605632, .i1⟩
  | 79 => ⟨S1605632, .i1⟩
  | 80 => ⟨S1605632x1, .i1⟩
  | 81 => ⟨S1605632x4x1, .f32⟩
  | 82 => ⟨S1605632x4, .f32⟩
  | 83 => ⟨S1605632x4x1, .f32⟩
  | 84 => ⟨S1605632x4, .f32⟩
  | 85 => ⟨S1605632x4, .i1⟩
  | 86 => ⟨S1605632x4, .f32⟩
  | 87 => ⟨S1605632x2x2, .f32⟩
  | 88 => ⟨S_, .i32⟩
  | 89 => ⟨S1605632, .i32⟩
  | 90 => ⟨S1605632, .i32⟩
  | 91 => ⟨S_, .i32⟩
  | 92 => ⟨S1605632, .i32⟩
  | 93 => ⟨S1605632, .i32⟩
  | 94 => ⟨S_, .i32⟩
  | 95 => ⟨S1605632, .i32⟩
  | 96 => ⟨S1605632, .i1⟩
  | 97 => ⟨S1605632, .i1⟩
  | 98 => ⟨S1605632x1, .i1⟩
  | 99 => ⟨S1605632x2x1, .f32⟩
  | 100 => ⟨S1605632x2, .f32⟩
  | 101 => ⟨S1605632x2x1, .f32⟩
  | 102 => ⟨S1605632x2, .f32⟩
  | 103 => ⟨S1605632x2, .i1⟩
  | 104 => ⟨S1605632x2, .f32⟩
  | 105 => ⟨S1605632x1x2, .f32⟩
  | 106 => ⟨S_, .i32⟩
  | 107 => ⟨S1605632, .i32⟩
  | 108 => ⟨S1605632, .i32⟩
  | 109 => ⟨S_, .i32⟩
  | 110 => ⟨S1605632, .i32⟩
  | 111 => ⟨S1605632, .i32⟩
  | 112 => ⟨S_, .i32⟩
  | 113 => ⟨S1605632, .i32⟩
  | 114 => ⟨S1605632, .i1⟩
  | 115 => ⟨S1605632, .i1⟩
  | 116 => ⟨S1605632x1, .i1⟩
  | 117 => ⟨S1605632x1x1, .f32⟩
  | 118 => ⟨S1605632x1, .f32⟩
  | 119 => ⟨S1605632x1x1, .f32⟩
  | 120 => ⟨S1605632x1, .f32⟩
  | 121 => ⟨S1605632x1, .f32⟩
  | 122 => ⟨S1605632, .f32⟩
  | 123 => ⟨S_, .i32⟩
  | 124 => ⟨S1605632, .i32⟩
  | 125 => ⟨S1605632, .i32⟩
  | 126 => ⟨S8x2, .f32⟩
  | 127 => ⟨S_, .i32⟩
  | _ => ⟨S3211264, .f32⟩

abbrev hbmTy0_2 (i : Nat) : BufTy := match i % 128 with
  | 0 => ⟨S1605632, .i32⟩
  | 1 => ⟨S1605632, .i32⟩
  | 2 => ⟨S_, .i32⟩
  | 3 => ⟨S1605632, .i32⟩
  | 4 => ⟨S1605632, .i32⟩
  | 5 => ⟨S_, .i32⟩
  | 6 => ⟨S1605632, .i32⟩
  | 7 => ⟨S1605632, .i1⟩
  | 8 => ⟨S1605632, .i1⟩
  | 9 => ⟨S1605632x1, .i1⟩
  | 10 => ⟨S8x1, .f32⟩
  | 11 => ⟨S8, .f32⟩
  | 12 => ⟨S8x1, .f32⟩
  | 13 => ⟨S8, .f32⟩
  | 14 => ⟨S1605632x8, .i1⟩
  | 15 => ⟨S1605632x8, .f32⟩
  | 16 => ⟨S1605632x8, .f32⟩
  | 17 => ⟨S1605632x8, .f32⟩
  | 18 => ⟨S1605632x4x2, .f32⟩
  | 19 => ⟨S_, .i32⟩
  | 20 => ⟨S1605632, .i32⟩
  | 21 => ⟨S1605632, .i32⟩
  | 22 => ⟨S_, .i32⟩
  | 23 => ⟨S1605632, .i32⟩
  | 24 => ⟨S1605632, .i32⟩
  | 25 => ⟨S_, .i32⟩
  | 26 => ⟨S1605632, .i32⟩
  | 27 => ⟨S1605632, .i1⟩
  | 28 => ⟨S1605632, .i1⟩
  | 29 => ⟨S1605632x1, .i1⟩
  | 30 => ⟨S1605632x4x1, .f32⟩
  | 31 => ⟨S1605632x4, .f32⟩
  | 32 => ⟨S1605632x4x1, .f32⟩
  | 33 => ⟨S1605632x4, .f32⟩
  | 34 => ⟨S1605632x4, .i1⟩
  | 35 => ⟨S1605632x4, .f32⟩
  | 36 => ⟨S1605632x2x2, .f32⟩
  | 37 => ⟨S_, .i32⟩
  | 38 => ⟨S1605632, .i32⟩
  | 39 => ⟨S1605632, .i32⟩
  | 40 => ⟨S_, .i32⟩
  | 41 => ⟨S1605632, .i32⟩
  | 42 => ⟨S1605632, .i32⟩
  | 43 => ⟨S_, .i32⟩
  | 44 => ⟨S1605632, .i32⟩
  | 45 => ⟨S1605632, .i1⟩
  | 46 => ⟨S1605632, .i1⟩
  | 47 => ⟨S1605632x1, .i1⟩
  | 48 => ⟨S1605632x2x1, .f32⟩
  | 49 => ⟨S1605632x2, .f32⟩
  | 50 => ⟨S1605632x2x1, .f32⟩
  | 51 => ⟨S1605632x2, .f32⟩
  | 52 => ⟨S1605632x2, .i1⟩
  | 53 => ⟨S1605632x2, .f32⟩
  | 54 => ⟨S1605632x1x2, .f32⟩
  | 55 => ⟨S_, .i32⟩
  | 56 => ⟨S1605632, .i32⟩
  | 57 => ⟨S1605632, .i32⟩
  | 58 => ⟨S_, .i32⟩
  | 59 => ⟨S1605632, .i32⟩
  | 60 => ⟨S1605632, .i32⟩
  | 61 => ⟨S_, .i32⟩
  | 62 => ⟨S1605632, .i32⟩
  | 63 => ⟨S1605632, .i1⟩
  | 64 => ⟨S1605632, .i1⟩
  | 65 => ⟨S1605632x1, .i1⟩
  | 66 => ⟨S1605632x1x1, .f32⟩
  | 67 => ⟨S1605632x1, .f32⟩
  | 68 => ⟨S1605632x1x1, .f32⟩
  | 69 => ⟨S1605632x1, .f32⟩
  | 70 => ⟨S1605632x1, .f32⟩
  | 71 => ⟨S1605632, .f32⟩
  | 72 => ⟨S1605632x1, .f32⟩
  | 73 => ⟨S1605632x1, .f32⟩
  | 74 => ⟨S1605632x2, .f32⟩
  | 75 => ⟨S25088x128, .f32⟩
  | 76 => ⟨S25088x1, .f32⟩
  | 77 => ⟨S25088x128, .f32⟩
  | 78 => ⟨S25088x128, .f32⟩
  | 79 => ⟨S3211264, .f32⟩
  | 80 => ⟨S25088x128, .f32⟩
  | 81 => ⟨S_, .f32⟩
  | 82 => ⟨S25088x128, .f32⟩
  | 83 => ⟨S25088x128, .f32⟩
  | 84 => ⟨S_, .f32⟩
  | 85 => ⟨S25088x128, .f32⟩
  | 86 => ⟨S25088x128, .f32⟩
  | 87 => ⟨S25088x128, .f32⟩
  | 88 => ⟨S_, .f32⟩
  | 89 => ⟨S25088x128, .f32⟩
  | 90 => ⟨S25088x128, .f32⟩
  | 91 => ⟨S_, .f32⟩
  | 92 => ⟨S25088x128, .f32⟩
  | 93 => ⟨S25088x128, .f32⟩
  | 94 => ⟨S25088x128, .f32⟩
  | 95 => ⟨S25088x128, .f32⟩
  | 96 => ⟨S25088x128, .f32⟩
  | 97 => ⟨S_, .f32⟩
  | 98 => ⟨S25088, .f32⟩
  | 99 => ⟨S_, .f32⟩
  | 100 => ⟨S25088, .f32⟩
  | 101 => ⟨S25088, .f32⟩
  | 102 => ⟨S25088x1, .f32⟩
  | 103 => ⟨S25088x128, .f32⟩
  | 104 => ⟨S25088x128, .f32⟩
  | 105 => ⟨S15, .f32⟩
  | 106 => ⟨S15, .f32⟩
  | 107 => ⟨S15, .f32⟩
  | 108 => ⟨S_, .f32⟩
  | 109 => ⟨S15, .f32⟩
  | 110 => ⟨S15, .f32⟩
  | 111 => ⟨S25088x128x1, .f32⟩
  | 112 => ⟨S1x1x15, .f32⟩
  | 113 => ⟨S25088x128x15, .f32⟩
  | 114 => ⟨S25088x128x15, .f32⟩
  | 115 => ⟨S25088x128x15, .i1⟩
  | 116 => ⟨S25088x128x15, .i32⟩
  | 117 => ⟨S_, .i32⟩
  | 118 => ⟨S25088x128, .i32⟩
  | 119 => ⟨S1605632x2, .i32⟩
  | 120 => ⟨S1605632x1, .i32⟩
  | 121 => ⟨S1605632, .i32⟩
  | 122 => ⟨S1605632x1, .i32⟩
  | 123 => ⟨S1605632, .i32⟩
  | 124 => ⟨S_, .i32⟩
  | 125 => ⟨S1605632, .i32⟩
  | 126 => ⟨S1605632, .i32⟩
  | 127 => ⟨S1605632, .i32⟩
  | _ => ⟨S3211264, .f32⟩

abbrev hbmTy0_3 (i : Nat) : BufTy := match i % 128 with
  | 0 => ⟨S1605632, .i8⟩
  | 1 => ⟨S12544x128, .i8⟩
  | 2 => ⟨S49x4x128, .f32⟩
  | 3 => ⟨S_, .f32⟩
  | 4 => ⟨S25088, .f32⟩
  | 5 => ⟨S_, .f32⟩
  | 6 => ⟨S25088, .f32⟩
  | 7 => ⟨S25088, .f32⟩
  | 8 => ⟨S25088x1, .f32⟩
  | 9 => ⟨S25088x128, .f32⟩
  | 10 => ⟨S25088x128, .f32⟩
  | 11 => ⟨S15, .f32⟩
  | 12 => ⟨S15, .f32⟩
  | 13 => ⟨S15, .f32⟩
  | 14 => ⟨S_, .f32⟩
  | 15 => ⟨S15, .f32⟩
  | 16 => ⟨S15, .f32⟩
  | 17 => ⟨S25088x128x1, .f32⟩
  | 18 => ⟨S1x1x15, .f32⟩
  | 19 => ⟨S25088x128x15, .f32⟩
  | 20 => ⟨S25088x128x15, .f32⟩
  | 21 => ⟨S25088x128x15, .i1⟩
  | 22 => ⟨S25088x128x15, .i32⟩
  | 23 => ⟨S_, .i32⟩
  | 24 => ⟨S25088x128, .i32⟩
  | 25 => ⟨S1605632x2, .i32⟩
  | 26 => ⟨S1605632x1, .i32⟩
  | 27 => ⟨S1605632, .i32⟩
  | 28 => ⟨S1605632x1, .i32⟩
  | 29 => ⟨S1605632, .i32⟩
  | 30 => ⟨S_, .i32⟩
  | 31 => ⟨S1605632, .i32⟩
  | 32 => ⟨S1605632, .i32⟩
  | 33 => ⟨S1605632, .i32⟩
  | 34 => ⟨S1605632, .i8⟩
  | 35 => ⟨S12544x128, .i8⟩
  | 36 => ⟨S49x4x128, .f32⟩
  | _ => ⟨S3211264, .f32⟩

abbrev hbmTy (i : Nat) : BufTy := match i / 128 with
  | 0 => hbmTy0_0 i
  | 1 => hbmTy0_1 i
  | 2 => hbmTy0_2 i
  | 3 => hbmTy0_3 i
  | _ => ⟨S3211264, .f32⟩

abbrev bufTy : (tb : Table) → Fin (tcTables nBuf tb) → BufTy
  | .hbm, ⟨i, _⟩ => hbmTy i
  | _, _ => ⟨S3211264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_v0 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call2_v0 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_c_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_v75 : Ref sig .tc := ⟨.hbm, 111, rfl⟩
abbrev main_v76 : Ref sig .tc := ⟨.hbm, 112, rfl⟩
abbrev main_c_16 : Ref sig .tc := ⟨.hbm, 113, rfl⟩
abbrev main_v77 : Ref sig .tc := ⟨.hbm, 114, rfl⟩
abbrev main_v78 : Ref sig .tc := ⟨.hbm, 115, rfl⟩
abbrev main_c_17 : Ref sig .tc := ⟨.hbm, 116, rfl⟩
abbrev main_v79 : Ref sig .tc := ⟨.hbm, 117, rfl⟩
abbrev main_v80 : Ref sig .tc := ⟨.hbm, 118, rfl⟩
abbrev main_c_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_call5_v0 : Ref sig .tc := ⟨.hbm, 128, rfl⟩
abbrev main_v89 : Ref sig .tc := ⟨.hbm, 129, rfl⟩
abbrev main_v90 : Ref sig .tc := ⟨.hbm, 130, rfl⟩
abbrev main_c_19 : Ref sig .tc := ⟨.hbm, 131, rfl⟩
abbrev main_v91 : Ref sig .tc := ⟨.hbm, 132, rfl⟩
abbrev main_v92 : Ref sig .tc := ⟨.hbm, 133, rfl⟩
abbrev main_c_20 : Ref sig .tc := ⟨.hbm, 134, rfl⟩
abbrev main_v93 : Ref sig .tc := ⟨.hbm, 135, rfl⟩
abbrev main_v94 : Ref sig .tc := ⟨.hbm, 136, rfl⟩
abbrev main_c_21 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_call6_v0 : Ref sig .tc := ⟨.hbm, 146, rfl⟩
abbrev main_v103 : Ref sig .tc := ⟨.hbm, 147, rfl⟩
abbrev main_v104 : Ref sig .tc := ⟨.hbm, 148, rfl⟩
abbrev main_c_22 : Ref sig .tc := ⟨.hbm, 149, rfl⟩
abbrev main_v105 : Ref sig .tc := ⟨.hbm, 150, rfl⟩
abbrev main_v106 : Ref sig .tc := ⟨.hbm, 151, rfl⟩
abbrev main_c_23 : Ref sig .tc := ⟨.hbm, 152, rfl⟩
abbrev main_v107 : Ref sig .tc := ⟨.hbm, 153, rfl⟩
abbrev main_v108 : Ref sig .tc := ⟨.hbm, 154, rfl⟩
abbrev main_c_24 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_c_25 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_c_26 : Ref sig .tc := ⟨.hbm, 178, rfl⟩
abbrev main_v130 : Ref sig .tc := ⟨.hbm, 179, rfl⟩
abbrev main_v131 : Ref sig .tc := ⟨.hbm, 180, rfl⟩
abbrev main_c_27 : Ref sig .tc := ⟨.hbm, 181, rfl⟩
abbrev main_v132 : Ref sig .tc := ⟨.hbm, 182, rfl⟩
abbrev main_v133 : Ref sig .tc := ⟨.hbm, 183, rfl⟩
abbrev main_c_28 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_call8_v0 : Ref sig .tc := ⟨.hbm, 193, rfl⟩
abbrev main_call8_v1 : Ref sig .tc := ⟨.hbm, 194, rfl⟩
abbrev main_call8_v2 : Ref sig .tc := ⟨.hbm, 195, rfl⟩
abbrev main_v142 : Ref sig .tc := ⟨.hbm, 196, rfl⟩
abbrev main_v143 : Ref sig .tc := ⟨.hbm, 197, rfl⟩
abbrev main_c_29 : Ref sig .tc := ⟨.hbm, 198, rfl⟩
abbrev main_v144 : Ref sig .tc := ⟨.hbm, 199, rfl⟩
abbrev main_v145 : Ref sig .tc := ⟨.hbm, 200, rfl⟩
abbrev main_c_30 : Ref sig .tc := ⟨.hbm, 201, rfl⟩
abbrev main_v146 : Ref sig .tc := ⟨.hbm, 202, rfl⟩
abbrev main_v147 : Ref sig .tc := ⟨.hbm, 203, rfl⟩
abbrev main_c_31 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_call9_v0 : Ref sig .tc := ⟨.hbm, 213, rfl⟩
abbrev main_v156 : Ref sig .tc := ⟨.hbm, 214, rfl⟩
abbrev main_v157 : Ref sig .tc := ⟨.hbm, 215, rfl⟩
abbrev main_c_32 : Ref sig .tc := ⟨.hbm, 216, rfl⟩
abbrev main_v158 : Ref sig .tc := ⟨.hbm, 217, rfl⟩
abbrev main_v159 : Ref sig .tc := ⟨.hbm, 218, rfl⟩
abbrev main_c_33 : Ref sig .tc := ⟨.hbm, 219, rfl⟩
abbrev main_v160 : Ref sig .tc := ⟨.hbm, 220, rfl⟩
abbrev main_v161 : Ref sig .tc := ⟨.hbm, 221, rfl⟩
abbrev main_c_34 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_call10_v0 : Ref sig .tc := ⟨.hbm, 231, rfl⟩
abbrev main_v170 : Ref sig .tc := ⟨.hbm, 232, rfl⟩
abbrev main_v171 : Ref sig .tc := ⟨.hbm, 233, rfl⟩
abbrev main_c_35 : Ref sig .tc := ⟨.hbm, 234, rfl⟩
abbrev main_v172 : Ref sig .tc := ⟨.hbm, 235, rfl⟩
abbrev main_v173 : Ref sig .tc := ⟨.hbm, 236, rfl⟩
abbrev main_c_36 : Ref sig .tc := ⟨.hbm, 237, rfl⟩
abbrev main_v174 : Ref sig .tc := ⟨.hbm, 238, rfl⟩
abbrev main_v175 : Ref sig .tc := ⟨.hbm, 239, rfl⟩
abbrev main_c_37 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_c_38 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_c_39 : Ref sig .tc := ⟨.hbm, 255, rfl⟩
abbrev main_v189 : Ref sig .tc := ⟨.hbm, 256, rfl⟩
abbrev main_v190 : Ref sig .tc := ⟨.hbm, 257, rfl⟩
abbrev main_c_40 : Ref sig .tc := ⟨.hbm, 258, rfl⟩
abbrev main_v191 : Ref sig .tc := ⟨.hbm, 259, rfl⟩
abbrev main_v192 : Ref sig .tc := ⟨.hbm, 260, rfl⟩
abbrev main_c_41 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_call12_v0 : Ref sig .tc := ⟨.hbm, 270, rfl⟩
abbrev main_call12_v1 : Ref sig .tc := ⟨.hbm, 271, rfl⟩
abbrev main_call12_v2 : Ref sig .tc := ⟨.hbm, 272, rfl⟩
abbrev main_v201 : Ref sig .tc := ⟨.hbm, 273, rfl⟩
abbrev main_v202 : Ref sig .tc := ⟨.hbm, 274, rfl⟩
abbrev main_c_42 : Ref sig .tc := ⟨.hbm, 275, rfl⟩
abbrev main_v203 : Ref sig .tc := ⟨.hbm, 276, rfl⟩
abbrev main_v204 : Ref sig .tc := ⟨.hbm, 277, rfl⟩
abbrev main_c_43 : Ref sig .tc := ⟨.hbm, 278, rfl⟩
abbrev main_v205 : Ref sig .tc := ⟨.hbm, 279, rfl⟩
abbrev main_v206 : Ref sig .tc := ⟨.hbm, 280, rfl⟩
abbrev main_c_44 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_call13_v0 : Ref sig .tc := ⟨.hbm, 290, rfl⟩
abbrev main_v215 : Ref sig .tc := ⟨.hbm, 291, rfl⟩
abbrev main_v216 : Ref sig .tc := ⟨.hbm, 292, rfl⟩
abbrev main_c_45 : Ref sig .tc := ⟨.hbm, 293, rfl⟩
abbrev main_v217 : Ref sig .tc := ⟨.hbm, 294, rfl⟩
abbrev main_v218 : Ref sig .tc := ⟨.hbm, 295, rfl⟩
abbrev main_c_46 : Ref sig .tc := ⟨.hbm, 296, rfl⟩
abbrev main_v219 : Ref sig .tc := ⟨.hbm, 297, rfl⟩
abbrev main_v220 : Ref sig .tc := ⟨.hbm, 298, rfl⟩
abbrev main_c_47 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_call14_v0 : Ref sig .tc := ⟨.hbm, 308, rfl⟩
abbrev main_v229 : Ref sig .tc := ⟨.hbm, 309, rfl⟩
abbrev main_v230 : Ref sig .tc := ⟨.hbm, 310, rfl⟩
abbrev main_c_48 : Ref sig .tc := ⟨.hbm, 311, rfl⟩
abbrev main_v231 : Ref sig .tc := ⟨.hbm, 312, rfl⟩
abbrev main_v232 : Ref sig .tc := ⟨.hbm, 313, rfl⟩
abbrev main_c_49 : Ref sig .tc := ⟨.hbm, 314, rfl⟩
abbrev main_v233 : Ref sig .tc := ⟨.hbm, 315, rfl⟩
abbrev main_v234 : Ref sig .tc := ⟨.hbm, 316, rfl⟩
abbrev main_c_50 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_cst : Ref sig .tc := ⟨.hbm, 337, rfl⟩
abbrev main_v254 : Ref sig .tc := ⟨.hbm, 338, rfl⟩
abbrev main_v255 : Ref sig .tc := ⟨.hbm, 339, rfl⟩
abbrev main_cst_51 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_cst_52 : Ref sig .tc := ⟨.hbm, 344, rfl⟩
abbrev main_v259 : Ref sig .tc := ⟨.hbm, 345, rfl⟩
abbrev main_v260 : Ref sig .tc := ⟨.hbm, 346, rfl⟩
abbrev main_cst_53 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_cst_54 : Ref sig .tc := ⟨.hbm, 353, rfl⟩
abbrev main_v266 : Ref sig .tc := ⟨.hbm, 354, rfl⟩
abbrev main_cst_55 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_v274 : Ref sig .tc := ⟨.hbm, 363, rfl⟩
abbrev main_cst_56 : Ref sig .tc := ⟨.hbm, 364, rfl⟩
abbrev main_v275 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_c_57 : Ref sig .tc := ⟨.hbm, 373, rfl⟩
abbrev main_v283 : Ref sig .tc := ⟨.hbm, 374, rfl⟩
abbrev main_v284 : Ref sig .tc := ⟨.hbm, 375, rfl⟩
abbrev main_v285 : Ref sig .tc := ⟨.hbm, 376, rfl⟩
abbrev main_v286 : Ref sig .tc := ⟨.hbm, 377, rfl⟩
abbrev main_v287 : Ref sig .tc := ⟨.hbm, 378, rfl⟩
abbrev main_v288 : Ref sig .tc := ⟨.hbm, 379, rfl⟩
abbrev main_c_58 : Ref sig .tc := ⟨.hbm, 380, rfl⟩
abbrev main_v289 : Ref sig .tc := ⟨.hbm, 381, rfl⟩
abbrev main_v290 : Ref sig .tc := ⟨.hbm, 382, rfl⟩
abbrev main_v291 : Ref sig .tc := ⟨.hbm, 383, rfl⟩
abbrev main_v292 : Ref sig .tc := ⟨.hbm, 384, rfl⟩
abbrev main_v293 : Ref sig .tc := ⟨.hbm, 385, rfl⟩
abbrev main_v294 : Ref sig .tc := ⟨.hbm, 386, rfl⟩
abbrev main_cst_59 : Ref sig .tc := ⟨.hbm, 387, rfl⟩
abbrev main_v295 : Ref sig .tc := ⟨.hbm, 388, rfl⟩
abbrev main_cst_60 : Ref sig .tc := ⟨.hbm, 389, rfl⟩
abbrev main_v296 : Ref sig .tc := ⟨.hbm, 390, rfl⟩
abbrev main_v297 : Ref sig .tc := ⟨.hbm, 391, rfl⟩
abbrev main_v298 : Ref sig .tc := ⟨.hbm, 392, rfl⟩
abbrev main_v299 : Ref sig .tc := ⟨.hbm, 393, rfl⟩
abbrev main_v300 : Ref sig .tc := ⟨.hbm, 394, rfl⟩
abbrev main_v301 : Ref sig .tc := ⟨.hbm, 395, rfl⟩
abbrev main_v302 : Ref sig .tc := ⟨.hbm, 396, rfl⟩
abbrev main_v303 : Ref sig .tc := ⟨.hbm, 397, rfl⟩
abbrev main_cst_61 : Ref sig .tc := ⟨.hbm, 398, rfl⟩
abbrev main_v304 : Ref sig .tc := ⟨.hbm, 399, rfl⟩
abbrev main_v305 : Ref sig .tc := ⟨.hbm, 400, rfl⟩
abbrev main_v306 : Ref sig .tc := ⟨.hbm, 401, rfl⟩
abbrev main_v307 : Ref sig .tc := ⟨.hbm, 402, rfl⟩
abbrev main_v308 : Ref sig .tc := ⟨.hbm, 403, rfl⟩
abbrev main_v309 : Ref sig .tc := ⟨.hbm, 404, rfl⟩
abbrev main_v310 : Ref sig .tc := ⟨.hbm, 405, rfl⟩
abbrev main_v311 : Ref sig .tc := ⟨.hbm, 406, rfl⟩
abbrev main_c_62 : Ref sig .tc := ⟨.hbm, 407, rfl⟩
abbrev main_v312 : Ref sig .tc := ⟨.hbm, 408, rfl⟩
abbrev main_v313 : Ref sig .tc := ⟨.hbm, 409, rfl⟩
abbrev main_v314 : Ref sig .tc := ⟨.hbm, 410, rfl⟩
abbrev main_v315 : Ref sig .tc := ⟨.hbm, 411, rfl⟩
abbrev main_v316 : Ref sig .tc := ⟨.hbm, 412, rfl⟩
abbrev main_v317 : Ref sig .tc := ⟨.hbm, 413, rfl⟩
abbrev main_c_63 : Ref sig .tc := ⟨.hbm, 414, rfl⟩
abbrev main_v318 : Ref sig .tc := ⟨.hbm, 415, rfl⟩
abbrev main_v319 : Ref sig .tc := ⟨.hbm, 416, rfl⟩
abbrev main_v320 : Ref sig .tc := ⟨.hbm, 417, rfl⟩
abbrev main_v321 : Ref sig .tc := ⟨.hbm, 418, rfl⟩
abbrev main_v322 : Ref sig .tc := ⟨.hbm, 419, rfl⟩
abbrev main_v323 : Ref sig .tc := ⟨.hbm, 420, rfl⟩

abbrev nD : Nat := 1
abbrev τ : Topo := Topo.v7x

variable {F : FTy → Type} [FloatOps F]
-- ==== Proof.Specs.lean ====
module

public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead

/-! The two while loops that look for the tensor a group of blocks starts in: each is met by its specification, which
    returns the least index whose next offset exceeds the group's first element. -/

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The variants of the while loops' calls. -/
abbrev 𝒱₀ : Variants := Variants.nat

/-- A call of a while loop: it reads the offsets and returns `T`. -/
def whileSpec (c : Dev nD) (arg1 : Memref sig .tc .smem S97 .i32) (f1 : Buf (Elt F) (arg1.view.loc (c : Thread nD τ))) (T : BitVec 32) : sWPT 𝕄 (BitVec 32) := do
  sWPT.consume (arg1.view.loc (c : Thread nD τ) ↦[arg1.view.set]{fullShare} f1)
  sWPT.produce (arg1.view.loc (c : Thread nD τ) ↦[arg1.view.set]{fullShare} f1)
  pure T

theorem whileSpec_apply (c : Dev nD) (arg1 : Memref sig .tc .smem S97 .i32) (f1 : Buf (Elt F) (arg1.view.loc (c : Thread nD τ))) (T : BitVec 32) (K : BitVec 32 → sProp 𝕄) :
    whileSpec c arg1 f1 T K = iprop((arg1.view.loc (c : Thread nD τ) ↦[arg1.view.set]{fullShare} f1) ∗ ((arg1.view.loc (c : Thread nD τ) ↦[arg1.view.set]{fullShare} f1) -∗ K T)) := rfl

theorem lt97 : 96 < 97 := by decide

/-- Index `t` of the offset table. -/
def ix97 (t : ℕ) (h : t < 97) : S97.Idx := fun a => ⟨t, by fin_cases a; exact h⟩

/-- The next offset after index `t` exceeds `b`. -/
def Above (x1 : Vec F S97 .i32) (b : BitVec 32) (t : ℕ) : Prop := ∃ h : t + 1 < 97, b.toInt < (show BitVec 32 from x1 (ix97 (t + 1) h)).toInt

open Classical in
/-- The least index whose next offset exceeds `b`. -/
def tidAt (x1 : Vec F S97 .i32) (b : BitVec 32) : ℕ := if h : ∃ t, Above x1 b t then Nat.find h else 0

theorem tidAt_above (x1 : Vec F S97 .i32) (b : BitVec 32) (h : ∃ t, Above x1 b t) : Above x1 b (tidAt x1 b) := by
  classical
  unfold tidAt; rw [dif_pos h]; exact Nat.find_spec h

theorem tidAt_lt (x1 : Vec F S97 .i32) (b : BitVec 32) (h : ∃ t, Above x1 b t) : tidAt x1 b < 96 := by
  obtain ⟨h1, _⟩ := tidAt_above x1 b h; omega

theorem not_above_of_lt (x1 : Vec F S97 .i32) (b : BitVec 32) (t : ℕ) (ht : t < tidAt x1 b) : ¬ Above x1 b t := by
  classical
  intro hA
  have h : ∃ t, Above x1 b t := ⟨t, hA⟩
  unfold tidAt at ht; rw [dif_pos h] at ht
  exact Nat.find_min h ht hA

/-- The index for a later first element is no earlier. -/
theorem tidAt_mono (x1 : Vec F S97 .i32) (b b' : BitVec 32) (h : ∃ t, Above x1 b' t) (hb : b.toInt ≤ b'.toInt) : tidAt x1 b ≤ tidAt x1 b' := by
  obtain ⟨h1, h2⟩ := tidAt_above x1 b' h
  by_contra hc
  exact not_above_of_lt x1 b (tidAt x1 b') (by omega) ⟨h1, by omega⟩

theorem sle_one_iff (x y : BitVec 32) : Scalar.cmpi .sle x y = 1#1 ↔ x.toInt ≤ y.toInt := by
  show IntOp.cmpi .sle x y = 1#1 ↔ _
  rw [WordCmp.cmpi_sle_eq]; exact WordCmp.ofBool_decide_eq_one_iff _

theorem chk1_ofNat : ∀ t : Fin 96, k0_chk1 (BitVec.ofNat 32 t.val) := by decide +kernel

theorem off1_ofNat : ∀ t : Fin 96, k0_off1 (BitVec.ofNat 32 t.val) 0 = t.val + 1 := by decide +kernel

/-- The word loop 1 reads at index `t` is the offset after it. -/
theorem load1_eq (arg1 : Memref sig .tc .smem S97 .i32) (harg1 : arg1.IsWhole) (x1 : Vec F S97 .i32) (t : ℕ) (ht : t < 96)
    (hb : k0_chk1 (BitVec.ofNat 32 t)) (x) :
    View.readAt (Elt F) arg1.view (Rect.unit (s := S97) (k0_off1 (BitVec.ofNat 32 t)) S1.size hb).toLoadRect (harg1.unread x1) x
      = x1 (ix97 (t + 1) (by omega)) := by
  rw [Memref.IsWhole.readAt_unread]
  congr 1
  funext a
  fin_cases a
  refine Fin.ext ?_
  show k0_off1 (BitVec.ofNat 32 t) 0 + 1 * (x 0).val = t + 1
  have h0 : (x 0).val < 1 := (x 0).isLt
  rw [off1_ofNat ⟨t, ht⟩]; simp only []; omega

theorem chk2_ofNat : ∀ t : Fin 96, k0_chk2 (BitVec.ofNat 32 t.val) := by decide +kernel

theorem off2_ofNat : ∀ t : Fin 96, k0_off2 (BitVec.ofNat 32 t.val) 0 = t.val + 1 := by decide +kernel

/-- The word loop 2 reads at index `t` is the offset after it. -/
theorem load2_eq (arg1 : Memref sig .tc .smem S97 .i32) (harg1 : arg1.IsWhole) (x1 : Vec F S97 .i32) (t : ℕ) (ht : t < 96)
    (hb : k0_chk2 (BitVec.ofNat 32 t)) (x) :
    View.readAt (Elt F) arg1.view (Rect.unit (s := S97) (k0_off2 (BitVec.ofNat 32 t)) S1.size hb).toLoadRect (harg1.unread x1) x
      = x1 (ix97 (t + 1) (by omega)) := by
  rw [Memref.IsWhole.readAt_unread]
  congr 1
  funext a
  fin_cases a
  refine Fin.ext ?_
  show k0_off2 (BitVec.ofNat 32 t) 0 + 1 * (x 0).val = t + 1
  have h0 : (x 0).val < 1 := (x 0).isLt
  rw [off2_ofNat ⟨t, ht⟩]; simp only []; omega

theorem chk3_ofNat : ∀ t : Fin 96, k0_chk3 (BitVec.ofNat 32 t.val) := by decide +kernel

/-- While loop 1, entered at an index `t0` below which no next offset exceeds the group's first element: by induction on
    how far the index looked for is. -/
theorem while1_le (c : Dev nD) (i : grid0.Coords) (arg1 : Memref sig .tc .smem S97 .i32) (harg1 : arg1.IsWhole) (x1 : Vec F S97 .i32)
    (h : ∃ t, Above x1 (Scalar.muli (BitVec.ofNat 32 (i 0).val) 65536#32) t) :
    ∀ n t0, t0 + n = tidAt x1 (Scalar.muli (BitVec.ofNat 32 (i 0).val) 65536#32) → ∀ K,
      whileSpec (F := F) c arg1 (harg1.unread x1) (BitVec.ofNat 32 (tidAt x1 (Scalar.muli (BitVec.ofNat 32 (i 0).val) 65536#32))) K
      ⊢ wp frame (wpE (defs₀ (F := F)) 𝒱₀ (c : Thread nD τ) (some n)) Set.univ (defs₀ (F := F) .tc 1 ⟨i, arg1, harg1, BitVec.ofNat 32 t0⟩) K := by
  intro n
  induction n with
  | zero =>
    intro t0 ht K
    have ht0 : t0 = tidAt x1 (Scalar.muli (BitVec.ofNat 32 (i 0).val) 65536#32) := by omega
    have h95 : t0 < 96 := ht0 ▸ tidAt_lt x1 _ h
    rw [whileSpec_apply]
    show _ ⊢ wp frame (wpE (defs₀ (F := F)) 𝒱₀ (c : Thread nD τ) (some 0)) Set.univ (cc0_while1 i arg1 harg1 (BitVec.ofNat 32 t0)) K
    simp only [cc0_while1_eq_skeleton]; unfold cc0_while1_skel
    simp only [smemLoad, smemLoadElt, Prog.lift, Prog.bind_op, Prog.bind_ret, Prog.pure_eq_ret]
    iintro ⟨H, Hk⟩
    iapply (wp_assume 𝒱₀ (c : Thread nD τ) (some 0) Set.univ (chk1_ofNat ⟨t0, h95⟩))
    iapply (wp_load 𝒱₀ (c : Thread nD τ) (some 0) Set.univ (m := arg1) (View.setOn_subset_set _ _)) $$ H; iintro H
    have htest : ¬ (Scalar.cmpi .sle (View.readAt (Elt F) arg1.view (Rect.unit (s := S97) (k0_off1 (BitVec.ofNat 32 t0)) S1.size (chk1_ofNat ⟨t0, h95⟩)).toLoadRect (harg1.unread x1)
        (Shape.Idx.first (numel1_S1.symm ▸ Nat.one_pos))) (Scalar.muli (BitVec.ofNat 32 (i 0).val) 65536#32) = 1#1) := by
      rw [sle_one_iff, load1_eq arg1 harg1 x1 t0 h95]
      obtain ⟨h1, h2⟩ := tidAt_above x1 _ h
      subst ht0; exact not_le.mpr h2
    simp only [htest, ↓reduceIte]
    rw [wp_ret]; imodintro
    rw [← ht0]
    iapply Hk
    iexact H
  | succ n ih =>
    intro t0 ht K
    have h95 : t0 < 96 := by have := tidAt_lt x1 _ h; omega
    rw [whileSpec_apply]
    show _ ⊢ wp frame (wpE (defs₀ (F := F)) 𝒱₀ (c : Thread nD τ) (some (n + 1))) Set.univ (cc0_while1 i arg1 harg1 (BitVec.ofNat 32 t0)) K
    simp only [cc0_while1_eq_skeleton]; unfold cc0_while1_skel
    simp only [smemLoad, smemLoadElt, Prog.lift, Prog.bind_op, Prog.bind_ret, Prog.pure_eq_ret]
    iintro ⟨H, Hk⟩
    iapply (wp_assume 𝒱₀ (c : Thread nD τ) (some (n + 1)) Set.univ (chk1_ofNat ⟨t0, h95⟩))
    iapply (wp_load 𝒱₀ (c : Thread nD τ) (some (n + 1)) Set.univ (m := arg1) (View.setOn_subset_set _ _)) $$ H; iintro H
    have htest : (Scalar.cmpi .sle (View.readAt (Elt F) arg1.view (Rect.unit (s := S97) (k0_off1 (BitVec.ofNat 32 t0)) S1.size (chk1_ofNat ⟨t0, h95⟩)).toLoadRect (harg1.unread x1)
        (Shape.Idx.first (numel1_S1.symm ▸ Nat.one_pos))) (Scalar.muli (BitVec.ofNat 32 (i 0).val) 65536#32) = 1#1) := by
      rw [sle_one_iff, load1_eq arg1 harg1 x1 t0 h95]
      exact not_lt.mp fun hlt => not_above_of_lt x1 _ t0 (by omega) ⟨by omega, hlt⟩
    simp only [htest, ↓reduceIte]
    rw [show Scalar.addi (BitVec.ofNat 32 t0) 1#32 = BitVec.ofNat 32 (t0 + 1) from BitVec.eq_of_toNat_eq (by simp [Scalar.addi, IntOp.addi])]
    iapply (wp_call_spec 𝒱₀ (c : Thread nD τ) (some (n + 1)) Set.univ
      (whileSpec (F := F) c arg1 (harg1.unread x1) (BitVec.ofNat 32 (tidAt x1 (Scalar.muli (BitVec.ofNat 32 (i 0).val) 65536#32)))) n
      (fun u hu => by cases hu; exact Nat.lt_succ_self n) (ih (t0 + 1) (by omega)))
    rw [whileSpec_apply]
    isplitl [H]
    · iexact H
    iintro H
    rw [wp_ret]; imodintro
    iapply Hk
    iexact H

/-- While loop 2, entered at an index `t0` below which no next offset exceeds the group's first element: by induction on
    how far the index looked for is. -/
theorem while2_le (c : Dev nD) (i : grid0.Coords) (k : Fin k0_t1_loop.trips) (arg1 : Memref sig .tc .smem S97 .i32) (harg1 : arg1.IsWhole) (x1 : Vec F S97 .i32)
    (h : ∃ t, Above x1 (Scalar.addi (Scalar.muli (BitVec.ofNat 32 (i 0).val) 65536#32) (Scalar.muli (Scf.iv 0#32 1#32 k) 8192#32)) t) :
    ∀ n t0, t0 + n = tidAt x1 (Scalar.addi (Scalar.muli (BitVec.ofNat 32 (i 0).val) 65536#32) (Scalar.muli (Scf.iv 0#32 1#32 k) 8192#32)) → ∀ K,
      whileSpec (F := F) c arg1 (harg1.unread x1) (BitVec.ofNat 32 (tidAt x1 (Scalar.addi (Scalar.muli (BitVec.ofNat 32 (i 0).val) 65536#32) (Scalar.muli (Scf.iv 0#32 1#32 k) 8192#32)))) K
      ⊢ wp frame (wpE (defs₀ (F := F)) 𝒱₀ (c : Thread nD τ) (some n)) Set.univ (defs₀ (F := F) .tc 2 ⟨i, k, arg1, harg1, BitVec.ofNat 32 t0⟩) K := by
  intro n
  induction n with
  | zero =>
    intro t0 ht K
    have ht0 : t0 = tidAt x1 (Scalar.addi (Scalar.muli (BitVec.ofNat 32 (i 0).val) 65536#32) (Scalar.muli (Scf.iv 0#32 1#32 k) 8192#32)) := by omega
    have h95 : t0 < 96 := ht0 ▸ tidAt_lt x1 _ h
    rw [whileSpec_apply]
    show _ ⊢ wp frame (wpE (defs₀ (F := F)) 𝒱₀ (c : Thread nD τ) (some 0)) Set.univ (cc0_while2 i k arg1 harg1 (BitVec.ofNat 32 t0)) K
    simp only [cc0_while2_eq_skeleton]; unfold cc0_while2_skel
    simp only [smemLoad, smemLoadElt, Prog.lift, Prog.bind_op, Prog.bind_ret, Prog.pure_eq_ret]
    iintro ⟨H, Hk⟩
    iapply (wp_assume 𝒱₀ (c : Thread nD τ) (some 0) Set.univ (chk2_ofNat ⟨t0, h95⟩))
    iapply (wp_load 𝒱₀ (c : Thread nD τ) (some 0) Set.univ (m := arg1) (View.setOn_subset_set _ _)) $$ H; iintro H
    have htest : ¬ (Scalar.cmpi .sle (View.readAt (Elt F) arg1.view (Rect.unit (s := S97) (k0_off2 (BitVec.ofNat 32 t0)) S1.size (chk2_ofNat ⟨t0, h95⟩)).toLoadRect (harg1.unread x1)
        (Shape.Idx.first (numel1_S1.symm ▸ Nat.one_pos))) (Scalar.addi (Scalar.muli (BitVec.ofNat 32 (i 0).val) 65536#32) (Scalar.muli (Scf.iv 0#32 1#32 k) 8192#32)) = 1#1) := by
      rw [sle_one_iff, load2_eq arg1 harg1 x1 t0 h95]
      obtain ⟨h1, h2⟩ := tidAt_above x1 _ h
      subst ht0; exact not_le.mpr h2
    simp only [htest, ↓reduceIte]
    rw [wp_ret]; imodintro
    rw [← ht0]
    iapply Hk
    iexact H
  | succ n ih =>
    intro t0 ht K
    have h95 : t0 < 96 := by have := tidAt_lt x1 _ h; omega
    rw [whileSpec_apply]
    show _ ⊢ wp frame (wpE (defs₀ (F := F)) 𝒱₀ (c : Thread nD τ) (some (n + 1))) Set.univ (cc0_while2 i k arg1 harg1 (BitVec.ofNat 32 t0)) K
    simp only [cc0_while2_eq_skeleton]; unfold cc0_while2_skel
    simp only [smemLoad, smemLoadElt, Prog.lift, Prog.bind_op, Prog.bind_ret, Prog.pure_eq_ret]
    iintro ⟨H, Hk⟩
    iapply (wp_assume 𝒱₀ (c : Thread nD τ) (some (n + 1)) Set.univ (chk2_ofNat ⟨t0, h95⟩))
    iapply (wp_load 𝒱₀ (c : Thread nD τ) (some (n + 1)) Set.univ (m := arg1) (View.setOn_subset_set _ _)) $$ H; iintro H
    have htest : (Scalar.cmpi .sle (View.readAt (Elt F) arg1.view (Rect.unit (s := S97) (k0_off2 (BitVec.ofNat 32 t0)) S1.size (chk2_ofNat ⟨t0, h95⟩)).toLoadRect (harg1.unread x1)
        (Shape.Idx.first (numel1_S1.symm ▸ Nat.one_pos))) (Scalar.addi (Scalar.muli (BitVec.ofNat 32 (i 0).val) 65536#32) (Scalar.muli (Scf.iv 0#32 1#32 k) 8192#32)) = 1#1) := by
      rw [sle_one_iff, load2_eq arg1 harg1 x1 t0 h95]
      exact not_lt.mp fun hlt => not_above_of_lt x1 _ t0 (by omega) ⟨by omega, hlt⟩
    simp only [htest, ↓reduceIte]
    rw [show Scalar.addi (BitVec.ofNat 32 t0) 1#32 = BitVec.ofNat 32 (t0 + 1) from BitVec.eq_of_toNat_eq (by simp [Scalar.addi, IntOp.addi])]
    iapply (wp_call_spec 𝒱₀ (c : Thread nD τ) (some (n + 1)) Set.univ
      (whileSpec (F := F) c arg1 (harg1.unread x1) (BitVec.ofNat 32 (tidAt x1 (Scalar.addi (Scalar.muli (BitVec.ofNat 32 (i 0).val) 65536#32) (Scalar.muli (Scf.iv 0#32 1#32 k) 8192#32))))) n
      (fun u hu => by cases hu; exact Nat.lt_succ_self n) (ih (t0 + 1) (by omega)))
    rw [whileSpec_apply]
    isplitl [H]
    · iexact H
    iintro H
    rw [wp_ret]; imodintro
    iapply Hk
    iexact H

end Cert.KernelIdeal.Hand

end
-- ==== Proof.Trip.lean ====
module

public import proofs.«01_k».proof.Proof.Gen.KernelIdeal.Loops
public import proofs.«01_k».proof.Proof.Gen.KernelIdeal.Points
public import proofs.«01_k».proof.Proof.Specs
public import Idealize.ShloMosaic.Lib.Pipeline.FrameBody
public import Idealize.ShloMosaic.Lib.Ring
public import Idealize.ShloMosaic.Lib.Tactic
public import Idealize.ShloMosaic.Lib.WordCmp

/-! One trip of the kernel's loop over groups of 64 blocks. -/

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Trip
variable (c : Dev nD) (i : grid0.Coords) (arg1 : Memref sig .tc .smem S97 .i32) (harg1 : arg1.IsWhole) (arg2 : Memref sig .tc .smem S97 .f32) (harg2 : arg2.IsWhole) (arg3 : Memref sig .tc .smem S15 .f32) (harg3 : arg3.IsWhole) (arg4 : Memref sig .tc .smem S15 .f32) (harg4 : arg4.IsWhole) (arg5 : Memref sig .tc .smem S2 .f32) (harg5 : arg5.IsWhole) (arg6 : Memref sig .tc .vmem S4x128 .f32) (harg6 : arg6.IsWhole) (arg7 : Memref sig .tc .vmem S512x128 .f32) (harg7 : arg7.IsWhole) (arg8 : Memref sig .tc .vmem S512x128 .bf16) (harg8 : arg8.IsWhole) (arg9 : Memref sig .tc .vmem S256x128 .i8) (harg9 : arg9.IsWhole) (arg10 : Memref sig .tc .vmem S1x4x128 .f32) (harg10 : arg10.IsWhole) (arg11 : Memref sig .tc .vmem S256x128 .i8) (harg11 : arg11.IsWhole) (arg12 : Memref sig .tc .vmem S1x4x128 .f32) (harg12 : arg12.IsWhole) (arg13 : Memref sig .tc .vmem S512x128 .f32) (harg13 : arg13.IsWhole) (arg14 : Memref sig .tc .vmem S256x128 .i8) (harg14 : arg14.IsWhole) (arg15 : Memref sig .tc .vmem S1x4x128 .f32) (harg15 : arg15.IsWhole) (arg16 : Memref sig .tc .vmem S256x128 .i8) (harg16 : arg16.IsWhole) (arg17 : Memref sig .tc .vmem S1x4x128 .f32) (harg17 : arg17.IsWhole)
  (v0 : IVec S8x128 32) (v1 : IVec S8x128 32) (v3 : FVec F S1x128 .f32) (v5 : FVec F S1x128 .f32) (v9 : FVec F S8x128 .f32) (v13 : FVec F S8x128 .f32) (v14 : Elt F .f32) (v15 : Elt F .f32) (v19 : IVec S8x128 32) (v31 : IVec S8x128 32) (v36 : IVec S8x128 32) (v37 : BitVec 32)
variable (x1 : Vec F S97 .i32) (x2 : Vec F S97 .f32) (x3 : Vec F S15 .f32) (x4 : Vec F S15 .f32) (x7 : Vec F S512x128 .f32) (x8 : Vec F S512x128 .bf16) (x9 : Vec F S256x128 .i8) (x10 : Vec F S1x4x128 .f32) (x11 : Vec F S256x128 .i8) (x12 : Vec F S1x4x128 .f32)

set_option maxHeartbeats 40000000 in
def trip (k : Fin k0_t1_loop.trips) (tid T : BitVec 32) (hT : k0_chk3 T) (n : ℕ)
    (hcall : ∀ K, whileSpec (F := F) c arg1 (harg1.unread x1) T K ⊢ wp frame (wpE defs₀ 𝒱₀ (c : Thread nD τ) (some n)) Set.univ (defs₀ .tc 2 ⟨i, k, arg1, harg1, tid⟩) K)
    (f15 : Buf (Elt F) (arg15.view.loc (c : Thread nD τ))) (f17 : Buf (Elt F) (arg17.view.loc (c : Thread nD τ))) :
    Σ' (L13 : List (View.Piece (Elt F) S512x128 .f32)) (L14 : List (View.Piece (Elt F) S256x128 .i8)) (L15 : List (View.Piece (Elt F) S1x4x128 .f32)) (L16 : List (View.Piece (Elt F) S256x128 .i8)),
      { L17 : List (View.Piece (Elt F) S1x4x128 .f32) //
      ∀ f13 f14 f16 (K : BitVec 32 → sProp 𝕄),
      iprop((arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread x7)) ∗ (arg8.view.loc (c : Thread nD τ) ↦[arg8.view.set]{fullShare} (harg8.unread x8)) ∗ (arg9.view.loc (c : Thread nD τ) ↦[arg9.view.set]{fullShare} (harg9.unread x9)) ∗ (arg10.view.loc (c : Thread nD τ) ↦[arg10.view.set]{fullShare} (harg10.unread x10)) ∗ (arg11.view.loc (c : Thread nD τ) ↦[arg11.view.set]{fullShare} (harg11.unread x11)) ∗ (arg12.view.loc (c : Thread nD τ) ↦[arg12.view.set]{fullShare} (harg12.unread x12)) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
      ∗ (((arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread x7)) ∗ (arg8.view.loc (c : Thread nD τ) ↦[arg8.view.set]{fullShare} (harg8.unread x8)) ∗ (arg9.view.loc (c : Thread nD τ) ↦[arg9.view.set]{fullShare} (harg9.unread x9)) ∗ (arg10.view.loc (c : Thread nD τ) ↦[arg10.view.set]{fullShare} (harg10.unread x10)) ∗ (arg11.view.loc (c : Thread nD τ) ↦[arg11.view.set]{fullShare} (harg11.unread x11)) ∗ (arg12.view.loc (c : Thread nD τ) ↦[arg12.view.set]{fullShare} (harg12.unread x12)) ∗ (arg13.view.loc (c : Thread nD τ) ↦[arg13.view.set]{fullShare} (arg13.view.writes (Elt F) f13 L13)) ∗ (arg14.view.loc (c : Thread nD τ) ↦[arg14.view.set]{fullShare} (arg14.view.writes (Elt F) f14 L14)) ∗ (arg15.view.loc (c : Thread nD τ) ↦[arg15.view.set]{fullShare} (arg15.view.writes (Elt F) f15 L15)) ∗ (arg16.view.loc (c : Thread nD τ) ↦[arg16.view.set]{fullShare} (arg16.view.writes (Elt F) f16 L16)) ∗ (arg17.view.loc (c : Thread nD τ) ↦[arg17.view.set]{fullShare} (arg17.view.writes (Elt F) f17 L17))) -∗ K T))
        ⊢ wp frame (wpE defs₀ 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 k tid) K } := by
  refine ⟨?_, ?_, ?_, ?_, ?_, fun f13 f14 f16 K => ?run⟩
  case run =>
    unfold k0_t1_body
    iintro ⟨H1, H2, H3, H4, H7, H8, H9, H10, H11, H12, H13, H14, H15, H16, H17, HK⟩
    sl_exec
    iapply (wp_call_spec 𝒱₀ (c : Thread nD τ) none Set.univ (whileSpec (F := F) c arg1 (harg1.unread x1) T) n (fun u hu => nomatch hu) hcall)
    rw [whileSpec_apply]
    isplitl [H1]
    · iexact H1
    iintro H1
    sl_exec
    sl_step
    iapply HK
    sl_close

end Trip

end Cert.KernelIdeal.Hand

end
-- ==== Proof.Rows.lean ====
module

public import proofs.«01_k».proof.Proof.Trip
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! Which elements of the output blocks a trip writes. -/

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off9_eq : ∀ (k : Fin k0_t1_loop.trips) (a : Fin 4) (h : Fin 2),
    k0_off9 k (BitVec.ofNat 32 (16 * a.val)) (BitVec.ofNat 32 h.val) = ![64 * k.val + 16 * a.val + h.val, 0] := by decide +kernel

theorem off10_eq : ∀ k : Fin k0_t1_loop.trips, k0_off10 k = ![32 * k.val, 0] := by decide +kernel

theorem off11_eq : ∀ k : Fin k0_t1_loop.trips, k0_off11 k = ![0, k.val / 2, 0] := by decide +kernel

/-- The rows a store of every second row of 16 writes. -/
theorem mem_rows {off : Fin 2 → ℕ} {o : ℕ} (inb) (sp) (hoff : off = ![o, 0]) (y : S512x128.Idx) :
    y ∈ (⟨⟨off, S8x128.size, ![2, 1], inb⟩, sp⟩ : Rect S512x128).set ↔ ∃ b < 8, (y 0).val = o + 2 * b := by
  subst hoff
  rw [LoadRect.mem_set]
  constructor
  · intro h
    obtain ⟨j, hj, e⟩ := h 0
    exact ⟨j, hj, e⟩
  · rintro ⟨b, hb, e⟩ a
    fin_cases a
    · exact ⟨b, hb, e⟩
    · exact ⟨(y 1).val, (y 1).isLt, by show (y 1).val = 0 + 1 * (y 1).val; omega⟩

/-- The elements a store of whole rows writes. -/
theorem mem_codes {off : Fin 2 → ℕ} {o : ℕ} (inb) (hoff : off = ![o, 0]) (y : S256x128.Idx) :
    y ∈ (Rect.unit (s := S256x128) off S32x128.size inb).set ↔ o ≤ (y 0).val ∧ (y 0).val < o + 32 := by
  subst hoff
  rw [Rect.mem_set_unit]
  constructor
  · intro h; exact h 0
  · intro h a
    fin_cases a
    · exact h
    · exact ⟨Nat.zero_le _, by have h1 : (y 1).val < 128 := (y 1).isLt; show (y 1).val < 0 + 128; omega⟩

/-- The elements a store of one row of the absmaxes writes. -/
theorem mem_amax {off : Fin 3 → ℕ} {o : ℕ} (inb) (hoff : off = ![0, o, 0]) (y : S1x4x128.Idx) :
    y ∈ (Rect.unit (s := S1x4x128) off S1x1x128.size inb).set ↔ (y 1).val = o := by
  subst hoff
  rw [Rect.mem_set_unit]
  constructor
  · intro h; have := h 1; simp at this; omega
  · intro h a
    fin_cases a
    · exact ⟨Nat.zero_le _, (y 0).isLt⟩
    · exact ⟨h.ge, by show (y 1).val < o + 1; omega⟩
    · exact ⟨Nat.zero_le _, by have h1 : (y 2).val < 128 := (y 2).isLt; show (y 2).val < 0 + 128; omega⟩

/-- A row of absmaxes with one half replaced: what the store of a trip writes over the row it read back. -/
def halfRow (lane : IVec S8x128 32) (w : BitVec 32) (nw : FVec F S1x128 .f32) (old : Vec F S1x1x128 .f32) : FVec F S1x1x128 .f32 :=
  shapeCast S1x1x128 (select (cmpi .eq (shrsi (extractStridedSlice S1x128 ![0, 0] lane slices_S8x128_o0_0_S1x128) (broadcast S1x128 6#32)) (broadcast S1x128 w))
    nw (shapeCast S1x128 old shapeCasts_S1x1x128_S1x128)) shapeCasts_S1x128_S1x1x128

/-- Lane `l` of a row. -/
def lane1 (l : Fin 128) : S1x128.Idx := fun a => ⟨if a.val = 0 then 0 else l.val, by fin_cases a; exact Nat.one_pos; exact l.isLt⟩

theorem lane_half : ∀ (l : Fin 128) (k : Fin k0_t1_loop.trips),
    Iff (IntOp.cmpi .eq (IntOp.shrsi .vector (BitVec.ofNat 32 l.val) 6#32) (BitVec.ofNat 32 (k.val % 2)) = 1#1) (l.val / 64 = k.val % 2) := by decide +kernel

/-- Element `x` of such a row: the new one in the half of trip `k`, the old one elsewhere. -/
theorem halfRow_apply (lane : IVec S8x128 32) (hlane : ∀ j, lane j = BitVec.ofNat 32 (j 1).val) (k : Fin k0_t1_loop.trips)
    (nw : FVec F S1x128 .f32) (old : Vec F S1x1x128 .f32) (x : S1x1x128.Idx) :
    halfRow lane (BitVec.ofNat 32 (k.val % 2)) nw old x = if (x 2).val / 64 = k.val % 2 then nw (lane1 (x 2)) else old x := by
  have hrow : (S1x128.rowMajor (lane1 (x 2))).val = (S1x1x128.rowMajor x).val := by
    rw [Shape.rowMajor_val_two, Shape.rowMajor_val_three]
    have h0 : (x 0).val < 1 := (x 0).isLt
    have h1 : (x 1).val < 1 := (x 1).isLt
    show 0 * 128 + (x 2).val = ((x 0).val * 1 + (x 1).val) * 128 + (x 2).val
    omega
  unfold halfRow
  rw [shapeCast_apply _ _ _ (lane1 (x 2)) hrow]
  show (if IntOp.cmpi .eq (IntOp.shrsi .vector (lane _) 6#32) (BitVec.ofNat 32 (k.val % 2)) = 1#1 then nw (lane1 (x 2)) else shapeCast S1x128 old shapeCasts_S1x1x128_S1x128 (lane1 (x 2))) = _
  rw [hlane, shapeCast_apply _ _ _ x hrow.symm]
  refine if_congr ?_ rfl rfl
  have e : 0 + (x 2).val = (x 2).val := Nat.zero_add _
  show Iff (IntOp.cmpi .eq (IntOp.shrsi .vector (BitVec.ofNat 32 (0 + (x 2).val)) 6#32) (BitVec.ofNat 32 (k.val % 2)) = 1#1) _
  rw [e]
  exact lane_half (x 2) k

theorem v67_eq : ∀ k : Fin k0_t1_loop.trips, trip.sl.v67 k = BitVec.ofNat 32 (k.val % 2) := by decide +kernel

section Trip
variable (c : Dev nD) (i : grid0.Coords) (arg1 : Memref sig .tc .smem S97 .i32) (harg1 : arg1.IsWhole) (arg2 : Memref sig .tc .smem S97 .f32) (harg2 : arg2.IsWhole) (arg3 : Memref sig .tc .smem S15 .f32) (harg3 : arg3.IsWhole) (arg4 : Memref sig .tc .smem S15 .f32) (harg4 : arg4.IsWhole) (arg5 : Memref sig .tc .smem S2 .f32) (harg5 : arg5.IsWhole) (arg6 : Memref sig .tc .vmem S4x128 .f32) (harg6 : arg6.IsWhole) (arg7 : Memref sig .tc .vmem S512x128 .f32) (harg7 : arg7.IsWhole) (arg8 : Memref sig .tc .vmem S512x128 .bf16) (harg8 : arg8.IsWhole) (arg9 : Memref sig .tc .vmem S256x128 .i8) (harg9 : arg9.IsWhole) (arg10 : Memref sig .tc .vmem S1x4x128 .f32) (harg10 : arg10.IsWhole) (arg11 : Memref sig .tc .vmem S256x128 .i8) (harg11 : arg11.IsWhole) (arg12 : Memref sig .tc .vmem S1x4x128 .f32) (harg12 : arg12.IsWhole) (arg13 : Memref sig .tc .vmem S512x128 .f32) (harg13 : arg13.IsWhole) (arg14 : Memref sig .tc .vmem S256x128 .i8) (harg14 : arg14.IsWhole) (arg15 : Memref sig .tc .vmem S1x4x128 .f32) (harg15 : arg15.IsWhole) (arg16 : Memref sig .tc .vmem S256x128 .i8) (harg16 : arg16.IsWhole) (arg17 : Memref sig .tc .vmem S1x4x128 .f32) (harg17 : arg17.IsWhole)
  (v0 : IVec S8x128 32) (v1 : IVec S8x128 32) (v3 : FVec F S1x128 .f32) (v5 : FVec F S1x128 .f32) (v9 : FVec F S8x128 .f32) (v13 : FVec F S8x128 .f32) (v14 : Elt F .f32) (v15 : Elt F .f32) (v19 : IVec S8x128 32) (v31 : IVec S8x128 32) (v36 : IVec S8x128 32) (v37 : BitVec 32)
variable (x1 : Vec F S97 .i32) (x2 : Vec F S97 .f32) (x3 : Vec F S15 .f32) (x4 : Vec F S15 .f32) (x7 : Vec F S512x128 .f32) (x8 : Vec F S512x128 .bf16) (x9 : Vec F S256x128 .i8) (x10 : Vec F S1x4x128 .f32) (x11 : Vec F S256x128 .i8) (x12 : Vec F S1x4x128 .f32)
variable (k : Fin k0_t1_loop.trips) (tid T : BitVec 32) (hT : k0_chk3 T) (n : ℕ)
    (hcall : ∀ K, whileSpec (F := F) c arg1 (harg1.unread x1) T K ⊢ wp frame (wpE defs₀ 𝒱₀ (c : Thread nD τ) (some n)) Set.univ (defs₀ .tc 2 ⟨i, k, arg1, harg1, tid⟩) K)
    (f15 : Buf (Elt F) (arg15.view.loc (c : Thread nD τ))) (f17 : Buf (Elt F) (arg17.view.loc (c : Thread nD τ)))

set_option maxHeartbeats 4000000 in
/-- The update's rows trip `k` writes: the 64 of its group. -/
theorem covered13 (y : S512x128.Idx) :
    (∃ p ∈ (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).1, y ∈ p.1.set) ↔ 64 * k.val ≤ (y 0).val ∧ (y 0).val < 64 * k.val + 64 := by
  unfold trip
  simp only [List.mem_cons, List.not_mem_nil, or_false, exists_eq_or_imp, exists_eq_left]
  refine Iff.trans (or_congr (mem_rows _ spos_2_1 (off9_eq k 3 1) y) (or_congr (mem_rows _ spos_2_1 (off9_eq k 3 0) y) (or_congr (mem_rows _ spos_2_1 (off9_eq k 2 1) y) (or_congr (mem_rows _ spos_2_1 (off9_eq k 2 0) y) (or_congr (mem_rows _ spos_2_1 (off9_eq k 1 1) y) (or_congr (mem_rows _ spos_2_1 (off9_eq k 1 0) y) (or_congr (mem_rows _ spos_2_1 (off9_eq k 0 1) y) (mem_rows _ spos_2_1 (off9_eq k 0 0) y)))))))) ?_
  simp only [Fin.isValue, Fin.val_zero, Fin.val_one, Fin.val_two, show ((3 : Fin 4).val) = 3 from rfl]
  constructor
  · rintro (h | h | h | h | h | h | h | h) <;> obtain ⟨b, hb, e⟩ := h <;> omega
  · intro ⟨h1, h2⟩
    have hd : ∃ a < 4, ∃ b < 8, ∃ h < 2, (y 0).val = 64 * k.val + 16 * a + h + 2 * b :=
      ⟨((y 0).val - 64 * k.val) / 16, by omega, ((y 0).val - 64 * k.val) % 16 / 2, by omega, ((y 0).val - 64 * k.val) % 2, by omega, by omega⟩
    obtain ⟨a, ha, b, hb, h, hh, e⟩ := hd
    have hc : (a = 0 ∧ h = 0) ∨ (a = 0 ∧ h = 1) ∨ (a = 1 ∧ h = 0) ∨ (a = 1 ∧ h = 1) ∨ (a = 2 ∧ h = 0) ∨ (a = 2 ∧ h = 1) ∨ (a = 3 ∧ h = 0) ∨ (a = 3 ∧ h = 1) := by omega
    rcases hc with h | h | h | h | h | h | h | h <;> first
      | exact Or.inl ⟨b, hb, by omega⟩
      | exact Or.inr (Or.inl ⟨b, hb, by omega⟩)
      | exact Or.inr (Or.inr (Or.inl ⟨b, hb, by omega⟩))
      | exact Or.inr (Or.inr (Or.inr (Or.inl ⟨b, hb, by omega⟩)))
      | exact Or.inr (Or.inr (Or.inr (Or.inr (Or.inl ⟨b, hb, by omega⟩))))
      | exact Or.inr (Or.inr (Or.inr (Or.inr (Or.inr (Or.inl ⟨b, hb, by omega⟩)))))
      | exact Or.inr (Or.inr (Or.inr (Or.inr (Or.inr (Or.inr (Or.inl ⟨b, hb, by omega⟩))))))
      | exact Or.inr (Or.inr (Or.inr (Or.inr (Or.inr (Or.inr (Or.inr (⟨b, hb, by omega⟩)))))))

/-- The rows of m's codes trip `k` writes. -/
theorem covered14 (y : S256x128.Idx) :
    (∃ p ∈ (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.1, y ∈ p.1.set) ↔ 32 * k.val ≤ (y 0).val ∧ (y 0).val < 32 * k.val + 32 := by
  unfold trip
  simp only [List.mem_cons, List.not_mem_nil, or_false, exists_eq_left]
  exact mem_codes _ (off10_eq k) y

/-- The rows of v's codes trip `k` writes. -/
theorem covered16 (y : S256x128.Idx) :
    (∃ p ∈ (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.2.2.1, y ∈ p.1.set) ↔ 32 * k.val ≤ (y 0).val ∧ (y 0).val < 32 * k.val + 32 := by
  unfold trip
  simp only [List.mem_cons, List.not_mem_nil, or_false, exists_eq_left]
  exact mem_codes _ (off10_eq k) y

/-- What trip `k` writes of m's absmaxes: the row's half that trip `k` replaces, whatever the row held. -/
theorem half15 : ∃ nw : FVec F S1x128 .f32, ∀ f15 f17, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.2.1
    = [⟨Rect.unit (s := S1x4x128) (k0_off11 k) S1x1x128.size (k0_off11_inb k),
        halfRow v0 (BitVec.ofNat 32 (k.val % 2)) nw (View.readAt (Elt F) arg15.view (Rect.unit (s := S1x4x128) (k0_off11 k) S1x1x128.size (k0_off11_inb k)).toLoadRect f15)⟩] := by
  exact ⟨_, fun f15 f17 => by rw [← v67_eq k]; rfl⟩

/-- What trip `k` writes of v's absmaxes: the row's half that trip `k` replaces, whatever the row held. -/
theorem half17 : ∃ nw : FVec F S1x128 .f32, ∀ f15 f17, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.2.2.2.1
    = [⟨Rect.unit (s := S1x4x128) (k0_off11 k) S1x1x128.size (k0_off11_inb k),
        halfRow v0 (BitVec.ofNat 32 (k.val % 2)) nw (View.readAt (Elt F) arg17.view (Rect.unit (s := S1x4x128) (k0_off11 k) S1x1x128.size (k0_off11_inb k)).toLoadRect f17)⟩] := by
  exact ⟨_, fun f15 f17 => by rw [← v67_eq k]; rfl⟩

end Trip

end Cert.KernelIdeal.Hand

end
-- ==== Proof.Half.lean ====
module

public import proofs.«01_k».proof.Proof.Gen.KernelIdeal.Loops
public import proofs.«01_k».proof.Proof.Gen.KernelIdeal.Points
public import proofs.«01_k».proof.Proof.Rows
public import Idealize.ShloMosaic.Lib.Pipeline.FrameBody
public import Idealize.ShloMosaic.Lib.WritesUnit
public import Idealize.ShloMosaic.Lib.Ring
public import Idealize.ShloMosaic.Lib.Tactic
public import Idealize.ShloMosaic.Lib.WordCmp

/-! Reading the absmaxes' blocks after a trip's store of half a row; a trip's other stores do not depend on them. -/

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem pos1 (y : S1x4x128.Idx) : ∀ a, (![0, 0, (y 2).val] : Fin 3 → ℕ) a < S1x1x128.size a := by
  intro a; fin_cases a; exacts [Nat.one_pos, Nat.one_pos, (y 2).isLt]

/-- The position in its row of element `y` of the absmaxes. -/
def inRow (y : S1x4x128.Idx) : S1x1x128.Idx := fun a => ⟨(![0, 0, (y 2).val] : Fin 3 → ℕ) a, pos1 y a⟩

theorem inRow_val (y : S1x4x128.Idx) (o : ℕ) (ho : (y 1).val = o) (a : Fin 3) :
    (y a).val = (![0, o, 0] : Fin 3 → ℕ) a + (inRow y a).val := by
  have h0 : (y 0).val < 1 := (y 0).isLt
  fin_cases a
  · show (y 0).val = 0 + 0; omega
  · show (y 1).val = o + 0; omega
  · show (y 2).val = 0 + (y 2).val; omega

section Half
variable {sp : Space} (v : View sig .tc sp S1x4x128 .f32) (f : v.ty.Contents (Elt F))
  (lane : IVec S8x128 32) (hlane : ∀ j, lane j = BitVec.ofNat 32 (j 1).val) (k : Fin k0_t1_loop.trips) (nw : FVec F S1x128 .f32)
include hlane

/-- A half row stored reads back, in that half, what was stored, whatever the row held. -/
theorem readHalf (old : Vec F S1x1x128 .f32) (y : S1x4x128.Idx) (hy : 2 * (y 1).val + (y 2).val / 64 = k.val) :
    v.read (Elt F) (v.writes (Elt F) f [⟨Rect.unit (s := S1x4x128) (k0_off11 k) S1x1x128.size (k0_off11_inb k), halfRow lane (BitVec.ofNat 32 (k.val % 2)) nw old⟩]) y
      = nw (lane1 (y 2)) := by
  have h2 : (y 2).val < 128 := (y 2).isLt
  rw [View.read_writes_cons_unit_of_mem v f (k0_off11_inb k) _ [] y (inRow y) (off11_eq k) (inRow_val y (k.val / 2) (by omega)),
    halfRow_apply lane hlane k]
  exact if_pos (show (y 2).val / 64 = k.val % 2 by omega)

/-- Elsewhere it reads back what was there. -/
theorem keepHalf (y : S1x4x128.Idx) (hy : ¬ 2 * (y 1).val + (y 2).val / 64 = k.val) :
    v.read (Elt F) (v.writes (Elt F) f [⟨Rect.unit (s := S1x4x128) (k0_off11 k) S1x1x128.size (k0_off11_inb k), halfRow lane (BitVec.ofNat 32 (k.val % 2)) nw
      (View.readAt (Elt F) v (Rect.unit (s := S1x4x128) (k0_off11 k) S1x1x128.size (k0_off11_inb k)).toLoadRect f)⟩]) y
      = v.read (Elt F) f y := by
  have h2 : (y 2).val < 128 := (y 2).isLt
  by_cases h1 : (y 1).val = k.val / 2
  · rw [View.read_writes_cons_unit_of_mem v f (k0_off11_inb k) _ [] y (inRow y) (off11_eq k) (inRow_val y (k.val / 2) h1),
      halfRow_apply lane hlane k]
    refine (if_neg (show ¬ (y 2).val / 64 = k.val % 2 by omega)).trans ?_
    show v.read (Elt F) f _ = _
    congr 1
    funext a
    refine Fin.ext ?_
    show k0_off11 k a + 1 * (inRow y a).val = (y a).val
    rw [off11_eq, inRow_val y (k.val / 2) h1 a, Nat.one_mul]
  · rw [View.read_writes_cons_unit_of_not_mem v f (k0_off11_inb k) _ [] y (off11_eq k) (1 : Fin 3)
      (by show (y 1).val < k.val / 2 ∨ k.val / 2 + 1 ≤ (y 1).val; omega)]
    rfl

end Half

section Trip
variable (c : Dev nD) (i : grid0.Coords) (arg1 : Memref sig .tc .smem S97 .i32) (harg1 : arg1.IsWhole) (arg2 : Memref sig .tc .smem S97 .f32) (harg2 : arg2.IsWhole) (arg3 : Memref sig .tc .smem S15 .f32) (harg3 : arg3.IsWhole) (arg4 : Memref sig .tc .smem S15 .f32) (harg4 : arg4.IsWhole) (arg5 : Memref sig .tc .smem S2 .f32) (harg5 : arg5.IsWhole) (arg6 : Memref sig .tc .vmem S4x128 .f32) (harg6 : arg6.IsWhole) (arg7 : Memref sig .tc .vmem S512x128 .f32) (harg7 : arg7.IsWhole) (arg8 : Memref sig .tc .vmem S512x128 .bf16) (harg8 : arg8.IsWhole) (arg9 : Memref sig .tc .vmem S256x128 .i8) (harg9 : arg9.IsWhole) (arg10 : Memref sig .tc .vmem S1x4x128 .f32) (harg10 : arg10.IsWhole) (arg11 : Memref sig .tc .vmem S256x128 .i8) (harg11 : arg11.IsWhole) (arg12 : Memref sig .tc .vmem S1x4x128 .f32) (harg12 : arg12.IsWhole) (arg13 : Memref sig .tc .vmem S512x128 .f32) (harg13 : arg13.IsWhole) (arg14 : Memref sig .tc .vmem S256x128 .i8) (harg14 : arg14.IsWhole) (arg15 : Memref sig .tc .vmem S1x4x128 .f32) (harg15 : arg15.IsWhole) (arg16 : Memref sig .tc .vmem S256x128 .i8) (harg16 : arg16.IsWhole) (arg17 : Memref sig .tc .vmem S1x4x128 .f32) (harg17 : arg17.IsWhole)
  (v0 : IVec S8x128 32) (v1 : IVec S8x128 32) (v3 : FVec F S1x128 .f32) (v5 : FVec F S1x128 .f32) (v9 : FVec F S8x128 .f32) (v13 : FVec F S8x128 .f32) (v14 : Elt F .f32) (v15 : Elt F .f32) (v19 : IVec S8x128 32) (v31 : IVec S8x128 32) (v36 : IVec S8x128 32) (v37 : BitVec 32)
variable (x1 : Vec F S97 .i32) (x2 : Vec F S97 .f32) (x3 : Vec F S15 .f32) (x4 : Vec F S15 .f32) (x7 : Vec F S512x128 .f32) (x8 : Vec F S512x128 .bf16) (x9 : Vec F S256x128 .i8) (x10 : Vec F S1x4x128 .f32) (x11 : Vec F S256x128 .i8) (x12 : Vec F S1x4x128 .f32)
variable (k : Fin k0_t1_loop.trips) (tid T : BitVec 32) (hT : k0_chk3 T) (n : ℕ)
    (hcall : ∀ K, whileSpec (F := F) c arg1 (harg1.unread x1) T K ⊢ wp frame (wpE defs₀ 𝒱₀ (c : Thread nD τ) (some n)) Set.univ (defs₀ .tc 2 ⟨i, k, arg1, harg1, tid⟩) K)

/-- What a trip stores of the update does not depend on what the absmaxes' blocks held. -/
theorem list13 : ∃ L : List (View.Piece (Elt F) S512x128 .f32), ∀ f15 f17, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).1 = L := ⟨_, fun f15 f17 => rfl⟩

/-- What a trip stores of m's codes does not depend on what the absmaxes' blocks held. -/
theorem list14 : ∃ L : List (View.Piece (Elt F) S256x128 .i8), ∀ f15 f17, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.1 = L := ⟨_, fun f15 f17 => rfl⟩

/-- What a trip stores of v's codes does not depend on what the absmaxes' blocks held. -/
theorem list16 : ∃ L : List (View.Piece (Elt F) S256x128 .i8), ∀ f15 f17, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.2.2.1 = L := ⟨_, fun f15 f17 => rfl⟩

end Trip

end Cert.KernelIdeal.Hand

end
-- ==== Proof.Env.lean ====
module

public import proofs.«01_k».proof.Proof.Gen.KernelIdeal.Loops
public import proofs.«01_k».proof.Proof.Gen.KernelIdeal.Points
public import proofs.«01_k».proof.Proof.Half
public import Idealize.ShloMosaic.Lib.Pipeline.FrameBody
public import Idealize.ShloMosaic.Lib.Ring
public import Idealize.ShloMosaic.Lib.Tactic
public import Idealize.ShloMosaic.Lib.WordCmp

/-! The kernel's loop over groups of 64 blocks: what it leaves in the five results' blocks, and its invariant. -/

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a run of the loop is given: the device, the step, the operands, the values the code before the loop computes,
    and the contents of the blocks read. -/
structure Env (F : FTy → Type) [FloatOps F] where
  c : Dev nD
  i : grid0.Coords
  arg1 : Memref sig .tc .smem S97 .i32
  harg1 : arg1.IsWhole
  arg2 : Memref sig .tc .smem S97 .f32
  harg2 : arg2.IsWhole
  arg3 : Memref sig .tc .smem S15 .f32
  harg3 : arg3.IsWhole
  arg4 : Memref sig .tc .smem S15 .f32
  harg4 : arg4.IsWhole
  arg5 : Memref sig .tc .smem S2 .f32
  harg5 : arg5.IsWhole
  arg6 : Memref sig .tc .vmem S4x128 .f32
  harg6 : arg6.IsWhole
  arg7 : Memref sig .tc .vmem S512x128 .f32
  harg7 : arg7.IsWhole
  arg8 : Memref sig .tc .vmem S512x128 .bf16
  harg8 : arg8.IsWhole
  arg9 : Memref sig .tc .vmem S256x128 .i8
  harg9 : arg9.IsWhole
  arg10 : Memref sig .tc .vmem S1x4x128 .f32
  harg10 : arg10.IsWhole
  arg11 : Memref sig .tc .vmem S256x128 .i8
  harg11 : arg11.IsWhole
  arg12 : Memref sig .tc .vmem S1x4x128 .f32
  harg12 : arg12.IsWhole
  arg13 : Memref sig .tc .vmem S512x128 .f32
  harg13 : arg13.IsWhole
  arg14 : Memref sig .tc .vmem S256x128 .i8
  harg14 : arg14.IsWhole
  arg15 : Memref sig .tc .vmem S1x4x128 .f32
  harg15 : arg15.IsWhole
  arg16 : Memref sig .tc .vmem S256x128 .i8
  harg16 : arg16.IsWhole
  arg17 : Memref sig .tc .vmem S1x4x128 .f32
  harg17 : arg17.IsWhole
  v0 : IVec S8x128 32
  v1 : IVec S8x128 32
  v3 : FVec F S1x128 .f32
  v5 : FVec F S1x128 .f32
  v9 : FVec F S8x128 .f32
  v13 : FVec F S8x128 .f32
  v14 : Elt F .f32
  v15 : Elt F .f32
  v19 : IVec S8x128 32
  v31 : IVec S8x128 32
  v36 : IVec S8x128 32
  v37 : BitVec 32
  x1 : Vec F S97 .i32
  x2 : Vec F S97 .f32
  x3 : Vec F S15 .f32
  x4 : Vec F S15 .f32
  x7 : Vec F S512x128 .f32
  x8 : Vec F S512x128 .bf16
  x9 : Vec F S256x128 .i8
  x10 : Vec F S1x4x128 .f32
  x11 : Vec F S256x128 .i8
  x12 : Vec F S1x4x128 .f32
  hv0 : ∀ j, v0 j = BitVec.ofNat 32 (j 1).val
  hlast : 3203072 < (show BitVec 32 from x1 (ix97 96 lt97)).toInt

namespace Env

variable (e : Env F)

/-- The first element of the group trip `k` handles. -/
def base (k : Fin k0_t1_loop.trips) : BitVec 32 :=
  Scalar.addi (Scalar.muli (BitVec.ofNat 32 (e.i 0).val) 65536#32) (Scalar.muli (Scf.iv 0#32 1#32 k) 8192#32)

theorem base_toInt : ∀ (i : Fin 49) (k : Fin k0_t1_loop.trips),
    (Scalar.addi (Scalar.muli (BitVec.ofNat 32 i.val) 65536#32) (Scalar.muli (Scf.iv 0#32 1#32 k) 8192#32)).toInt = 65536 * i.val + 8192 * k.val := by
  decide +kernel

theorem start_toInt : ∀ (i : Fin 49), (Scalar.muli (BitVec.ofNat 32 i.val) 65536#32).toInt = 65536 * i.val := by
  decide +kernel

/-- Every group begins before the last offset. -/
theorem found (k : Fin k0_t1_loop.trips) : ∃ t, Above e.x1 (e.base k) t := by
  refine ⟨95, by omega, ?_⟩
  have h := base_toInt ⟨(e.i 0).val, (e.i 0).isLt⟩ k
  have hl := e.hlast
  have h1 : (e.i 0).val < 49 := (e.i 0).isLt
  have h2 : k.val < 8 := k.isLt
  unfold base
  refine lt_of_le_of_lt ?_ hl
  rw [h]; simp only []; omega

/-- Every step begins before the last offset. -/
theorem found0 : ∃ t, Above e.x1 (Scalar.muli (BitVec.ofNat 32 (e.i 0).val) 65536#32) t := by
  refine ⟨95, by omega, ?_⟩
  have h := start_toInt ⟨(e.i 0).val, (e.i 0).isLt⟩
  have hl := e.hlast
  have h1 : (e.i 0).val < 49 := (e.i 0).isLt
  refine lt_of_le_of_lt ?_ hl
  rw [h]; simp only []; omega

/-- The tensor index carried into trip `k`. -/
def accAt : ℕ → ℕ
  | 0 => tidAt e.x1 (Scalar.muli (BitVec.ofNat 32 (e.i 0).val) 65536#32)
  | k + 1 => if h : k < k0_t1_loop.trips then tidAt e.x1 (e.base ⟨k, h⟩) else 0

theorem accAt_succ (k : Fin k0_t1_loop.trips) : e.accAt (k.val + 1) = tidAt e.x1 (e.base k) := by
  rw [accAt, dif_pos k.isLt]

theorem accAt_le (k : Fin k0_t1_loop.trips) : e.accAt k.val ≤ e.accAt (k.val + 1) := by
  rw [accAt_succ]
  obtain ⟨k, hk⟩ := k
  cases k with
  | zero =>
    refine tidAt_mono _ _ _ (e.found _) ?_
    have h := base_toInt ⟨(e.i 0).val, (e.i 0).isLt⟩ ⟨0, hk⟩
    have h' := start_toInt ⟨(e.i 0).val, (e.i 0).isLt⟩
    unfold base; rw [h, h']; simp only []; omega
  | succ k =>
    rw [show e.accAt (k + 1) = _ from accAt_succ e ⟨k, Nat.lt_of_succ_lt hk⟩]
    refine tidAt_mono _ _ _ (e.found _) ?_
    have h := base_toInt ⟨(e.i 0).val, (e.i 0).isLt⟩ ⟨k + 1, hk⟩
    have h' := base_toInt ⟨(e.i 0).val, (e.i 0).isLt⟩ ⟨k, Nat.lt_of_succ_lt hk⟩
    unfold base; rw [h, h']; simp only []; omega

/-- The tensor index trip `k` finds lets its loads be in bounds. -/
theorem chk (k : Fin k0_t1_loop.trips) : k0_chk3 (BitVec.ofNat 32 (e.accAt (k.val + 1))) := by
  rw [accAt_succ]; exact chk3_ofNat ⟨_, tidAt_lt _ _ (e.found k)⟩

/-- The while loop of trip `k`. -/
theorem call (k : Fin k0_t1_loop.trips) (K : BitVec 32 → sProp 𝕄) :
    whileSpec (F := F) e.c e.arg1 (e.harg1.unread e.x1) (BitVec.ofNat 32 (e.accAt (k.val + 1))) K
      ⊢ wp frame (wpE (defs₀ (F := F)) 𝒱₀ (e.c : Thread nD τ) (some (e.accAt (k.val + 1) - e.accAt k.val))) Set.univ
        (defs₀ (F := F) .tc 2 ⟨e.i, k, e.arg1, e.harg1, BitVec.ofNat 32 (e.accAt k.val)⟩) K := by
  have hle := e.accAt_le k
  have h := while2_le (F := F) e.c e.i k e.arg1 e.harg1 e.x1 (e.found k) (e.accAt (k.val + 1) - e.accAt k.val) (e.accAt k.val)
    (by have := e.accAt_succ k; unfold base at this; omega) K
  rw [accAt_succ]
  rw [accAt_succ] at h
  exact h

/-- One trip of the loop. -/
def run (k : Fin k0_t1_loop.trips) (f15 : Buf (Elt F) (e.arg15.view.loc (e.c : Thread nD τ))) (f17 : Buf (Elt F) (e.arg17.view.loc (e.c : Thread nD τ))) :=
  trip (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k) f15 f17

theorem grp13 (y : S512x128.Idx) : (y 0).val / 64 < k0_t1_loop.trips := by
  have h : (y 0).val < 512 := (y 0).isLt
  show _ < 8
  omega

/-- What trip `k` stores of the update. -/
def L13 (k : Fin k0_t1_loop.trips) : List (View.Piece (Elt F) S512x128 .f32) := (e.run k e.arg15.view.junk e.arg17.view.junk).1

theorem run13 (k : Fin k0_t1_loop.trips) (f15 f17) : (e.run k f15 f17).1 = e.L13 k := by
  obtain ⟨L, h⟩ := list13 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k)
  exact (h f15 f17).trans (h e.arg15.view.junk e.arg17.view.junk).symm

theorem cov13 (k : Fin k0_t1_loop.trips) (y : S512x128.Idx) : Iff (∃ p ∈ e.L13 k, y ∈ p.1.set) (64 * k.val ≤ (y 0).val ∧ (y 0).val < 64 * k.val + 64) :=
  covered13 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k) e.arg15.view.junk e.arg17.view.junk y

/-- What the loop leaves of the update: at a row, what the trip of that row's group stored. -/
def G13 : Vec F S512x128 .f32 := fun y =>
  e.arg13.view.read (Elt F) (e.arg13.view.writes (Elt F) e.arg13.view.junk (e.L13 ⟨(y 0).val / 64, grp13 y⟩)) y

/-- Trip `k` extends what is done of the update by its group. -/
theorem step13 (k : Fin k0_t1_loop.trips) (L) (hL : L = e.L13 k) (f : Buf (Elt F) (e.arg13.view.loc (e.c : Thread nD τ)))
    (hf : ∀ y : S512x128.Idx, (y 0).val / 64 < k.val → e.arg13.view.read (Elt F) f y = e.G13 y) :
    ∀ y : S512x128.Idx, (y 0).val / 64 < k.val + 1 → e.arg13.view.read (Elt F) (e.arg13.view.writes (Elt F) f L) y = e.G13 y := by
  intro y hy
  subst hL
  by_cases hk : (y 0).val / 64 = k.val
  · have hk' : (⟨(y 0).val / 64, grp13 y⟩ : Fin k0_t1_loop.trips) = k := Fin.ext hk
    unfold G13
    rw [hk']
    exact View.read_writes_apply_eq _ _ _ _ _ _ ((e.cov13 k y).mpr (by omega))
  · rw [View.read_writes_apply_of_forall_not_mem _ _ _ _ fun p hp hm => hk
      (by have := (e.cov13 k y).mp ⟨p, hp, hm⟩; omega)]
    exact hf y (by omega)

theorem grp14 (y : S256x128.Idx) : (y 0).val / 32 < k0_t1_loop.trips := by
  have h : (y 0).val < 256 := (y 0).isLt
  show _ < 8
  omega

/-- What trip `k` stores of m's codes. -/
def L14 (k : Fin k0_t1_loop.trips) : List (View.Piece (Elt F) S256x128 .i8) := (e.run k e.arg15.view.junk e.arg17.view.junk).2.1

theorem run14 (k : Fin k0_t1_loop.trips) (f15 f17) : (e.run k f15 f17).2.1 = e.L14 k := by
  obtain ⟨L, h⟩ := list14 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k)
  exact (h f15 f17).trans (h e.arg15.view.junk e.arg17.view.junk).symm

theorem cov14 (k : Fin k0_t1_loop.trips) (y : S256x128.Idx) : Iff (∃ p ∈ e.L14 k, y ∈ p.1.set) (32 * k.val ≤ (y 0).val ∧ (y 0).val < 32 * k.val + 32) :=
  covered14 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k) e.arg15.view.junk e.arg17.view.junk y

/-- What the loop leaves of m's codes: at a row, what the trip of that row's group stored. -/
def G14 : Vec F S256x128 .i8 := fun y =>
  e.arg14.view.read (Elt F) (e.arg14.view.writes (Elt F) e.arg14.view.junk (e.L14 ⟨(y 0).val / 32, grp14 y⟩)) y

/-- Trip `k` extends what is done of m's codes by its group. -/
theorem step14 (k : Fin k0_t1_loop.trips) (L) (hL : L = e.L14 k) (f : Buf (Elt F) (e.arg14.view.loc (e.c : Thread nD τ)))
    (hf : ∀ y : S256x128.Idx, (y 0).val / 32 < k.val → e.arg14.view.read (Elt F) f y = e.G14 y) :
    ∀ y : S256x128.Idx, (y 0).val / 32 < k.val + 1 → e.arg14.view.read (Elt F) (e.arg14.view.writes (Elt F) f L) y = e.G14 y := by
  intro y hy
  subst hL
  by_cases hk : (y 0).val / 32 = k.val
  · have hk' : (⟨(y 0).val / 32, grp14 y⟩ : Fin k0_t1_loop.trips) = k := Fin.ext hk
    unfold G14
    rw [hk']
    exact View.read_writes_apply_eq _ _ _ _ _ _ ((e.cov14 k y).mpr (by omega))
  · rw [View.read_writes_apply_of_forall_not_mem _ _ _ _ fun p hp hm => hk
      (by have := (e.cov14 k y).mp ⟨p, hp, hm⟩; omega)]
    exact hf y (by omega)

theorem grp16 (y : S256x128.Idx) : (y 0).val / 32 < k0_t1_loop.trips := by
  have h : (y 0).val < 256 := (y 0).isLt
  show _ < 8
  omega

/-- What trip `k` stores of v's codes. -/
def L16 (k : Fin k0_t1_loop.trips) : List (View.Piece (Elt F) S256x128 .i8) := (e.run k e.arg15.view.junk e.arg17.view.junk).2.2.2.1

theorem run16 (k : Fin k0_t1_loop.trips) (f15 f17) : (e.run k f15 f17).2.2.2.1 = e.L16 k := by
  obtain ⟨L, h⟩ := list16 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k)
  exact (h f15 f17).trans (h e.arg15.view.junk e.arg17.view.junk).symm

theorem cov16 (k : Fin k0_t1_loop.trips) (y : S256x128.Idx) : Iff (∃ p ∈ e.L16 k, y ∈ p.1.set) (32 * k.val ≤ (y 0).val ∧ (y 0).val < 32 * k.val + 32) :=
  covered16 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k) e.arg15.view.junk e.arg17.view.junk y

/-- What the loop leaves of v's codes: at a row, what the trip of that row's group stored. -/
def G16 : Vec F S256x128 .i8 := fun y =>
  e.arg16.view.read (Elt F) (e.arg16.view.writes (Elt F) e.arg16.view.junk (e.L16 ⟨(y 0).val / 32, grp16 y⟩)) y

/-- Trip `k` extends what is done of v's codes by its group. -/
theorem step16 (k : Fin k0_t1_loop.trips) (L) (hL : L = e.L16 k) (f : Buf (Elt F) (e.arg16.view.loc (e.c : Thread nD τ)))
    (hf : ∀ y : S256x128.Idx, (y 0).val / 32 < k.val → e.arg16.view.read (Elt F) f y = e.G16 y) :
    ∀ y : S256x128.Idx, (y 0).val / 32 < k.val + 1 → e.arg16.view.read (Elt F) (e.arg16.view.writes (Elt F) f L) y = e.G16 y := by
  intro y hy
  subst hL
  by_cases hk : (y 0).val / 32 = k.val
  · have hk' : (⟨(y 0).val / 32, grp16 y⟩ : Fin k0_t1_loop.trips) = k := Fin.ext hk
    unfold G16
    rw [hk']
    exact View.read_writes_apply_eq _ _ _ _ _ _ ((e.cov16 k y).mpr (by omega))
  · rw [View.read_writes_apply_of_forall_not_mem _ _ _ _ fun p hp hm => hk
      (by have := (e.cov16 k y).mp ⟨p, hp, hm⟩; omega)]
    exact hf y (by omega)

theorem grpA (y : S1x4x128.Idx) : 2 * (y 1).val + (y 2).val / 64 < k0_t1_loop.trips := by
  have h1 : (y 1).val < 4 := (y 1).isLt
  have h2 : (y 2).val < 128 := (y 2).isLt
  show _ < 8
  omega

/-- The half row trip `k` stores of m's absmaxes. -/
theorem row15 (k : Fin k0_t1_loop.trips) : ∃ nw : FVec F S1x128 .f32, ∀ f15 f17, (e.run k f15 f17).2.2.1
    = [⟨Rect.unit (s := S1x4x128) (k0_off11 k) S1x1x128.size (k0_off11_inb k),
        halfRow e.v0 (BitVec.ofNat 32 (k.val % 2)) nw (View.readAt (Elt F) e.arg15.view (Rect.unit (s := S1x4x128) (k0_off11 k) S1x1x128.size (k0_off11_inb k)).toLoadRect f15)⟩] :=
  half15 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k)

/-- That half row. -/
def N15 (k : Fin k0_t1_loop.trips) : FVec F S1x128 .f32 := (e.row15 k).choose

/-- The store of a half row `nw` by trip `k`, over a block holding `f`. -/
def P15 (k : Fin k0_t1_loop.trips) (f : Buf (Elt F) (e.arg15.view.loc (e.c : Thread nD τ))) (nw : FVec F S1x128 .f32) : List (View.Piece (Elt F) S1x4x128 .f32) :=
  [⟨Rect.unit (s := S1x4x128) (k0_off11 k) S1x1x128.size (k0_off11_inb k),
        halfRow e.v0 (BitVec.ofNat 32 (k.val % 2)) nw (View.readAt (Elt F) e.arg15.view (Rect.unit (s := S1x4x128) (k0_off11 k) S1x1x128.size (k0_off11_inb k)).toLoadRect f)⟩]

theorem run15 (k : Fin k0_t1_loop.trips) (f15 f17) : (e.run k f15 f17).2.2.1 = e.P15 k f15 (e.N15 k) := (e.row15 k).choose_spec f15 f17

/-- What the loop leaves of m's absmaxes: at a row's half, what the trip of that half's group stored. -/
def G15 : Vec F S1x4x128 .f32 := fun y => e.N15 ⟨2 * (y 1).val + (y 2).val / 64, grpA y⟩ (lane1 (y 2))

theorem G15_of (k : Fin k0_t1_loop.trips) (y : S1x4x128.Idx) (hk : 2 * (y 1).val + (y 2).val / 64 = k.val) : e.G15 y = e.N15 k (lane1 (y 2)) := by
  have h : k = ⟨2 * (y 1).val + (y 2).val / 64, grpA y⟩ := Fin.ext hk.symm
  subst h; rfl

/-- Trip `k` extends what is done of m's absmaxes by its half row. -/
theorem step15 (k : Fin k0_t1_loop.trips) (f : Buf (Elt F) (e.arg15.view.loc (e.c : Thread nD τ))) (L) (hL : L = e.P15 k f (e.N15 k))
    (hf : ∀ y : S1x4x128.Idx, 2 * (y 1).val + (y 2).val / 64 < k.val → e.arg15.view.read (Elt F) f y = e.G15 y) :
    ∀ y : S1x4x128.Idx, 2 * (y 1).val + (y 2).val / 64 < k.val + 1 → e.arg15.view.read (Elt F) (e.arg15.view.writes (Elt F) f L) y = e.G15 y := by
  intro y hy
  subst hL
  unfold P15
  by_cases hk : 2 * (y 1).val + (y 2).val / 64 = k.val
  · rw [e.G15_of k y hk]
    exact readHalf _ _ e.v0 e.hv0 k _ _ y hk
  · rw [keepHalf _ _ e.v0 e.hv0 k _ y hk]
    exact hf y (by omega)

/-- The half row trip `k` stores of v's absmaxes. -/
theorem row17 (k : Fin k0_t1_loop.trips) : ∃ nw : FVec F S1x128 .f32, ∀ f15 f17, (e.run k f15 f17).2.2.2.2.1
    = [⟨Rect.unit (s := S1x4x128) (k0_off11 k) S1x1x128.size (k0_off11_inb k),
        halfRow e.v0 (BitVec.ofNat 32 (k.val % 2)) nw (View.readAt (Elt F) e.arg17.view (Rect.unit (s := S1x4x128) (k0_off11 k) S1x1x128.size (k0_off11_inb k)).toLoadRect f17)⟩] :=
  half17 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k)

/-- That half row. -/
def N17 (k : Fin k0_t1_loop.trips) : FVec F S1x128 .f32 := (e.row17 k).choose

/-- The store of a half row `nw` by trip `k`, over a block holding `f`. -/
def P17 (k : Fin k0_t1_loop.trips) (f : Buf (Elt F) (e.arg17.view.loc (e.c : Thread nD τ))) (nw : FVec F S1x128 .f32) : List (View.Piece (Elt F) S1x4x128 .f32) :=
  [⟨Rect.unit (s := S1x4x128) (k0_off11 k) S1x1x128.size (k0_off11_inb k),
        halfRow e.v0 (BitVec.ofNat 32 (k.val % 2)) nw (View.readAt (Elt F) e.arg17.view (Rect.unit (s := S1x4x128) (k0_off11 k) S1x1x128.size (k0_off11_inb k)).toLoadRect f)⟩]

theorem run17 (k : Fin k0_t1_loop.trips) (f15 f17) : (e.run k f15 f17).2.2.2.2.1 = e.P17 k f17 (e.N17 k) := (e.row17 k).choose_spec f15 f17

/-- What the loop leaves of v's absmaxes: at a row's half, what the trip of that half's group stored. -/
def G17 : Vec F S1x4x128 .f32 := fun y => e.N17 ⟨2 * (y 1).val + (y 2).val / 64, grpA y⟩ (lane1 (y 2))

theorem G17_of (k : Fin k0_t1_loop.trips) (y : S1x4x128.Idx) (hk : 2 * (y 1).val + (y 2).val / 64 = k.val) : e.G17 y = e.N17 k (lane1 (y 2)) := by
  have h : k = ⟨2 * (y 1).val + (y 2).val / 64, grpA y⟩ := Fin.ext hk.symm
  subst h; rfl

/-- Trip `k` extends what is done of v's absmaxes by its half row. -/
theorem step17 (k : Fin k0_t1_loop.trips) (f : Buf (Elt F) (e.arg17.view.loc (e.c : Thread nD τ))) (L) (hL : L = e.P17 k f (e.N17 k))
    (hf : ∀ y : S1x4x128.Idx, 2 * (y 1).val + (y 2).val / 64 < k.val → e.arg17.view.read (Elt F) f y = e.G17 y) :
    ∀ y : S1x4x128.Idx, 2 * (y 1).val + (y 2).val / 64 < k.val + 1 → e.arg17.view.read (Elt F) (e.arg17.view.writes (Elt F) f L) y = e.G17 y := by
  intro y hy
  subst hL
  unfold P17
  by_cases hk : 2 * (y 1).val + (y 2).val / 64 = k.val
  · rw [e.G17_of k y hk]
    exact readHalf _ _ e.v0 e.hv0 k _ _ y hk
  · rw [keepHalf _ _ e.v0 e.hv0 k _ y hk]
    exact hf y (by omega)

/-- The operands' blocks the loop reads, at their contents. -/
def ins : sProp 𝕄 := iprop((e.arg1.view.loc (e.c : Thread nD τ) ↦[e.arg1.view.set]{fullShare} (e.harg1.unread e.x1)) ∗ (e.arg2.view.loc (e.c : Thread nD τ) ↦[e.arg2.view.set]{fullShare} (e.harg2.unread e.x2)) ∗ (e.arg3.view.loc (e.c : Thread nD τ) ↦[e.arg3.view.set]{fullShare} (e.harg3.unread e.x3)) ∗ (e.arg4.view.loc (e.c : Thread nD τ) ↦[e.arg4.view.set]{fullShare} (e.harg4.unread e.x4)) ∗ (e.arg7.view.loc (e.c : Thread nD τ) ↦[e.arg7.view.set]{fullShare} (e.harg7.unread e.x7)) ∗ (e.arg8.view.loc (e.c : Thread nD τ) ↦[e.arg8.view.set]{fullShare} (e.harg8.unread e.x8)) ∗ (e.arg9.view.loc (e.c : Thread nD τ) ↦[e.arg9.view.set]{fullShare} (e.harg9.unread e.x9)) ∗ (e.arg10.view.loc (e.c : Thread nD τ) ↦[e.arg10.view.set]{fullShare} (e.harg10.unread e.x10)) ∗ (e.arg11.view.loc (e.c : Thread nD τ) ↦[e.arg11.view.set]{fullShare} (e.harg11.unread e.x11)) ∗ (e.arg12.view.loc (e.c : Thread nD τ) ↦[e.arg12.view.set]{fullShare} (e.harg12.unread e.x12)))

/-- What the loop has done after its first `k` trips. -/
def Done (k : ℕ) (f13 : Buf (Elt F) (e.arg13.view.loc (e.c : Thread nD τ))) (f14 : Buf (Elt F) (e.arg14.view.loc (e.c : Thread nD τ)))
    (f15 : Buf (Elt F) (e.arg15.view.loc (e.c : Thread nD τ))) (f16 : Buf (Elt F) (e.arg16.view.loc (e.c : Thread nD τ))) (f17 : Buf (Elt F) (e.arg17.view.loc (e.c : Thread nD τ))) : Prop :=
  (∀ y : S512x128.Idx, (y 0).val / 64 < k → e.arg13.view.read (Elt F) f13 y = e.G13 y)
  ∧ (∀ y : S256x128.Idx, (y 0).val / 32 < k → e.arg14.view.read (Elt F) f14 y = e.G14 y)
  ∧ (∀ y : S1x4x128.Idx, 2 * (y 1).val + (y 2).val / 64 < k → e.arg15.view.read (Elt F) f15 y = e.G15 y)
  ∧ (∀ y : S256x128.Idx, (y 0).val / 32 < k → e.arg16.view.read (Elt F) f16 y = e.G16 y)
  ∧ (∀ y : S1x4x128.Idx, 2 * (y 1).val + (y 2).val / 64 < k → e.arg17.view.read (Elt F) f17 y = e.G17 y)

/-- The invariant: the tensor index carried, the operands, and the results' blocks done for the groups before `k`. -/
def inv (k : ℕ) (acc : BitVec 32) : sProp 𝕄 :=
  iprop(⌜acc = BitVec.ofNat 32 (e.accAt k)⌝ ∗ e.ins ∗ ∃ f13 f14 f15 f16 f17, ⌜e.Done k f13 f14 f15 f16 f17⌝ ∗ (e.arg13.view.loc (e.c : Thread nD τ) ↦[e.arg13.view.set]{fullShare} f13) ∗ (e.arg14.view.loc (e.c : Thread nD τ) ↦[e.arg14.view.set]{fullShare} f14) ∗ (e.arg15.view.loc (e.c : Thread nD τ) ↦[e.arg15.view.set]{fullShare} f15) ∗ (e.arg16.view.loc (e.c : Thread nD τ) ↦[e.arg16.view.set]{fullShare} f16) ∗ (e.arg17.view.loc (e.c : Thread nD τ) ↦[e.arg17.view.set]{fullShare} f17))

/-- One trip takes the invariant to the next. -/
theorem step (k : Fin k0_t1_loop.trips) (acc : BitVec 32) :
    e.inv k.val acc ⊢ wp frame (wpE (defs₀ (F := F)) 𝒱₀ (e.c : Thread nD τ) none) Set.univ (k0_t1_body (F := F) e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 k acc) (e.inv (k.val + 1)) := by
  unfold inv
  iintro ⟨%hacc, Hin, %f13, %f14, %f15, %f16, %f17, %hd, H13, H14, H15, H16, H17⟩
  subst hacc
  obtain ⟨h13, h14, h15, h16, h17⟩ := hd
  unfold ins
  icases Hin with ⟨H1, H2, H3, H4, H7, H8, H9, H10, H11, H12⟩
  iapply ((e.run k f15 f17).2.2.2.2.2 f13 f14 f16 _)
  isplitl [H1]; · iexact H1
  isplitl [H2]; · iexact H2
  isplitl [H3]; · iexact H3
  isplitl [H4]; · iexact H4
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H7, H8, H9, H10, H11, H12, H13, H14, H15, H16, H17⟩
  isplitr; · ipureintro; rfl
  isplitl [H1 H2 H3 H4 H7 H8 H9 H10 H11 H12]
  · isplitl [H1]; · iexact H1
    isplitl [H2]; · iexact H2
    isplitl [H3]; · iexact H3
    isplitl [H4]; · iexact H4
    isplitl [H7]; · iexact H7
    isplitl [H8]; · iexact H8
    isplitl [H9]; · iexact H9
    isplitl [H10]; · iexact H10
    isplitl [H11]; · iexact H11
    iexact H12
  iexists _; iexists _; iexists _; iexists _; iexists _
  isplitr
  swap
  · isplitl [H13]; · iexact H13
    isplitl [H14]; · iexact H14
    isplitl [H15]; · iexact H15
    isplitl [H16]; · iexact H16
    iexact H17
  ipureintro
  exact ⟨e.step13 k _ (e.run13 k f15 f17) f13 h13, e.step14 k _ (e.run14 k f15 f17) f14 h14, e.step15 k f15 _ (e.run15 k f15 f17) h15,
    e.step16 k _ (e.run16 k f15 f17) f16 h16, e.step17 k f17 _ (e.run17 k f15 f17) h17⟩

/-- The loop's invariant, as a run looks for it. -/
abbrev loopInv (init : BitVec 32) : Gen.LoopInvTy_k0_t1 Unit ℕ (UR sig nD τ) ℕ 𝒱₀ e.c none Set.univ e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 init := ⟨e.inv, e.step⟩

end Env

end Cert.KernelIdeal.Hand

end
-- ==== Proof.Body.lean ====
module

public import proofs.«01_k».proof.Proof.Gen.KernelIdeal.Loops
public import proofs.«01_k».proof.Proof.Gen.KernelIdeal.Points
public import proofs.«01_k».proof.Proof.Env
public import Idealize.ShloMosaic.Lib.Pipeline.FrameBody
public import Idealize.ShloMosaic.Lib.Ring
public import Idealize.ShloMosaic.Lib.Tactic
public import Idealize.ShloMosaic.Lib.WordCmp

/-! One step of the kernel: from its operands' blocks to the five results' blocks. -/

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (c : Dev nD) (i : grid0.Coords) (arg1 : Memref sig .tc .smem S97 .i32) (harg1 : arg1.IsWhole) (arg2 : Memref sig .tc .smem S97 .f32) (harg2 : arg2.IsWhole) (arg3 : Memref sig .tc .smem S15 .f32) (harg3 : arg3.IsWhole) (arg4 : Memref sig .tc .smem S15 .f32) (harg4 : arg4.IsWhole) (arg5 : Memref sig .tc .smem S2 .f32) (harg5 : arg5.IsWhole) (arg6 : Memref sig .tc .vmem S4x128 .f32) (harg6 : arg6.IsWhole) (arg7 : Memref sig .tc .vmem S512x128 .f32) (harg7 : arg7.IsWhole) (arg8 : Memref sig .tc .vmem S512x128 .bf16) (harg8 : arg8.IsWhole) (arg9 : Memref sig .tc .vmem S256x128 .i8) (harg9 : arg9.IsWhole) (arg10 : Memref sig .tc .vmem S1x4x128 .f32) (harg10 : arg10.IsWhole) (arg11 : Memref sig .tc .vmem S256x128 .i8) (harg11 : arg11.IsWhole) (arg12 : Memref sig .tc .vmem S1x4x128 .f32) (harg12 : arg12.IsWhole) (arg13 : Memref sig .tc .vmem S512x128 .f32) (harg13 : arg13.IsWhole) (arg14 : Memref sig .tc .vmem S256x128 .i8) (harg14 : arg14.IsWhole) (arg15 : Memref sig .tc .vmem S1x4x128 .f32) (harg15 : arg15.IsWhole) (arg16 : Memref sig .tc .vmem S256x128 .i8) (harg16 : arg16.IsWhole) (arg17 : Memref sig .tc .vmem S1x4x128 .f32) (harg17 : arg17.IsWhole)
variable (x1 : Vec F S97 .i32) (x2 : Vec F S97 .f32) (x3 : Vec F S15 .f32) (x4 : Vec F S15 .f32) (x5 : Vec F S2 .f32) (x6 : Vec F S4x128 .f32) (x7 : Vec F S512x128 .f32) (x8 : Vec F S512x128 .bf16) (x9 : Vec F S256x128 .i8) (x10 : Vec F S1x4x128 .f32) (x11 : Vec F S256x128 .i8) (x12 : Vec F S1x4x128 .f32)
  (hlast : 3203072 < (show BitVec 32 from x1 (ix97 96 lt97)).toInt)

theorem one_pos : 0 < S1.numel := numel1_S1.symm ▸ Nat.one_pos

theorem lanes (j : S8x128.Idx) : iota .tc S8x128 32 [1] iota_S8x128_d1_w32 j = BitVec.ofNat 32 (j 1).val := by
  show BitVec.ofNat 32 (0 * 128 + (j 1).val) = _
  rw [Nat.zero_mul, Nat.zero_add]

/-- What the loop is given by a step of the kernel. -/
abbrev env : Env F where
  c := c
  i := i
  arg1 := arg1
  harg1 := harg1
  arg2 := arg2
  harg2 := harg2
  arg3 := arg3
  harg3 := harg3
  arg4 := arg4
  harg4 := harg4
  arg5 := arg5
  harg5 := harg5
  arg6 := arg6
  harg6 := harg6
  arg7 := arg7
  harg7 := harg7
  arg8 := arg8
  harg8 := harg8
  arg9 := arg9
  harg9 := harg9
  arg10 := arg10
  harg10 := harg10
  arg11 := arg11
  harg11 := harg11
  arg12 := arg12
  harg12 := harg12
  arg13 := arg13
  harg13 := harg13
  arg14 := arg14
  harg14 := harg14
  arg15 := arg15
  harg15 := harg15
  arg16 := arg16
  harg16 := harg16
  arg17 := arg17
  harg17 := harg17
  v0 := iota .tc S8x128 32 [1] iota_S8x128_d1_w32
  v1 := iota .tc S8x128 32 [0] iota_S8x128_d0_w32
  v3 := k0_pay163 (View.readAt (Elt F) arg6.view (Rect.unit (s := S4x128) ![0, 0] S1x128.size inb_S4x128_S1x128_0_0).toLoadRect (harg6.unread x6))
  v5 := k0_pay164 (View.readAt (Elt F) arg6.view (Rect.unit (s := S4x128) ![1, 0] S1x128.size inb_S4x128_S1x128_1_0).toLoadRect (harg6.unread x6))
  v9 := k0_pay165 (View.readAt (Elt F) arg6.view (Rect.unit (s := S4x128) ![2, 0] S1x128.size inb_S4x128_S1x128_2_0).toLoadRect (harg6.unread x6))
  v13 := k0_pay166 (View.readAt (Elt F) arg6.view (Rect.unit (s := S4x128) ![3, 0] S1x128.size inb_S4x128_S1x128_3_0).toLoadRect (harg6.unread x6))
  v14 := View.readAt (Elt F) arg5.view (Rect.unit (s := S2) ![0] S1.size inb_S2_S1_0).toLoadRect (harg5.unread x5) (Shape.Idx.first one_pos)
  v15 := View.readAt (Elt F) arg5.view (Rect.unit (s := S2) ![1] S1.size inb_S2_S1_1).toLoadRect (harg5.unread x5) (Shape.Idx.first one_pos)
  v19 := k0_pay167
  v31 := k0_pay168
  v36 := k0_pay169
  v37 := Scalar.muli (BitVec.ofNat 32 (i 0).val) 65536#32
  x1 := x1
  x2 := x2
  x3 := x3
  x4 := x4
  x7 := x7
  x8 := x8
  x9 := x9
  x10 := x10
  x11 := x11
  x12 := x12
  hv0 := lanes
  hlast := hlast

/-- A step of the kernel, from the operands' blocks at their contents, leaves the results' blocks at what the loop leaves. -/
theorem kernel_wp (f13 f14 f15 f16 f17) (K : PUnit → sProp 𝕄) :
    iprop((arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg6.view.loc (c : Thread nD τ) ↦[arg6.view.set]{fullShare} (harg6.unread x6)) ∗ (arg7.view.loc (c : Thread nD τ) ↦[arg7.view.set]{fullShare} (harg7.unread x7)) ∗ (arg8.view.loc (c : Thread nD τ) ↦[arg8.view.set]{fullShare} (harg8.unread x8)) ∗ (arg9.view.loc (c : Thread nD τ) ↦[arg9.view.set]{fullShare} (harg9.unread x9)) ∗ (arg10.view.loc (c : Thread nD τ) ↦[arg10.view.set]{fullShare} (harg10.unread x10)) ∗ (arg11.view.loc (c : Thread nD τ) ↦[arg11.view.set]{fullShare} (harg11.unread x11)) ∗ (arg12.view.loc (c : Thread nD τ) ↦[arg12.view.set]{fullShare} (harg12.unread x12)) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
      ∗ ((((arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg6.view.loc (c : Thread nD τ) ↦[arg6.view.set]{fullShare} (harg6.unread x6)) ∗ (arg7.view.loc (c : Thread nD τ) ↦[arg7.view.set]{fullShare} (harg7.unread x7)) ∗ (arg8.view.loc (c : Thread nD τ) ↦[arg8.view.set]{fullShare} (harg8.unread x8)) ∗ (arg9.view.loc (c : Thread nD τ) ↦[arg9.view.set]{fullShare} (harg9.unread x9)) ∗ (arg10.view.loc (c : Thread nD τ) ↦[arg10.view.set]{fullShare} (harg10.unread x10)) ∗ (arg11.view.loc (c : Thread nD τ) ↦[arg11.view.set]{fullShare} (harg11.unread x11)) ∗ (arg12.view.loc (c : Thread nD τ) ↦[arg12.view.set]{fullShare} (harg12.unread x12))) ∗ owns (c : Thread nD τ) arg13 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G13 ∗ owns (c : Thread nD τ) arg14 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G14 ∗ owns (c : Thread nD τ) arg15 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G15 ∗ owns (c : Thread nD τ) arg16 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G16 ∗ owns (c : Thread nD τ) arg17 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G17) -∗ K ⟨⟩))
    ⊢ wp frame (wpE (defs₀ (F := F)) 𝒱₀ (c : Thread nD τ) none) Set.univ (cc0_adamw4bit (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_adamw4bit_eq_skeleton]
  unfold cc0_adamw4bit_skel
  simp only [k0_part39_eq_skeleton]
  unfold k0_part39_skel
  iintro ⟨H1, H2, H3, H4, H5, H6, H7, H8, H9, H10, H11, H12, H13, H14, H15, H16, H17, HK⟩
  sl_exec
  iapply (wp_call_spec 𝒱₀ (c : Thread nD τ) none Set.univ (whileSpec (F := F) c arg1 (harg1.unread x1) (BitVec.ofNat 32 ((env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).accAt 0))) ((env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).accAt 0) (fun u hu => nomatch hu)
    (while1_le (F := F) c i arg1 harg1 x1 (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).found0 ((env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).accAt 0) 0 (Nat.zero_add _)))
  rw [whileSpec_apply]
  isplitl [H1]
  · iexact H1
  iintro H1
  iapply (Scf.wp_for_bind _ _ _ _ _ _ _ _ _ (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).inv (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).step) $$ [H1 H2 H3 H4 H7 H8 H9 H10 H11 H12 H13 H14 H15 H16 H17]
  · unfold Env.inv Env.ins
    isplitr; · ipureintro; rfl
    isplitl [H1 H2 H3 H4 H7 H8 H9 H10 H11 H12]
    · isplitl [H1]; · iexact H1
      isplitl [H2]; · iexact H2
      isplitl [H3]; · iexact H3
      isplitl [H4]; · iexact H4
      isplitl [H7]; · iexact H7
      isplitl [H8]; · iexact H8
      isplitl [H9]; · iexact H9
      isplitl [H10]; · iexact H10
      isplitl [H11]; · iexact H11
      iexact H12
    iexists f13; iexists f14; iexists f15; iexists f16; iexists f17
    isplitr
    · ipureintro; exact ⟨fun _ h => (Nat.not_lt_zero _ h).elim, fun _ h => (Nat.not_lt_zero _ h).elim, fun _ h => (Nat.not_lt_zero _ h).elim,
        fun _ h => (Nat.not_lt_zero _ h).elim, fun _ h => (Nat.not_lt_zero _ h).elim⟩
    isplitl [H13]; · iexact H13
    isplitl [H14]; · iexact H14
    isplitl [H15]; · iexact H15
    isplitl [H16]; · iexact H16
    iexact H17
  iintro %acc HI
  unfold Env.inv Env.ins
  icases HI with ⟨-, ⟨H1, H2, H3, H4, H7, H8, H9, H10, H11, H12⟩, %g13, %g14, %g15, %g16, %g17, %hd, H13, H14, H15, H16, H17⟩
  rw [Prog.pure_eq_ret, wp_ret]; imodintro
  iapply HK
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  unfold owns
  isplitl [H13]
  · iexists g13; isplitr; · ipureintro; exact funext fun y => hd.1 y (Env.grp13 y)
    iexact H13
  isplitl [H14]
  · iexists g14; isplitr; · ipureintro; exact funext fun y => hd.2.1 y (Env.grp14 y)
    iexact H14
  isplitl [H15]
  · iexists g15; isplitr; · ipureintro; exact funext fun y => hd.2.2.1 y (Env.grpA y)
    iexact H15
  isplitl [H16]
  · iexists g16; isplitr; · ipureintro; exact funext fun y => hd.2.2.2.1 y (Env.grp16 y)
    iexact H16
  iexists g17; isplitr; · ipureintro; exact funext fun y => hd.2.2.2.2 y (Env.grpA y)
  iexact H17

end Body

end Cert.KernelIdeal.Hand

end
-- ==== Proof.Kit.lean ====
module

public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! What the launch leaves at the region's entry, and a frame claim's post read off a frame run: the argument
    arrays are what the run was launched on. -/

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- The buffers of @main's arguments. -/
def argRefs : List (Ref sig .tc) :=
  [main_arg0, main_arg1, main_arg2, main_arg3, main_arg4, main_arg5, main_arg6, main_arg7, main_arg8, main_arg9, main_arg10]

set_option maxHeartbeats 4000000 in
/-- No host operation before the region writes an argument: the region finds it as launched. -/
theorem V_kept (c : Dev nD) (b : Ref sig .tc) (hb : b ∈ argRefs) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by rintro rfl; revert hb; decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ (cfg0 (F := F)) c) (hA : dat.A 7 = V m c (Pipeline.arrRef spec0 7))
    (hafter : ∀ t, dat.after 7 t = iblk m c 7 t) (t : Fin (cfg0 (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ (cfg0 (F := F)) c) (hA : dat.A 8 = V m c (Pipeline.arrRef spec0 8))
    (hafter : ∀ t, dat.after 8 t = iblk m c 8 t) (t : Fin (cfg0 (F := F)).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ (cfg0 (F := F)) c) (hA : dat.A 9 = V m c (Pipeline.arrRef spec0 9))
    (hafter : ∀ t, dat.after 9 t = iblk m c 9 t) (t : Fin (cfg0 (F := F)).N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ (cfg0 (F := F)) c) (hA : dat.A 10 = V m c (Pipeline.arrRef spec0 10))
    (hafter : ∀ t, dat.after 10 t = iblk m c 10 t) (t : Fin (cfg0 (F := F)).N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ (cfg0 (F := F)) c) (hA : dat.A 11 = V m c (Pipeline.arrRef spec0 11))
    (hafter : ∀ t, dat.after 11 t = iblk m c 11 t) (t : Fin (cfg0 (F := F)).N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1020000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (fun r => Pipeline.FramePost (cfgs (F := F)) dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun _ ⟨h, hs⟩ => ⟨fun c => ⟨((h c).2 main_arg0 (Pipeline.mem_restRefs_of main_arg0 (by decide) (show ∀ w : Fin 17, (spec0 w).arr.view.ref ≠ main_arg0 by decide))).trans (V_kept m c main_arg0 (by decide)),
      ((h c).2 main_arg1 (Pipeline.mem_restRefs_of main_arg1 (by decide) (show ∀ w : Fin 17, (spec0 w).arr.view.ref ≠ main_arg1 by decide))).trans (V_kept m c main_arg1 (by decide)),
      ((h c).2 main_arg2 (Pipeline.mem_restRefs_of main_arg2 (by decide) (show ∀ w : Fin 17, (spec0 w).arr.view.ref ≠ main_arg2 by decide))).trans (V_kept m c main_arg2 (by decide)),
      ((h c).2 main_arg3 (Pipeline.mem_restRefs_of main_arg3 (by decide) (show ∀ w : Fin 17, (spec0 w).arr.view.ref ≠ main_arg3 by decide))).trans (V_kept m c main_arg3 (by decide)),
      ((h c).2 main_arg4 (Pipeline.mem_restRefs_of main_arg4 (by decide) (show ∀ w : Fin 17, (spec0 w).arr.view.ref ≠ main_arg4 by decide))).trans (V_kept m c main_arg4 (by decide)),
      ((h c).2 main_arg5 (Pipeline.mem_restRefs_of main_arg5 (by decide) (show ∀ w : Fin 17, (spec0 w).arr.view.ref ≠ main_arg5 by decide))).trans (V_kept m c main_arg5 (by decide)),
      ((h c).2 main_arg6 (Pipeline.mem_restRefs_of main_arg6 (by decide) (show ∀ w : Fin 17, (spec0 w).arr.view.ref ≠ main_arg6 by decide))).trans (V_kept m c main_arg6 (by decide)),
      ((h c).2 main_arg7 (Pipeline.mem_restRefs_of main_arg7 (by decide) (show ∀ w : Fin 17, (spec0 w).arr.view.ref ≠ main_arg7 by decide))).trans (V_kept m c main_arg7 (by decide)),
      ((h c).1 0).trans (((dats 0 c).arrAt_in 0 rfl _).trans ((hA c 0).trans (V_kept m c main_arg8 (by decide)))),
      ((h c).2 main_arg9 (Pipeline.mem_restRefs_of main_arg9 (by decide) (show ∀ w : Fin 17, (spec0 w).arr.view.ref ≠ main_arg9 by decide))).trans (V_kept m c main_arg9 (by decide)),
      ((h c).2 main_arg10 (Pipeline.mem_restRefs_of main_arg10 (by decide) (show ∀ w : Fin 17, (spec0 w).arr.view.ref ≠ main_arg10 by decide))).trans (V_kept m c main_arg10 (by decide))⟩, hs⟩) h

end Cert.KernelIdeal.Hand

end
-- ==== Proof.Run.lean ====
module

public import proofs.«01_k».proof.Proof.Gen.KernelIdeal.Loops
public import proofs.«01_k».proof.Proof.Gen.KernelIdeal.Points
public import proofs.«01_k».proof.Proof.Body
public import proofs.«01_k».proof.Proof.Kit
public import Idealize.ShloMosaic.Lib.Pipeline.FrameBody
public import Idealize.ShloMosaic.Lib.Ring
public import Idealize.ShloMosaic.Lib.Tactic
public import Idealize.ShloMosaic.Lib.WordCmp

/-! The pipeline's data, the body at every step, and the run of the whole program. -/

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (c : Dev nD) (i : grid0.Coords) (arg1 : Memref sig .tc .smem S97 .i32) (harg1 : arg1.IsWhole) (arg2 : Memref sig .tc .smem S97 .f32) (harg2 : arg2.IsWhole) (arg3 : Memref sig .tc .smem S15 .f32) (harg3 : arg3.IsWhole) (arg4 : Memref sig .tc .smem S15 .f32) (harg4 : arg4.IsWhole) (arg5 : Memref sig .tc .smem S2 .f32) (harg5 : arg5.IsWhole) (arg6 : Memref sig .tc .vmem S4x128 .f32) (harg6 : arg6.IsWhole) (arg7 : Memref sig .tc .vmem S512x128 .f32) (harg7 : arg7.IsWhole) (arg8 : Memref sig .tc .vmem S512x128 .bf16) (harg8 : arg8.IsWhole) (arg9 : Memref sig .tc .vmem S256x128 .i8) (harg9 : arg9.IsWhole) (arg10 : Memref sig .tc .vmem S1x4x128 .f32) (harg10 : arg10.IsWhole) (arg11 : Memref sig .tc .vmem S256x128 .i8) (harg11 : arg11.IsWhole) (arg12 : Memref sig .tc .vmem S1x4x128 .f32) (harg12 : arg12.IsWhole) (arg13 : Memref sig .tc .vmem S512x128 .f32) (harg13 : arg13.IsWhole) (arg14 : Memref sig .tc .vmem S256x128 .i8) (harg14 : arg14.IsWhole) (arg15 : Memref sig .tc .vmem S1x4x128 .f32) (harg15 : arg15.IsWhole) (arg16 : Memref sig .tc .vmem S256x128 .i8) (harg16 : arg16.IsWhole) (arg17 : Memref sig .tc .vmem S1x4x128 .f32) (harg17 : arg17.IsWhole)
variable (x1 : Vec F S97 .i32) (x2 : Vec F S97 .f32) (x3 : Vec F S15 .f32) (x4 : Vec F S15 .f32) (x5 : Vec F S2 .f32) (x6 : Vec F S4x128 .f32) (x7 : Vec F S512x128 .f32) (x8 : Vec F S512x128 .bf16) (x9 : Vec F S256x128 .i8) (x10 : Vec F S1x4x128 .f32) (x11 : Vec F S256x128 .i8) (x12 : Vec F S1x4x128 .f32)
  (hlast : 3203072 < (show BitVec 32 from x1 (ix97 96 lt97)).toInt)

set_option maxHeartbeats 4000000 in
/-- A step of the kernel on staging buffers held at contents. -/
theorem sound_kernel (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
      ∗ (((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12) ∗ owns (c : Thread nD τ) arg13 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G13 ∗ owns (c : Thread nD τ) arg14 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G14 ∗ owns (c : Thread nD τ) arg15 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G15 ∗ owns (c : Thread nD τ) arg16 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G16 ∗ owns (c : Thread nD τ) arg17 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G17) -∗ K ⟨⟩))
    ⊢ wp frame (wpE (defs₀ (F := F)) 𝒱₀ (c : Thread nD τ) none) Set.univ (cc0_adamw4bit (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hk := kernel_wp (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast
  simp only [owns] at hk ⊢
  iintro ⟨H1, H2, H3, H4, H5, H6, H7, H8, H9, H10, H11, H12, H13, H14, H15, H16, H17, HK⟩
  icases H1 with ⟨%g1, %h1, H1⟩; obtain rfl := harg1.eq_unread h1
  icases H2 with ⟨%g2, %h2, H2⟩; obtain rfl := harg2.eq_unread h2
  icases H3 with ⟨%g3, %h3, H3⟩; obtain rfl := harg3.eq_unread h3
  icases H4 with ⟨%g4, %h4, H4⟩; obtain rfl := harg4.eq_unread h4
  icases H5 with ⟨%g5, %h5, H5⟩; obtain rfl := harg5.eq_unread h5
  icases H6 with ⟨%g6, %h6, H6⟩; obtain rfl := harg6.eq_unread h6
  icases H7 with ⟨%g7, %h7, H7⟩; obtain rfl := harg7.eq_unread h7
  icases H8 with ⟨%g8, %h8, H8⟩; obtain rfl := harg8.eq_unread h8
  icases H9 with ⟨%g9, %h9, H9⟩; obtain rfl := harg9.eq_unread h9
  icases H10 with ⟨%g10, %h10, H10⟩; obtain rfl := harg10.eq_unread h10
  icases H11 with ⟨%g11, %h11, H11⟩; obtain rfl := harg11.eq_unread h11
  icases H12 with ⟨%g12, %h12, H12⟩; obtain rfl := harg12.eq_unread h12
  icases H13 with ⟨%d13, %g13, -, H13⟩
  icases H14 with ⟨%d14, %g14, -, H14⟩
  icases H15 with ⟨%d15, %g15, -, H15⟩
  icases H16 with ⟨%d16, %g16, -, H16⟩
  icases H17 with ⟨%d17, %g17, -, H17⟩
  iapply (hk g13 g14 g15 g16 g17 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨⟨H1, H2, H3, H4, H5, H6, H7, H8, H9, H10, H11, H12⟩, HO⟩
  iapply HK
  isplitl [H1 H2 H3 H4 H5 H6 H7 H8 H9 H10 H11 H12]
  swap; · iexact HO
  isplitl [H1]
  · iexists _; isplitr; · ipureintro; exact harg1.read_unread x1
    iexact H1
  isplitl [H2]
  · iexists _; isplitr; · ipureintro; exact harg2.read_unread x2
    iexact H2
  isplitl [H3]
  · iexists _; isplitr; · ipureintro; exact harg3.read_unread x3
    iexact H3
  isplitl [H4]
  · iexists _; isplitr; · ipureintro; exact harg4.read_unread x4
    iexact H4
  isplitl [H5]
  · iexists _; isplitr; · ipureintro; exact harg5.read_unread x5
    iexact H5
  isplitl [H6]
  · iexists _; isplitr; · ipureintro; exact harg6.read_unread x6
    iexact H6
  isplitl [H7]
  · iexists _; isplitr; · ipureintro; exact harg7.read_unread x7
    iexact H7
  isplitl [H8]
  · iexists _; isplitr; · ipureintro; exact harg8.read_unread x8
    iexact H8
  isplitl [H9]
  · iexists _; isplitr; · ipureintro; exact harg9.read_unread x9
    iexact H9
  isplitl [H10]
  · iexists _; isplitr; · ipureintro; exact harg10.read_unread x10
    iexact H10
  isplitl [H11]
  · iexists _; isplitr; · ipureintro; exact harg11.read_unread x11
    iexact H11
  iexists _; isplitr; · ipureintro; exact harg12.read_unread x12
  iexact H12

end Body

variable (m : (ℓ : Loc nD τ sig) → Buf (Elt F) ℓ) (ρ : Dev nD → PrngReg)

/-- The last offset lies beyond the first element of the last group. -/
def LastOffset : Prop := ∀ c : Dev nD, 3203072 < (show BitVec 32 from m ((c : Thread nD τ).loc main_arg8) (ix97 96 lt97)).toInt

variable (hO : LastOffset m)
include hO

theorem last_block (c : Dev nD) (t : Fin (cfg0 (F := F)).N) : 3203072 < (show BitVec 32 from (iblk m c 0 t : Vec F S97 .i32) (ix97 96 lt97)).toInt := by
  have h : (iblk m c 0 t : Vec F S97 .i32) (ix97 96 lt97) = m ((c : Thread nD τ).loc main_arg8) (ix97 96 lt97) := by
    rw [← V_kept m c main_arg8 (by decide)]
    unfold iblk
    show V m c main_arg8 _ = V m c main_arg8 _
    congr 1
    funext a
    fin_cases a
    exact Fin.ext (by show 0 + 1 * 96 = 96; omega)
  rw [h]; exact hO c

/-- What step `t`'s loop is given. -/
def envAt (c : Dev nD) (t : Fin (cfg0 (F := F)).N) : Env F :=
  env c (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4)) (st0_5 t) (hstage0_5 (((cfg0 (F := F)).slots t 5).cast nbuf0_5)) (st0_6 t) (hstage0_6 (((cfg0 (F := F)).slots t 6).cast nbuf0_6)) (st0_7 t) (hstage0_7 (((cfg0 (F := F)).slots t 7).cast nbuf0_7)) (st0_8 t) (hstage0_8 (((cfg0 (F := F)).slots t 8).cast nbuf0_8)) (st0_9 t) (hstage0_9 (((cfg0 (F := F)).slots t 9).cast nbuf0_9)) (st0_10 t) (hstage0_10 (((cfg0 (F := F)).slots t 10).cast nbuf0_10)) (st0_11 t) (hstage0_11 (((cfg0 (F := F)).slots t 11).cast nbuf0_11)) (st0_12 t) (hstage0_12 (((cfg0 (F := F)).slots t 12).cast nbuf0_12)) (st0_13 t) (hstage0_13 (((cfg0 (F := F)).slots t 13).cast nbuf0_13)) (st0_14 t) (hstage0_14 (((cfg0 (F := F)).slots t 14).cast nbuf0_14)) (st0_15 t) (hstage0_15 (((cfg0 (F := F)).slots t 15).cast nbuf0_15)) (st0_16 t) (hstage0_16 (((cfg0 (F := F)).slots t 16).cast nbuf0_16))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (last_block m hO c t)

/-- The proof data of the pipeline on core `c`: the arrays as the region finds them; after the body the operands' buffers at
    their blocks, the results' at what the loop leaves. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (envAt m hO c t).G13
    | ⟨13, _⟩ => (envAt m hO c t).G14
    | ⟨14, _⟩ => (envAt m hO c t).G15
    | ⟨15, _⟩ => (envAt m hO c t).G16
    | ⟨16, _⟩ => (envAt m hO c t).G17
    | ⟨n + 17, h⟩ => absurd (show n + 17 < 17 from h) (by omega)
  Φ _ := Pipeline.ΦA spec0 c
  q _ := fullShare
  owed _ := 0

theorem A_eq (c : Dev nD) (w : Fin (cfg0 (F := F)).W) : (dats m hO 0 c).A w = V m c (Pipeline.arrRef spec0 w) := by
  dsimp only [dats]
theorem after0_0 (c : Dev nD) (t : Fin (cfg0 (F := F)).N) : (dats m hO 0 c).after 0 t = iblk m c 0 t := rfl
theorem after0_1 (c : Dev nD) (t : Fin (cfg0 (F := F)).N) : (dats m hO 0 c).after 1 t = iblk m c 1 t := rfl
theorem after0_2 (c : Dev nD) (t : Fin (cfg0 (F := F)).N) : (dats m hO 0 c).after 2 t = iblk m c 2 t := rfl
theorem after0_3 (c : Dev nD) (t : Fin (cfg0 (F := F)).N) : (dats m hO 0 c).after 3 t = iblk m c 3 t := rfl
theorem after0_4 (c : Dev nD) (t : Fin (cfg0 (F := F)).N) : (dats m hO 0 c).after 4 t = iblk m c 4 t := rfl
theorem after0_5 (c : Dev nD) (t : Fin (cfg0 (F := F)).N) : (dats m hO 0 c).after 5 t = iblk m c 5 t := rfl
theorem after0_6 (c : Dev nD) (t : Fin (cfg0 (F := F)).N) : (dats m hO 0 c).after 6 t = iblk m c 6 t := rfl
theorem after0_7 (c : Dev nD) (t : Fin (cfg0 (F := F)).N) : (dats m hO 0 c).after 7 t = iblk m c 7 t := rfl
theorem after0_8 (c : Dev nD) (t : Fin (cfg0 (F := F)).N) : (dats m hO 0 c).after 8 t = iblk m c 8 t := rfl
theorem after0_9 (c : Dev nD) (t : Fin (cfg0 (F := F)).N) : (dats m hO 0 c).after 9 t = iblk m c 9 t := rfl
theorem after0_10 (c : Dev nD) (t : Fin (cfg0 (F := F)).N) : (dats m hO 0 c).after 10 t = iblk m c 10 t := rfl
theorem after0_11 (c : Dev nD) (t : Fin (cfg0 (F := F)).N) : (dats m hO 0 c).after 11 t = iblk m c 11 t := rfl
theorem after0_12 (c : Dev nD) (t : Fin (cfg0 (F := F)).N) : (dats m hO 0 c).after 12 t = (envAt m hO c t).G13 := rfl
theorem after0_13 (c : Dev nD) (t : Fin (cfg0 (F := F)).N) : (dats m hO 0 c).after 13 t = (envAt m hO c t).G14 := rfl
theorem after0_14 (c : Dev nD) (t : Fin (cfg0 (F := F)).N) : (dats m hO 0 c).after 14 t = (envAt m hO c t).G15 := rfl
theorem after0_15 (c : Dev nD) (t : Fin (cfg0 (F := F)).N) : (dats m hO 0 c).after 15 t = (envAt m hO c t).G16 := rfl
theorem after0_16 (c : Dev nD) (t : Fin (cfg0 (F := F)).N) : (dats m hO 0 c).after 16 t = (envAt m hO c t).G17 := rfl
theorem before0_0 (c : Dev nD) (t : Fin (cfg0 (F := F)).N) (d) : (dats m hO 0 c).before 0 t d = iblk m c 0 t := before0_0_of m (dats m hO 0 c) (A_eq m hO c 0) (after0_0 m hO c) t d
theorem before0_1 (c : Dev nD) (t : Fin (cfg0 (F := F)).N) (d) : (dats m hO 0 c).before 1 t d = iblk m c 1 t := before0_1_of m (dats m hO 0 c) (A_eq m hO c 1) (after0_1 m hO c) t d
theorem before0_2 (c : Dev nD) (t : Fin (cfg0 (F := F)).N) (d) : (dats m hO 0 c).before 2 t d = iblk m c 2 t := before0_2_of m (dats m hO 0 c) (A_eq m hO c 2) (after0_2 m hO c) t d
theorem before0_3 (c : Dev nD) (t : Fin (cfg0 (F := F)).N) (d) : (dats m hO 0 c).before 3 t d = iblk m c 3 t := before0_3_of m (dats m hO 0 c) (A_eq m hO c 3) (after0_3 m hO c) t d
theorem before0_4 (c : Dev nD) (t : Fin (cfg0 (F := F)).N) (d) : (dats m hO 0 c).before 4 t d = iblk m c 4 t := before0_4_of m (dats m hO 0 c) (A_eq m hO c 4) (after0_4 m hO c) t d
theorem before0_5 (c : Dev nD) (t : Fin (cfg0 (F := F)).N) (d) : (dats m hO 0 c).before 5 t d = iblk m c 5 t := before0_5_of m (dats m hO 0 c) (A_eq m hO c 5) (after0_5 m hO c) t d
theorem before0_6 (c : Dev nD) (t : Fin (cfg0 (F := F)).N) (d) : (dats m hO 0 c).before 6 t d = iblk m c 6 t := before0_6_of m (dats m hO 0 c) (A_eq m hO c 6) (after0_6 m hO c) t d
theorem before0_7 (c : Dev nD) (t : Fin (cfg0 (F := F)).N) (d) : (dats m hO 0 c).before 7 t d = iblk m c 7 t := before0_7_of m (dats m hO 0 c) (A_eq m hO c 7) (after0_7 m hO c) t d
theorem before0_8 (c : Dev nD) (t : Fin (cfg0 (F := F)).N) (d) : (dats m hO 0 c).before 8 t d = iblk m c 8 t := before0_8_of m (dats m hO 0 c) (A_eq m hO c 8) (after0_8 m hO c) t d
theorem before0_9 (c : Dev nD) (t : Fin (cfg0 (F := F)).N) (d) : (dats m hO 0 c).before 9 t d = iblk m c 9 t := before0_9_of m (dats m hO 0 c) (A_eq m hO c 9) (after0_9 m hO c) t d
theorem before0_10 (c : Dev nD) (t : Fin (cfg0 (F := F)).N) (d) : (dats m hO 0 c).before 10 t d = iblk m c 10 t := before0_10_of m (dats m hO 0 c) (A_eq m hO c 10) (after0_10 m hO c) t d
theorem before0_11 (c : Dev nD) (t : Fin (cfg0 (F := F)).N) (d) : (dats m hO 0 c).before 11 t d = iblk m c 11 t := before0_11_of m (dats m hO 0 c) (A_eq m hO c 11) (after0_11 m hO c) t d

/-- What the body is called with at point `t`, -/
def bodyPre (c : Dev nD) (t : Fin (cfg0 (F := F)).N) : sProp 𝕄 :=
  iprop((dats m hO 0 c).Φ t.castSucc ∗ (dats m hO 0 c).owesAt () t.castSucc
    ∗ (∃ d, owns (c : Thread nD τ) (st0_0 t) fullShare ((dats m hO 0 c).before 0 t d))
    ∗ (∃ d, owns (c : Thread nD τ) (st0_1 t) fullShare ((dats m hO 0 c).before 1 t d))
    ∗ (∃ d, owns (c : Thread nD τ) (st0_2 t) fullShare ((dats m hO 0 c).before 2 t d))
    ∗ (∃ d, owns (c : Thread nD τ) (st0_3 t) fullShare ((dats m hO 0 c).before 3 t d))
    ∗ (∃ d, owns (c : Thread nD τ) (st0_4 t) fullShare ((dats m hO 0 c).before 4 t d))
    ∗ (∃ d, owns (c : Thread nD τ) (st0_5 t) fullShare ((dats m hO 0 c).before 5 t d))
    ∗ (∃ d, owns (c : Thread nD τ) (st0_6 t) fullShare ((dats m hO 0 c).before 6 t d))
    ∗ (∃ d, owns (c : Thread nD τ) (st0_7 t) fullShare ((dats m hO 0 c).before 7 t d))
    ∗ (∃ d, owns (c : Thread nD τ) (st0_8 t) fullShare ((dats m hO 0 c).before 8 t d))
    ∗ (∃ d, owns (c : Thread nD τ) (st0_9 t) fullShare ((dats m hO 0 c).before 9 t d))
    ∗ (∃ d, owns (c : Thread nD τ) (st0_10 t) fullShare ((dats m hO 0 c).before 10 t d))
    ∗ (∃ d, owns (c : Thread nD τ) (st0_11 t) fullShare ((dats m hO 0 c).before 11 t d))
    ∗ (∃ d, owns (c : Thread nD τ) (st0_12 t) fullShare ((dats m hO 0 c).before 12 t d))
    ∗ (∃ d, owns (c : Thread nD τ) (st0_13 t) fullShare ((dats m hO 0 c).before 13 t d))
    ∗ (∃ d, owns (c : Thread nD τ) (st0_14 t) fullShare ((dats m hO 0 c).before 14 t d))
    ∗ (∃ d, owns (c : Thread nD τ) (st0_15 t) fullShare ((dats m hO 0 c).before 15 t d))
    ∗ (∃ d, owns (c : Thread nD τ) (st0_16 t) fullShare ((dats m hO 0 c).before 16 t d)))

/-- and what it returns. -/
def bodyPost (c : Dev nD) (t : Fin (cfg0 (F := F)).N) : sProp 𝕄 :=
  iprop((dats m hO 0 c).Φ t.succ ∗ (dats m hO 0 c).owesAt () t.succ
    ∗ owns (c : Thread nD τ) (st0_0 t) fullShare ((dats m hO 0 c).after 0 t)
    ∗ owns (c : Thread nD τ) (st0_1 t) fullShare ((dats m hO 0 c).after 1 t)
    ∗ owns (c : Thread nD τ) (st0_2 t) fullShare ((dats m hO 0 c).after 2 t)
    ∗ owns (c : Thread nD τ) (st0_3 t) fullShare ((dats m hO 0 c).after 3 t)
    ∗ owns (c : Thread nD τ) (st0_4 t) fullShare ((dats m hO 0 c).after 4 t)
    ∗ owns (c : Thread nD τ) (st0_5 t) fullShare ((dats m hO 0 c).after 5 t)
    ∗ owns (c : Thread nD τ) (st0_6 t) fullShare ((dats m hO 0 c).after 6 t)
    ∗ owns (c : Thread nD τ) (st0_7 t) fullShare ((dats m hO 0 c).after 7 t)
    ∗ owns (c : Thread nD τ) (st0_8 t) fullShare ((dats m hO 0 c).after 8 t)
    ∗ owns (c : Thread nD τ) (st0_9 t) fullShare ((dats m hO 0 c).after 9 t)
    ∗ owns (c : Thread nD τ) (st0_10 t) fullShare ((dats m hO 0 c).after 10 t)
    ∗ owns (c : Thread nD τ) (st0_11 t) fullShare ((dats m hO 0 c).after 11 t)
    ∗ owns (c : Thread nD τ) (st0_12 t) fullShare ((dats m hO 0 c).after 12 t)
    ∗ owns (c : Thread nD τ) (st0_13 t) fullShare ((dats m hO 0 c).after 13 t)
    ∗ owns (c : Thread nD τ) (st0_14 t) fullShare ((dats m hO 0 c).after 14 t)
    ∗ owns (c : Thread nD τ) (st0_15 t) fullShare ((dats m hO 0 c).after 15 t)
    ∗ owns (c : Thread nD τ) (st0_16 t) fullShare ((dats m hO 0 c).after 16 t))

/-- The body at any point. -/
theorem sound_body (c : Dev nD) (t : Fin (cfg0 (F := F)).N) :
    bodyPre m hO c t ⊢ wp frame (wpE (defs₀ (F := F)) 𝒱₀ (c : Thread nD τ) none) Set.univ (bodyAt0 t) (fun _ => bodyPost m hO c t) := by
  unfold bodyPre bodyPost bodyAt0
  simp only [before0_0, before0_1, before0_2, before0_3, before0_4, before0_5, before0_6, before0_7, before0_8, before0_9, before0_10, before0_11]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16]
  unfold envAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel (F := F) c (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4)) (st0_5 t) (hstage0_5 (((cfg0 (F := F)).slots t 5).cast nbuf0_5)) (st0_6 t) (hstage0_6 (((cfg0 (F := F)).slots t 6).cast nbuf0_6)) (st0_7 t) (hstage0_7 (((cfg0 (F := F)).slots t 7).cast nbuf0_7)) (st0_8 t) (hstage0_8 (((cfg0 (F := F)).slots t 8).cast nbuf0_8)) (st0_9 t) (hstage0_9 (((cfg0 (F := F)).slots t 9).cast nbuf0_9)) (st0_10 t) (hstage0_10 (((cfg0 (F := F)).slots t 10).cast nbuf0_10)) (st0_11 t) (hstage0_11 (((cfg0 (F := F)).slots t 11).cast nbuf0_11)) (st0_12 t) (hstage0_12 (((cfg0 (F := F)).slots t 12).cast nbuf0_12)) (st0_13 t) (hstage0_13 (((cfg0 (F := F)).slots t 13).cast nbuf0_13)) (st0_14 t) (hstage0_14 (((cfg0 (F := F)).slots t 14).cast nbuf0_14)) (st0_15 t) (hstage0_15 (((cfg0 (F := F)).slots t 15).cast nbuf0_15)) (st0_16 t) (hstage0_16 (((cfg0 (F := F)).slots t 16).cast nbuf0_16))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (last_block m hO c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  iintro ⟨⟨H0, H1, H2, H3, H4, H5, H6, H7, H8, H9, H10, H11⟩, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

omit hO in
/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point. -/
theorem body_obligation (c : Dev nD) : BodyObligation (dats (F := F) m hO 0 c) (defs₀ (F := F)) 𝒱₀ () Set.univ := fun t => by
  rw [bigSep_W0, bigSep_W0, defs₀_row]
  exact triple_restated (sound_body m hO c t) rfl .rfl fun _ => .rfl

set_option backward.isDefEq.respectTransparency.types false in
/-- The launch: the pipeline's arrays end at what its data say, other buffers as the region found them, counters at zero. -/
theorem run_main : θ_run defs (onTc (τ := τ) (main (F := F))) (s₀ m ρ) (fun r => Pipeline.FramePost (cfgs (F := F)) (dats m hO) 0 (V m) r ∧ r.2.sem = fun _ => 0) :=
  Pipeline.θ_run_frame (Q' := _) (cfgs (F := F)) (dats m hO) (0 : Fin 1) launch0 defs₀ 𝒱₀ m ρ main
    (hbody := fun c => (body_obligation m hO c).loose) (hshare := fun c => (dats m hO 0 c).share_full fun _ => rfl)
    (howed := fun _ _ => rfl) (V := V m) (hmain := hmain m 𝒱₀) (hA := A_eq m hO) (hΦ := fun _ _ => rfl)

end Cert.KernelIdeal.Hand

end
-- ==== Proof.KSpecs.lean ====
module

public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead

/-! The two while loops that look for the tensor a group of blocks starts in: each is met by its specification, which
    returns the least index whose next offset exceeds the group's first element. -/

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The variants of the while loops' calls. -/
abbrev 𝒱₀ : Variants := Variants.nat

/-- A call of a while loop: it reads the offsets and returns `T`. -/
def whileSpec (c : Dev nD) (arg1 : Memref sig .tc .smem S97 .i32) (f1 : Buf (Elt F) (arg1.view.loc (c : Thread nD τ))) (T : BitVec 32) : sWPT 𝕄 (BitVec 32) := do
  sWPT.consume (arg1.view.loc (c : Thread nD τ) ↦[arg1.view.set]{fullShare} f1)
  sWPT.produce (arg1.view.loc (c : Thread nD τ) ↦[arg1.view.set]{fullShare} f1)
  pure T

theorem whileSpec_apply (c : Dev nD) (arg1 : Memref sig .tc .smem S97 .i32) (f1 : Buf (Elt F) (arg1.view.loc (c : Thread nD τ))) (T : BitVec 32) (K : BitVec 32 → sProp 𝕄) :
    whileSpec c arg1 f1 T K = iprop((arg1.view.loc (c : Thread nD τ) ↦[arg1.view.set]{fullShare} f1) ∗ ((arg1.view.loc (c : Thread nD τ) ↦[arg1.view.set]{fullShare} f1) -∗ K T)) := rfl

theorem lt97 : 96 < 97 := by decide

/-- Index `t` of the offset table. -/
def ix97 (t : ℕ) (h : t < 97) : S97.Idx := fun a => ⟨t, by fin_cases a; exact h⟩

/-- The next offset after index `t` exceeds `b`. -/
def Above (x1 : Vec F S97 .i32) (b : BitVec 32) (t : ℕ) : Prop := ∃ h : t + 1 < 97, b.toInt < (show BitVec 32 from x1 (ix97 (t + 1) h)).toInt

open Classical in
/-- The least index whose next offset exceeds `b`. -/
def tidAt (x1 : Vec F S97 .i32) (b : BitVec 32) : ℕ := if h : ∃ t, Above x1 b t then Nat.find h else 0

theorem tidAt_above (x1 : Vec F S97 .i32) (b : BitVec 32) (h : ∃ t, Above x1 b t) : Above x1 b (tidAt x1 b) := by
  classical
  unfold tidAt; rw [dif_pos h]; exact Nat.find_spec h

theorem tidAt_lt (x1 : Vec F S97 .i32) (b : BitVec 32) (h : ∃ t, Above x1 b t) : tidAt x1 b < 96 := by
  obtain ⟨h1, _⟩ := tidAt_above x1 b h; omega

theorem not_above_of_lt (x1 : Vec F S97 .i32) (b : BitVec 32) (t : ℕ) (ht : t < tidAt x1 b) : ¬ Above x1 b t := by
  classical
  intro hA
  have h : ∃ t, Above x1 b t := ⟨t, hA⟩
  unfold tidAt at ht; rw [dif_pos h] at ht
  exact Nat.find_min h ht hA

/-- The index for a later first element is no earlier. -/
theorem tidAt_mono (x1 : Vec F S97 .i32) (b b' : BitVec 32) (h : ∃ t, Above x1 b' t) (hb : b.toInt ≤ b'.toInt) : tidAt x1 b ≤ tidAt x1 b' := by
  obtain ⟨h1, h2⟩ := tidAt_above x1 b' h
  by_contra hc
  exact not_above_of_lt x1 b (tidAt x1 b') (by omega) ⟨h1, by omega⟩

theorem sle_one_iff (x y : BitVec 32) : Scalar.cmpi .sle x y = 1#1 ↔ x.toInt ≤ y.toInt := by
  show IntOp.cmpi .sle x y = 1#1 ↔ _
  rw [WordCmp.cmpi_sle_eq]; exact WordCmp.ofBool_decide_eq_one_iff _

theorem chk1_ofNat : ∀ t : Fin 96, k0_chk1 (BitVec.ofNat 32 t.val) := by decide +kernel

theorem off1_ofNat : ∀ t : Fin 96, k0_off1 (BitVec.ofNat 32 t.val) 0 = t.val + 1 := by decide +kernel

/-- The word loop 1 reads at index `t` is the offset after it. -/
theorem load1_eq (arg1 : Memref sig .tc .smem S97 .i32) (harg1 : arg1.IsWhole) (x1 : Vec F S97 .i32) (t : ℕ) (ht : t < 96)
    (hb : k0_chk1 (BitVec.ofNat 32 t)) (x) :
    View.readAt (Elt F) arg1.view (Rect.unit (s := S97) (k0_off1 (BitVec.ofNat 32 t)) S1.size hb).toLoadRect (harg1.unread x1) x
      = x1 (ix97 (t + 1) (by omega)) := by
  rw [Memref.IsWhole.readAt_unread]
  congr 1
  funext a
  fin_cases a
  refine Fin.ext ?_
  show k0_off1 (BitVec.ofNat 32 t) 0 + 1 * (x 0).val = t + 1
  have h0 : (x 0).val < 1 := (x 0).isLt
  rw [off1_ofNat ⟨t, ht⟩]; simp only []; omega

theorem chk2_ofNat : ∀ t : Fin 96, k0_chk2 (BitVec.ofNat 32 t.val) := by decide +kernel

theorem off2_ofNat : ∀ t : Fin 96, k0_off2 (BitVec.ofNat 32 t.val) 0 = t.val + 1 := by decide +kernel

/-- The word loop 2 reads at index `t` is the offset after it. -/
theorem load2_eq (arg1 : Memref sig .tc .smem S97 .i32) (harg1 : arg1.IsWhole) (x1 : Vec F S97 .i32) (t : ℕ) (ht : t < 96)
    (hb : k0_chk2 (BitVec.ofNat 32 t)) (x) :
    View.readAt (Elt F) arg1.view (Rect.unit (s := S97) (k0_off2 (BitVec.ofNat 32 t)) S1.size hb).toLoadRect (harg1.unread x1) x
      = x1 (ix97 (t + 1) (by omega)) := by
  rw [Memref.IsWhole.readAt_unread]
  congr 1
  funext a
  fin_cases a
  refine Fin.ext ?_
  show k0_off2 (BitVec.ofNat 32 t) 0 + 1 * (x 0).val = t + 1
  have h0 : (x 0).val < 1 := (x 0).isLt
  rw [off2_ofNat ⟨t, ht⟩]; simp only []; omega

theorem chk3_ofNat : ∀ t : Fin 96, k0_chk3 (BitVec.ofNat 32 t.val) := by decide +kernel

/-- While loop 1, entered at an index `t0` below which no next offset exceeds the group's first element: by induction on
    how far the index looked for is. -/
theorem while1_le (c : Dev nD) (i : grid0.Coords) (arg1 : Memref sig .tc .smem S97 .i32) (harg1 : arg1.IsWhole) (x1 : Vec F S97 .i32)
    (h : ∃ t, Above x1 (Scalar.muli (BitVec.ofNat 32 (i 0).val) 65536#32) t) :
    ∀ n t0, t0 + n = tidAt x1 (Scalar.muli (BitVec.ofNat 32 (i 0).val) 65536#32) → ∀ K,
      whileSpec (F := F) c arg1 (harg1.unread x1) (BitVec.ofNat 32 (tidAt x1 (Scalar.muli (BitVec.ofNat 32 (i 0).val) 65536#32))) K
      ⊢ wp frame (wpE (defs₀ (F := F)) 𝒱₀ (c : Thread nD τ) (some n)) Set.univ (defs₀ (F := F) .tc 1 ⟨i, arg1, harg1, BitVec.ofNat 32 t0⟩) K := by
  intro n
  induction n with
  | zero =>
    intro t0 ht K
    have ht0 : t0 = tidAt x1 (Scalar.muli (BitVec.ofNat 32 (i 0).val) 65536#32) := by omega
    have h95 : t0 < 96 := ht0 ▸ tidAt_lt x1 _ h
    rw [whileSpec_apply]
    show _ ⊢ wp frame (wpE (defs₀ (F := F)) 𝒱₀ (c : Thread nD τ) (some 0)) Set.univ (cc0_while1 i arg1 harg1 (BitVec.ofNat 32 t0)) K
    simp only [cc0_while1_eq_skeleton]; unfold cc0_while1_skel
    simp only [smemLoad, smemLoadElt, Prog.lift, Prog.bind_op, Prog.bind_ret, Prog.pure_eq_ret]
    iintro ⟨H, Hk⟩
    iapply (wp_assume 𝒱₀ (c : Thread nD τ) (some 0) Set.univ (chk1_ofNat ⟨t0, h95⟩))
    iapply (wp_load 𝒱₀ (c : Thread nD τ) (some 0) Set.univ (m := arg1) (View.setOn_subset_set _ _)) $$ H; iintro H
    have htest : ¬ (Scalar.cmpi .sle (View.readAt (Elt F) arg1.view (Rect.unit (s := S97) (k0_off1 (BitVec.ofNat 32 t0)) S1.size (chk1_ofNat ⟨t0, h95⟩)).toLoadRect (harg1.unread x1)
        (Shape.Idx.first (numel1_S1.symm ▸ Nat.one_pos))) (Scalar.muli (BitVec.ofNat 32 (i 0).val) 65536#32) = 1#1) := by
      rw [sle_one_iff, load1_eq arg1 harg1 x1 t0 h95]
      obtain ⟨h1, h2⟩ := tidAt_above x1 _ h
      subst ht0; exact not_le.mpr h2
    simp only [htest, ↓reduceIte]
    rw [wp_ret]; imodintro
    rw [← ht0]
    iapply Hk
    iexact H
  | succ n ih =>
    intro t0 ht K
    have h95 : t0 < 96 := by have := tidAt_lt x1 _ h; omega
    rw [whileSpec_apply]
    show _ ⊢ wp frame (wpE (defs₀ (F := F)) 𝒱₀ (c : Thread nD τ) (some (n + 1))) Set.univ (cc0_while1 i arg1 harg1 (BitVec.ofNat 32 t0)) K
    simp only [cc0_while1_eq_skeleton]; unfold cc0_while1_skel
    simp only [smemLoad, smemLoadElt, Prog.lift, Prog.bind_op, Prog.bind_ret, Prog.pure_eq_ret]
    iintro ⟨H, Hk⟩
    iapply (wp_assume 𝒱₀ (c : Thread nD τ) (some (n + 1)) Set.univ (chk1_ofNat ⟨t0, h95⟩))
    iapply (wp_load 𝒱₀ (c : Thread nD τ) (some (n + 1)) Set.univ (m := arg1) (View.setOn_subset_set _ _)) $$ H; iintro H
    have htest : (Scalar.cmpi .sle (View.readAt (Elt F) arg1.view (Rect.unit (s := S97) (k0_off1 (BitVec.ofNat 32 t0)) S1.size (chk1_ofNat ⟨t0, h95⟩)).toLoadRect (harg1.unread x1)
        (Shape.Idx.first (numel1_S1.symm ▸ Nat.one_pos))) (Scalar.muli (BitVec.ofNat 32 (i 0).val) 65536#32) = 1#1) := by
      rw [sle_one_iff, load1_eq arg1 harg1 x1 t0 h95]
      exact not_lt.mp fun hlt => not_above_of_lt x1 _ t0 (by omega) ⟨by omega, hlt⟩
    simp only [htest, ↓reduceIte]
    rw [show Scalar.addi (BitVec.ofNat 32 t0) 1#32 = BitVec.ofNat 32 (t0 + 1) from BitVec.eq_of_toNat_eq (by simp [Scalar.addi, IntOp.addi])]
    iapply (wp_call_spec 𝒱₀ (c : Thread nD τ) (some (n + 1)) Set.univ
      (whileSpec (F := F) c arg1 (harg1.unread x1) (BitVec.ofNat 32 (tidAt x1 (Scalar.muli (BitVec.ofNat 32 (i 0).val) 65536#32)))) n
      (fun u hu => by cases hu; exact Nat.lt_succ_self n) (ih (t0 + 1) (by omega)))
    rw [whileSpec_apply]
    isplitl [H]
    · iexact H
    iintro H
    rw [wp_ret]; imodintro
    iapply Hk
    iexact H

/-- While loop 2, entered at an index `t0` below which no next offset exceeds the group's first element: by induction on
    how far the index looked for is. -/
theorem while2_le (c : Dev nD) (i : grid0.Coords) (k : Fin k0_t1_loop.trips) (arg1 : Memref sig .tc .smem S97 .i32) (harg1 : arg1.IsWhole) (x1 : Vec F S97 .i32)
    (h : ∃ t, Above x1 (Scalar.addi (Scalar.muli (BitVec.ofNat 32 (i 0).val) 65536#32) (Scalar.muli (Scf.iv 0#32 1#32 k) 8192#32)) t) :
    ∀ n t0, t0 + n = tidAt x1 (Scalar.addi (Scalar.muli (BitVec.ofNat 32 (i 0).val) 65536#32) (Scalar.muli (Scf.iv 0#32 1#32 k) 8192#32)) → ∀ K,
      whileSpec (F := F) c arg1 (harg1.unread x1) (BitVec.ofNat 32 (tidAt x1 (Scalar.addi (Scalar.muli (BitVec.ofNat 32 (i 0).val) 65536#32) (Scalar.muli (Scf.iv 0#32 1#32 k) 8192#32)))) K
      ⊢ wp frame (wpE (defs₀ (F := F)) 𝒱₀ (c : Thread nD τ) (some n)) Set.univ (defs₀ (F := F) .tc 2 ⟨i, k, arg1, harg1, BitVec.ofNat 32 t0⟩) K := by
  intro n
  induction n with
  | zero =>
    intro t0 ht K
    have ht0 : t0 = tidAt x1 (Scalar.addi (Scalar.muli (BitVec.ofNat 32 (i 0).val) 65536#32) (Scalar.muli (Scf.iv 0#32 1#32 k) 8192#32)) := by omega
    have h95 : t0 < 96 := ht0 ▸ tidAt_lt x1 _ h
    rw [whileSpec_apply]
    show _ ⊢ wp frame (wpE (defs₀ (F := F)) 𝒱₀ (c : Thread nD τ) (some 0)) Set.univ (cc0_while2 i k arg1 harg1 (BitVec.ofNat 32 t0)) K
    simp only [cc0_while2_eq_skeleton]; unfold cc0_while2_skel
    simp only [smemLoad, smemLoadElt, Prog.lift, Prog.bind_op, Prog.bind_ret, Prog.pure_eq_ret]
    iintro ⟨H, Hk⟩
    iapply (wp_assume 𝒱₀ (c : Thread nD τ) (some 0) Set.univ (chk2_ofNat ⟨t0, h95⟩))
    iapply (wp_load 𝒱₀ (c : Thread nD τ) (some 0) Set.univ (m := arg1) (View.setOn_subset_set _ _)) $$ H; iintro H
    have htest : ¬ (Scalar.cmpi .sle (View.readAt (Elt F) arg1.view (Rect.unit (s := S97) (k0_off2 (BitVec.ofNat 32 t0)) S1.size (chk2_ofNat ⟨t0, h95⟩)).toLoadRect (harg1.unread x1)
        (Shape.Idx.first (numel1_S1.symm ▸ Nat.one_pos))) (Scalar.addi (Scalar.muli (BitVec.ofNat 32 (i 0).val) 65536#32) (Scalar.muli (Scf.iv 0#32 1#32 k) 8192#32)) = 1#1) := by
      rw [sle_one_iff, load2_eq arg1 harg1 x1 t0 h95]
      obtain ⟨h1, h2⟩ := tidAt_above x1 _ h
      subst ht0; exact not_le.mpr h2
    simp only [htest, ↓reduceIte]
    rw [wp_ret]; imodintro
    rw [← ht0]
    iapply Hk
    iexact H
  | succ n ih =>
    intro t0 ht K
    have h95 : t0 < 96 := by have := tidAt_lt x1 _ h; omega
    rw [whileSpec_apply]
    show _ ⊢ wp frame (wpE (defs₀ (F := F)) 𝒱₀ (c : Thread nD τ) (some (n + 1))) Set.univ (cc0_while2 i k arg1 harg1 (BitVec.ofNat 32 t0)) K
    simp only [cc0_while2_eq_skeleton]; unfold cc0_while2_skel
    simp only [smemLoad, smemLoadElt, Prog.lift, Prog.bind_op, Prog.bind_ret, Prog.pure_eq_ret]
    iintro ⟨H, Hk⟩
    iapply (wp_assume 𝒱₀ (c : Thread nD τ) (some (n + 1)) Set.univ (chk2_ofNat ⟨t0, h95⟩))
    iapply (wp_load 𝒱₀ (c : Thread nD τ) (some (n + 1)) Set.univ (m := arg1) (View.setOn_subset_set _ _)) $$ H; iintro H
    have htest : (Scalar.cmpi .sle (View.readAt (Elt F) arg1.view (Rect.unit (s := S97) (k0_off2 (BitVec.ofNat 32 t0)) S1.size (chk2_ofNat ⟨t0, h95⟩)).toLoadRect (harg1.unread x1)
        (Shape.Idx.first (numel1_S1.symm ▸ Nat.one_pos))) (Scalar.addi (Scalar.muli (BitVec.ofNat 32 (i 0).val) 65536#32) (Scalar.muli (Scf.iv 0#32 1#32 k) 8192#32)) = 1#1) := by
      rw [sle_one_iff, load2_eq arg1 harg1 x1 t0 h95]
      exact not_lt.mp fun hlt => not_above_of_lt x1 _ t0 (by omega) ⟨by omega, hlt⟩
    simp only [htest, ↓reduceIte]
    rw [show Scalar.addi (BitVec.ofNat 32 t0) 1#32 = BitVec.ofNat 32 (t0 + 1) from BitVec.eq_of_toNat_eq (by simp [Scalar.addi, IntOp.addi])]
    iapply (wp_call_spec 𝒱₀ (c : Thread nD τ) (some (n + 1)) Set.univ
      (whileSpec (F := F) c arg1 (harg1.unread x1) (BitVec.ofNat 32 (tidAt x1 (Scalar.addi (Scalar.muli (BitVec.ofNat 32 (i 0).val) 65536#32) (Scalar.muli (Scf.iv 0#32 1#32 k) 8192#32))))) n
      (fun u hu => by cases hu; exact Nat.lt_succ_self n) (ih (t0 + 1) (by omega)))
    rw [whileSpec_apply]
    isplitl [H]
    · iexact H
    iintro H
    rw [wp_ret]; imodintro
    iapply Hk
    iexact H

end Cert.Kernel.Hand

end
-- ==== Proof.KTrip.lean ====
module

public import proofs.«01_k».proof.Proof.Gen.Kernel.Loops
public import proofs.«01_k».proof.Proof.Gen.Kernel.Points
public import proofs.«01_k».proof.Proof.KSpecs
public import Idealize.ShloMosaic.Lib.Pipeline.FrameBody
public import Idealize.ShloMosaic.Lib.Ring
public import Idealize.ShloMosaic.Lib.Tactic
public import Idealize.ShloMosaic.Lib.WordCmp

/-! One trip of the kernel's loop over groups of 64 blocks. -/

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Trip
variable (c : Dev nD) (i : grid0.Coords) (arg1 : Memref sig .tc .smem S97 .i32) (harg1 : arg1.IsWhole) (arg2 : Memref sig .tc .smem S97 .f32) (harg2 : arg2.IsWhole) (arg3 : Memref sig .tc .smem S15 .f32) (harg3 : arg3.IsWhole) (arg4 : Memref sig .tc .smem S15 .f32) (harg4 : arg4.IsWhole) (arg5 : Memref sig .tc .smem S2 .f32) (harg5 : arg5.IsWhole) (arg6 : Memref sig .tc .vmem S4x128 .f32) (harg6 : arg6.IsWhole) (arg7 : Memref sig .tc .vmem S512x128 .f32) (harg7 : arg7.IsWhole) (arg8 : Memref sig .tc .vmem S512x128 .bf16) (harg8 : arg8.IsWhole) (arg9 : Memref sig .tc .vmem S256x128 .i8) (harg9 : arg9.IsWhole) (arg10 : Memref sig .tc .vmem S1x4x128 .f32) (harg10 : arg10.IsWhole) (arg11 : Memref sig .tc .vmem S256x128 .i8) (harg11 : arg11.IsWhole) (arg12 : Memref sig .tc .vmem S1x4x128 .f32) (harg12 : arg12.IsWhole) (arg13 : Memref sig .tc .vmem S512x128 .f32) (harg13 : arg13.IsWhole) (arg14 : Memref sig .tc .vmem S256x128 .i8) (harg14 : arg14.IsWhole) (arg15 : Memref sig .tc .vmem S1x4x128 .f32) (harg15 : arg15.IsWhole) (arg16 : Memref sig .tc .vmem S256x128 .i8) (harg16 : arg16.IsWhole) (arg17 : Memref sig .tc .vmem S1x4x128 .f32) (harg17 : arg17.IsWhole)
  (v0 : IVec S8x128 32) (v1 : IVec S8x128 32) (v3 : FVec F S1x128 .f32) (v5 : FVec F S1x128 .f32) (v9 : FVec F S8x128 .f32) (v13 : FVec F S8x128 .f32) (v14 : Elt F .f32) (v15 : Elt F .f32) (v19 : IVec S8x128 32) (v31 : IVec S8x128 32) (v36 : IVec S8x128 32) (v37 : BitVec 32)
variable (x1 : Vec F S97 .i32) (x2 : Vec F S97 .f32) (x3 : Vec F S15 .f32) (x4 : Vec F S15 .f32) (x7 : Vec F S512x128 .f32) (x8 : Vec F S512x128 .bf16) (x9 : Vec F S256x128 .i8) (x10 : Vec F S1x4x128 .f32) (x11 : Vec F S256x128 .i8) (x12 : Vec F S1x4x128 .f32)

set_option maxHeartbeats 40000000 in
def trip (k : Fin k0_t1_loop.trips) (tid T : BitVec 32) (hT : k0_chk3 T) (n : ℕ)
    (hcall : ∀ K, whileSpec (F := F) c arg1 (harg1.unread x1) T K ⊢ wp frame (wpE defs₀ 𝒱₀ (c : Thread nD τ) (some n)) Set.univ (defs₀ .tc 2 ⟨i, k, arg1, harg1, tid⟩) K)
    (f15 : Buf (Elt F) (arg15.view.loc (c : Thread nD τ))) (f17 : Buf (Elt F) (arg17.view.loc (c : Thread nD τ))) :
    Σ' (L13 : List (View.Piece (Elt F) S512x128 .f32)) (L14 : List (View.Piece (Elt F) S256x128 .i8)) (L15 : List (View.Piece (Elt F) S1x4x128 .f32)) (L16 : List (View.Piece (Elt F) S256x128 .i8)),
      { L17 : List (View.Piece (Elt F) S1x4x128 .f32) //
      ∀ f13 f14 f16 (K : BitVec 32 → sProp 𝕄),
      iprop((arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread x7)) ∗ (arg8.view.loc (c : Thread nD τ) ↦[arg8.view.set]{fullShare} (harg8.unread x8)) ∗ (arg9.view.loc (c : Thread nD τ) ↦[arg9.view.set]{fullShare} (harg9.unread x9)) ∗ (arg10.view.loc (c : Thread nD τ) ↦[arg10.view.set]{fullShare} (harg10.unread x10)) ∗ (arg11.view.loc (c : Thread nD τ) ↦[arg11.view.set]{fullShare} (harg11.unread x11)) ∗ (arg12.view.loc (c : Thread nD τ) ↦[arg12.view.set]{fullShare} (harg12.unread x12)) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
      ∗ (((arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread x7)) ∗ (arg8.view.loc (c : Thread nD τ) ↦[arg8.view.set]{fullShare} (harg8.unread x8)) ∗ (arg9.view.loc (c : Thread nD τ) ↦[arg9.view.set]{fullShare} (harg9.unread x9)) ∗ (arg10.view.loc (c : Thread nD τ) ↦[arg10.view.set]{fullShare} (harg10.unread x10)) ∗ (arg11.view.loc (c : Thread nD τ) ↦[arg11.view.set]{fullShare} (harg11.unread x11)) ∗ (arg12.view.loc (c : Thread nD τ) ↦[arg12.view.set]{fullShare} (harg12.unread x12)) ∗ (arg13.view.loc (c : Thread nD τ) ↦[arg13.view.set]{fullShare} (arg13.view.writes (Elt F) f13 L13)) ∗ (arg14.view.loc (c : Thread nD τ) ↦[arg14.view.set]{fullShare} (arg14.view.writes (Elt F) f14 L14)) ∗ (arg15.view.loc (c : Thread nD τ) ↦[arg15.view.set]{fullShare} (arg15.view.writes (Elt F) f15 L15)) ∗ (arg16.view.loc (c : Thread nD τ) ↦[arg16.view.set]{fullShare} (arg16.view.writes (Elt F) f16 L16)) ∗ (arg17.view.loc (c : Thread nD τ) ↦[arg17.view.set]{fullShare} (arg17.view.writes (Elt F) f17 L17))) -∗ K T))
        ⊢ wp frame (wpE defs₀ 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 k tid) K } := by
  refine ⟨?_, ?_, ?_, ?_, ?_, fun f13 f14 f16 K => ?run⟩
  case run =>
    unfold k0_t1_body
    iintro ⟨H1, H2, H3, H4, H7, H8, H9, H10, H11, H12, H13, H14, H15, H16, H17, HK⟩
    sl_exec
    iapply (wp_call_spec 𝒱₀ (c : Thread nD τ) none Set.univ (whileSpec (F := F) c arg1 (harg1.unread x1) T) n (fun u hu => nomatch hu) hcall)
    rw [whileSpec_apply]
    isplitl [H1]
    · iexact H1
    iintro H1
    sl_exec
    sl_step
    iapply HK
    sl_close

end Trip

end Cert.Kernel.Hand

end
-- ==== Proof.KRows.lean ====
module

public import proofs.«01_k».proof.Proof.KTrip
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

/-! Which elements of the output blocks a trip writes. -/

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

theorem off9_eq : ∀ (k : Fin k0_t1_loop.trips) (a : Fin 4) (h : Fin 2),
    k0_off9 k (BitVec.ofNat 32 (16 * a.val)) (BitVec.ofNat 32 h.val) = ![64 * k.val + 16 * a.val + h.val, 0] := by decide +kernel

theorem off10_eq : ∀ k : Fin k0_t1_loop.trips, k0_off10 k = ![32 * k.val, 0] := by decide +kernel

theorem off11_eq : ∀ k : Fin k0_t1_loop.trips, k0_off11 k = ![0, k.val / 2, 0] := by decide +kernel

/-- The rows a store of every second row of 16 writes. -/
theorem mem_rows {off : Fin 2 → ℕ} {o : ℕ} (inb) (sp) (hoff : off = ![o, 0]) (y : S512x128.Idx) :
    y ∈ (⟨⟨off, S8x128.size, ![2, 1], inb⟩, sp⟩ : Rect S512x128).set ↔ ∃ b < 8, (y 0).val = o + 2 * b := by
  subst hoff
  rw [LoadRect.mem_set]
  constructor
  · intro h
    obtain ⟨j, hj, e⟩ := h 0
    exact ⟨j, hj, e⟩
  · rintro ⟨b, hb, e⟩ a
    fin_cases a
    · exact ⟨b, hb, e⟩
    · exact ⟨(y 1).val, (y 1).isLt, by show (y 1).val = 0 + 1 * (y 1).val; omega⟩

/-- The elements a store of whole rows writes. -/
theorem mem_codes {off : Fin 2 → ℕ} {o : ℕ} (inb) (hoff : off = ![o, 0]) (y : S256x128.Idx) :
    y ∈ (Rect.unit (s := S256x128) off S32x128.size inb).set ↔ o ≤ (y 0).val ∧ (y 0).val < o + 32 := by
  subst hoff
  rw [Rect.mem_set_unit]
  constructor
  · intro h; exact h 0
  · intro h a
    fin_cases a
    · exact h
    · exact ⟨Nat.zero_le _, by have h1 : (y 1).val < 128 := (y 1).isLt; show (y 1).val < 0 + 128; omega⟩

/-- The elements a store of one row of the absmaxes writes. -/
theorem mem_amax {off : Fin 3 → ℕ} {o : ℕ} (inb) (hoff : off = ![0, o, 0]) (y : S1x4x128.Idx) :
    y ∈ (Rect.unit (s := S1x4x128) off S1x1x128.size inb).set ↔ (y 1).val = o := by
  subst hoff
  rw [Rect.mem_set_unit]
  constructor
  · intro h; have := h 1; simp at this; omega
  · intro h a
    fin_cases a
    · exact ⟨Nat.zero_le _, (y 0).isLt⟩
    · exact ⟨h.ge, by show (y 1).val < o + 1; omega⟩
    · exact ⟨Nat.zero_le _, by have h1 : (y 2).val < 128 := (y 2).isLt; show (y 2).val < 0 + 128; omega⟩

/-- A row of absmaxes with one half replaced: what the store of a trip writes over the row it read back. -/
def halfRow (lane : IVec S8x128 32) (w : BitVec 32) (nw : FVec F S1x128 .f32) (old : Vec F S1x1x128 .f32) : FVec F S1x1x128 .f32 :=
  shapeCast S1x1x128 (select (cmpi .eq (shrsi (extractStridedSlice S1x128 ![0, 0] lane slices_S8x128_o0_0_S1x128) (broadcast S1x128 6#32)) (broadcast S1x128 w))
    nw (shapeCast S1x128 old shapeCasts_S1x1x128_S1x128)) shapeCasts_S1x128_S1x1x128

/-- Lane `l` of a row. -/
def lane1 (l : Fin 128) : S1x128.Idx := fun a => ⟨if a.val = 0 then 0 else l.val, by fin_cases a; exact Nat.one_pos; exact l.isLt⟩

theorem lane_half : ∀ (l : Fin 128) (k : Fin k0_t1_loop.trips),
    Iff (IntOp.cmpi .eq (IntOp.shrsi .vector (BitVec.ofNat 32 l.val) 6#32) (BitVec.ofNat 32 (k.val % 2)) = 1#1) (l.val / 64 = k.val % 2) := by decide +kernel

/-- Element `x` of such a row: the new one in the half of trip `k`, the old one elsewhere. -/
theorem halfRow_apply (lane : IVec S8x128 32) (hlane : ∀ j, lane j = BitVec.ofNat 32 (j 1).val) (k : Fin k0_t1_loop.trips)
    (nw : FVec F S1x128 .f32) (old : Vec F S1x1x128 .f32) (x : S1x1x128.Idx) :
    halfRow lane (BitVec.ofNat 32 (k.val % 2)) nw old x = if (x 2).val / 64 = k.val % 2 then nw (lane1 (x 2)) else old x := by
  have hrow : (S1x128.rowMajor (lane1 (x 2))).val = (S1x1x128.rowMajor x).val := by
    rw [Shape.rowMajor_val_two, Shape.rowMajor_val_three]
    have h0 : (x 0).val < 1 := (x 0).isLt
    have h1 : (x 1).val < 1 := (x 1).isLt
    show 0 * 128 + (x 2).val = ((x 0).val * 1 + (x 1).val) * 128 + (x 2).val
    omega
  unfold halfRow
  rw [shapeCast_apply _ _ _ (lane1 (x 2)) hrow]
  show (if IntOp.cmpi .eq (IntOp.shrsi .vector (lane _) 6#32) (BitVec.ofNat 32 (k.val % 2)) = 1#1 then nw (lane1 (x 2)) else shapeCast S1x128 old shapeCasts_S1x1x128_S1x128 (lane1 (x 2))) = _
  rw [hlane, shapeCast_apply _ _ _ x hrow.symm]
  refine if_congr ?_ rfl rfl
  have e : 0 + (x 2).val = (x 2).val := Nat.zero_add _
  show Iff (IntOp.cmpi .eq (IntOp.shrsi .vector (BitVec.ofNat 32 (0 + (x 2).val)) 6#32) (BitVec.ofNat 32 (k.val % 2)) = 1#1) _
  rw [e]
  exact lane_half (x 2) k

theorem v67_eq : ∀ k : Fin k0_t1_loop.trips, trip.sl.v67 k = BitVec.ofNat 32 (k.val % 2) := by decide +kernel

section Trip
variable (c : Dev nD) (i : grid0.Coords) (arg1 : Memref sig .tc .smem S97 .i32) (harg1 : arg1.IsWhole) (arg2 : Memref sig .tc .smem S97 .f32) (harg2 : arg2.IsWhole) (arg3 : Memref sig .tc .smem S15 .f32) (harg3 : arg3.IsWhole) (arg4 : Memref sig .tc .smem S15 .f32) (harg4 : arg4.IsWhole) (arg5 : Memref sig .tc .smem S2 .f32) (harg5 : arg5.IsWhole) (arg6 : Memref sig .tc .vmem S4x128 .f32) (harg6 : arg6.IsWhole) (arg7 : Memref sig .tc .vmem S512x128 .f32) (harg7 : arg7.IsWhole) (arg8 : Memref sig .tc .vmem S512x128 .bf16) (harg8 : arg8.IsWhole) (arg9 : Memref sig .tc .vmem S256x128 .i8) (harg9 : arg9.IsWhole) (arg10 : Memref sig .tc .vmem S1x4x128 .f32) (harg10 : arg10.IsWhole) (arg11 : Memref sig .tc .vmem S256x128 .i8) (harg11 : arg11.IsWhole) (arg12 : Memref sig .tc .vmem S1x4x128 .f32) (harg12 : arg12.IsWhole) (arg13 : Memref sig .tc .vmem S512x128 .f32) (harg13 : arg13.IsWhole) (arg14 : Memref sig .tc .vmem S256x128 .i8) (harg14 : arg14.IsWhole) (arg15 : Memref sig .tc .vmem S1x4x128 .f32) (harg15 : arg15.IsWhole) (arg16 : Memref sig .tc .vmem S256x128 .i8) (harg16 : arg16.IsWhole) (arg17 : Memref sig .tc .vmem S1x4x128 .f32) (harg17 : arg17.IsWhole)
  (v0 : IVec S8x128 32) (v1 : IVec S8x128 32) (v3 : FVec F S1x128 .f32) (v5 : FVec F S1x128 .f32) (v9 : FVec F S8x128 .f32) (v13 : FVec F S8x128 .f32) (v14 : Elt F .f32) (v15 : Elt F .f32) (v19 : IVec S8x128 32) (v31 : IVec S8x128 32) (v36 : IVec S8x128 32) (v37 : BitVec 32)
variable (x1 : Vec F S97 .i32) (x2 : Vec F S97 .f32) (x3 : Vec F S15 .f32) (x4 : Vec F S15 .f32) (x7 : Vec F S512x128 .f32) (x8 : Vec F S512x128 .bf16) (x9 : Vec F S256x128 .i8) (x10 : Vec F S1x4x128 .f32) (x11 : Vec F S256x128 .i8) (x12 : Vec F S1x4x128 .f32)
variable (k : Fin k0_t1_loop.trips) (tid T : BitVec 32) (hT : k0_chk3 T) (n : ℕ)
    (hcall : ∀ K, whileSpec (F := F) c arg1 (harg1.unread x1) T K ⊢ wp frame (wpE defs₀ 𝒱₀ (c : Thread nD τ) (some n)) Set.univ (defs₀ .tc 2 ⟨i, k, arg1, harg1, tid⟩) K)
    (f15 : Buf (Elt F) (arg15.view.loc (c : Thread nD τ))) (f17 : Buf (Elt F) (arg17.view.loc (c : Thread nD τ)))

set_option maxHeartbeats 4000000 in
/-- The update's rows trip `k` writes: the 64 of its group. -/
theorem covered13 (y : S512x128.Idx) :
    (∃ p ∈ (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).1, y ∈ p.1.set) ↔ 64 * k.val ≤ (y 0).val ∧ (y 0).val < 64 * k.val + 64 := by
  unfold trip
  simp only [List.mem_cons, List.not_mem_nil, or_false, exists_eq_or_imp, exists_eq_left]
  refine Iff.trans (or_congr (mem_rows _ spos_2_1 (off9_eq k 3 1) y) (or_congr (mem_rows _ spos_2_1 (off9_eq k 3 0) y) (or_congr (mem_rows _ spos_2_1 (off9_eq k 2 1) y) (or_congr (mem_rows _ spos_2_1 (off9_eq k 2 0) y) (or_congr (mem_rows _ spos_2_1 (off9_eq k 1 1) y) (or_congr (mem_rows _ spos_2_1 (off9_eq k 1 0) y) (or_congr (mem_rows _ spos_2_1 (off9_eq k 0 1) y) (mem_rows _ spos_2_1 (off9_eq k 0 0) y)))))))) ?_
  simp only [Fin.isValue, Fin.val_zero, Fin.val_one, Fin.val_two, show ((3 : Fin 4).val) = 3 from rfl]
  constructor
  · rintro (h | h | h | h | h | h | h | h) <;> obtain ⟨b, hb, e⟩ := h <;> omega
  · intro ⟨h1, h2⟩
    have hd : ∃ a < 4, ∃ b < 8, ∃ h < 2, (y 0).val = 64 * k.val + 16 * a + h + 2 * b :=
      ⟨((y 0).val - 64 * k.val) / 16, by omega, ((y 0).val - 64 * k.val) % 16 / 2, by omega, ((y 0).val - 64 * k.val) % 2, by omega, by omega⟩
    obtain ⟨a, ha, b, hb, h, hh, e⟩ := hd
    have hc : (a = 0 ∧ h = 0) ∨ (a = 0 ∧ h = 1) ∨ (a = 1 ∧ h = 0) ∨ (a = 1 ∧ h = 1) ∨ (a = 2 ∧ h = 0) ∨ (a = 2 ∧ h = 1) ∨ (a = 3 ∧ h = 0) ∨ (a = 3 ∧ h = 1) := by omega
    rcases hc with h | h | h | h | h | h | h | h <;> first
      | exact Or.inl ⟨b, hb, by omega⟩
      | exact Or.inr (Or.inl ⟨b, hb, by omega⟩)
      | exact Or.inr (Or.inr (Or.inl ⟨b, hb, by omega⟩))
      | exact Or.inr (Or.inr (Or.inr (Or.inl ⟨b, hb, by omega⟩)))
      | exact Or.inr (Or.inr (Or.inr (Or.inr (Or.inl ⟨b, hb, by omega⟩))))
      | exact Or.inr (Or.inr (Or.inr (Or.inr (Or.inr (Or.inl ⟨b, hb, by omega⟩)))))
      | exact Or.inr (Or.inr (Or.inr (Or.inr (Or.inr (Or.inr (Or.inl ⟨b, hb, by omega⟩))))))
      | exact Or.inr (Or.inr (Or.inr (Or.inr (Or.inr (Or.inr (Or.inr (⟨b, hb, by omega⟩)))))))

/-- The rows of m's codes trip `k` writes. -/
theorem covered14 (y : S256x128.Idx) :
    (∃ p ∈ (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.1, y ∈ p.1.set) ↔ 32 * k.val ≤ (y 0).val ∧ (y 0).val < 32 * k.val + 32 := by
  unfold trip
  simp only [List.mem_cons, List.not_mem_nil, or_false, exists_eq_left]
  exact mem_codes _ (off10_eq k) y

/-- The rows of v's codes trip `k` writes. -/
theorem covered16 (y : S256x128.Idx) :
    (∃ p ∈ (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.2.2.1, y ∈ p.1.set) ↔ 32 * k.val ≤ (y 0).val ∧ (y 0).val < 32 * k.val + 32 := by
  unfold trip
  simp only [List.mem_cons, List.not_mem_nil, or_false, exists_eq_left]
  exact mem_codes _ (off10_eq k) y

/-- What trip `k` writes of m's absmaxes: the row's half that trip `k` replaces, whatever the row held. -/
theorem half15 : ∃ nw : FVec F S1x128 .f32, ∀ f15 f17, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.2.1
    = [⟨Rect.unit (s := S1x4x128) (k0_off11 k) S1x1x128.size (k0_off11_inb k),
        halfRow v0 (BitVec.ofNat 32 (k.val % 2)) nw (View.readAt (Elt F) arg15.view (Rect.unit (s := S1x4x128) (k0_off11 k) S1x1x128.size (k0_off11_inb k)).toLoadRect f15)⟩] := by
  exact ⟨_, fun f15 f17 => by rw [← v67_eq k]; rfl⟩

/-- What trip `k` writes of v's absmaxes: the row's half that trip `k` replaces, whatever the row held. -/
theorem half17 : ∃ nw : FVec F S1x128 .f32, ∀ f15 f17, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.2.2.2.1
    = [⟨Rect.unit (s := S1x4x128) (k0_off11 k) S1x1x128.size (k0_off11_inb k),
        halfRow v0 (BitVec.ofNat 32 (k.val % 2)) nw (View.readAt (Elt F) arg17.view (Rect.unit (s := S1x4x128) (k0_off11 k) S1x1x128.size (k0_off11_inb k)).toLoadRect f17)⟩] := by
  exact ⟨_, fun f15 f17 => by rw [← v67_eq k]; rfl⟩

end Trip

end Cert.Kernel.Hand

end
-- ==== Proof.KHalf.lean ====
module

public import proofs.«01_k».proof.Proof.Gen.Kernel.Loops
public import proofs.«01_k».proof.Proof.Gen.Kernel.Points
public import proofs.«01_k».proof.Proof.KRows
public import Idealize.ShloMosaic.Lib.Pipeline.FrameBody
public import Idealize.ShloMosaic.Lib.WritesUnit
public import Idealize.ShloMosaic.Lib.Ring
public import Idealize.ShloMosaic.Lib.Tactic
public import Idealize.ShloMosaic.Lib.WordCmp

/-! Reading the absmaxes' blocks after a trip's store of half a row; a trip's other stores do not depend on them. -/

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

theorem pos1 (y : S1x4x128.Idx) : ∀ a, (![0, 0, (y 2).val] : Fin 3 → ℕ) a < S1x1x128.size a := by
  intro a; fin_cases a; exacts [Nat.one_pos, Nat.one_pos, (y 2).isLt]

/-- The position in its row of element `y` of the absmaxes. -/
def inRow (y : S1x4x128.Idx) : S1x1x128.Idx := fun a => ⟨(![0, 0, (y 2).val] : Fin 3 → ℕ) a, pos1 y a⟩

theorem inRow_val (y : S1x4x128.Idx) (o : ℕ) (ho : (y 1).val = o) (a : Fin 3) :
    (y a).val = (![0, o, 0] : Fin 3 → ℕ) a + (inRow y a).val := by
  have h0 : (y 0).val < 1 := (y 0).isLt
  fin_cases a
  · show (y 0).val = 0 + 0; omega
  · show (y 1).val = o + 0; omega
  · show (y 2).val = 0 + (y 2).val; omega

section Half
variable {sp : Space} (v : View sig .tc sp S1x4x128 .f32) (f : v.ty.Contents (Elt F))
  (lane : IVec S8x128 32) (hlane : ∀ j, lane j = BitVec.ofNat 32 (j 1).val) (k : Fin k0_t1_loop.trips) (nw : FVec F S1x128 .f32)
include hlane

/-- A half row stored reads back, in that half, what was stored, whatever the row held. -/
theorem readHalf (old : Vec F S1x1x128 .f32) (y : S1x4x128.Idx) (hy : 2 * (y 1).val + (y 2).val / 64 = k.val) :
    v.read (Elt F) (v.writes (Elt F) f [⟨Rect.unit (s := S1x4x128) (k0_off11 k) S1x1x128.size (k0_off11_inb k), halfRow lane (BitVec.ofNat 32 (k.val % 2)) nw old⟩]) y
      = nw (lane1 (y 2)) := by
  have h2 : (y 2).val < 128 := (y 2).isLt
  rw [View.read_writes_cons_unit_of_mem v f (k0_off11_inb k) _ [] y (inRow y) (off11_eq k) (inRow_val y (k.val / 2) (by omega)),
    halfRow_apply lane hlane k]
  exact if_pos (show (y 2).val / 64 = k.val % 2 by omega)

/-- Elsewhere it reads back what was there. -/
theorem keepHalf (y : S1x4x128.Idx) (hy : ¬ 2 * (y 1).val + (y 2).val / 64 = k.val) :
    v.read (Elt F) (v.writes (Elt F) f [⟨Rect.unit (s := S1x4x128) (k0_off11 k) S1x1x128.size (k0_off11_inb k), halfRow lane (BitVec.ofNat 32 (k.val % 2)) nw
      (View.readAt (Elt F) v (Rect.unit (s := S1x4x128) (k0_off11 k) S1x1x128.size (k0_off11_inb k)).toLoadRect f)⟩]) y
      = v.read (Elt F) f y := by
  have h2 : (y 2).val < 128 := (y 2).isLt
  by_cases h1 : (y 1).val = k.val / 2
  · rw [View.read_writes_cons_unit_of_mem v f (k0_off11_inb k) _ [] y (inRow y) (off11_eq k) (inRow_val y (k.val / 2) h1),
      halfRow_apply lane hlane k]
    refine (if_neg (show ¬ (y 2).val / 64 = k.val % 2 by omega)).trans ?_
    show v.read (Elt F) f _ = _
    congr 1
    funext a
    refine Fin.ext ?_
    show k0_off11 k a + 1 * (inRow y a).val = (y a).val
    rw [off11_eq, inRow_val y (k.val / 2) h1 a, Nat.one_mul]
  · rw [View.read_writes_cons_unit_of_not_mem v f (k0_off11_inb k) _ [] y (off11_eq k) (1 : Fin 3)
      (by show (y 1).val < k.val / 2 ∨ k.val / 2 + 1 ≤ (y 1).val; omega)]
    rfl

end Half

section Trip
variable (c : Dev nD) (i : grid0.Coords) (arg1 : Memref sig .tc .smem S97 .i32) (harg1 : arg1.IsWhole) (arg2 : Memref sig .tc .smem S97 .f32) (harg2 : arg2.IsWhole) (arg3 : Memref sig .tc .smem S15 .f32) (harg3 : arg3.IsWhole) (arg4 : Memref sig .tc .smem S15 .f32) (harg4 : arg4.IsWhole) (arg5 : Memref sig .tc .smem S2 .f32) (harg5 : arg5.IsWhole) (arg6 : Memref sig .tc .vmem S4x128 .f32) (harg6 : arg6.IsWhole) (arg7 : Memref sig .tc .vmem S512x128 .f32) (harg7 : arg7.IsWhole) (arg8 : Memref sig .tc .vmem S512x128 .bf16) (harg8 : arg8.IsWhole) (arg9 : Memref sig .tc .vmem S256x128 .i8) (harg9 : arg9.IsWhole) (arg10 : Memref sig .tc .vmem S1x4x128 .f32) (harg10 : arg10.IsWhole) (arg11 : Memref sig .tc .vmem S256x128 .i8) (harg11 : arg11.IsWhole) (arg12 : Memref sig .tc .vmem S1x4x128 .f32) (harg12 : arg12.IsWhole) (arg13 : Memref sig .tc .vmem S512x128 .f32) (harg13 : arg13.IsWhole) (arg14 : Memref sig .tc .vmem S256x128 .i8) (harg14 : arg14.IsWhole) (arg15 : Memref sig .tc .vmem S1x4x128 .f32) (harg15 : arg15.IsWhole) (arg16 : Memref sig .tc .vmem S256x128 .i8) (harg16 : arg16.IsWhole) (arg17 : Memref sig .tc .vmem S1x4x128 .f32) (harg17 : arg17.IsWhole)
  (v0 : IVec S8x128 32) (v1 : IVec S8x128 32) (v3 : FVec F S1x128 .f32) (v5 : FVec F S1x128 .f32) (v9 : FVec F S8x128 .f32) (v13 : FVec F S8x128 .f32) (v14 : Elt F .f32) (v15 : Elt F .f32) (v19 : IVec S8x128 32) (v31 : IVec S8x128 32) (v36 : IVec S8x128 32) (v37 : BitVec 32)
variable (x1 : Vec F S97 .i32) (x2 : Vec F S97 .f32) (x3 : Vec F S15 .f32) (x4 : Vec F S15 .f32) (x7 : Vec F S512x128 .f32) (x8 : Vec F S512x128 .bf16) (x9 : Vec F S256x128 .i8) (x10 : Vec F S1x4x128 .f32) (x11 : Vec F S256x128 .i8) (x12 : Vec F S1x4x128 .f32)
variable (k : Fin k0_t1_loop.trips) (tid T : BitVec 32) (hT : k0_chk3 T) (n : ℕ)
    (hcall : ∀ K, whileSpec (F := F) c arg1 (harg1.unread x1) T K ⊢ wp frame (wpE defs₀ 𝒱₀ (c : Thread nD τ) (some n)) Set.univ (defs₀ .tc 2 ⟨i, k, arg1, harg1, tid⟩) K)

/-- What a trip stores of the update does not depend on what the absmaxes' blocks held. -/
theorem list13 : ∃ L : List (View.Piece (Elt F) S512x128 .f32), ∀ f15 f17, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).1 = L := ⟨_, fun f15 f17 => rfl⟩

/-- What a trip stores of m's codes does not depend on what the absmaxes' blocks held. -/
theorem list14 : ∃ L : List (View.Piece (Elt F) S256x128 .i8), ∀ f15 f17, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.1 = L := ⟨_, fun f15 f17 => rfl⟩

/-- What a trip stores of v's codes does not depend on what the absmaxes' blocks held. -/
theorem list16 : ∃ L : List (View.Piece (Elt F) S256x128 .i8), ∀ f15 f17, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.2.2.1 = L := ⟨_, fun f15 f17 => rfl⟩

end Trip

end Cert.Kernel.Hand

end
-- ==== Proof.KEnv.lean ====
module

public import proofs.«01_k».proof.Proof.Gen.Kernel.Loops
public import proofs.«01_k».proof.Proof.Gen.Kernel.Points
public import proofs.«01_k».proof.Proof.KHalf
public import Idealize.ShloMosaic.Lib.Pipeline.FrameBody
public import Idealize.ShloMosaic.Lib.Ring
public import Idealize.ShloMosaic.Lib.Tactic
public import Idealize.ShloMosaic.Lib.WordCmp

/-! The kernel's loop over groups of 64 blocks: what it leaves in the five results' blocks, and its invariant. -/

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- What a run of the loop is given: the device, the step, the operands, the values the code before the loop computes,
    and the contents of the blocks read. -/
structure Env (F : FTy → Type) [BitOps F] where
  c : Dev nD
  i : grid0.Coords
  arg1 : Memref sig .tc .smem S97 .i32
  harg1 : arg1.IsWhole
  arg2 : Memref sig .tc .smem S97 .f32
  harg2 : arg2.IsWhole
  arg3 : Memref sig .tc .smem S15 .f32
  harg3 : arg3.IsWhole
  arg4 : Memref sig .tc .smem S15 .f32
  harg4 : arg4.IsWhole
  arg5 : Memref sig .tc .smem S2 .f32
  harg5 : arg5.IsWhole
  arg6 : Memref sig .tc .vmem S4x128 .f32
  harg6 : arg6.IsWhole
  arg7 : Memref sig .tc .vmem S512x128 .f32
  harg7 : arg7.IsWhole
  arg8 : Memref sig .tc .vmem S512x128 .bf16
  harg8 : arg8.IsWhole
  arg9 : Memref sig .tc .vmem S256x128 .i8
  harg9 : arg9.IsWhole
  arg10 : Memref sig .tc .vmem S1x4x128 .f32
  harg10 : arg10.IsWhole
  arg11 : Memref sig .tc .vmem S256x128 .i8
  harg11 : arg11.IsWhole
  arg12 : Memref sig .tc .vmem S1x4x128 .f32
  harg12 : arg12.IsWhole
  arg13 : Memref sig .tc .vmem S512x128 .f32
  harg13 : arg13.IsWhole
  arg14 : Memref sig .tc .vmem S256x128 .i8
  harg14 : arg14.IsWhole
  arg15 : Memref sig .tc .vmem S1x4x128 .f32
  harg15 : arg15.IsWhole
  arg16 : Memref sig .tc .vmem S256x128 .i8
  harg16 : arg16.IsWhole
  arg17 : Memref sig .tc .vmem S1x4x128 .f32
  harg17 : arg17.IsWhole
  v0 : IVec S8x128 32
  v1 : IVec S8x128 32
  v3 : FVec F S1x128 .f32
  v5 : FVec F S1x128 .f32
  v9 : FVec F S8x128 .f32
  v13 : FVec F S8x128 .f32
  v14 : Elt F .f32
  v15 : Elt F .f32
  v19 : IVec S8x128 32
  v31 : IVec S8x128 32
  v36 : IVec S8x128 32
  v37 : BitVec 32
  x1 : Vec F S97 .i32
  x2 : Vec F S97 .f32
  x3 : Vec F S15 .f32
  x4 : Vec F S15 .f32
  x7 : Vec F S512x128 .f32
  x8 : Vec F S512x128 .bf16
  x9 : Vec F S256x128 .i8
  x10 : Vec F S1x4x128 .f32
  x11 : Vec F S256x128 .i8
  x12 : Vec F S1x4x128 .f32
  hv0 : ∀ j, v0 j = BitVec.ofNat 32 (j 1).val
  hlast : 3203072 < (show BitVec 32 from x1 (ix97 96 lt97)).toInt

namespace Env

variable (e : Env F)

/-- The first element of the group trip `k` handles. -/
def base (k : Fin k0_t1_loop.trips) : BitVec 32 :=
  Scalar.addi (Scalar.muli (BitVec.ofNat 32 (e.i 0).val) 65536#32) (Scalar.muli (Scf.iv 0#32 1#32 k) 8192#32)

theorem base_toInt : ∀ (i : Fin 49) (k : Fin k0_t1_loop.trips),
    (Scalar.addi (Scalar.muli (BitVec.ofNat 32 i.val) 65536#32) (Scalar.muli (Scf.iv 0#32 1#32 k) 8192#32)).toInt = 65536 * i.val + 8192 * k.val := by
  decide +kernel

theorem start_toInt : ∀ (i : Fin 49), (Scalar.muli (BitVec.ofNat 32 i.val) 65536#32).toInt = 65536 * i.val := by
  decide +kernel

/-- Every group begins before the last offset. -/
theorem found (k : Fin k0_t1_loop.trips) : ∃ t, Above e.x1 (e.base k) t := by
  refine ⟨95, by omega, ?_⟩
  have h := base_toInt ⟨(e.i 0).val, (e.i 0).isLt⟩ k
  have hl := e.hlast
  have h1 : (e.i 0).val < 49 := (e.i 0).isLt
  have h2 : k.val < 8 := k.isLt
  unfold base
  refine lt_of_le_of_lt ?_ hl
  rw [h]; simp only []; omega

/-- Every step begins before the last offset. -/
theorem found0 : ∃ t, Above e.x1 (Scalar.muli (BitVec.ofNat 32 (e.i 0).val) 65536#32) t := by
  refine ⟨95, by omega, ?_⟩
  have h := start_toInt ⟨(e.i 0).val, (e.i 0).isLt⟩
  have hl := e.hlast
  have h1 : (e.i 0).val < 49 := (e.i 0).isLt
  refine lt_of_le_of_lt ?_ hl
  rw [h]; simp only []; omega

/-- The tensor index carried into trip `k`. -/
def accAt : ℕ → ℕ
  | 0 => tidAt e.x1 (Scalar.muli (BitVec.ofNat 32 (e.i 0).val) 65536#32)
  | k + 1 => if h : k < k0_t1_loop.trips then tidAt e.x1 (e.base ⟨k, h⟩) else 0

theorem accAt_succ (k : Fin k0_t1_loop.trips) : e.accAt (k.val + 1) = tidAt e.x1 (e.base k) := by
  rw [accAt, dif_pos k.isLt]

theorem accAt_le (k : Fin k0_t1_loop.trips) : e.accAt k.val ≤ e.accAt (k.val + 1) := by
  rw [accAt_succ]
  obtain ⟨k, hk⟩ := k
  cases k with
  | zero =>
    refine tidAt_mono _ _ _ (e.found _) ?_
    have h := base_toInt ⟨(e.i 0).val, (e.i 0).isLt⟩ ⟨0, hk⟩
    have h' := start_toInt ⟨(e.i 0).val, (e.i 0).isLt⟩
    unfold base; rw [h, h']; simp only []; omega
  | succ k =>
    rw [show e.accAt (k + 1) = _ from accAt_succ e ⟨k, Nat.lt_of_succ_lt hk⟩]
    refine tidAt_mono _ _ _ (e.found _) ?_
    have h := base_toInt ⟨(e.i 0).val, (e.i 0).isLt⟩ ⟨k + 1, hk⟩
    have h' := base_toInt ⟨(e.i 0).val, (e.i 0).isLt⟩ ⟨k, Nat.lt_of_succ_lt hk⟩
    unfold base; rw [h, h']; simp only []; omega

/-- The tensor index trip `k` finds lets its loads be in bounds. -/
theorem chk (k : Fin k0_t1_loop.trips) : k0_chk3 (BitVec.ofNat 32 (e.accAt (k.val + 1))) := by
  rw [accAt_succ]; exact chk3_ofNat ⟨_, tidAt_lt _ _ (e.found k)⟩

/-- The while loop of trip `k`. -/
theorem call (k : Fin k0_t1_loop.trips) (K : BitVec 32 → sProp 𝕄) :
    whileSpec (F := F) e.c e.arg1 (e.harg1.unread e.x1) (BitVec.ofNat 32 (e.accAt (k.val + 1))) K
      ⊢ wp frame (wpE (defs₀ (F := F)) 𝒱₀ (e.c : Thread nD τ) (some (e.accAt (k.val + 1) - e.accAt k.val))) Set.univ
        (defs₀ (F := F) .tc 2 ⟨e.i, k, e.arg1, e.harg1, BitVec.ofNat 32 (e.accAt k.val)⟩) K := by
  have hle := e.accAt_le k
  have h := while2_le (F := F) e.c e.i k e.arg1 e.harg1 e.x1 (e.found k) (e.accAt (k.val + 1) - e.accAt k.val) (e.accAt k.val)
    (by have := e.accAt_succ k; unfold base at this; omega) K
  rw [accAt_succ]
  rw [accAt_succ] at h
  exact h

/-- One trip of the loop. -/
def run (k : Fin k0_t1_loop.trips) (f15 : Buf (Elt F) (e.arg15.view.loc (e.c : Thread nD τ))) (f17 : Buf (Elt F) (e.arg17.view.loc (e.c : Thread nD τ))) :=
  trip (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k) f15 f17

theorem grp13 (y : S512x128.Idx) : (y 0).val / 64 < k0_t1_loop.trips := by
  have h : (y 0).val < 512 := (y 0).isLt
  show _ < 8
  omega

/-- What trip `k` stores of the update. -/
def L13 (k : Fin k0_t1_loop.trips) : List (View.Piece (Elt F) S512x128 .f32) := (e.run k e.arg15.view.junk e.arg17.view.junk).1

theorem run13 (k : Fin k0_t1_loop.trips) (f15 f17) : (e.run k f15 f17).1 = e.L13 k := by
  obtain ⟨L, h⟩ := list13 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k)
  exact (h f15 f17).trans (h e.arg15.view.junk e.arg17.view.junk).symm

theorem cov13 (k : Fin k0_t1_loop.trips) (y : S512x128.Idx) : Iff (∃ p ∈ e.L13 k, y ∈ p.1.set) (64 * k.val ≤ (y 0).val ∧ (y 0).val < 64 * k.val + 64) :=
  covered13 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k) e.arg15.view.junk e.arg17.view.junk y

/-- What the loop leaves of the update: at a row, what the trip of that row's group stored. -/
def G13 : Vec F S512x128 .f32 := fun y =>
  e.arg13.view.read (Elt F) (e.arg13.view.writes (Elt F) e.arg13.view.junk (e.L13 ⟨(y 0).val / 64, grp13 y⟩)) y

/-- Trip `k` extends what is done of the update by its group. -/
theorem step13 (k : Fin k0_t1_loop.trips) (L) (hL : L = e.L13 k) (f : Buf (Elt F) (e.arg13.view.loc (e.c : Thread nD τ)))
    (hf : ∀ y : S512x128.Idx, (y 0).val / 64 < k.val → e.arg13.view.read (Elt F) f y = e.G13 y) :
    ∀ y : S512x128.Idx, (y 0).val / 64 < k.val + 1 → e.arg13.view.read (Elt F) (e.arg13.view.writes (Elt F) f L) y = e.G13 y := by
  intro y hy
  subst hL
  by_cases hk : (y 0).val / 64 = k.val
  · have hk' : (⟨(y 0).val / 64, grp13 y⟩ : Fin k0_t1_loop.trips) = k := Fin.ext hk
    unfold G13
    rw [hk']
    exact View.read_writes_apply_eq _ _ _ _ _ _ ((e.cov13 k y).mpr (by omega))
  · rw [View.read_writes_apply_of_forall_not_mem _ _ _ _ fun p hp hm => hk
      (by have := (e.cov13 k y).mp ⟨p, hp, hm⟩; omega)]
    exact hf y (by omega)

theorem grp14 (y : S256x128.Idx) : (y 0).val / 32 < k0_t1_loop.trips := by
  have h : (y 0).val < 256 := (y 0).isLt
  show _ < 8
  omega

/-- What trip `k` stores of m's codes. -/
def L14 (k : Fin k0_t1_loop.trips) : List (View.Piece (Elt F) S256x128 .i8) := (e.run k e.arg15.view.junk e.arg17.view.junk).2.1

theorem run14 (k : Fin k0_t1_loop.trips) (f15 f17) : (e.run k f15 f17).2.1 = e.L14 k := by
  obtain ⟨L, h⟩ := list14 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k)
  exact (h f15 f17).trans (h e.arg15.view.junk e.arg17.view.junk).symm

theorem cov14 (k : Fin k0_t1_loop.trips) (y : S256x128.Idx) : Iff (∃ p ∈ e.L14 k, y ∈ p.1.set) (32 * k.val ≤ (y 0).val ∧ (y 0).val < 32 * k.val + 32) :=
  covered14 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k) e.arg15.view.junk e.arg17.view.junk y

/-- What the loop leaves of m's codes: at a row, what the trip of that row's group stored. -/
def G14 : Vec F S256x128 .i8 := fun y =>
  e.arg14.view.read (Elt F) (e.arg14.view.writes (Elt F) e.arg14.view.junk (e.L14 ⟨(y 0).val / 32, grp14 y⟩)) y

/-- Trip `k` extends what is done of m's codes by its group. -/
theorem step14 (k : Fin k0_t1_loop.trips) (L) (hL : L = e.L14 k) (f : Buf (Elt F) (e.arg14.view.loc (e.c : Thread nD τ)))
    (hf : ∀ y : S256x128.Idx, (y 0).val / 32 < k.val → e.arg14.view.read (Elt F) f y = e.G14 y) :
    ∀ y : S256x128.Idx, (y 0).val / 32 < k.val + 1 → e.arg14.view.read (Elt F) (e.arg14.view.writes (Elt F) f L) y = e.G14 y := by
  intro y hy
  subst hL
  by_cases hk : (y 0).val / 32 = k.val
  · have hk' : (⟨(y 0).val / 32, grp14 y⟩ : Fin k0_t1_loop.trips) = k := Fin.ext hk
    unfold G14
    rw [hk']
    exact View.read_writes_apply_eq _ _ _ _ _ _ ((e.cov14 k y).mpr (by omega))
  · rw [View.read_writes_apply_of_forall_not_mem _ _ _ _ fun p hp hm => hk
      (by have := (e.cov14 k y).mp ⟨p, hp, hm⟩; omega)]
    exact hf y (by omega)

theorem grp16 (y : S256x128.Idx) : (y 0).val / 32 < k0_t1_loop.trips := by
  have h : (y 0).val < 256 := (y 0).isLt
  show _ < 8
  omega

/-- What trip `k` stores of v's codes. -/
def L16 (k : Fin k0_t1_loop.trips) : List (View.Piece (Elt F) S256x128 .i8) := (e.run k e.arg15.view.junk e.arg17.view.junk).2.2.2.1

theorem run16 (k : Fin k0_t1_loop.trips) (f15 f17) : (e.run k f15 f17).2.2.2.1 = e.L16 k := by
  obtain ⟨L, h⟩ := list16 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k)
  exact (h f15 f17).trans (h e.arg15.view.junk e.arg17.view.junk).symm

theorem cov16 (k : Fin k0_t1_loop.trips) (y : S256x128.Idx) : Iff (∃ p ∈ e.L16 k, y ∈ p.1.set) (32 * k.val ≤ (y 0).val ∧ (y 0).val < 32 * k.val + 32) :=
  covered16 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k) e.arg15.view.junk e.arg17.view.junk y

/-- What the loop leaves of v's codes: at a row, what the trip of that row's group stored. -/
def G16 : Vec F S256x128 .i8 := fun y =>
  e.arg16.view.read (Elt F) (e.arg16.view.writes (Elt F) e.arg16.view.junk (e.L16 ⟨(y 0).val / 32, grp16 y⟩)) y

/-- Trip `k` extends what is done of v's codes by its group. -/
theorem step16 (k : Fin k0_t1_loop.trips) (L) (hL : L = e.L16 k) (f : Buf (Elt F) (e.arg16.view.loc (e.c : Thread nD τ)))
    (hf : ∀ y : S256x128.Idx, (y 0).val / 32 < k.val → e.arg16.view.read (Elt F) f y = e.G16 y) :
    ∀ y : S256x128.Idx, (y 0).val / 32 < k.val + 1 → e.arg16.view.read (Elt F) (e.arg16.view.writes (Elt F) f L) y = e.G16 y := by
  intro y hy
  subst hL
  by_cases hk : (y 0).val / 32 = k.val
  · have hk' : (⟨(y 0).val / 32, grp16 y⟩ : Fin k0_t1_loop.trips) = k := Fin.ext hk
    unfold G16
    rw [hk']
    exact View.read_writes_apply_eq _ _ _ _ _ _ ((e.cov16 k y).mpr (by omega))
  · rw [View.read_writes_apply_of_forall_not_mem _ _ _ _ fun p hp hm => hk
      (by have := (e.cov16 k y).mp ⟨p, hp, hm⟩; omega)]
    exact hf y (by omega)

theorem grpA (y : S1x4x128.Idx) : 2 * (y 1).val + (y 2).val / 64 < k0_t1_loop.trips := by
  have h1 : (y 1).val < 4 := (y 1).isLt
  have h2 : (y 2).val < 128 := (y 2).isLt
  show _ < 8
  omega

/-- The half row trip `k` stores of m's absmaxes. -/
theorem row15 (k : Fin k0_t1_loop.trips) : ∃ nw : FVec F S1x128 .f32, ∀ f15 f17, (e.run k f15 f17).2.2.1
    = [⟨Rect.unit (s := S1x4x128) (k0_off11 k) S1x1x128.size (k0_off11_inb k),
        halfRow e.v0 (BitVec.ofNat 32 (k.val % 2)) nw (View.readAt (Elt F) e.arg15.view (Rect.unit (s := S1x4x128) (k0_off11 k) S1x1x128.size (k0_off11_inb k)).toLoadRect f15)⟩] :=
  half15 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k)

/-- That half row. -/
def N15 (k : Fin k0_t1_loop.trips) : FVec F S1x128 .f32 := (e.row15 k).choose

/-- The store of a half row `nw` by trip `k`, over a block holding `f`. -/
def P15 (k : Fin k0_t1_loop.trips) (f : Buf (Elt F) (e.arg15.view.loc (e.c : Thread nD τ))) (nw : FVec F S1x128 .f32) : List (View.Piece (Elt F) S1x4x128 .f32) :=
  [⟨Rect.unit (s := S1x4x128) (k0_off11 k) S1x1x128.size (k0_off11_inb k),
        halfRow e.v0 (BitVec.ofNat 32 (k.val % 2)) nw (View.readAt (Elt F) e.arg15.view (Rect.unit (s := S1x4x128) (k0_off11 k) S1x1x128.size (k0_off11_inb k)).toLoadRect f)⟩]

theorem run15 (k : Fin k0_t1_loop.trips) (f15 f17) : (e.run k f15 f17).2.2.1 = e.P15 k f15 (e.N15 k) := (e.row15 k).choose_spec f15 f17

/-- What the loop leaves of m's absmaxes: at a row's half, what the trip of that half's group stored. -/
def G15 : Vec F S1x4x128 .f32 := fun y => e.N15 ⟨2 * (y 1).val + (y 2).val / 64, grpA y⟩ (lane1 (y 2))

theorem G15_of (k : Fin k0_t1_loop.trips) (y : S1x4x128.Idx) (hk : 2 * (y 1).val + (y 2).val / 64 = k.val) : e.G15 y = e.N15 k (lane1 (y 2)) := by
  have h : k = ⟨2 * (y 1).val + (y 2).val / 64, grpA y⟩ := Fin.ext hk.symm
  subst h; rfl

/-- Trip `k` extends what is done of m's absmaxes by its half row. -/
theorem step15 (k : Fin k0_t1_loop.trips) (f : Buf (Elt F) (e.arg15.view.loc (e.c : Thread nD τ))) (L) (hL : L = e.P15 k f (e.N15 k))
    (hf : ∀ y : S1x4x128.Idx, 2 * (y 1).val + (y 2).val / 64 < k.val → e.arg15.view.read (Elt F) f y = e.G15 y) :
    ∀ y : S1x4x128.Idx, 2 * (y 1).val + (y 2).val / 64 < k.val + 1 → e.arg15.view.read (Elt F) (e.arg15.view.writes (Elt F) f L) y = e.G15 y := by
  intro y hy
  subst hL
  unfold P15
  by_cases hk : 2 * (y 1).val + (y 2).val / 64 = k.val
  · rw [e.G15_of k y hk]
    exact readHalf _ _ e.v0 e.hv0 k _ _ y hk
  · rw [keepHalf _ _ e.v0 e.hv0 k _ y hk]
    exact hf y (by omega)

/-- The half row trip `k` stores of v's absmaxes. -/
theorem row17 (k : Fin k0_t1_loop.trips) : ∃ nw : FVec F S1x128 .f32, ∀ f15 f17, (e.run k f15 f17).2.2.2.2.1
    = [⟨Rect.unit (s := S1x4x128) (k0_off11 k) S1x1x128.size (k0_off11_inb k),
        halfRow e.v0 (BitVec.ofNat 32 (k.val % 2)) nw (View.readAt (Elt F) e.arg17.view (Rect.unit (s := S1x4x128) (k0_off11 k) S1x1x128.size (k0_off11_inb k)).toLoadRect f17)⟩] :=
  half17 (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
    (e.accAt (k.val + 1) - e.accAt k.val) (e.call k)

/-- That half row. -/
def N17 (k : Fin k0_t1_loop.trips) : FVec F S1x128 .f32 := (e.row17 k).choose

/-- The store of a half row `nw` by trip `k`, over a block holding `f`. -/
def P17 (k : Fin k0_t1_loop.trips) (f : Buf (Elt F) (e.arg17.view.loc (e.c : Thread nD τ))) (nw : FVec F S1x128 .f32) : List (View.Piece (Elt F) S1x4x128 .f32) :=
  [⟨Rect.unit (s := S1x4x128) (k0_off11 k) S1x1x128.size (k0_off11_inb k),
        halfRow e.v0 (BitVec.ofNat 32 (k.val % 2)) nw (View.readAt (Elt F) e.arg17.view (Rect.unit (s := S1x4x128) (k0_off11 k) S1x1x128.size (k0_off11_inb k)).toLoadRect f)⟩]

theorem run17 (k : Fin k0_t1_loop.trips) (f15 f17) : (e.run k f15 f17).2.2.2.2.1 = e.P17 k f17 (e.N17 k) := (e.row17 k).choose_spec f15 f17

/-- What the loop leaves of v's absmaxes: at a row's half, what the trip of that half's group stored. -/
def G17 : Vec F S1x4x128 .f32 := fun y => e.N17 ⟨2 * (y 1).val + (y 2).val / 64, grpA y⟩ (lane1 (y 2))

theorem G17_of (k : Fin k0_t1_loop.trips) (y : S1x4x128.Idx) (hk : 2 * (y 1).val + (y 2).val / 64 = k.val) : e.G17 y = e.N17 k (lane1 (y 2)) := by
  have h : k = ⟨2 * (y 1).val + (y 2).val / 64, grpA y⟩ := Fin.ext hk.symm
  subst h; rfl

/-- Trip `k` extends what is done of v's absmaxes by its half row. -/
theorem step17 (k : Fin k0_t1_loop.trips) (f : Buf (Elt F) (e.arg17.view.loc (e.c : Thread nD τ))) (L) (hL : L = e.P17 k f (e.N17 k))
    (hf : ∀ y : S1x4x128.Idx, 2 * (y 1).val + (y 2).val / 64 < k.val → e.arg17.view.read (Elt F) f y = e.G17 y) :
    ∀ y : S1x4x128.Idx, 2 * (y 1).val + (y 2).val / 64 < k.val + 1 → e.arg17.view.read (Elt F) (e.arg17.view.writes (Elt F) f L) y = e.G17 y := by
  intro y hy
  subst hL
  unfold P17
  by_cases hk : 2 * (y 1).val + (y 2).val / 64 = k.val
  · rw [e.G17_of k y hk]
    exact readHalf _ _ e.v0 e.hv0 k _ _ y hk
  · rw [keepHalf _ _ e.v0 e.hv0 k _ y hk]
    exact hf y (by omega)

/-- The operands' blocks the loop reads, at their contents. -/
def ins : sProp 𝕄 := iprop((e.arg1.view.loc (e.c : Thread nD τ) ↦[e.arg1.view.set]{fullShare} (e.harg1.unread e.x1)) ∗ (e.arg2.view.loc (e.c : Thread nD τ) ↦[e.arg2.view.set]{fullShare} (e.harg2.unread e.x2)) ∗ (e.arg3.view.loc (e.c : Thread nD τ) ↦[e.arg3.view.set]{fullShare} (e.harg3.unread e.x3)) ∗ (e.arg4.view.loc (e.c : Thread nD τ) ↦[e.arg4.view.set]{fullShare} (e.harg4.unread e.x4)) ∗ (e.arg7.view.loc (e.c : Thread nD τ) ↦[e.arg7.view.set]{fullShare} (e.harg7.unread e.x7)) ∗ (e.arg8.view.loc (e.c : Thread nD τ) ↦[e.arg8.view.set]{fullShare} (e.harg8.unread e.x8)) ∗ (e.arg9.view.loc (e.c : Thread nD τ) ↦[e.arg9.view.set]{fullShare} (e.harg9.unread e.x9)) ∗ (e.arg10.view.loc (e.c : Thread nD τ) ↦[e.arg10.view.set]{fullShare} (e.harg10.unread e.x10)) ∗ (e.arg11.view.loc (e.c : Thread nD τ) ↦[e.arg11.view.set]{fullShare} (e.harg11.unread e.x11)) ∗ (e.arg12.view.loc (e.c : Thread nD τ) ↦[e.arg12.view.set]{fullShare} (e.harg12.unread e.x12)))

/-- What the loop has done after its first `k` trips. -/
def Done (k : ℕ) (f13 : Buf (Elt F) (e.arg13.view.loc (e.c : Thread nD τ))) (f14 : Buf (Elt F) (e.arg14.view.loc (e.c : Thread nD τ)))
    (f15 : Buf (Elt F) (e.arg15.view.loc (e.c : Thread nD τ))) (f16 : Buf (Elt F) (e.arg16.view.loc (e.c : Thread nD τ))) (f17 : Buf (Elt F) (e.arg17.view.loc (e.c : Thread nD τ))) : Prop :=
  (∀ y : S512x128.Idx, (y 0).val / 64 < k → e.arg13.view.read (Elt F) f13 y = e.G13 y)
  ∧ (∀ y : S256x128.Idx, (y 0).val / 32 < k → e.arg14.view.read (Elt F) f14 y = e.G14 y)
  ∧ (∀ y : S1x4x128.Idx, 2 * (y 1).val + (y 2).val / 64 < k → e.arg15.view.read (Elt F) f15 y = e.G15 y)
  ∧ (∀ y : S256x128.Idx, (y 0).val / 32 < k → e.arg16.view.read (Elt F) f16 y = e.G16 y)
  ∧ (∀ y : S1x4x128.Idx, 2 * (y 1).val + (y 2).val / 64 < k → e.arg17.view.read (Elt F) f17 y = e.G17 y)

/-- The invariant: the tensor index carried, the operands, and the results' blocks done for the groups before `k`. -/
def inv (k : ℕ) (acc : BitVec 32) : sProp 𝕄 :=
  iprop(⌜acc = BitVec.ofNat 32 (e.accAt k)⌝ ∗ e.ins ∗ ∃ f13 f14 f15 f16 f17, ⌜e.Done k f13 f14 f15 f16 f17⌝ ∗ (e.arg13.view.loc (e.c : Thread nD τ) ↦[e.arg13.view.set]{fullShare} f13) ∗ (e.arg14.view.loc (e.c : Thread nD τ) ↦[e.arg14.view.set]{fullShare} f14) ∗ (e.arg15.view.loc (e.c : Thread nD τ) ↦[e.arg15.view.set]{fullShare} f15) ∗ (e.arg16.view.loc (e.c : Thread nD τ) ↦[e.arg16.view.set]{fullShare} f16) ∗ (e.arg17.view.loc (e.c : Thread nD τ) ↦[e.arg17.view.set]{fullShare} f17))

/-- One trip takes the invariant to the next. -/
theorem step (k : Fin k0_t1_loop.trips) (acc : BitVec 32) :
    e.inv k.val acc ⊢ wp frame (wpE (defs₀ (F := F)) 𝒱₀ (e.c : Thread nD τ) none) Set.univ (k0_t1_body (F := F) e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 k acc) (e.inv (k.val + 1)) := by
  unfold inv
  iintro ⟨%hacc, Hin, %f13, %f14, %f15, %f16, %f17, %hd, H13, H14, H15, H16, H17⟩
  subst hacc
  obtain ⟨h13, h14, h15, h16, h17⟩ := hd
  unfold ins
  icases Hin with ⟨H1, H2, H3, H4, H7, H8, H9, H10, H11, H12⟩
  iapply ((e.run k f15 f17).2.2.2.2.2 f13 f14 f16 _)
  isplitl [H1]; · iexact H1
  isplitl [H2]; · iexact H2
  isplitl [H3]; · iexact H3
  isplitl [H4]; · iexact H4
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H7, H8, H9, H10, H11, H12, H13, H14, H15, H16, H17⟩
  isplitr; · ipureintro; rfl
  isplitl [H1 H2 H3 H4 H7 H8 H9 H10 H11 H12]
  · isplitl [H1]; · iexact H1
    isplitl [H2]; · iexact H2
    isplitl [H3]; · iexact H3
    isplitl [H4]; · iexact H4
    isplitl [H7]; · iexact H7
    isplitl [H8]; · iexact H8
    isplitl [H9]; · iexact H9
    isplitl [H10]; · iexact H10
    isplitl [H11]; · iexact H11
    iexact H12
  iexists _; iexists _; iexists _; iexists _; iexists _
  isplitr
  swap
  · isplitl [H13]; · iexact H13
    isplitl [H14]; · iexact H14
    isplitl [H15]; · iexact H15
    isplitl [H16]; · iexact H16
    iexact H17
  ipureintro
  exact ⟨e.step13 k _ (e.run13 k f15 f17) f13 h13, e.step14 k _ (e.run14 k f15 f17) f14 h14, e.step15 k f15 _ (e.run15 k f15 f17) h15,
    e.step16 k _ (e.run16 k f15 f17) f16 h16, e.step17 k f17 _ (e.run17 k f15 f17) h17⟩

/-- The loop's invariant, as a run looks for it. -/
abbrev loopInv (init : BitVec 32) : Gen.LoopInvTy_k0_t1 Unit ℕ (UR sig nD τ) ℕ 𝒱₀ e.c none Set.univ e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 init := ⟨e.inv, e.step⟩

end Env

end Cert.Kernel.Hand

end
-- ==== Proof.KBody.lean ====
module

public import proofs.«01_k».proof.Proof.Gen.Kernel.Loops
public import proofs.«01_k».proof.Proof.Gen.Kernel.Points
public import proofs.«01_k».proof.Proof.KEnv
public import Idealize.ShloMosaic.Lib.Pipeline.FrameBody
public import Idealize.ShloMosaic.Lib.Ring
public import Idealize.ShloMosaic.Lib.Tactic
public import Idealize.ShloMosaic.Lib.WordCmp

/-! One step of the kernel: from its operands' blocks to the five results' blocks. -/

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Body
variable (c : Dev nD) (i : grid0.Coords) (arg1 : Memref sig .tc .smem S97 .i32) (harg1 : arg1.IsWhole) (arg2 : Memref sig .tc .smem S97 .f32) (harg2 : arg2.IsWhole) (arg3 : Memref sig .tc .smem S15 .f32) (harg3 : arg3.IsWhole) (arg4 : Memref sig .tc .smem S15 .f32) (harg4 : arg4.IsWhole) (arg5 : Memref sig .tc .smem S2 .f32) (harg5 : arg5.IsWhole) (arg6 : Memref sig .tc .vmem S4x128 .f32) (harg6 : arg6.IsWhole) (arg7 : Memref sig .tc .vmem S512x128 .f32) (harg7 : arg7.IsWhole) (arg8 : Memref sig .tc .vmem S512x128 .bf16) (harg8 : arg8.IsWhole) (arg9 : Memref sig .tc .vmem S256x128 .i8) (harg9 : arg9.IsWhole) (arg10 : Memref sig .tc .vmem S1x4x128 .f32) (harg10 : arg10.IsWhole) (arg11 : Memref sig .tc .vmem S256x128 .i8) (harg11 : arg11.IsWhole) (arg12 : Memref sig .tc .vmem S1x4x128 .f32) (harg12 : arg12.IsWhole) (arg13 : Memref sig .tc .vmem S512x128 .f32) (harg13 : arg13.IsWhole) (arg14 : Memref sig .tc .vmem S256x128 .i8) (harg14 : arg14.IsWhole) (arg15 : Memref sig .tc .vmem S1x4x128 .f32) (harg15 : arg15.IsWhole) (arg16 : Memref sig .tc .vmem S256x128 .i8) (harg16 : arg16.IsWhole) (arg17 : Memref sig .tc .vmem S1x4x128 .f32) (harg17 : arg17.IsWhole)
variable (x1 : Vec F S97 .i32) (x2 : Vec F S97 .f32) (x3 : Vec F S15 .f32) (x4 : Vec F S15 .f32) (x5 : Vec F S2 .f32) (x6 : Vec F S4x128 .f32) (x7 : Vec F S512x128 .f32) (x8 : Vec F S512x128 .bf16) (x9 : Vec F S256x128 .i8) (x10 : Vec F S1x4x128 .f32) (x11 : Vec F S256x128 .i8) (x12 : Vec F S1x4x128 .f32)
  (hlast : 3203072 < (show BitVec 32 from x1 (ix97 96 lt97)).toInt)

theorem one_pos : 0 < S1.numel := numel1_S1.symm ▸ Nat.one_pos

theorem lanes (j : S8x128.Idx) : iota .tc S8x128 32 [1] iota_S8x128_d1_w32 j = BitVec.ofNat 32 (j 1).val := by
  show BitVec.ofNat 32 (0 * 128 + (j 1).val) = _
  rw [Nat.zero_mul, Nat.zero_add]

/-- What the loop is given by a step of the kernel. -/
abbrev env : Env F where
  c := c
  i := i
  arg1 := arg1
  harg1 := harg1
  arg2 := arg2
  harg2 := harg2
  arg3 := arg3
  harg3 := harg3
  arg4 := arg4
  harg4 := harg4
  arg5 := arg5
  harg5 := harg5
  arg6 := arg6
  harg6 := harg6
  arg7 := arg7
  harg7 := harg7
  arg8 := arg8
  harg8 := harg8
  arg9 := arg9
  harg9 := harg9
  arg10 := arg10
  harg10 := harg10
  arg11 := arg11
  harg11 := harg11
  arg12 := arg12
  harg12 := harg12
  arg13 := arg13
  harg13 := harg13
  arg14 := arg14
  harg14 := harg14
  arg15 := arg15
  harg15 := harg15
  arg16 := arg16
  harg16 := harg16
  arg17 := arg17
  harg17 := harg17
  v0 := iota .tc S8x128 32 [1] iota_S8x128_d1_w32
  v1 := iota .tc S8x128 32 [0] iota_S8x128_d0_w32
  v3 := k0_pay154 (View.readAt (Elt F) arg6.view (Rect.unit (s := S4x128) ![0, 0] S1x128.size inb_S4x128_S1x128_0_0).toLoadRect (harg6.unread x6))
  v5 := k0_pay155 (View.readAt (Elt F) arg6.view (Rect.unit (s := S4x128) ![1, 0] S1x128.size inb_S4x128_S1x128_1_0).toLoadRect (harg6.unread x6))
  v9 := k0_pay156 (View.readAt (Elt F) arg6.view (Rect.unit (s := S4x128) ![2, 0] S1x128.size inb_S4x128_S1x128_2_0).toLoadRect (harg6.unread x6))
  v13 := k0_pay157 (View.readAt (Elt F) arg6.view (Rect.unit (s := S4x128) ![3, 0] S1x128.size inb_S4x128_S1x128_3_0).toLoadRect (harg6.unread x6))
  v14 := View.readAt (Elt F) arg5.view (Rect.unit (s := S2) ![0] S1.size inb_S2_S1_0).toLoadRect (harg5.unread x5) (Shape.Idx.first one_pos)
  v15 := View.readAt (Elt F) arg5.view (Rect.unit (s := S2) ![1] S1.size inb_S2_S1_1).toLoadRect (harg5.unread x5) (Shape.Idx.first one_pos)
  v19 := k0_pay158
  v31 := k0_pay159
  v36 := k0_pay160
  v37 := Scalar.muli (BitVec.ofNat 32 (i 0).val) 65536#32
  x1 := x1
  x2 := x2
  x3 := x3
  x4 := x4
  x7 := x7
  x8 := x8
  x9 := x9
  x10 := x10
  x11 := x11
  x12 := x12
  hv0 := lanes
  hlast := hlast

/-- A step of the kernel, from the operands' blocks at their contents, leaves the results' blocks at what the loop leaves. -/
theorem kernel_wp (f13 f14 f15 f16 f17) (K : PUnit → sProp 𝕄) :
    iprop((arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg6.view.loc (c : Thread nD τ) ↦[arg6.view.set]{fullShare} (harg6.unread x6)) ∗ (arg7.view.loc (c : Thread nD τ) ↦[arg7.view.set]{fullShare} (harg7.unread x7)) ∗ (arg8.view.loc (c : Thread nD τ) ↦[arg8.view.set]{fullShare} (harg8.unread x8)) ∗ (arg9.view.loc (c : Thread nD τ) ↦[arg9.view.set]{fullShare} (harg9.unread x9)) ∗ (arg10.view.loc (c : Thread nD τ) ↦[arg10.view.set]{fullShare} (harg10.unread x10)) ∗ (arg11.view.loc (c : Thread nD τ) ↦[arg11.view.set]{fullShare} (harg11.unread x11)) ∗ (arg12.view.loc (c : Thread nD τ) ↦[arg12.view.set]{fullShare} (harg12.unread x12)) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
      ∗ ((((arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg6.view.loc (c : Thread nD τ) ↦[arg6.view.set]{fullShare} (harg6.unread x6)) ∗ (arg7.view.loc (c : Thread nD τ) ↦[arg7.view.set]{fullShare} (harg7.unread x7)) ∗ (arg8.view.loc (c : Thread nD τ) ↦[arg8.view.set]{fullShare} (harg8.unread x8)) ∗ (arg9.view.loc (c : Thread nD τ) ↦[arg9.view.set]{fullShare} (harg9.unread x9)) ∗ (arg10.view.loc (c : Thread nD τ) ↦[arg10.view.set]{fullShare} (harg10.unread x10)) ∗ (arg11.view.loc (c : Thread nD τ) ↦[arg11.view.set]{fullShare} (harg11.unread x11)) ∗ (arg12.view.loc (c : Thread nD τ) ↦[arg12.view.set]{fullShare} (harg12.unread x12))) ∗ owns (c : Thread nD τ) arg13 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G13 ∗ owns (c : Thread nD τ) arg14 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G14 ∗ owns (c : Thread nD τ) arg15 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G15 ∗ owns (c : Thread nD τ) arg16 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G16 ∗ owns (c : Thread nD τ) arg17 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G17) -∗ K ⟨⟩))
    ⊢ wp frame (wpE (defs₀ (F := F)) 𝒱₀ (c : Thread nD τ) none) Set.univ (cc0_adamw4bit (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_adamw4bit_eq_skeleton]
  unfold cc0_adamw4bit_skel
  simp only [k0_part39_eq_skeleton]
  unfold k0_part39_skel
  iintro ⟨H1, H2, H3, H4, H5, H6, H7, H8, H9, H10, H11, H12, H13, H14, H15, H16, H17, HK⟩
  sl_exec
  iapply (wp_call_spec 𝒱₀ (c : Thread nD τ) none Set.univ (whileSpec (F := F) c arg1 (harg1.unread x1) (BitVec.ofNat 32 ((env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).accAt 0))) ((env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).accAt 0) (fun u hu => nomatch hu)
    (while1_le (F := F) c i arg1 harg1 x1 (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).found0 ((env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).accAt 0) 0 (Nat.zero_add _)))
  rw [whileSpec_apply]
  isplitl [H1]
  · iexact H1
  iintro H1
  iapply (Scf.wp_for_bind _ _ _ _ _ _ _ _ _ (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).inv (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).step) $$ [H1 H2 H3 H4 H7 H8 H9 H10 H11 H12 H13 H14 H15 H16 H17]
  · unfold Env.inv Env.ins
    isplitr; · ipureintro; rfl
    isplitl [H1 H2 H3 H4 H7 H8 H9 H10 H11 H12]
    · isplitl [H1]; · iexact H1
      isplitl [H2]; · iexact H2
      isplitl [H3]; · iexact H3
      isplitl [H4]; · iexact H4
      isplitl [H7]; · iexact H7
      isplitl [H8]; · iexact H8
      isplitl [H9]; · iexact H9
      isplitl [H10]; · iexact H10
      isplitl [H11]; · iexact H11
      iexact H12
    iexists f13; iexists f14; iexists f15; iexists f16; iexists f17
    isplitr
    · ipureintro; exact ⟨fun _ h => (Nat.not_lt_zero _ h).elim, fun _ h => (Nat.not_lt_zero _ h).elim, fun _ h => (Nat.not_lt_zero _ h).elim,
        fun _ h => (Nat.not_lt_zero _ h).elim, fun _ h => (Nat.not_lt_zero _ h).elim⟩
    isplitl [H13]; · iexact H13
    isplitl [H14]; · iexact H14
    isplitl [H15]; · iexact H15
    isplitl [H16]; · iexact H16
    iexact H17
  iintro %acc HI
  unfold Env.inv Env.ins
  icases HI with ⟨-, ⟨H1, H2, H3, H4, H7, H8, H9, H10, H11, H12⟩, %g13, %g14, %g15, %g16, %g17, %hd, H13, H14, H15, H16, H17⟩
  rw [Prog.pure_eq_ret, wp_ret]; imodintro
  iapply HK
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  unfold owns
  isplitl [H13]
  · iexists g13; isplitr; · ipureintro; exact funext fun y => hd.1 y (Env.grp13 y)
    iexact H13
  isplitl [H14]
  · iexists g14; isplitr; · ipureintro; exact funext fun y => hd.2.1 y (Env.grp14 y)
    iexact H14
  isplitl [H15]
  · iexists g15; isplitr; · ipureintro; exact funext fun y => hd.2.2.1 y (Env.grpA y)
    iexact H15
  isplitl [H16]
  · iexists g16; isplitr; · ipureintro; exact funext fun y => hd.2.2.2.1 y (Env.grp16 y)
    iexact H16
  iexists g17; isplitr; · ipureintro; exact funext fun y => hd.2.2.2.2 y (Env.grpA y)
  iexact H17

end Body

end Cert.Kernel.Hand

end
-- ==== Proof.KKit.lean ====
module

public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

/-! What the launch leaves at the region's entry, and a frame claim's post read off a frame run: the argument
    arrays are what the run was launched on. -/

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- The buffers of @main's arguments. -/
def argRefs : List (Ref sig .tc) :=
  [main_arg0, main_arg1, main_arg2, main_arg3, main_arg4, main_arg5, main_arg6, main_arg7, main_arg8, main_arg9, main_arg10]

set_option maxHeartbeats 4000000 in
/-- No host operation before the region writes an argument: the region finds it as launched. -/
theorem V_kept (c : Dev nD) (b : Ref sig .tc) (hb : b ∈ argRefs) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by rintro rfl; revert hb; decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ (cfg0 (F := F)) c) (hA : dat.A 7 = V m c (Pipeline.arrRef spec0 7))
    (hafter : ∀ t, dat.after 7 t = iblk m c 7 t) (t : Fin (cfg0 (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ (cfg0 (F := F)) c) (hA : dat.A 8 = V m c (Pipeline.arrRef spec0 8))
    (hafter : ∀ t, dat.after 8 t = iblk m c 8 t) (t : Fin (cfg0 (F := F)).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ (cfg0 (F := F)) c) (hA : dat.A 9 = V m c (Pipeline.arrRef spec0 9))
    (hafter : ∀ t, dat.after 9 t = iblk m c 9 t) (t : Fin (cfg0 (F := F)).N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ (cfg0 (F := F)) c) (hA : dat.A 10 = V m c (Pipeline.arrRef spec0 10))
    (hafter : ∀ t, dat.after 10 t = iblk m c 10 t) (t : Fin (cfg0 (F := F)).N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ (cfg0 (F := F)) c) (hA : dat.A 11 = V m c (Pipeline.arrRef spec0 11))
    (hafter : ∀ t, dat.after 11 t = iblk m c 11 t) (t : Fin (cfg0 (F := F)).N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1020000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (fun r => Pipeline.FramePost (cfgs (F := F)) dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun _ ⟨h, hs⟩ => ⟨fun c => ⟨((h c).2 main_arg0 (Pipeline.mem_restRefs_of main_arg0 (by decide) (show ∀ w : Fin 17, (spec0 w).arr.view.ref ≠ main_arg0 by decide))).trans (V_kept m c main_arg0 (by decide)),
      ((h c).2 main_arg1 (Pipeline.mem_restRefs_of main_arg1 (by decide) (show ∀ w : Fin 17, (spec0 w).arr.view.ref ≠ main_arg1 by decide))).trans (V_kept m c main_arg1 (by decide)),
      ((h c).2 main_arg2 (Pipeline.mem_restRefs_of main_arg2 (by decide) (show ∀ w : Fin 17, (spec0 w).arr.view.ref ≠ main_arg2 by decide))).trans (V_kept m c main_arg2 (by decide)),
      ((h c).2 main_arg3 (Pipeline.mem_restRefs_of main_arg3 (by decide) (show ∀ w : Fin 17, (spec0 w).arr.view.ref ≠ main_arg3 by decide))).trans (V_kept m c main_arg3 (by decide)),
      ((h c).2 main_arg4 (Pipeline.mem_restRefs_of main_arg4 (by decide) (show ∀ w : Fin 17, (spec0 w).arr.view.ref ≠ main_arg4 by decide))).trans (V_kept m c main_arg4 (by decide)),
      ((h c).2 main_arg5 (Pipeline.mem_restRefs_of main_arg5 (by decide) (show ∀ w : Fin 17, (spec0 w).arr.view.ref ≠ main_arg5 by decide))).trans (V_kept m c main_arg5 (by decide)),
      ((h c).2 main_arg6 (Pipeline.mem_restRefs_of main_arg6 (by decide) (show ∀ w : Fin 17, (spec0 w).arr.view.ref ≠ main_arg6 by decide))).trans (V_kept m c main_arg6 (by decide)),
      ((h c).2 main_arg7 (Pipeline.mem_restRefs_of main_arg7 (by decide) (show ∀ w : Fin 17, (spec0 w).arr.view.ref ≠ main_arg7 by decide))).trans (V_kept m c main_arg7 (by decide)),
      ((h c).1 0).trans (((dats 0 c).arrAt_in 0 rfl _).trans ((hA c 0).trans (V_kept m c main_arg8 (by decide)))),
      ((h c).2 main_arg9 (Pipeline.mem_restRefs_of main_arg9 (by decide) (show ∀ w : Fin 17, (spec0 w).arr.view.ref ≠ main_arg9 by decide))).trans (V_kept m c main_arg9 (by decide)),
      ((h c).2 main_arg10 (Pipeline.mem_restRefs_of main_arg10 (by decide) (show ∀ w : Fin 17, (spec0 w).arr.view.ref ≠ main_arg10 by decide))).trans (V_kept m c main_arg10 (by decide))⟩, hs⟩) h

end Cert.Kernel.Hand

end
-- ==== Proof.KRun.lean ====
module

public import proofs.«01_k».proof.Proof.Gen.Kernel.Loops
public import proofs.«01_k».proof.Proof.Gen.Kernel.Points
public import proofs.«01_k».proof.Proof.KBody
public import proofs.«01_k».proof.Proof.KKit
public import Idealize.ShloMosaic.Lib.Pipeline.FrameBody
public import Idealize.ShloMosaic.Lib.Ring
public import Idealize.ShloMosaic.Lib.Tactic
public import Idealize.ShloMosaic.Lib.WordCmp

/-! The pipeline's data, the body at every step, and the run of the whole program. -/

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Body
variable (c : Dev nD) (i : grid0.Coords) (arg1 : Memref sig .tc .smem S97 .i32) (harg1 : arg1.IsWhole) (arg2 : Memref sig .tc .smem S97 .f32) (harg2 : arg2.IsWhole) (arg3 : Memref sig .tc .smem S15 .f32) (harg3 : arg3.IsWhole) (arg4 : Memref sig .tc .smem S15 .f32) (harg4 : arg4.IsWhole) (arg5 : Memref sig .tc .smem S2 .f32) (harg5 : arg5.IsWhole) (arg6 : Memref sig .tc .vmem S4x128 .f32) (harg6 : arg6.IsWhole) (arg7 : Memref sig .tc .vmem S512x128 .f32) (harg7 : arg7.IsWhole) (arg8 : Memref sig .tc .vmem S512x128 .bf16) (harg8 : arg8.IsWhole) (arg9 : Memref sig .tc .vmem S256x128 .i8) (harg9 : arg9.IsWhole) (arg10 : Memref sig .tc .vmem S1x4x128 .f32) (harg10 : arg10.IsWhole) (arg11 : Memref sig .tc .vmem S256x128 .i8) (harg11 : arg11.IsWhole) (arg12 : Memref sig .tc .vmem S1x4x128 .f32) (harg12 : arg12.IsWhole) (arg13 : Memref sig .tc .vmem S512x128 .f32) (harg13 : arg13.IsWhole) (arg14 : Memref sig .tc .vmem S256x128 .i8) (harg14 : arg14.IsWhole) (arg15 : Memref sig .tc .vmem S1x4x128 .f32) (harg15 : arg15.IsWhole) (arg16 : Memref sig .tc .vmem S256x128 .i8) (harg16 : arg16.IsWhole) (arg17 : Memref sig .tc .vmem S1x4x128 .f32) (harg17 : arg17.IsWhole)
variable (x1 : Vec F S97 .i32) (x2 : Vec F S97 .f32) (x3 : Vec F S15 .f32) (x4 : Vec F S15 .f32) (x5 : Vec F S2 .f32) (x6 : Vec F S4x128 .f32) (x7 : Vec F S512x128 .f32) (x8 : Vec F S512x128 .bf16) (x9 : Vec F S256x128 .i8) (x10 : Vec F S1x4x128 .f32) (x11 : Vec F S256x128 .i8) (x12 : Vec F S1x4x128 .f32)
  (hlast : 3203072 < (show BitVec 32 from x1 (ix97 96 lt97)).toInt)

set_option maxHeartbeats 4000000 in
/-- A step of the kernel on staging buffers held at contents. -/
theorem sound_kernel (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
      ∗ (((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12) ∗ owns (c : Thread nD τ) arg13 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G13 ∗ owns (c : Thread nD τ) arg14 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G14 ∗ owns (c : Thread nD τ) arg15 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G15 ∗ owns (c : Thread nD τ) arg16 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G16 ∗ owns (c : Thread nD τ) arg17 fullShare (env c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast).G17) -∗ K ⟨⟩))
    ⊢ wp frame (wpE (defs₀ (F := F)) 𝒱₀ (c : Thread nD τ) none) Set.univ (cc0_adamw4bit (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hk := kernel_wp (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 hlast
  simp only [owns] at hk ⊢
  iintro ⟨H1, H2, H3, H4, H5, H6, H7, H8, H9, H10, H11, H12, H13, H14, H15, H16, H17, HK⟩
  icases H1 with ⟨%g1, %h1, H1⟩; obtain rfl := harg1.eq_unread h1
  icases H2 with ⟨%g2, %h2, H2⟩; obtain rfl := harg2.eq_unread h2
  icases H3 with ⟨%g3, %h3, H3⟩; obtain rfl := harg3.eq_unread h3
  icases H4 with ⟨%g4, %h4, H4⟩; obtain rfl := harg4.eq_unread h4
  icases H5 with ⟨%g5, %h5, H5⟩; obtain rfl := harg5.eq_unread h5
  icases H6 with ⟨%g6, %h6, H6⟩; obtain rfl := harg6.eq_unread h6
  icases H7 with ⟨%g7, %h7, H7⟩; obtain rfl := harg7.eq_unread h7
  icases H8 with ⟨%g8, %h8, H8⟩; obtain rfl := harg8.eq_unread h8
  icases H9 with ⟨%g9, %h9, H9⟩; obtain rfl := harg9.eq_unread h9
  icases H10 with ⟨%g10, %h10, H10⟩; obtain rfl := harg10.eq_unread h10
  icases H11 with ⟨%g11, %h11, H11⟩; obtain rfl := harg11.eq_unread h11
  icases H12 with ⟨%g12, %h12, H12⟩; obtain rfl := harg12.eq_unread h12
  icases H13 with ⟨%d13, %g13, -, H13⟩
  icases H14 with ⟨%d14, %g14, -, H14⟩
  icases H15 with ⟨%d15, %g15, -, H15⟩
  icases H16 with ⟨%d16, %g16, -, H16⟩
  icases H17 with ⟨%d17, %g17, -, H17⟩
  iapply (hk g13 g14 g15 g16 g17 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨⟨H1, H2, H3, H4, H5, H6, H7, H8, H9, H10, H11, H12⟩, HO⟩
  iapply HK
  isplitl [H1 H2 H3 H4 H5 H6 H7 H8 H9 H10 H11 H12]
  swap; · iexact HO
  isplitl [H1]
  · iexists _; isplitr; · ipureintro; exact harg1.read_unread x1
    iexact H1
  isplitl [H2]
  · iexists _; isplitr; · ipureintro; exact harg2.read_unread x2
    iexact H2
  isplitl [H3]
  · iexists _; isplitr; · ipureintro; exact harg3.read_unread x3
    iexact H3
  isplitl [H4]
  · iexists _; isplitr; · ipureintro; exact harg4.read_unread x4
    iexact H4
  isplitl [H5]
  · iexists _; isplitr; · ipureintro; exact harg5.read_unread x5
    iexact H5
  isplitl [H6]
  · iexists _; isplitr; · ipureintro; exact harg6.read_unread x6
    iexact H6
  isplitl [H7]
  · iexists _; isplitr; · ipureintro; exact harg7.read_unread x7
    iexact H7
  isplitl [H8]
  · iexists _; isplitr; · ipureintro; exact harg8.read_unread x8
    iexact H8
  isplitl [H9]
  · iexists _; isplitr; · ipureintro; exact harg9.read_unread x9
    iexact H9
  isplitl [H10]
  · iexists _; isplitr; · ipureintro; exact harg10.read_unread x10
    iexact H10
  isplitl [H11]
  · iexists _; isplitr; · ipureintro; exact harg11.read_unread x11
    iexact H11
  iexists _; isplitr; · ipureintro; exact harg12.read_unread x12
  iexact H12

end Body

variable (m : (ℓ : Loc nD τ sig) → Buf (Elt F) ℓ) (ρ : Dev nD → PrngReg)

/-- The last offset lies beyond the first element of the last group. -/
def LastOffset : Prop := ∀ c : Dev nD, 3203072 < (show BitVec 32 from m ((c : Thread nD τ).loc main_arg8) (ix97 96 lt97)).toInt

variable (hO : LastOffset m)
include hO

theorem last_block (c : Dev nD) (t : Fin (cfg0 (F := F)).N) : 3203072 < (show BitVec 32 from (iblk m c 0 t : Vec F S97 .i32) (ix97 96 lt97)).toInt := by
  have h : (iblk m c 0 t : Vec F S97 .i32) (ix97 96 lt97) = m ((c : Thread nD τ).loc main_arg8) (ix97 96 lt97) := by
    rw [← V_kept m c main_arg8 (by decide)]
    unfold iblk
    show V m c main_arg8 _ = V m c main_arg8 _
    congr 1
    funext a
    fin_cases a
    exact Fin.ext (by show 0 + 1 * 96 = 96; omega)
  rw [h]; exact hO c

/-- What step `t`'s loop is given. -/
def envAt (c : Dev nD) (t : Fin (cfg0 (F := F)).N) : Env F :=
  env c (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4)) (st0_5 t) (hstage0_5 (((cfg0 (F := F)).slots t 5).cast nbuf0_5)) (st0_6 t) (hstage0_6 (((cfg0 (F := F)).slots t 6).cast nbuf0_6)) (st0_7 t) (hstage0_7 (((cfg0 (F := F)).slots t 7).cast nbuf0_7)) (st0_8 t) (hstage0_8 (((cfg0 (F := F)).slots t 8).cast nbuf0_8)) (st0_9 t) (hstage0_9 (((cfg0 (F := F)).slots t 9).cast nbuf0_9)) (st0_10 t) (hstage0_10 (((cfg0 (F := F)).slots t 10).cast nbuf0_10)) (st0_11 t) (hstage0_11 (((cfg0 (F := F)).slots t 11).cast nbuf0_11)) (st0_12 t) (hstage0_12 (((cfg0 (F := F)).slots t 12).cast nbuf0_12)) (st0_13 t) (hstage0_13 (((cfg0 (F := F)).slots t 13).cast nbuf0_13)) (st0_14 t) (hstage0_14 (((cfg0 (F := F)).slots t 14).cast nbuf0_14)) (st0_15 t) (hstage0_15 (((cfg0 (F := F)).slots t 15).cast nbuf0_15)) (st0_16 t) (hstage0_16 (((cfg0 (F := F)).slots t 16).cast nbuf0_16))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (last_block m hO c t)

/-- The proof data of the pipeline on core `c`: the arrays as the region finds them; after the body the operands' buffers at
    their blocks, the results' at what the loop leaves. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (envAt m hO c t).G13
    | ⟨13, _⟩ => (envAt m hO c t).G14
    | ⟨14, _⟩ => (envAt m hO c t).G15
    | ⟨15, _⟩ => (envAt m hO c t).G16
    | ⟨16, _⟩ => (envAt m hO c t).G17
    | ⟨n + 17, h⟩ => absurd (show n + 17 < 17 from h) (by omega)
  Φ _ := Pipeline.ΦA spec0 c
  q _ := fullShare
  owed _ := 0

theorem A_eq (c : Dev nD) (w : Fin (cfg0 (F := F)).W) : (dats m hO 0 c).A w = V m c (Pipeline.arrRef spec0 w) := by
  dsimp only [dats]
theorem after0_0 (c : Dev nD) (t : Fin (cfg0 (F := F)).N) : (dats m hO 0 c).after 0 t = iblk m c 0 t := rfl
theorem after0_1 (c : Dev nD) (t : Fin (cfg0 (F := F)).N) : (dats m hO 0 c).after 1 t = iblk m c 1 t := rfl
theorem after0_2 (c : Dev nD) (t : Fin (cfg0 (F := F)).N) : (dats m hO 0 c).after 2 t = iblk m c 2 t := rfl
theorem after0_3 (c : Dev nD) (t : Fin (cfg0 (F := F)).N) : (dats m hO 0 c).after 3 t = iblk m c 3 t := rfl
theorem after0_4 (c : Dev nD) (t : Fin (cfg0 (F := F)).N) : (dats m hO 0 c).after 4 t = iblk m c 4 t := rfl
theorem after0_5 (c : Dev nD) (t : Fin (cfg0 (F := F)).N) : (dats m hO 0 c).after 5 t = iblk m c 5 t := rfl
theorem after0_6 (c : Dev nD) (t : Fin (cfg0 (F := F)).N) : (dats m hO 0 c).after 6 t = iblk m c 6 t := rfl
theorem after0_7 (c : Dev nD) (t : Fin (cfg0 (F := F)).N) : (dats m hO 0 c).after 7 t = iblk m c 7 t := rfl
theorem after0_8 (c : Dev nD) (t : Fin (cfg0 (F := F)).N) : (dats m hO 0 c).after 8 t = iblk m c 8 t := rfl
theorem after0_9 (c : Dev nD) (t : Fin (cfg0 (F := F)).N) : (dats m hO 0 c).after 9 t = iblk m c 9 t := rfl
theorem after0_10 (c : Dev nD) (t : Fin (cfg0 (F := F)).N) : (dats m hO 0 c).after 10 t = iblk m c 10 t := rfl
theorem after0_11 (c : Dev nD) (t : Fin (cfg0 (F := F)).N) : (dats m hO 0 c).after 11 t = iblk m c 11 t := rfl
theorem after0_12 (c : Dev nD) (t : Fin (cfg0 (F := F)).N) : (dats m hO 0 c).after 12 t = (envAt m hO c t).G13 := rfl
theorem after0_13 (c : Dev nD) (t : Fin (cfg0 (F := F)).N) : (dats m hO 0 c).after 13 t = (envAt m hO c t).G14 := rfl
theorem after0_14 (c : Dev nD) (t : Fin (cfg0 (F := F)).N) : (dats m hO 0 c).after 14 t = (envAt m hO c t).G15 := rfl
theorem after0_15 (c : Dev nD) (t : Fin (cfg0 (F := F)).N) : (dats m hO 0 c).after 15 t = (envAt m hO c t).G16 := rfl
theorem after0_16 (c : Dev nD) (t : Fin (cfg0 (F := F)).N) : (dats m hO 0 c).after 16 t = (envAt m hO c t).G17 := rfl
theorem before0_0 (c : Dev nD) (t : Fin (cfg0 (F := F)).N) (d) : (dats m hO 0 c).before 0 t d = iblk m c 0 t := before0_0_of m (dats m hO 0 c) (A_eq m hO c 0) (after0_0 m hO c) t d
theorem before0_1 (c : Dev nD) (t : Fin (cfg0 (F := F)).N) (d) : (dats m hO 0 c).before 1 t d = iblk m c 1 t := before0_1_of m (dats m hO 0 c) (A_eq m hO c 1) (after0_1 m hO c) t d
theorem before0_2 (c : Dev nD) (t : Fin (cfg0 (F := F)).N) (d) : (dats m hO 0 c).before 2 t d = iblk m c 2 t := before0_2_of m (dats m hO 0 c) (A_eq m hO c 2) (after0_2 m hO c) t d
theorem before0_3 (c : Dev nD) (t : Fin (cfg0 (F := F)).N) (d) : (dats m hO 0 c).before 3 t d = iblk m c 3 t := before0_3_of m (dats m hO 0 c) (A_eq m hO c 3) (after0_3 m hO c) t d
theorem before0_4 (c : Dev nD) (t : Fin (cfg0 (F := F)).N) (d) : (dats m hO 0 c).before 4 t d = iblk m c 4 t := before0_4_of m (dats m hO 0 c) (A_eq m hO c 4) (after0_4 m hO c) t d
theorem before0_5 (c : Dev nD) (t : Fin (cfg0 (F := F)).N) (d) : (dats m hO 0 c).before 5 t d = iblk m c 5 t := before0_5_of m (dats m hO 0 c) (A_eq m hO c 5) (after0_5 m hO c) t d
theorem before0_6 (c : Dev nD) (t : Fin (cfg0 (F := F)).N) (d) : (dats m hO 0 c).before 6 t d = iblk m c 6 t := before0_6_of m (dats m hO 0 c) (A_eq m hO c 6) (after0_6 m hO c) t d
theorem before0_7 (c : Dev nD) (t : Fin (cfg0 (F := F)).N) (d) : (dats m hO 0 c).before 7 t d = iblk m c 7 t := before0_7_of m (dats m hO 0 c) (A_eq m hO c 7) (after0_7 m hO c) t d
theorem before0_8 (c : Dev nD) (t : Fin (cfg0 (F := F)).N) (d) : (dats m hO 0 c).before 8 t d = iblk m c 8 t := before0_8_of m (dats m hO 0 c) (A_eq m hO c 8) (after0_8 m hO c) t d
theorem before0_9 (c : Dev nD) (t : Fin (cfg0 (F := F)).N) (d) : (dats m hO 0 c).before 9 t d = iblk m c 9 t := before0_9_of m (dats m hO 0 c) (A_eq m hO c 9) (after0_9 m hO c) t d
theorem before0_10 (c : Dev nD) (t : Fin (cfg0 (F := F)).N) (d) : (dats m hO 0 c).before 10 t d = iblk m c 10 t := before0_10_of m (dats m hO 0 c) (A_eq m hO c 10) (after0_10 m hO c) t d
theorem before0_11 (c : Dev nD) (t : Fin (cfg0 (F := F)).N) (d) : (dats m hO 0 c).before 11 t d = iblk m c 11 t := before0_11_of m (dats m hO 0 c) (A_eq m hO c 11) (after0_11 m hO c) t d

/-- What the body is called with at point `t`, -/
def bodyPre (c : Dev nD) (t : Fin (cfg0 (F := F)).N) : sProp 𝕄 :=
  iprop((dats m hO 0 c).Φ t.castSucc ∗ (dats m hO 0 c).owesAt () t.castSucc
    ∗ (∃ d, owns (c : Thread nD τ) (st0_0 t) fullShare ((dats m hO 0 c).before 0 t d))
    ∗ (∃ d, owns (c : Thread nD τ) (st0_1 t) fullShare ((dats m hO 0 c).before 1 t d))
    ∗ (∃ d, owns (c : Thread nD τ) (st0_2 t) fullShare ((dats m hO 0 c).before 2 t d))
    ∗ (∃ d, owns (c : Thread nD τ) (st0_3 t) fullShare ((dats m hO 0 c).before 3 t d))
    ∗ (∃ d, owns (c : Thread nD τ) (st0_4 t) fullShare ((dats m hO 0 c).before 4 t d))
    ∗ (∃ d, owns (c : Thread nD τ) (st0_5 t) fullShare ((dats m hO 0 c).before 5 t d))
    ∗ (∃ d, owns (c : Thread nD τ) (st0_6 t) fullShare ((dats m hO 0 c).before 6 t d))
    ∗ (∃ d, owns (c : Thread nD τ) (st0_7 t) fullShare ((dats m hO 0 c).before 7 t d))
    ∗ (∃ d, owns (c : Thread nD τ) (st0_8 t) fullShare ((dats m hO 0 c).before 8 t d))
    ∗ (∃ d, owns (c : Thread nD τ) (st0_9 t) fullShare ((dats m hO 0 c).before 9 t d))
    ∗ (∃ d, owns (c : Thread nD τ) (st0_10 t) fullShare ((dats m hO 0 c).before 10 t d))
    ∗ (∃ d, owns (c : Thread nD τ) (st0_11 t) fullShare ((dats m hO 0 c).before 11 t d))
    ∗ (∃ d, owns (c : Thread nD τ) (st0_12 t) fullShare ((dats m hO 0 c).before 12 t d))
    ∗ (∃ d, owns (c : Thread nD τ) (st0_13 t) fullShare ((dats m hO 0 c).before 13 t d))
    ∗ (∃ d, owns (c : Thread nD τ) (st0_14 t) fullShare ((dats m hO 0 c).before 14 t d))
    ∗ (∃ d, owns (c : Thread nD τ) (st0_15 t) fullShare ((dats m hO 0 c).before 15 t d))
    ∗ (∃ d, owns (c : Thread nD τ) (st0_16 t) fullShare ((dats m hO 0 c).before 16 t d)))

/-- and what it returns. -/
def bodyPost (c : Dev nD) (t : Fin (cfg0 (F := F)).N) : sProp 𝕄 :=
  iprop((dats m hO 0 c).Φ t.succ ∗ (dats m hO 0 c).owesAt () t.succ
    ∗ owns (c : Thread nD τ) (st0_0 t) fullShare ((dats m hO 0 c).after 0 t)
    ∗ owns (c : Thread nD τ) (st0_1 t) fullShare ((dats m hO 0 c).after 1 t)
    ∗ owns (c : Thread nD τ) (st0_2 t) fullShare ((dats m hO 0 c).after 2 t)
    ∗ owns (c : Thread nD τ) (st0_3 t) fullShare ((dats m hO 0 c).after 3 t)
    ∗ owns (c : Thread nD τ) (st0_4 t) fullShare ((dats m hO 0 c).after 4 t)
    ∗ owns (c : Thread nD τ) (st0_5 t) fullShare ((dats m hO 0 c).after 5 t)
    ∗ owns (c : Thread nD τ) (st0_6 t) fullShare ((dats m hO 0 c).after 6 t)
    ∗ owns (c : Thread nD τ) (st0_7 t) fullShare ((dats m hO 0 c).after 7 t)
    ∗ owns (c : Thread nD τ) (st0_8 t) fullShare ((dats m hO 0 c).after 8 t)
    ∗ owns (c : Thread nD τ) (st0_9 t) fullShare ((dats m hO 0 c).after 9 t)
    ∗ owns (c : Thread nD τ) (st0_10 t) fullShare ((dats m hO 0 c).after 10 t)
    ∗ owns (c : Thread nD τ) (st0_11 t) fullShare ((dats m hO 0 c).after 11 t)
    ∗ owns (c : Thread nD τ) (st0_12 t) fullShare ((dats m hO 0 c).after 12 t)
    ∗ owns (c : Thread nD τ) (st0_13 t) fullShare ((dats m hO 0 c).after 13 t)
    ∗ owns (c : Thread nD τ) (st0_14 t) fullShare ((dats m hO 0 c).after 14 t)
    ∗ owns (c : Thread nD τ) (st0_15 t) fullShare ((dats m hO 0 c).after 15 t)
    ∗ owns (c : Thread nD τ) (st0_16 t) fullShare ((dats m hO 0 c).after 16 t))

/-- The body at any point. -/
theorem sound_body (c : Dev nD) (t : Fin (cfg0 (F := F)).N) :
    bodyPre m hO c t ⊢ wp frame (wpE (defs₀ (F := F)) 𝒱₀ (c : Thread nD τ) none) Set.univ (bodyAt0 t) (fun _ => bodyPost m hO c t) := by
  unfold bodyPre bodyPost bodyAt0
  simp only [before0_0, before0_1, before0_2, before0_3, before0_4, before0_5, before0_6, before0_7, before0_8, before0_9, before0_10, before0_11]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16]
  unfold envAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel (F := F) c (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4)) (st0_5 t) (hstage0_5 (((cfg0 (F := F)).slots t 5).cast nbuf0_5)) (st0_6 t) (hstage0_6 (((cfg0 (F := F)).slots t 6).cast nbuf0_6)) (st0_7 t) (hstage0_7 (((cfg0 (F := F)).slots t 7).cast nbuf0_7)) (st0_8 t) (hstage0_8 (((cfg0 (F := F)).slots t 8).cast nbuf0_8)) (st0_9 t) (hstage0_9 (((cfg0 (F := F)).slots t 9).cast nbuf0_9)) (st0_10 t) (hstage0_10 (((cfg0 (F := F)).slots t 10).cast nbuf0_10)) (st0_11 t) (hstage0_11 (((cfg0 (F := F)).slots t 11).cast nbuf0_11)) (st0_12 t) (hstage0_12 (((cfg0 (F := F)).slots t 12).cast nbuf0_12)) (st0_13 t) (hstage0_13 (((cfg0 (F := F)).slots t 13).cast nbuf0_13)) (st0_14 t) (hstage0_14 (((cfg0 (F := F)).slots t 14).cast nbuf0_14)) (st0_15 t) (hstage0_15 (((cfg0 (F := F)).slots t 15).cast nbuf0_15)) (st0_16 t) (hstage0_16 (((cfg0 (F := F)).slots t 16).cast nbuf0_16))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (last_block m hO c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  iintro ⟨⟨H0, H1, H2, H3, H4, H5, H6, H7, H8, H9, H10, H11⟩, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

omit hO in
/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point. -/
theorem body_obligation (c : Dev nD) : BodyObligation (dats (F := F) m hO 0 c) (defs₀ (F := F)) 𝒱₀ () Set.univ := fun t => by
  rw [bigSep_W0, bigSep_W0, defs₀_row]
  exact triple_restated (sound_body m hO c t) rfl .rfl fun _ => .rfl

set_option backward.isDefEq.respectTransparency.types false in
/-- The launch: the pipeline's arrays end at what its data say, other buffers as the region found them, counters at zero. -/
theorem run_main : θ_run defs (onTc (τ := τ) (main (F := F))) (s₀ m ρ) (fun r => Pipeline.FramePost (cfgs (F := F)) (dats m hO) 0 (V m) r ∧ r.2.sem = fun _ => 0) :=
  Pipeline.θ_run_frame (Q' := _) (cfgs (F := F)) (dats m hO) (0 : Fin 1) launch0 defs₀ 𝒱₀ m ρ main
    (hbody := fun c => (body_obligation m hO c).loose) (hshare := fun c => (dats m hO 0 c).share_full fun _ => rfl)
    (howed := fun _ _ => rfl) (V := V m) (hmain := hmain m 𝒱₀) (hA := A_eq m hO) (hΦ := fun _ _ => rfl)

end Cert.Kernel.Hand

end
-- ==== Proof.Prologue.lean ====
module

public import proofs.«01_k».proof.Proof.Kit
public import Idealize.ShloMosaic.Lib.StableHlo.RunRead
public import Idealize.ShloMosaic.Lib.StableHlo.ReadAt
public import Idealize.ShloMosaic.Lib.IdealHost

/-! What the kernel's arrays hold when its call starts: the arguments, reshaped, and the two tables, repeated. -/

@[expose] public section

set_option maxRecDepth 16384

noncomputable section

namespace Cert.KernelIdeal.Hand

open Cert.KernelIdeal Cert.KernelIdeal.Gen
open Idealize.ShloMosaic hiding ix1 ix2 ix3
open Idealize.ShloMosaic.TcCoe
open ValueIdx (ix1 ix2 ix3 eq_ix2 eq_ix3)

variable {F : FTy → Type} [FloatOps F] (m : (ℓ : Loc nD τ sig) → Buf (Elt F) ℓ) (c : Dev nD)

/-- The gradients' array. -/
theorem V_v114 : V m c main_v114 = (shapeCast S25088x128 (m ((c : Thread nD τ).loc main_arg1) : Vec F S3211264 .bf16) shapeCasts_S3211264_S25088x128 : Vec F S25088x128 .bf16) := by
  unfold V
  after_reads_simp
  rfl

/-- m's codes. -/
theorem V_v115 : V m c main_v115 = (shapeCast S12544x128 (m ((c : Thread nD τ).loc main_arg2) : Vec F S1605632 .i8) shapeCasts_S1605632_S12544x128 : Vec F S12544x128 .i8) := by
  unfold V
  after_reads_simp
  rfl

/-- m's absmaxes. -/
theorem V_v116 : V m c main_v116 = (shapeCast S49x4x128 (m ((c : Thread nD τ).loc main_arg3) : Vec F S25088 .f32) shapeCasts_S25088_S49x4x128 : Vec F S49x4x128 .f32) := by
  unfold V
  after_reads_simp
  rfl

/-- v's codes. -/
theorem V_v117 : V m c main_v117 = (shapeCast S12544x128 (m ((c : Thread nD τ).loc main_arg4) : Vec F S1605632 .i8) shapeCasts_S1605632_S12544x128 : Vec F S12544x128 .i8) := by
  unfold V
  after_reads_simp
  rfl

/-- v's absmaxes. -/
theorem V_v118 : V m c main_v118 = (shapeCast S49x4x128 (m ((c : Thread nD τ).loc main_arg5) : Vec F S25088 .f32) shapeCasts_S25088_S49x4x128 : Vec F S49x4x128 .f32) := by
  unfold V
  after_reads_simp
  rfl

/-- Eight copies of a table of 16. -/
def rep8 (q : Vec F S16 .f32) : Vec F S1x128 .f32 :=
  broadcastInDim S1x128 ![1] bcast_S128_S1x128_1 (shapeCast S128 (broadcastInDim S8x16 ![0, 1] bcast_S1x16_S8x16_0_1 (shapeCast S1x16 q shapeCasts_S16_S1x16)) shapeCasts_S8x16_S128)

theorem rep8_apply (q : Vec F S16 .f32) (j : Fin 128) : rep8 q (ix2 (0 : Fin 1) j) = q (ix1 ⟨j.val % 16, Nat.mod_lt _ (by omega)⟩) := by
  unfold rep8
  rw [broadcastInDim_apply _ _ _ _ (ix1 j) (by intro a; fin_cases a; rfl)]
  rw [shapeCast_apply _ _ _ (ix2 (⟨j.val / 16, by omega⟩ : Fin 8) (⟨j.val % 16, Nat.mod_lt _ (by omega)⟩ : Fin 16)) (by
    rw [Shape.rowMajor_val_one, Shape.rowMajor_val_two]; show j.val / 16 * 16 + j.val % 16 = j.val; omega)]
  rw [broadcastInDim_apply _ _ _ _ (ix2 (0 : Fin 1) (⟨j.val % 16, Nat.mod_lt _ (by omega)⟩ : Fin 16)) (by intro a; fin_cases a <;> rfl)]
  rw [shapeCast_apply _ _ _ (ix1 (⟨j.val % 16, Nat.mod_lt _ (by omega)⟩ : Fin 16)) (by
    rw [Shape.rowMajor_val_one, Shape.rowMajor_val_two]; show j.val % 16 = 0 * 16 + j.val % 16; omega)]

/-- The first row of four. -/
theorem cat4_0 (x y z w : Vec F S1x128 .f32) (h) (j : Fin 128) :
    concatenate S4x128 0 [⟨S1x128, x⟩, ⟨S1x128, y⟩, ⟨S1x128, z⟩, ⟨S1x128, w⟩] h (ix2 (0 : Fin 4) j) = x (ix2 (0 : Fin 1) j) :=
  concatenate_apply_piece (t := S4x128) (0 : Fin 2) [⟨S1x128, x⟩, ⟨S1x128, y⟩, ⟨S1x128, z⟩, ⟨S1x128, w⟩] h (ix2 (0 : Fin 4) j) 0 (show 0 < 4 by omega) S1x128 x rfl rfl 0 rfl (ix2 (0 : Fin 1) j)
    (by intro b hb; fin_cases b; exact absurd rfl hb; rfl) rfl

/-- The second row of four. -/
theorem cat4_1 (x y z w : Vec F S1x128 .f32) (h) (j : Fin 128) :
    concatenate S4x128 0 [⟨S1x128, x⟩, ⟨S1x128, y⟩, ⟨S1x128, z⟩, ⟨S1x128, w⟩] h (ix2 (1 : Fin 4) j) = y (ix2 (0 : Fin 1) j) :=
  concatenate_apply_piece (t := S4x128) (0 : Fin 2) [⟨S1x128, x⟩, ⟨S1x128, y⟩, ⟨S1x128, z⟩, ⟨S1x128, w⟩] h (ix2 (1 : Fin 4) j) 1 (show 1 < 4 by omega) S1x128 y rfl rfl 1 rfl (ix2 (0 : Fin 1) j)
    (by intro b hb; fin_cases b; exact absurd rfl hb; rfl) rfl

/-- m's table. -/
theorem V_v112_0 (j : Fin 128) : (V m c main_v112 : Vec F S4x128 .f32) (ix2 (0 : Fin 4) j) = (m ((c : Thread nD τ).loc main_arg6) : Vec F S16 .f32) (ix1 ⟨j.val % 16, Nat.mod_lt _ (by omega)⟩) := by
  refine Eq.trans ?_ (rep8_apply (m ((c : Thread nD τ).loc main_arg6) : Vec F S16 .f32) j)
  unfold V
  after_reads_simp
  exact cat4_0 _ _ _ _ _ j

/-- v's table. -/
theorem V_v112_1 (j : Fin 128) : (V m c main_v112 : Vec F S4x128 .f32) (ix2 (1 : Fin 4) j) = (m ((c : Thread nD τ).loc main_arg7) : Vec F S16 .f32) (ix1 ⟨j.val % 16, Nat.mod_lt _ (by omega)⟩) := by
  refine Eq.trans ?_ (rep8_apply (m ((c : Thread nD τ).loc main_arg7) : Vec F S16 .f32) j)
  unfold V
  after_reads_simp
  exact cat4_1 _ _ _ _ _ j

end Cert.KernelIdeal.Hand

end
-- ==== Proof.Absmax.lean ====
module

public import Idealize.ShloMosaic.Lib.IdealHost
public import Idealize.ShloMosaic.Lib.Pointwise
public import Idealize.ShloMosaic.PureOps.Ideal.Laws

/-! The absmaxes of the new moments over the reals, block by block, as functions of the arguments: what both programs are shown to compute. -/

@[expose] public section

noncomputable section

namespace Cert.Absmax

open Idealize.ShloMosaic hiding ix1
open ValueIdx (ix1)

/-- The low (`q = 0`) or high (`q = 1`) four bits of a byte. -/
def nib (b : BitVec 8) (q : ℕ) : ℕ := if q = 0 then b.toNat % 16 else b.toNat / 16

theorem nib_lt (b : BitVec 8) (q : ℕ) : nib b q < 16 := by
  have := b.isLt
  unfold nib; split <;> omega

/-- A constant of the program, over the reals. -/
def cst (b : BitVec 32) : EReal := FloatOps.ofBits (F := Ideal) .f32 b

/-- A new m from the old one's table value, its block's absmax, and the gradient. -/
def mNew (t a g : EReal) : EReal := cst 0x3F666666#32 * (t * a) + cst 0x3DCCCCCD#32 * g

/-- A new v. -/
def vNew (t a g : EReal) : EReal := cst 0x3F733333#32 * (t * a) + cst 0x3D4CCCCD#32 * g * g

/-- The maximum of a row. -/
def rowTop (x : Fin 128 → EReal) : EReal := (Finset.univ : Finset (Fin 128)).fold max ⊥ x

/-- Nibble `q` of a byte, as an index of a table. -/
def nibF (b : BitVec 8) (q : ℕ) (_hq : q < 2) : Fin 16 := ⟨nib b q, nib_lt b q⟩

/-- The largest magnitude of a block of new m: the table, the block's absmax, its codes and its gradients. -/
def topM (q : Fin 16 → EReal) (a : EReal) (cd : Fin 128 → Fin 16) (g : Fin 128 → EReal) : EReal :=
  rowTop fun l => max (mNew (q (cd l)) a (g l)) (-mNew (q (cd l)) a (g l))

/-- The largest of a block of new v. -/
def topV (q : Fin 16 → EReal) (a : EReal) (cd : Fin 128 → Fin 16) (g : Fin 128 → EReal) : EReal :=
  rowTop fun l => vNew (q (cd l)) a (g l)

theorem flat_lt (B : Fin 25088) (l : Fin 128) : 128 * B.val + l.val < 3211264 := by omega
theorem byte_lt (B : Fin 25088) (l : Fin 128) : 64 * B.val + l.val / 2 < 1605632 := by omega
theorem flat3 (t : Fin 49) (r : Fin 4) (j : Fin 128) : 512 * t.val + 128 * r.val + j.val < 25088 := by omega

/-- The codes of a block. -/
def codesOf (cd : Vec Ideal ⟨1, ![1605632]⟩ .i8) (B : Fin 25088) (l : Fin 128) : Fin 16 :=
  nibF (cd (ix1 ⟨64 * B.val + l.val / 2, byte_lt B l⟩)) (l.val % 2) (Nat.mod_lt _ Nat.two_pos)

/-- The gradients of a block. -/
def gradsOf (g : Vec Ideal ⟨1, ![3211264]⟩ .bf16) (B : Fin 25088) (l : Fin 128) : EReal := g (ix1 ⟨128 * B.val + l.val, flat_lt B l⟩)

/-- The absmax of a block of new m, from the arguments. -/
def absM (q : Vec Ideal ⟨1, ![16]⟩ .f32) (a : Vec Ideal ⟨1, ![25088]⟩ .f32) (cd : Vec Ideal ⟨1, ![1605632]⟩ .i8) (g : Vec Ideal ⟨1, ![3211264]⟩ .bf16) (B : Fin 25088) : EReal :=
  topM (fun j => q (ix1 j)) (a (ix1 B)) (codesOf cd B) (gradsOf g B)

/-- The absmax of a block of new v, from the arguments. -/
def absV (q : Vec Ideal ⟨1, ![16]⟩ .f32) (a : Vec Ideal ⟨1, ![25088]⟩ .f32) (cd : Vec Ideal ⟨1, ![1605632]⟩ .i8) (g : Vec Ideal ⟨1, ![3211264]⟩ .bf16) (B : Fin 25088) : EReal :=
  topV (fun j => q (ix1 j)) (a (ix1 B)) (codesOf cd B) (gradsOf g B)

/-- The block whose absmax stands at an index of the result. -/
def blockOf (y : (⟨3, ![49, 4, 128]⟩ : Shape).Idx) : Fin 25088 := ⟨512 * (y 0).val + 128 * (y 1).val + (y 2).val, flat3 (y 0) (y 1) (y 2)⟩

end Cert.Absmax

end
-- ==== Proof.Ops.lean ====
module

public import proofs.«01_k».proof.Proof.Rows
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! The half row of absmaxes a trip stores, as operations on what the trip loads. -/

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The codes of the blocks of parity `h`, each with the lane its block's scale stands in: `h64` is `64 h`, `add` is `0x10101010 h`. -/
def idxOp (v19 : IVec S8x128 32) (cd : Vec F S32x128 .i8) (h64 add : BitVec 32) : IVec S32x128 32 :=
  extsi 32 (bitcast S32x128 8 (ori (andi (shrui (dynamicGather 1 (bitcast S8x128 32 (shapeCast S32x128 cd shapeCasts_S32x128_S32x128) bitcasts_S32x128_w8_S8x128_w32)
    (shapeCast S8x128 (shapeCast S8x128x1 (addi (shrsi (iota .tc S8x128 32 [1] iota_S8x128_d1_w32) (broadcast S8x128 1#32)) (broadcast S8x128 h64)) shapeCasts_S8x128_S8x128x1) shapeCasts_S8x128x1_S8x128))
    (muli (andi (iota .tc S8x128 32 [1] iota_S8x128_d1_w32) (broadcast S8x128 1#32)) (broadcast S8x128 4#32))) (broadcast S8x128 252645135#32))
    (addi v19 (broadcast S8x128 add))) bitcasts_S8x128_w32_S32x128_w8) natLt_8_32

/-- The scaled tables: at each lane the table's value by a block's absmax, by a constant. -/
def tabOp (v31 : IVec S8x128 32) (w : BitVec 32) (cst : BitVec 32) (tab : FVec F S1x128 .f32) (am : Vec F S1x1x128 .f32) : FVec F S8x128 .f32 :=
  mulf (broadcast S8x128 (Scalar.ofBits .f32 cst)) (mulf (broadcastTo S8x128 tab broadcasts_S1x128_S8x128)
    (dynamicGather 1 (broadcastTo S8x128 (shapeCast S1x128 (shapeCast S1x128 am shapeCasts_S1x1x128_S1x128) shapeCasts_S1x128_S1x128) broadcasts_S1x128_S8x128)
      (shapeCast S8x128 (shapeCast S8x128x1 (addi v31 (broadcast S8x128 (Scalar.muli 64#32 w))) shapeCasts_S8x128_S8x128x1) shapeCasts_S8x128x1_S8x128)))

/-- The gradients of the blocks of parity `h` of sixteen. -/
def gradOp (h : Fin 2) (g : Vec F S16x128 .bf16) : FVec F S8x128 .f32 :=
  extf .f32 (rowsOfParity h S8x128 (shapeCast S16x128 g shapeCasts_S16x128_S16x128) bitcasts_S16x128_w16_S8x128_w32)

/-- Eight blocks' dequantised and scaled values. -/
def deqOp (off : Fin 2 → ℕ) (hs : S32x128.Slices off S8x128) (tm : FVec F S8x128 .f32) (im : IVec S32x128 32) : FVec F S8x128 .f32 :=
  dynamicGather 1 tm (shapeCast S8x128 (shapeCast S8x128x1 (extractStridedSlice S8x128 off im hs) shapeCasts_S8x128_S8x128x1) shapeCasts_S8x128x1_S8x128)

/-- Eight blocks of the new m. -/
def mOp (off : Fin 2 → ℕ) (hs : S32x128.Slices off S8x128) (tm : FVec F S8x128 .f32) (im : IVec S32x128 32) (g : FVec F S8x128 .f32) : FVec F S8x128 .f32 :=
  addf (deqOp off hs tm im) (mulf (broadcast S8x128 (Scalar.ofBits .f32 0x3DCCCCCD#32)) g)

/-- Eight blocks of the new v. -/
def vOp (off : Fin 2 → ℕ) (hs : S32x128.Slices off S8x128) (tm : FVec F S8x128 .f32) (im : IVec S32x128 32) (g : FVec F S8x128 .f32) : FVec F S8x128 .f32 :=
  addf (deqOp off hs tm im) (mulf (mulf (broadcast S8x128 (Scalar.ofBits .f32 0x3D4CCCCD#32)) g) g)

/-- The maximum of each row. -/
def maxOp (x : FVec F S8x128 .f32) : FVec F S8x1 .f32 :=
  shapeCast S8x1 (multiReduction .maximumf [1] S8 x 0xFF800000#32 reduces_S8x128_S8 (.inl rfl) rfl) shapeCasts_S8_S8x1

/-- Where the absmaxes of the sixteen blocks' parity `h` of unit `u` go. -/
def hitOp (v0 v1 : IVec S8x128 32) (u h : BitVec 32) : IVec S8x128 1 :=
  andi (andi (cmpi .eq (shrsi (andi v0 (broadcast S8x128 63#32)) (broadcast S8x128 4#32)) (broadcast S8x128 u))
    (cmpi .eq (andi (andi v0 (broadcast S8x128 63#32)) (broadcast S8x128 1#32)) (broadcast S8x128 h)))
    (cmpi .eq (shrsi (andi (andi v0 (broadcast S8x128 63#32)) (broadcast S8x128 15#32)) (broadcast S8x128 1#32)) v1)

/-- Eight absmaxes put in their lanes over what is there. -/
def putOp (v0 v1 : IVec S8x128 32) (u h : BitVec 32) (x : FVec F S8x1 .f32) (y : FVec F S8x128 .f32) : FVec F S8x128 .f32 :=
  select (hitOp v0 v1 u h) (broadcastTo S8x128 (shapeCast S8x1 x shapeCasts_S8x1_S8x1) broadcasts_S8x1_S8x128) y

/-- The eight columns of absmaxes in their lanes. -/
def putAll (v0 v1 : IVec S8x128 32) (x00 x01 x10 x11 x20 x21 x30 x31 : FVec F S8x1 .f32) : FVec F S8x128 .f32 :=
  putOp v0 v1 3#32 1#32 x31 (putOp v0 v1 3#32 0#32 x30 (putOp v0 v1 2#32 1#32 x21 (putOp v0 v1 2#32 0#32 x20
    (putOp v0 v1 1#32 1#32 x11 (putOp v0 v1 1#32 0#32 x10 (putOp v0 v1 0#32 1#32 x01 (putOp v0 v1 0#32 0#32 x00
      (broadcast S8x128 (Scalar.ofBits .f32 0x00000000#32)))))))))

/-- The row of absmaxes, from the eight columns of them. -/
def rowOp (v0 v1 : IVec S8x128 32) (x00 x01 x10 x11 x20 x21 x30 x31 : FVec F S8x1 .f32) : FVec F S1x128 .f32 :=
  shapeCast S1x128 (multiReduction .maximumf [0] S128 (putAll v0 v1 x00 x01 x10 x11 x20 x21 x30 x31)
    0xFF800000#32 reduces_S8x128_S128 (.inl rfl) rfl) shapeCasts_S128_S1x128

/-- The row of m's absmaxes, from what a trip loads. -/
def mRow (v0 v1 v19 v31 : IVec S8x128 32) (w : BitVec 32) (tab : FVec F S1x128 .f32) (am : Vec F S1x1x128 .f32) (cd : Vec F S32x128 .i8)
    (g0 g1 g2 g3 : Vec F S16x128 .bf16) : FVec F S1x128 .f32 :=
  let tm := tabOp v31 w 0x3F666666#32 tab am
  let i0 := idxOp v19 cd 0#32 0#32
  let i1 := idxOp v19 cd 64#32 269488144#32
  rowOp v0 v1
    (maxOp (absf (mOp ![0, 0] slices_S32x128_o0_0_S8x128 tm i0 (gradOp 0 g0)))) (maxOp (absf (mOp ![0, 0] slices_S32x128_o0_0_S8x128 tm i1 (gradOp 1 g0))))
    (maxOp (absf (mOp ![8, 0] slices_S32x128_o8_0_S8x128 tm i0 (gradOp 0 g1)))) (maxOp (absf (mOp ![8, 0] slices_S32x128_o8_0_S8x128 tm i1 (gradOp 1 g1))))
    (maxOp (absf (mOp ![16, 0] slices_S32x128_o16_0_S8x128 tm i0 (gradOp 0 g2)))) (maxOp (absf (mOp ![16, 0] slices_S32x128_o16_0_S8x128 tm i1 (gradOp 1 g2))))
    (maxOp (absf (mOp ![24, 0] slices_S32x128_o24_0_S8x128 tm i0 (gradOp 0 g3)))) (maxOp (absf (mOp ![24, 0] slices_S32x128_o24_0_S8x128 tm i1 (gradOp 1 g3))))

/-- The row of v's absmaxes, from what a trip loads. -/
def vRow (v0 v1 v19 v31 : IVec S8x128 32) (w : BitVec 32) (tab : FVec F S1x128 .f32) (am : Vec F S1x1x128 .f32) (cd : Vec F S32x128 .i8)
    (g0 g1 g2 g3 : Vec F S16x128 .bf16) : FVec F S1x128 .f32 :=
  let tm := tabOp v31 w 0x3F733333#32 tab am
  let i0 := idxOp v19 cd 0#32 0#32
  let i1 := idxOp v19 cd 64#32 269488144#32
  rowOp v0 v1
    (maxOp (vOp ![0, 0] slices_S32x128_o0_0_S8x128 tm i0 (gradOp 0 g0))) (maxOp (vOp ![0, 0] slices_S32x128_o0_0_S8x128 tm i1 (gradOp 1 g0)))
    (maxOp (vOp ![8, 0] slices_S32x128_o8_0_S8x128 tm i0 (gradOp 0 g1))) (maxOp (vOp ![8, 0] slices_S32x128_o8_0_S8x128 tm i1 (gradOp 1 g1)))
    (maxOp (vOp ![16, 0] slices_S32x128_o16_0_S8x128 tm i0 (gradOp 0 g2))) (maxOp (vOp ![16, 0] slices_S32x128_o16_0_S8x128 tm i1 (gradOp 1 g2)))
    (maxOp (vOp ![24, 0] slices_S32x128_o24_0_S8x128 tm i0 (gradOp 0 g3))) (maxOp (vOp ![24, 0] slices_S32x128_o24_0_S8x128 tm i1 (gradOp 1 g3)))

/-- Sixteen blocks' gradients of group `k`, its unit `r`. -/
def gLoad {sp : Space} (v : View sig .tc sp S512x128 .bf16) (f : v.ty.Contents (Elt F)) (k : Fin k0_t1_loop.trips) (r : Fin 4) : Vec F S16x128 .bf16 :=
  View.readAt (Elt F) v (Rect.unit (s := S512x128) (k0_off8 k (BitVec.ofNat 32 (16 * r.val))) S16x128.size (k0_off8_inb k r)).toLoadRect f

/-- The codes of group `k`. -/
def cLoad {sp : Space} (v : View sig .tc sp S256x128 .i8) (f : v.ty.Contents (Elt F)) (k : Fin k0_t1_loop.trips) : Vec F S32x128 .i8 :=
  View.readAt (Elt F) v (Rect.unit (s := S256x128) (k0_off4 k) S32x128.size (k0_off4_inb k)).toLoadRect f

/-- The row of absmaxes of group `k`. -/
def aLoad {sp : Space} (v : View sig .tc sp S1x4x128 .f32) (f : v.ty.Contents (Elt F)) (k : Fin k0_t1_loop.trips) : Vec F S1x1x128 .f32 :=
  View.readAt (Elt F) v (Rect.unit (s := S1x4x128) (k0_off3 k) S1x1x128.size (k0_off3_inb k)).toLoadRect f

section Trip
variable (c : Dev nD) (i : grid0.Coords) (arg1 : Memref sig .tc .smem S97 .i32) (harg1 : arg1.IsWhole) (arg2 : Memref sig .tc .smem S97 .f32) (harg2 : arg2.IsWhole) (arg3 : Memref sig .tc .smem S15 .f32) (harg3 : arg3.IsWhole) (arg4 : Memref sig .tc .smem S15 .f32) (harg4 : arg4.IsWhole) (arg5 : Memref sig .tc .smem S2 .f32) (harg5 : arg5.IsWhole) (arg6 : Memref sig .tc .vmem S4x128 .f32) (harg6 : arg6.IsWhole) (arg7 : Memref sig .tc .vmem S512x128 .f32) (harg7 : arg7.IsWhole) (arg8 : Memref sig .tc .vmem S512x128 .bf16) (harg8 : arg8.IsWhole) (arg9 : Memref sig .tc .vmem S256x128 .i8) (harg9 : arg9.IsWhole) (arg10 : Memref sig .tc .vmem S1x4x128 .f32) (harg10 : arg10.IsWhole) (arg11 : Memref sig .tc .vmem S256x128 .i8) (harg11 : arg11.IsWhole) (arg12 : Memref sig .tc .vmem S1x4x128 .f32) (harg12 : arg12.IsWhole) (arg13 : Memref sig .tc .vmem S512x128 .f32) (harg13 : arg13.IsWhole) (arg14 : Memref sig .tc .vmem S256x128 .i8) (harg14 : arg14.IsWhole) (arg15 : Memref sig .tc .vmem S1x4x128 .f32) (harg15 : arg15.IsWhole) (arg16 : Memref sig .tc .vmem S256x128 .i8) (harg16 : arg16.IsWhole) (arg17 : Memref sig .tc .vmem S1x4x128 .f32) (harg17 : arg17.IsWhole)
  (v0 : IVec S8x128 32) (v1 : IVec S8x128 32) (v3 : FVec F S1x128 .f32) (v5 : FVec F S1x128 .f32) (v9 : FVec F S8x128 .f32) (v13 : FVec F S8x128 .f32) (v14 : Elt F .f32) (v15 : Elt F .f32) (v19 : IVec S8x128 32) (v31 : IVec S8x128 32) (v36 : IVec S8x128 32) (v37 : BitVec 32)
variable (x1 : Vec F S97 .i32) (x2 : Vec F S97 .f32) (x3 : Vec F S15 .f32) (x4 : Vec F S15 .f32) (x7 : Vec F S512x128 .f32) (x8 : Vec F S512x128 .bf16) (x9 : Vec F S256x128 .i8) (x10 : Vec F S1x4x128 .f32) (x11 : Vec F S256x128 .i8) (x12 : Vec F S1x4x128 .f32)
variable (k : Fin k0_t1_loop.trips) (tid T : BitVec 32) (hT : k0_chk3 T) (n : ℕ)
    (hcall : ∀ K, whileSpec (F := F) c arg1 (harg1.unread x1) T K ⊢ wp frame (wpE defs₀ 𝒱₀ (c : Thread nD τ) (some n)) Set.univ (defs₀ .tc 2 ⟨i, k, arg1, harg1, tid⟩) K)

/-- What trip `k` stores of m's absmaxes. -/
theorem row15_eq : ∀ f15 f17, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.2.1
    = [⟨Rect.unit (s := S1x4x128) (k0_off11 k) S1x1x128.size (k0_off11_inb k),
        halfRow v0 (BitVec.ofNat 32 (k.val % 2)) (mRow v0 v1 v19 v31 (BitVec.ofNat 32 (k.val % 2)) v3 (aLoad arg10.view (harg10.unread x10) k) (cLoad arg9.view (harg9.unread x9) k)
          (gLoad arg8.view (harg8.unread x8) k 0) (gLoad arg8.view (harg8.unread x8) k 1) (gLoad arg8.view (harg8.unread x8) k 2) (gLoad arg8.view (harg8.unread x8) k 3))
          (View.readAt (Elt F) arg15.view (Rect.unit (s := S1x4x128) (k0_off11 k) S1x1x128.size (k0_off11_inb k)).toLoadRect f15)⟩] :=
  fun f15 f17 => by rw [← v67_eq k]; rfl

/-- What trip `k` stores of v's absmaxes. -/
theorem row17_eq : ∀ f15 f17, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.2.2.2.1
    = [⟨Rect.unit (s := S1x4x128) (k0_off11 k) S1x1x128.size (k0_off11_inb k),
        halfRow v0 (BitVec.ofNat 32 (k.val % 2)) (vRow v0 v1 v19 v31 (BitVec.ofNat 32 (k.val % 2)) v5 (aLoad arg12.view (harg12.unread x12) k) (cLoad arg11.view (harg11.unread x11) k)
          (gLoad arg8.view (harg8.unread x8) k 0) (gLoad arg8.view (harg8.unread x8) k 1) (gLoad arg8.view (harg8.unread x8) k 2) (gLoad arg8.view (harg8.unread x8) k 3))
          (View.readAt (Elt F) arg17.view (Rect.unit (s := S1x4x128) (k0_off11 k) S1x1x128.size (k0_off11_inb k)).toLoadRect f17)⟩] :=
  fun f15 f17 => by rw [← v67_eq k]; rfl

end Trip

end Cert.KernelIdeal.Hand

end
-- ==== Proof.Bits.lean ====
module

public import proofs.«01_k».proof.Proof.Absmax
public import proofs.«01_k».proof.Proof.Ops
public import Idealize.ShloMosaic.Lib.BitcastFour
public import Idealize.ShloMosaic.Lib.Pointwise

/-! The words the kernel computes from the codes: at each row and lane, a code and the lane its block's scale stands in. -/

@[expose] public section

set_option maxRecDepth 16384

noncomputable section

namespace Cert.KernelIdeal.Hand

open Cert.KernelIdeal Cert.KernelIdeal.Gen Cert.Absmax
open Idealize.ShloMosaic hiding ix2
open ValueIdx (ix2)

variable {F : FTy → Type} [FloatOps F]

/-- The constants by parity. -/
theorem add_at : ∀ (R : Fin 32) (h : Fin 2),
    ((IntOp.addi (IntOp.muli (IntOp.shrsi .vector (BitVec.ofNat 32 (R.val / 4)) 1#32) 538976288#32) (BitVec.ofNat 32 (269488144 * h.val))).extractLsb' (8 * (R.val % 4)) 8)
      = BitVec.ofNat 8 (16 * h.val + 32 * (R.val / 8)) := by decide +kernel

theorem join_toNat : ∀ (b : BitVec 8) (q h : Fin 2) (u : Fin 4),
    ((((b >>> (4 * q.val)) &&& 15#8) ||| BitVec.ofNat 8 (16 * h.val + 32 * u.val)).signExtend 32).toNat
      = (if q.val = 0 then b.toNat % 16 else b.toNat / 16) + 16 * h.val + 32 * u.val := by decide +kernel

theorem lane_src : ∀ (l : Fin 128) (h : Fin 2),
    (IntOp.addi (IntOp.shrsi .vector (BitVec.ofNat 32 l.val) 1#32) (BitVec.ofNat 32 (64 * h.val))).toNat % 128 = l.val / 2 + 64 * h.val := by decide +kernel

theorem lane_shift : ∀ l : Fin 128, (IntOp.muli (IntOp.andi (BitVec.ofNat 32 l.val) 1#32) 4#32).toNat = 4 * (l.val % 2) := by decide +kernel

theorem scale_src : ∀ (l : Fin 128) (s : Fin 8) (p : Fin 2),
    (IntOp.addi (IntOp.addi (IntOp.addi (IntOp.shli .vector (IntOp.shrsi .vector (BitVec.ofNat 32 l.val) 5#32) 4#32) (IntOp.muli 2#32 (BitVec.ofNat 32 s.val)))
      (IntOp.andi (IntOp.shrsi .vector (BitVec.ofNat 32 l.val) 4#32) 1#32)) (Scalar.muli 64#32 (BitVec.ofNat 32 p.val))).toNat % 128
      = 64 * p.val + 16 * (l.val / 32) + 2 * s.val + l.val / 16 % 2 := by decide +kernel

theorem src_lt (l : Fin 128) (h : Fin 2) : l.val / 2 + 64 * h.val < 128 := by omega

/-- The lanes and rows as words. -/
theorem lane_iota (r : Fin 8) (l : Fin 128) : iota .tc S8x128 32 [1] iota_S8x128_d1_w32 (ix2 r l) = BitVec.ofNat 32 l.val :=
  iota_single_apply _ _ _ _ _ _
theorem row_iota (r : Fin 8) (l : Fin 128) : iota .tc S8x128 32 [0] iota_S8x128_d0_w32 (ix2 r l) = BitVec.ofNat 32 r.val :=
  iota_single_apply _ _ _ _ _ _

/-- The words of four rows of codes, gathered, at a bit. -/
theorem gathered_bit (cd : Vec F S32x128 .i8) (h64 : BitVec 32) (h : Fin 2) (hh : h64 = BitVec.ofNat 32 (64 * h.val)) (r : Fin 8) (l : Fin 128) (i : ℕ) (hi : i < 32) (R : Fin 32) (hR : R.val = 4 * r.val + i / 8) :
    (dynamicGather 1 (bitcast S8x128 32 (shapeCast S32x128 cd shapeCasts_S32x128_S32x128) bitcasts_S32x128_w8_S8x128_w32)
      (shapeCast S8x128 (shapeCast S8x128x1 (addi (shrsi (iota .tc S8x128 32 [1] iota_S8x128_d1_w32) (broadcast S8x128 1#32)) (broadcast S8x128 h64)) shapeCasts_S8x128_S8x128x1) shapeCasts_S8x128x1_S8x128) (ix2 r l)).getLsbD i
    = BitVec.getLsbD (w := 8) (cd (ix2 R ⟨l.val / 2 + 64 * h.val, src_lt l h⟩)) (i % 8) := by
  rw [shapeCast_self, shapeCast_shapeCast, dynamicGather_apply]
  have e : (fun b : Fin 2 => if b = 1 then (⟨(addi (shrsi (iota .tc S8x128 32 [1] iota_S8x128_d1_w32) (broadcast S8x128 1#32)) (broadcast S8x128 h64) (ix2 r l)).toNat % S8x128.size b, Nat.mod_lt _ (Fin.pos (ix2 r l b))⟩ : Fin (S8x128.size b)) else ix2 r l b)
      = ix2 r ⟨l.val / 2 + 64 * h.val, src_lt l h⟩ := by
    funext b
    fin_cases b
    · rfl
    · refine Fin.ext ?_
      show (IntOp.addi (IntOp.shrsi .vector (iota .tc S8x128 32 [1] iota_S8x128_d1_w32 (ix2 r l)) 1#32) h64).toNat % 128 = _
      rw [lane_iota, hh]; exact lane_src l h
  rw [show (bitcast S8x128 32 cd bitcasts_S32x128_w8_S8x128_w32) _ = (bitcast S8x128 32 cd bitcasts_S32x128_w8_S8x128_w32) (ix2 r ⟨l.val / 2 + 64 * h.val, src_lt l h⟩) from congrArg _ e]
  exact bitcast_8_32_getLsbD_ix2 (R := 32) (r := 8) (n := 128) _ _ r _ i hi R hR

/-- What `idxOp` is at a row and lane. -/
theorem idxOp_toNat (cd : Vec F S32x128 .i8) (h64 add : BitVec 32) (h : Fin 2) (hh : h64 = BitVec.ofNat 32 (64 * h.val)) (ha : add = BitVec.ofNat 32 (269488144 * h.val)) (R : Fin 32) (l : Fin 128) :
    (idxOp k0_pay167 cd h64 add (ix2 R l)).toNat
      = nib (cd (ix2 R ⟨l.val / 2 + 64 * h.val, src_lt l h⟩)) (l.val % 2) + 16 * h.val + 32 * (R.val / 8) := by
  have hR := R.isLt
  have hb : ∀ (W : IVec S8x128 32), (bitcast S32x128 8 W bitcasts_S8x128_w32_S32x128_w8) (ix2 R l) = (W (ix2 ⟨R.val / 4, by omega⟩ l)).extractLsb' (8 * (R.val % 4)) 8 := by
    intro W
    apply BitVec.eq_of_getLsbD_eq
    intro i hi
    rw [bitcast_getLsbD W _ _ i hi (by decide), BitVec.getLsbD_extractLsb']
    have hr : S32x128.row (ix2 R l) = R.val := rfl
    simp only [hi, decide_true, Bool.true_and]
    have hbit : (S32x128.row (ix2 R l) * 8 + i) % 32 = 8 * (R.val % 4) + i := by rw [hr]; omega
    rw [hbit]
    congr 2
    funext a
    fin_cases a
    · refine Fin.ext ((Shape.Bitcasts.srcIdx_row _ _ _ _ ⟨0, Nat.zero_lt_two⟩ rfl).trans ?_)
      rw [hr]; show (R.val * 8 + i) / 32 = R.val / 4; omega
    · exact Fin.ext (Shape.Bitcasts.srcIdx_other _ _ _ _ ⟨1, Nat.one_lt_two⟩ (by show ¬ 1 + 2 = 2; omega))
  unfold idxOp
  show ((bitcast S32x128 8 _ bitcasts_S8x128_w32_S32x128_w8 (ix2 R l)).signExtend 32).toNat = _
  rw [hb]
  set G := dynamicGather 1 (bitcast S8x128 32 (shapeCast S32x128 cd shapeCasts_S32x128_S32x128) bitcasts_S32x128_w8_S8x128_w32)
      (shapeCast S8x128 (shapeCast S8x128x1 (addi (shrsi (iota .tc S8x128 32 [1] iota_S8x128_d1_w32) (broadcast S8x128 1#32)) (broadcast S8x128 h64)) shapeCasts_S8x128_S8x128x1) shapeCasts_S8x128x1_S8x128) with hG
  set r : Fin 8 := ⟨R.val / 4, by omega⟩ with hr
  set b : BitVec 8 := cd (ix2 R ⟨l.val / 2 + 64 * h.val, src_lt l h⟩) with hbd
  have hq : l.val % 2 < 2 := by omega
  have hu : R.val / 8 < 4 := by omega
  have key : ((IntOp.ori (IntOp.andi (IntOp.shrui .vector (G (ix2 r l)) (IntOp.muli (IntOp.andi (iota .tc S8x128 32 [1] iota_S8x128_d1_w32 (ix2 r l)) 1#32) 4#32)) 252645135#32)
      (IntOp.addi (IntOp.muli (IntOp.shrsi .vector (iota .tc S8x128 32 [0] iota_S8x128_d0_w32 (ix2 r l)) 1#32) 538976288#32) add)).extractLsb' (8 * (R.val % 4)) 8)
      = ((b >>> (4 * (l.val % 2))) &&& 15#8) ||| BitVec.ofNat 8 (16 * h.val + 32 * (R.val / 8)) := by
    rw [lane_iota, row_iota, ha, ← add_at R h]
    have hs := lane_shift l
    apply BitVec.eq_of_getLsbD_eq
    intro i hi
    unfold IntOp.shrui
    rw [if_pos (by rw [hs]; omega)]
    simp only [IntOp.ori, BitVec.getLsbD_extractLsb', BitVec.getLsbD_or, hi, decide_true, Bool.true_and]
    congr 1
    rw [IntOp.andi, BitVec.getLsbD_and, BitVec.getLsbD_and, BitVec.ushiftRight_eq', hs, BitVec.getLsbD_ushiftRight, BitVec.getLsbD_ushiftRight]
    have hm : (252645135#32 : BitVec 32).getLsbD (8 * (R.val % 4) + i) = (15#8 : BitVec 8).getLsbD i := by
      have : ∀ (p : Fin 4) (i : Fin 8), (252645135#32 : BitVec 32).getLsbD (8 * p.val + i.val) = (15#8 : BitVec 8).getLsbD i.val := by decide +kernel
      exact this ⟨R.val % 4, by omega⟩ ⟨i, hi⟩
    rw [hm]
    by_cases h4 : i < 4
    · congr 1
      rw [hG, gathered_bit cd h64 h hh r l _ (by omega) R (by rw [hr]; show R.val = 4 * (R.val / 4) + _; omega)]
      congr 1
      omega
    · have : (15#8 : BitVec 8).getLsbD i = false := by
        have : ∀ (i : Fin 8), ¬ i.val < 4 → (15#8 : BitVec 8).getLsbD i.val = false := by decide +kernel
        exact this ⟨i, hi⟩ h4
      rw [this, Bool.and_false, Bool.and_false]
  refine (congrArg (fun z : BitVec 8 => (z.signExtend 32).toNat) key).trans ?_
  exact join_toNat b ⟨l.val % 2, hq⟩ h ⟨R.val / 8, hu⟩

end Cert.KernelIdeal.Hand

end
-- ==== Proof.Point.lean ====
module

public import proofs.«01_k».proof.Proof.Bits
public import Idealize.ShloMosaic.Lib.IdealHost
public import Idealize.ShloMosaic.Lib.Bf16Pair
public import Idealize.ShloMosaic.PureOps.Ideal.Laws

/-! The row of absmaxes of a trip over the reals, lane by lane: the largest magnitude of a block of the new values. -/

@[expose] public section

set_option maxRecDepth 16384

noncomputable section

namespace Cert.KernelIdeal.Hand

open Cert.KernelIdeal Cert.KernelIdeal.Gen Cert.Absmax
open Idealize.ShloMosaic hiding ix1 ix2 ix3
open ValueIdx (ix1 ix2 ix3 eq_ix2)

theorem cst_bot : cst 0xFF800000#32 = ⊥ := by
  show Ideal.ofBits .f32 0xFF800000#32 = ⊥
  simp [Ideal.ofBits, Ideal.ieee]

theorem cst_zero : cst 0x00000000#32 = 0 := Ideal.ofBits_zero_f32

theorem lane1_eq (l : Fin 128) : lane1 l = ix2 (0 : Fin 1) l := by
  funext a; fin_cases a <;> rfl

theorem rowTop_nonneg (x : Fin 128 → EReal) (hx : ∀ l, 0 ≤ x l) : 0 ≤ rowTop x :=
  (Finset.le_fold_max _).mpr (Or.inr ⟨0, Finset.mem_univ _, hx 0⟩)

theorem scale_lt (p : Fin 2) (L : Fin 128) (s : Fin 8) : 64 * p.val + 16 * (L.val / 32) + 2 * s.val + L.val / 16 % 2 < 128 := by omega

/-- A scaled table at a lane. -/
theorem tabOp_apply (p : Fin 2) (c : BitVec 32) (tab : FVec Ideal S1x128 .f32) (am : Vec Ideal S1x1x128 .f32) (s : Fin 8) (L : Fin 128) :
    tabOp (F := Ideal) k0_pay168 (BitVec.ofNat 32 p.val) c tab am (ix2 s L)
      = cst c * (tab (ix2 (0 : Fin 1) L) * am (ix3 (0 : Fin 1) (0 : Fin 1) ⟨64 * p.val + 16 * (L.val / 32) + 2 * s.val + L.val / 16 % 2, scale_lt p L s⟩)) := by
  unfold tabOp
  have hb : ∀ (x : FVec Ideal S1x128 .f32) (j : Fin 8) (l : Fin 128), broadcastTo S8x128 x broadcasts_S1x128_S8x128 (ix2 j l) = x (ix2 (0 : Fin 1) l) := by
    intro x j l
    refine broadcastTo_apply _ _ _ _ ?_
    intro a; fin_cases a <;> rfl
  rw [shapeCast_shapeCast, shapeCast_self]
  show cst c * (broadcastTo S8x128 tab broadcasts_S1x128_S8x128 (ix2 s L) * dynamicGather 1 _ _ (ix2 s L)) = _
  rw [hb, dynamicGather_apply]
  congr 2
  set idx := addi k0_pay168 (broadcast S8x128 (Scalar.muli 64#32 (BitVec.ofNat 32 p.val))) with hidx
  have e : (fun b : Fin 2 => if b = 1 then (⟨(idx (ix2 s L)).toNat % S8x128.size b, Nat.mod_lt _ (Fin.pos (ix2 s L b))⟩ : Fin (S8x128.size b)) else ix2 s L b)
      = ix2 s ⟨64 * p.val + 16 * (L.val / 32) + 2 * s.val + L.val / 16 % 2, scale_lt p L s⟩ := by
    funext b
    fin_cases b
    · rfl
    · refine Fin.ext ?_
      show (idx (ix2 s L)).toNat % 128 = _
      refine Eq.trans ?_ (scale_src L s p)
      show (IntOp.addi (k0_pay168 (ix2 s L)) _).toNat % 128 = _
      unfold k0_pay168
      show (IntOp.addi (IntOp.addi (IntOp.addi (IntOp.shli .vector (IntOp.shrsi .vector (iota .tc S8x128 32 [1] iota_S8x128_d1_w32 (ix2 s L)) 5#32) 4#32) (IntOp.muli 2#32 (iota .tc S8x128 32 [0] iota_S8x128_d0_w32 (ix2 s L))))
        (IntOp.andi (IntOp.shrsi .vector (iota .tc S8x128 32 [1] iota_S8x128_d1_w32 (ix2 s L)) 4#32) 1#32)) _).toNat % 128 = _
      rw [lane_iota, row_iota]
      rfl
  refine (congrArg _ e).trans ?_
  rw [hb]
  refine shapeCast_apply _ _ _ _ ?_
  rw [Shape.rowMajor_val_two, Shape.rowMajor_val_three]
  rfl

theorem grad_lt (h : Fin 2) (s : Fin 8) : 2 * s.val + h.val < 16 := by omega

/-- The gradients of one parity. -/
theorem gradOp_apply (h : Fin 2) (g : Vec Ideal S16x128 .bf16) (s : Fin 8) (l : Fin 128) :
    gradOp (F := Ideal) h g (ix2 s l) = g (ix2 ⟨2 * s.val + h.val, grad_lt h s⟩ l) := by
  unfold gradOp
  show rowsOfParity h S8x128 (shapeCast S16x128 g shapeCasts_S16x128_S16x128) bitcasts_S16x128_w16_S8x128_w32 (ix2 s l) = _
  rw [shapeCast_self, rowsOfParity_eq_srcIdx]
  congr 1
  funext a
  fin_cases a
  · exact Fin.ext (Shape.Bitcasts.srcIdx_row _ _ _ _ ⟨0, Nat.zero_lt_two⟩ rfl)
  · exact Fin.ext (Shape.Bitcasts.srcIdx_other _ _ _ _ ⟨1, Nat.one_lt_two⟩ (by show ¬ 1 + 2 = 2; omega))

theorem slice_lt (u : Fin 4) (s : Fin 8) : 8 * u.val + s.val < 32 := by omega
theorem code_lt (b : BitVec 8) (q : ℕ) (h : Fin 2) (u : Fin 4) : nib b q + 16 * h.val + 32 * u.val < 128 := by
  have := nib_lt b q; omega
theorem block_lt (p : Fin 2) (u : Fin 4) (s : Fin 8) (h : Fin 2) : 64 * p.val + 16 * u.val + 2 * s.val + h.val < 128 := by omega

/-- The code at a lane of the block of unit `u`, sublane `s`, parity `h`. -/
def codeAt (cd : Vec Ideal S32x128 .i8) (u : Fin 4) (s : Fin 8) (h : Fin 2) (l : Fin 128) : ℕ :=
  nib (cd (ix2 ⟨8 * u.val + s.val, slice_lt u s⟩ ⟨l.val / 2 + 64 * h.val, src_lt l h⟩)) (l.val % 2)

theorem codeAt_lt (cd : Vec Ideal S32x128 .i8) (u : Fin 4) (s : Fin 8) (h : Fin 2) (l : Fin 128) : codeAt cd u s h l + 16 * h.val + 32 * u.val < 128 :=
  code_lt _ _ _ _

/-- Eight blocks dequantised and scaled. -/
theorem deqOp_apply (off : Fin 2 → ℕ) (hs : S32x128.Slices off S8x128) (u : Fin 4) (ho : off = ![8 * u.val, 0]) (h : Fin 2) (h64 add : BitVec 32)
    (hh : h64 = BitVec.ofNat 32 (64 * h.val)) (ha : add = BitVec.ofNat 32 (269488144 * h.val))
    (p : Fin 2) (c : BitVec 32) (tab : FVec Ideal S1x128 .f32) (am : Vec Ideal S1x1x128 .f32) (cd : Vec Ideal S32x128 .i8) (s : Fin 8) (l : Fin 128) :
    deqOp (F := Ideal) off hs (tabOp k0_pay168 (BitVec.ofNat 32 p.val) c tab am) (idxOp k0_pay167 cd h64 add) (ix2 s l)
      = cst c * (tab (ix2 (0 : Fin 1) ⟨codeAt cd u s h l + 16 * h.val + 32 * u.val, codeAt_lt cd u s h l⟩)
          * am (ix3 (0 : Fin 1) (0 : Fin 1) ⟨64 * p.val + 16 * u.val + 2 * s.val + h.val, block_lt p u s h⟩)) := by
  subst ho
  unfold deqOp
  rw [shapeCast_shapeCast, dynamicGather_apply]
  set idx := extractStridedSlice S8x128 ![8 * u.val, 0] (idxOp (F := Ideal) k0_pay167 cd h64 add) hs with hidx
  have hi : (idx (ix2 s l)).toNat = codeAt cd u s h l + 16 * h.val + 32 * u.val := by
    rw [hidx, extractStridedSlice_apply _ _ _ _ (ix2 ⟨8 * u.val + s.val, slice_lt u s⟩ l) (by
      intro a; fin_cases a
      · rfl
      · show l.val = 0 + l.val; omega),
      idxOp_toNat cd h64 add h hh ha]
    unfold codeAt
    show _ + _ + 32 * ((8 * u.val + s.val) / 8) = _
    congr 2; omega
  have hlt := codeAt_lt cd u s h l
  have e : (fun b : Fin 2 => if b = 1 then (⟨(idx (ix2 s l)).toNat % S8x128.size b, Nat.mod_lt _ (Fin.pos (ix2 s l b))⟩ : Fin (S8x128.size b)) else ix2 s l b)
      = ix2 s ⟨codeAt cd u s h l + 16 * h.val + 32 * u.val, hlt⟩ := by
    funext b
    fin_cases b
    · rfl
    · refine Fin.ext ?_
      show (idx (ix2 s l)).toNat % 128 = _
      rw [hi, Nat.mod_eq_of_lt hlt]
  refine (congrArg _ e).trans ?_
  rw [tabOp_apply]
  congr 4
  refine Fin.ext ?_
  have hc : codeAt cd u s h l < 16 := nib_lt _ _
  show 64 * p.val + 16 * ((codeAt cd u s h l + 16 * h.val + 32 * u.val) / 32) + 2 * s.val + (codeAt cd u s h l + 16 * h.val + 32 * u.val) / 16 % 2 = _
  have h2 := h.isLt
  have e1 : (codeAt cd u s h l + 16 * h.val + 32 * u.val) / 32 = u.val := by omega
  have e2 : (codeAt cd u s h l + 16 * h.val + 32 * u.val) / 16 % 2 = h.val := by omega
  rw [e1, e2]

/-- The maxima of rows. -/
theorem maxOp_apply (x : FVec Ideal S8x128 .f32) (s : Fin 8) : maxOp (F := Ideal) x (ix2 s (0 : Fin 1)) = rowTop fun l => x (ix2 s l) := by
  unfold maxOp rowTop
  rw [shapeCast_apply _ _ _ (ix1 s) (by rw [Shape.rowMajor_val_two, Shape.rowMajor_val_one]; show s.val = s.val * 1 + 0; omega)]
  refine (Ideal.multiReduction_maximumf_single _ _ _ _ _ _).trans ?_
  rw [show FloatOps.ofBits (F := Ideal) .f32 0xFF800000#32 = ⊥ from cst_bot]
  congr 1
  funext l
  show x _ = x _
  congr 1
  funext a
  fin_cases a <;> rfl

/-- Where a column's elements go. -/
theorem hit : ∀ (s : Fin 8) (L : Fin 128) (u : Fin 4) (h : Fin 2),
    Iff (IntOp.andi (IntOp.andi (IntOp.cmpi .eq (IntOp.shrsi .vector (IntOp.andi (BitVec.ofNat 32 L.val) 63#32) 4#32) (BitVec.ofNat 32 u.val))
      (IntOp.cmpi .eq (IntOp.andi (IntOp.andi (BitVec.ofNat 32 L.val) 63#32) 1#32) (BitVec.ofNat 32 h.val)))
      (IntOp.cmpi .eq (IntOp.shrsi .vector (IntOp.andi (IntOp.andi (BitVec.ofNat 32 L.val) 63#32) 15#32) 1#32) (BitVec.ofNat 32 s.val)) = 1#1)
    (L.val % 64 / 16 = u.val ∧ L.val % 2 = h.val ∧ L.val % 16 / 2 = s.val) := by decide +kernel

/-- A column put in its lanes. -/
theorem putOp_apply (u h : BitVec 32) (u' : Fin 4) (h' : Fin 2) (hu : u = BitVec.ofNat 32 u'.val) (hh : h = BitVec.ofNat 32 h'.val) (x : FVec Ideal S8x1 .f32) (y : FVec Ideal S8x128 .f32) (s : Fin 8) (L : Fin 128) :
    putOp (F := Ideal) (iota .tc S8x128 32 [1] iota_S8x128_d1_w32) (iota .tc S8x128 32 [0] iota_S8x128_d0_w32) u h x y (ix2 s L)
      = if L.val % 64 / 16 = u'.val ∧ L.val % 2 = h'.val ∧ L.val % 16 / 2 = s.val then x (ix2 s (0 : Fin 1)) else y (ix2 s L) := by
  unfold putOp
  rw [shapeCast_self]
  have hb : broadcastTo S8x128 x broadcasts_S8x1_S8x128 (ix2 s L) = x (ix2 s (0 : Fin 1)) := by
    refine broadcastTo_apply _ _ _ _ ?_
    intro a; fin_cases a <;> rfl
  show (if hitOp _ _ u h (ix2 s L) = 1#1 then broadcastTo S8x128 x broadcasts_S8x1_S8x128 (ix2 s L) else y (ix2 s L)) = _
  rw [hb]
  refine if_congr ?_ rfl rfl
  rw [← hit s L u' h', ← lane_iota s L, ← row_iota s L, hu, hh]
  exact Iff.rfl

theorem u_lt (L : Fin 128) : L.val % 64 / 16 < 4 := by omega
theorem h_lt (L : Fin 128) : L.val % 2 < 2 := by omega
theorem s_lt (L : Fin 128) : L.val % 16 / 2 < 8 := by omega

/-- The row of absmaxes at a lane: the absmax of that lane's block. -/
theorem rowOp_apply (X : Fin 4 → Fin 2 → FVec Ideal S8x1 .f32) (hX : ∀ u h s, 0 ≤ X u h (ix2 s (0 : Fin 1))) (L : Fin 128) :
    rowOp (F := Ideal) (iota .tc S8x128 32 [1] iota_S8x128_d1_w32) (iota .tc S8x128 32 [0] iota_S8x128_d0_w32) (X 0 0) (X 0 1) (X 1 0) (X 1 1) (X 2 0) (X 2 1) (X 3 0) (X 3 1) (lane1 L)
      = X ⟨L.val % 64 / 16, u_lt L⟩ ⟨L.val % 2, h_lt L⟩ (ix2 (⟨L.val % 16 / 2, s_lt L⟩ : Fin 8) (0 : Fin 1)) := by
  unfold rowOp
  rw [shapeCast_apply _ _ _ (ix1 L) (by rw [lane1_eq, Shape.rowMajor_val_two, Shape.rowMajor_val_one]; show L.val = 0 * 128 + L.val; omega)]
  refine (Ideal.multiReduction_maximumf_single _ _ _ _ _ _).trans ?_
  rw [show FloatOps.ofBits (F := Ideal) .f32 0xFF800000#32 = ⊥ from cst_bot]
  have hcol : ∀ s : Fin 8, (putAll (F := Ideal) (iota .tc S8x128 32 [1] iota_S8x128_d1_w32) (iota .tc S8x128 32 [0] iota_S8x128_d0_w32) (X 0 0) (X 0 1) (X 1 0) (X 1 1) (X 2 0) (X 2 1) (X 3 0) (X 3 1) (ix2 s L))
      = if L.val % 16 / 2 = s.val then X ⟨L.val % 64 / 16, u_lt L⟩ ⟨L.val % 2, h_lt L⟩ (ix2 s (0 : Fin 1)) else 0 := by
    intro s
    unfold putAll
    rw [putOp_apply 3#32 1#32 3 1 rfl rfl, putOp_apply 3#32 0#32 3 0 rfl rfl, putOp_apply 2#32 1#32 2 1 rfl rfl, putOp_apply 2#32 0#32 2 0 rfl rfl,
      putOp_apply 1#32 1#32 1 1 rfl rfl, putOp_apply 1#32 0#32 1 0 rfl rfl, putOp_apply 0#32 1#32 0 1 rfl rfl, putOp_apply 0#32 0#32 0 0 rfl rfl]
    have hz : (broadcast S8x128 (Scalar.ofBits (F := Ideal) .f32 0x00000000#32) : FVec Ideal S8x128 .f32) (ix2 s L) = 0 := cst_zero
    rw [hz]
    by_cases hs : L.val % 16 / 2 = s.val
    · generalize hu : (⟨L.val % 64 / 16, u_lt L⟩ : Fin 4) = u
      generalize hh : (⟨L.val % 2, h_lt L⟩ : Fin 2) = h
      have hu' : L.val % 64 / 16 = u.val := congrArg Fin.val hu
      have hh' : L.val % 2 = h.val := congrArg Fin.val hh
      rw [hu', hh']
      simp only [hs, and_true, if_true]
      fin_cases u <;> fin_cases h <;> rfl
    · simp only [hs, and_false, if_false]
  have hlift : ∀ s : Fin 8, reduces_S8x128_S128.lift (ix1 L) s = ix2 s L := by
    intro s; funext a; fin_cases a <;> rfl
  refine le_antisymm ((Finset.fold_max_le _).mpr ⟨bot_le, fun s _ => ?_⟩) ((Finset.le_fold_max _).mpr (Or.inr ⟨(⟨L.val % 16 / 2, s_lt L⟩ : Fin 8), Finset.mem_univ _, ?_⟩))
  · refine ((congrArg _ (hlift s)).trans (hcol s)).trans_le ?_
    split
    · next hs =>
      have : s = (⟨L.val % 16 / 2, s_lt L⟩ : Fin 8) := Fin.ext hs.symm
      rw [this]
    · exact hX _ _ _
  · exact ((congrArg _ (hlift _)).trans ((hcol _).trans (if_pos rfl))).ge

/-- The offset of a unit's codes. -/
def offOf (u : Fin 4) : Fin 2 → ℕ := ![8 * u.val, 0]

theorem slicesOf : ∀ u : Fin 4, S32x128.Slices (offOf u) S8x128 := by decide

/-- The word of a parity. -/
def h64Of (h : Fin 2) : BitVec 32 := BitVec.ofNat 32 (64 * h.val)
def addOf (h : Fin 2) : BitVec 32 := BitVec.ofNat 32 (269488144 * h.val)

section Row
variable (p : Fin 2) (tab : FVec Ideal S1x128 .f32) (am : Vec Ideal S1x1x128 .f32) (cd : Vec Ideal S32x128 .i8) (g : Fin 4 → Vec Ideal S16x128 .bf16)

/-- The column of m's absmaxes of a unit's blocks of one parity. -/
def mCol (u : Fin 4) (h : Fin 2) : FVec Ideal S8x1 .f32 :=
  maxOp (absf (mOp (offOf u) (slicesOf u) (tabOp k0_pay168 (BitVec.ofNat 32 p.val) 0x3F666666#32 tab am) (idxOp k0_pay167 cd (h64Of h) (addOf h)) (gradOp h (g u))))

/-- The column of v's absmaxes of a unit's blocks of one parity. -/
def vCol (u : Fin 4) (h : Fin 2) : FVec Ideal S8x1 .f32 :=
  maxOp (vOp (offOf u) (slicesOf u) (tabOp k0_pay168 (BitVec.ofNat 32 p.val) 0x3F733333#32 tab am) (idxOp k0_pay167 cd (h64Of h) (addOf h)) (gradOp h (g u)))

/-- The table value, the absmax and the gradient at lane `l` of the block of unit `u`, parity `h`, sublane `s`. -/
def tAt (u : Fin 4) (h : Fin 2) (s : Fin 8) (l : Fin 128) : EReal := tab (ix2 (0 : Fin 1) ⟨codeAt cd u s h l + 16 * h.val + 32 * u.val, codeAt_lt cd u s h l⟩)
def aAt (u : Fin 4) (h : Fin 2) (s : Fin 8) : EReal := am (ix3 (0 : Fin 1) (0 : Fin 1) ⟨64 * p.val + 16 * u.val + 2 * s.val + h.val, block_lt p u s h⟩)
def gAt (u : Fin 4) (h : Fin 2) (s : Fin 8) (l : Fin 128) : EReal := g u (ix2 ⟨2 * s.val + h.val, grad_lt h s⟩ l)

theorem mCol_apply (u : Fin 4) (h : Fin 2) (s : Fin 8) :
    mCol p tab am cd g u h (ix2 s (0 : Fin 1)) = rowTop fun l => max (mNew (tAt tab cd u h s l) (aAt p am u h s) (gAt g u h s l)) (-mNew (tAt tab cd u h s l) (aAt p am u h s) (gAt g u h s l)) := by
  unfold mCol
  rw [maxOp_apply]
  congr 1
  funext l
  have e : mOp (F := Ideal) (offOf u) (slicesOf u) (tabOp k0_pay168 (BitVec.ofNat 32 p.val) 0x3F666666#32 tab am) (idxOp k0_pay167 cd (h64Of h) (addOf h)) (gradOp h (g u)) (ix2 s l)
      = mNew (tAt tab cd u h s l) (aAt p am u h s) (gAt g u h s l) := by
    show deqOp (F := Ideal) (offOf u) (slicesOf u) _ _ (ix2 s l) + cst 0x3DCCCCCD#32 * gradOp (F := Ideal) h (g u) (ix2 s l) = _
    rw [deqOp_apply (offOf u) (slicesOf u) u rfl h (h64Of h) (addOf h) rfl rfl, gradOp_apply]
    rfl
  exact congrArg (fun x : EReal => max x (-x)) e

theorem vCol_apply (u : Fin 4) (h : Fin 2) (s : Fin 8) :
    vCol p tab am cd g u h (ix2 s (0 : Fin 1)) = rowTop fun l => vNew (tAt tab cd u h s l) (aAt p am u h s) (gAt g u h s l) := by
  unfold vCol
  rw [maxOp_apply]
  congr 1
  funext l
  show deqOp (F := Ideal) (offOf u) (slicesOf u) _ _ (ix2 s l) + cst 0x3D4CCCCD#32 * gradOp (F := Ideal) h (g u) (ix2 s l) * gradOp (F := Ideal) h (g u) (ix2 s l) = _
  rw [deqOp_apply (offOf u) (slicesOf u) u rfl h (h64Of h) (addOf h) rfl rfl, gradOp_apply]
  rfl

/-- The row of m's absmaxes at a lane. -/
theorem mRow_apply (L : Fin 128) :
    mRow (F := Ideal) (iota .tc S8x128 32 [1] iota_S8x128_d1_w32) (iota .tc S8x128 32 [0] iota_S8x128_d0_w32) k0_pay167 k0_pay168 (BitVec.ofNat 32 p.val) tab am cd (g 0) (g 1) (g 2) (g 3) (lane1 L)
      = mCol p tab am cd g ⟨L.val % 64 / 16, u_lt L⟩ ⟨L.val % 2, h_lt L⟩ (ix2 (⟨L.val % 16 / 2, s_lt L⟩ : Fin 8) (0 : Fin 1)) := by
  rw [← rowOp_apply (mCol p tab am cd g) (fun u h s => by
    rw [mCol_apply]
    refine rowTop_nonneg _ fun l => ?_
    rcases le_total (mNew (tAt tab cd u h s l) (aAt p am u h s) (gAt g u h s l)) 0 with h0 | h0
    · exact le_max_of_le_right (EReal.neg_nonneg.mpr h0)
    · exact le_max_of_le_left h0) L]
  rfl

/-- The row of v's absmaxes at a lane, where the new values are not negative. -/
theorem vRow_apply (hv : ∀ u h s l, 0 ≤ vNew (tAt tab cd u h s l) (aAt p am u h s) (gAt g u h s l)) (L : Fin 128) :
    vRow (F := Ideal) (iota .tc S8x128 32 [1] iota_S8x128_d1_w32) (iota .tc S8x128 32 [0] iota_S8x128_d0_w32) k0_pay167 k0_pay168 (BitVec.ofNat 32 p.val) tab am cd (g 0) (g 1) (g 2) (g 3) (lane1 L)
      = vCol p tab am cd g ⟨L.val % 64 / 16, u_lt L⟩ ⟨L.val % 2, h_lt L⟩ (ix2 (⟨L.val % 16 / 2, s_lt L⟩ : Fin 8) (0 : Fin 1)) := by
  rw [← rowOp_apply (vCol p tab am cd g) (fun u h s => by
    rw [vCol_apply]
    exact rowTop_nonneg _ fun l => hv u h s l) L]
  rfl

end Row

end Cert.KernelIdeal.Hand

end
-- ==== Proof.Block.lean ====
module

public import proofs.«01_k».proof.Proof.Point
public import proofs.«01_k».proof.Proof.Env
public import Idealize.ShloMosaic.Lib.WholeRead

/-! The blocks of absmaxes a step leaves, over the reals, from the blocks it is given. -/

@[expose] public section

set_option maxRecDepth 16384

noncomputable section

namespace Cert.KernelIdeal.Hand

open Cert.KernelIdeal Cert.KernelIdeal.Gen Cert.Absmax
open Idealize.ShloMosaic hiding ix1 ix2 ix3
open ValueIdx (ix1 ix2 ix3 eq_ix2 eq_ix3)

theorem off3_eq : ∀ k : Fin k0_t1_loop.trips, k0_off3 k = ![0, k.val / 2, 0] := by decide +kernel
theorem off4_eq : ∀ k : Fin k0_t1_loop.trips, k0_off4 k = ![32 * k.val, 0] := by decide +kernel
theorem off8_eq : ∀ (k : Fin k0_t1_loop.trips) (r : Fin 4), k0_off8 k (BitVec.ofNat 32 (16 * r.val)) = ![64 * k.val + 16 * r.val, 0] := by decide +kernel

/-- What a load of 16 rows of gradients reads. -/
theorem gLoad_apply {sp : Space} (mr : Memref sig .tc sp S512x128 .bf16) (h : mr.IsWhole) (x : Vec Ideal S512x128 .bf16) (k : Fin k0_t1_loop.trips) (r : Fin 4)
    (j : Fin 16) (l : Fin 128) (b : Fin 512) (hb : b.val = 64 * k.val + 16 * r.val + j.val) :
    gLoad (F := Ideal) mr.view (h.unread x) k r (ix2 j l) = x (ix2 b l) := by
  unfold gLoad
  rw [h.readAt_unread]
  congr 1
  funext a
  have e := off8_eq k r
  fin_cases a
  · refine Fin.ext ?_
    show k0_off8 k (BitVec.ofNat 32 (16 * r.val)) 0 + 1 * j.val = b.val
    rw [e, hb]; show 64 * k.val + 16 * r.val + 1 * j.val = _; omega
  · refine Fin.ext ?_
    show k0_off8 k (BitVec.ofNat 32 (16 * r.val)) 1 + 1 * l.val = l.val
    rw [e]; show 0 + 1 * l.val = _; omega

/-- What a load of a group's codes reads. -/
theorem cLoad_apply {sp : Space} (mr : Memref sig .tc sp S256x128 .i8) (h : mr.IsWhole) (x : Vec Ideal S256x128 .i8) (k : Fin k0_t1_loop.trips)
    (j : Fin 32) (l : Fin 128) (b : Fin 256) (hb : b.val = 32 * k.val + j.val) :
    cLoad (F := Ideal) mr.view (h.unread x) k (ix2 j l) = x (ix2 b l) := by
  unfold cLoad
  rw [h.readAt_unread]
  congr 1
  funext a
  have e := off4_eq k
  fin_cases a
  · refine Fin.ext ?_
    show k0_off4 k 0 + 1 * j.val = b.val
    rw [e, hb]; show 32 * k.val + 1 * j.val = _; omega
  · refine Fin.ext ?_
    show k0_off4 k 1 + 1 * l.val = l.val
    rw [e]; show 0 + 1 * l.val = _; omega

/-- What a load of a row of absmaxes reads. -/
theorem aLoad_apply {sp : Space} (mr : Memref sig .tc sp S1x4x128 .f32) (h : mr.IsWhole) (x : Vec Ideal S1x4x128 .f32) (k : Fin k0_t1_loop.trips)
    (l : Fin 128) (b : Fin 4) (hb : b.val = k.val / 2) :
    aLoad (F := Ideal) mr.view (h.unread x) k (ix3 (0 : Fin 1) (0 : Fin 1) l) = x (ix3 (0 : Fin 1) b l) := by
  unfold aLoad
  rw [h.readAt_unread]
  congr 1
  funext a
  have e := off3_eq k
  fin_cases a
  · refine Fin.ext ?_
    show k0_off3 k 0 + 1 * 0 = 0
    rw [e]; rfl
  · refine Fin.ext ?_
    show k0_off3 k 1 + 1 * 0 = b.val
    rw [e, hb]; rfl
  · refine Fin.ext ?_
    show k0_off3 k 2 + 1 * l.val = l.val
    rw [e]; show 0 + 1 * l.val = _; omega

namespace Env

section Rows
variable {F : FTy → Type} [FloatOps F] (e : Env F)

theorem half_inj (v : IVec S8x128 32) (hv : ∀ j, v j = BitVec.ofNat 32 (j 1).val) (k : Fin k0_t1_loop.trips) (nw nw' : FVec F S1x128 .f32) (old : Vec F S1x1x128 .f32)
    (h : halfRow v (BitVec.ofNat 32 (k.val % 2)) nw old = halfRow v (BitVec.ofNat 32 (k.val % 2)) nw' old) (L : Fin 128) (hL : L.val / 64 = k.val % 2) :
    nw (lane1 L) = nw' (lane1 L) := by
  have h1 := congrFun h (ix3 (0 : Fin 1) (0 : Fin 1) L)
  have e1 := (halfRow_apply v hv k nw old (ix3 (0 : Fin 1) (0 : Fin 1) L)).trans (if_pos hL)
  have e2 := (halfRow_apply v hv k nw' old (ix3 (0 : Fin 1) (0 : Fin 1) L)).trans (if_pos hL)
  exact e1.symm.trans (h1.trans e2)

theorem piece_inj {s : Shape} {t : EltTy} (R : Rect s) (a b : R.shape.Idx → Elt F t)
    (h : ([⟨R, a⟩] : List (View.Piece (Elt F) s t)) = [⟨R, b⟩]) : a = b := by
  injection h with h1 _
  injection h1 with _ h2

/-- The half row of m's absmaxes is the row the trip computes, in that half. -/
theorem N15_eq (k : Fin k0_t1_loop.trips) (L : Fin 128) (hL : L.val / 64 = k.val % 2) :
    e.N15 k (lane1 L) = mRow e.v0 e.v1 e.v19 e.v31 (BitVec.ofNat 32 (k.val % 2)) e.v3 (aLoad e.arg10.view (e.harg10.unread e.x10) k) (cLoad e.arg9.view (e.harg9.unread e.x9) k)
          (gLoad e.arg8.view (e.harg8.unread e.x8) k 0) (gLoad e.arg8.view (e.harg8.unread e.x8) k 1) (gLoad e.arg8.view (e.harg8.unread e.x8) k 2) (gLoad e.arg8.view (e.harg8.unread e.x8) k 3) (lane1 L) := by
  have h := (e.run15 k e.arg15.view.junk e.arg17.view.junk).symm.trans
    (row15_eq (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k _ _ (e.chk k)
      (e.accAt (k.val + 1) - e.accAt k.val) (e.call k) e.arg15.view.junk e.arg17.view.junk)
  unfold P15 at h
  exact half_inj e.v0 e.hv0 k _ _ _ (piece_inj (F := F) (t := .f32) (Rect.unit (s := S1x4x128) (k0_off11 k) S1x1x128.size (k0_off11_inb k)) _ _ h) L hL

/-- The half row of v's absmaxes is the row the trip computes, in that half. -/
theorem N17_eq (k : Fin k0_t1_loop.trips) (L : Fin 128) (hL : L.val / 64 = k.val % 2) :
    e.N17 k (lane1 L) = vRow e.v0 e.v1 e.v19 e.v31 (BitVec.ofNat 32 (k.val % 2)) e.v5 (aLoad e.arg12.view (e.harg12.unread e.x12) k) (cLoad e.arg11.view (e.harg11.unread e.x11) k)
          (gLoad e.arg8.view (e.harg8.unread e.x8) k 0) (gLoad e.arg8.view (e.harg8.unread e.x8) k 1) (gLoad e.arg8.view (e.harg8.unread e.x8) k 2) (gLoad e.arg8.view (e.harg8.unread e.x8) k 3) (lane1 L) := by
  have h := (e.run17 k e.arg15.view.junk e.arg17.view.junk).symm.trans
    (row17_eq (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k _ _ (e.chk k)
      (e.accAt (k.val + 1) - e.accAt k.val) (e.call k) e.arg15.view.junk e.arg17.view.junk)
  unfold P17 at h
  exact half_inj e.v0 e.hv0 k _ _ _ (piece_inj (F := F) (t := .f32) (Rect.unit (s := S1x4x128) (k0_off11 k) S1x1x128.size (k0_off11_inb k)) _ _ h) L hL

end Rows

theorem blk_lt (r : Fin 4) (L : Fin 128) : 128 * r.val + L.val < 512 := by omega
theorem pair_lt (r : Fin 4) (L : Fin 128) : (128 * r.val + L.val) / 2 < 256 := by omega
theorem mod_lt (n : ℕ) : n % 16 < 16 := by omega

/-- The codes of block `L` of row `r` of the absmaxes. -/
def codes (x : Vec Ideal S256x128 .i8) (r : Fin 4) (L l : Fin 128) : Fin 16 :=
  nibF (x (ix2 ⟨(128 * r.val + L.val) / 2, pair_lt r L⟩ ⟨l.val / 2 + 64 * (L.val % 2), src_lt l ⟨L.val % 2, h_lt L⟩⟩)) (l.val % 2) (Nat.mod_lt _ Nat.two_pos)

/-- The gradients of that block. -/
def grads (x : Vec Ideal S512x128 .bf16) (r : Fin 4) (L l : Fin 128) : EReal := x (ix2 ⟨128 * r.val + L.val, blk_lt r L⟩ l)

section Ideal
variable (e : Env Ideal) (h0 : e.v0 = iota .tc S8x128 32 [1] iota_S8x128_d1_w32) (h1 : e.v1 = iota .tc S8x128 32 [0] iota_S8x128_d0_w32)
  (h19 : e.v19 = k0_pay167) (h31 : e.v31 = k0_pay168) (q : Fin 16 → EReal)

theorem code_eq (x : Vec Ideal S256x128 .i8) {sp : Space} (mr : Memref sig .tc sp S256x128 .i8) (h : mr.IsWhole) (r : Fin 4) (L : Fin 128) (k : Fin k0_t1_loop.trips)
    (hk : 2 * r.val + L.val / 64 = k.val) (l : Fin 128) :
    codeAt (cLoad (F := Ideal) mr.view (h.unread x) k) ⟨L.val % 64 / 16, u_lt L⟩ ⟨L.val % 16 / 2, s_lt L⟩ ⟨L.val % 2, h_lt L⟩ l = (codes x r L l).val := by
  unfold codeAt codes nibF
  rw [cLoad_apply mr h x k _ _ ⟨(128 * r.val + L.val) / 2, pair_lt r L⟩ (by show (128 * r.val + L.val) / 2 = 32 * k.val + (8 * (L.val % 64 / 16) + L.val % 16 / 2); omega)]

theorem tab_eq (t : FVec Ideal S1x128 .f32) (ht : ∀ j : Fin 128, t (ix2 (0 : Fin 1) j) = q ⟨j.val % 16, mod_lt _⟩)
    (x : Vec Ideal S256x128 .i8) {sp : Space} (mr : Memref sig .tc sp S256x128 .i8) (h : mr.IsWhole) (r : Fin 4) (L : Fin 128) (k : Fin k0_t1_loop.trips)
    (hk : 2 * r.val + L.val / 64 = k.val) (l : Fin 128) :
    tAt t (cLoad (F := Ideal) mr.view (h.unread x) k) ⟨L.val % 64 / 16, u_lt L⟩ ⟨L.val % 2, h_lt L⟩ ⟨L.val % 16 / 2, s_lt L⟩ l = q (codes x r L l) := by
  unfold tAt
  rw [ht]
  congr 1
  refine Fin.ext ?_
  show (codeAt _ _ _ _ l + 16 * (L.val % 2) + 32 * (L.val % 64 / 16)) % 16 = _
  rw [code_eq x mr h r L k hk l]
  have := (codes x r L l).isLt
  omega

theorem abs_eq (x : Vec Ideal S1x4x128 .f32) {sp : Space} (mr : Memref sig .tc sp S1x4x128 .f32) (h : mr.IsWhole) (r : Fin 4) (L : Fin 128) (k : Fin k0_t1_loop.trips)
    (hk : 2 * r.val + L.val / 64 = k.val) (hp : k.val % 2 < 2) :
    aAt ⟨k.val % 2, hp⟩ (aLoad (F := Ideal) mr.view (h.unread x) k) ⟨L.val % 64 / 16, u_lt L⟩ ⟨L.val % 2, h_lt L⟩ ⟨L.val % 16 / 2, s_lt L⟩ = x (ix3 (0 : Fin 1) r L) := by
  unfold aAt
  rw [aLoad_apply mr h x k _ r (by omega)]
  congr 2
  refine Fin.ext ?_
  show 64 * (k.val % 2) + 16 * (L.val % 64 / 16) + 2 * (L.val % 16 / 2) + L.val % 2 = L.val
  omega

theorem grad_eq (x : Vec Ideal S512x128 .bf16) {sp : Space} (mr : Memref sig .tc sp S512x128 .bf16) (h : mr.IsWhole) (r : Fin 4) (L : Fin 128) (k : Fin k0_t1_loop.trips)
    (hk : 2 * r.val + L.val / 64 = k.val) (l : Fin 128) :
    gAt (fun r => gLoad (F := Ideal) mr.view (h.unread x) k r) ⟨L.val % 64 / 16, u_lt L⟩ ⟨L.val % 2, h_lt L⟩ ⟨L.val % 16 / 2, s_lt L⟩ l = grads x r L l := by
  unfold gAt grads
  exact gLoad_apply mr h x k _ _ _ ⟨128 * r.val + L.val, blk_lt r L⟩ (by show 128 * r.val + L.val = 64 * k.val + 16 * (L.val % 64 / 16) + (2 * (L.val % 16 / 2) + L.val % 2); omega)

include h0 h1 h19 h31 in
/-- A step's absmaxes of m. -/
theorem G15_apply (ht : ∀ j : Fin 128, e.v3 (ix2 (0 : Fin 1) j) = q ⟨j.val % 16, mod_lt _⟩) (r : Fin 4) (L : Fin 128) :
    e.G15 (ix3 (0 : Fin 1) r L) = topM q (e.x10 (ix3 (0 : Fin 1) r L)) (codes e.x9 r L) (grads e.x8 r L) := by
  have hk8 : 2 * r.val + L.val / 64 < k0_t1_loop.trips := by show _ < 8; omega
  obtain ⟨k, hk⟩ : ∃ k : Fin k0_t1_loop.trips, 2 * r.val + L.val / 64 = k.val := ⟨⟨_, hk8⟩, rfl⟩
  have hp : k.val % 2 < 2 := Nat.mod_lt _ Nat.two_pos
  refine (e.G15_of k (ix3 (0 : Fin 1) r L) hk).trans ((e.N15_eq k L (by omega)).trans ?_)
  rw [h0, h1, h19, h31]
  refine (mRow_apply ⟨k.val % 2, hp⟩ e.v3 _ _ (fun r => gLoad (F := Ideal) e.arg8.view (e.harg8.unread e.x8) k r) L).trans ?_
  rw [mCol_apply]
  unfold topM
  congr 1
  funext l
  rw [tab_eq q e.v3 ht e.x9 e.arg9 e.harg9 r L k hk l, abs_eq e.x10 e.arg10 e.harg10 r L k hk hp, grad_eq e.x8 e.arg8 e.harg8 r L k hk l]

theorem vNew_nonneg (t a g : EReal) (ht : 0 ≤ t) (ha : 0 ≤ a) : 0 ≤ vNew t a g := by
  have h1 : (0 : EReal) ≤ cst 0x3F733333#32 := by
    show 0 ≤ Ideal.ofBits .f32 0x3F733333#32
    simp [Ideal.ofBits, Ideal.ieee]
    norm_num
    refine mul_nonneg (α := EReal) ?_ ?_
    · exact EReal.coe_nonneg.mpr (by norm_num)
    · exact EReal.coe_nonneg.mpr (by norm_num)
  have h2 : (0 : EReal) ≤ cst 0x3D4CCCCD#32 := by
    show 0 ≤ Ideal.ofBits .f32 0x3D4CCCCD#32
    simp [Ideal.ofBits, Ideal.ieee]
    norm_num
    refine mul_nonneg (α := EReal) ?_ ?_
    · exact EReal.coe_nonneg.mpr (by norm_num)
    · exact EReal.coe_nonneg.mpr (by norm_num)
  unfold vNew
  refine add_nonneg (mul_nonneg h1 (mul_nonneg ht ha)) ?_
  rw [mul_assoc]
  refine mul_nonneg h2 ?_
  rcases le_total 0 g with h | h
  · exact mul_nonneg h h
  · have := mul_nonneg (EReal.neg_nonneg.mpr h) (EReal.neg_nonneg.mpr h)
    rwa [neg_mul_neg] at this

include h0 h1 h19 h31 in
/-- A step's absmaxes of v, where its table and its blocks' absmaxes are not negative. -/
theorem G17_apply (ht : ∀ j : Fin 128, e.v5 (ix2 (0 : Fin 1) j) = q ⟨j.val % 16, mod_lt _⟩) (hq : ∀ j, 0 ≤ q j) (ha : ∀ y, (0 : EReal) ≤ e.x12 y) (r : Fin 4) (L : Fin 128) :
    e.G17 (ix3 (0 : Fin 1) r L) = topV q (e.x12 (ix3 (0 : Fin 1) r L)) (codes e.x11 r L) (grads e.x8 r L) := by
  have hk8 : 2 * r.val + L.val / 64 < k0_t1_loop.trips := by show _ < 8; omega
  obtain ⟨k, hk⟩ : ∃ k : Fin k0_t1_loop.trips, 2 * r.val + L.val / 64 = k.val := ⟨⟨_, hk8⟩, rfl⟩
  have hp : k.val % 2 < 2 := Nat.mod_lt _ Nat.two_pos
  refine (e.G17_of k (ix3 (0 : Fin 1) r L) hk).trans ((e.N17_eq k L (by omega)).trans ?_)
  rw [h0, h1, h19, h31]
  refine (vRow_apply ⟨k.val % 2, hp⟩ e.v5 _ _ (fun r => gLoad (F := Ideal) e.arg8.view (e.harg8.unread e.x8) k r) (fun u h s l => vNew_nonneg _ _ _ ?_ ?_) L).trans ?_
  · unfold tAt; rw [ht]; exact hq _
  · unfold aAt aLoad; rw [e.harg12.readAt_unread]; exact ha _
  rw [vCol_apply]
  unfold topV
  congr 1
  funext l
  rw [tab_eq q e.v5 ht e.x11 e.arg11 e.harg11 r L k hk l, abs_eq e.x12 e.arg12 e.harg12 r L k hk hp, grad_eq e.x8 e.arg8 e.harg8 r L k hk l]

end Ideal
end Env

end Cert.KernelIdeal.Hand

end
-- ==== Proof.Blocks.lean ====
module

public import proofs.«01_k».proof.Proof.Prologue
public import proofs.«01_k».proof.Proof.Block
public import proofs.«01_k».proof.Proof.Run
public import Idealize.ShloMosaic.Lib.Pipeline.ValueKit.Geometry

/-! The arrays of absmaxes the kernel leaves, over the reals, block by block from the arguments. -/

@[expose] public section

set_option maxRecDepth 16384

noncomputable section

namespace Cert.KernelIdeal.Hand

open Cert.KernelIdeal Cert.KernelIdeal.Gen Cert.Absmax
open Idealize.ShloMosaic hiding ix1 ix2 ix3 eq_ix1 eq_ix2 eq_ix3
open Idealize.ShloMosaic.TcCoe
open ValueIdx (ix1 ix2 ix3 eq_ix2 eq_ix3)

theorem e5 : ∀ t : Fin grid0.N, win0_5.index t = ![0, 0] := by decide +kernel
theorem e7 : ∀ t : Fin grid0.N, win0_7.index t = ![t.val, 0] := by decide +kernel
theorem e8 : ∀ t : Fin grid0.N, win0_8.index t = ![t.val, 0] := by decide +kernel
theorem e9 : ∀ t : Fin grid0.N, win0_9.index t = ![t.val, 0, 0] := by decide +kernel
theorem e10 : ∀ t : Fin grid0.N, win0_10.index t = ![t.val, 0] := by decide +kernel
theorem e11 : ∀ t : Fin grid0.N, win0_11.index t = ![t.val, 0, 0] := by decide +kernel
theorem e14 : ∀ t : Fin grid0.N, win0_14.index t = ![t.val, 0, 0] := by decide +kernel
theorem e16 : ∀ t : Fin grid0.N, win0_16.index t = ![t.val, 0, 0] := by decide +kernel

section Blocks
variable {F : FTy → Type} [FloatOps F] (m : (ℓ : Loc nD τ sig) → Buf (Elt F) ℓ) (c : Dev nD)

theorem grad_row (t : Fin 49) (i : Fin 512) : 512 * t.val + i.val < 25088 := by omega
theorem code_row (t : Fin 49) (i : Fin 256) : 256 * t.val + i.val < 12544 := by omega
theorem flat1 (t : Fin 49) (i : Fin 512) (j : Fin 128) : 128 * (512 * t.val + i.val) + j.val < 3211264 := by omega
theorem flat2 (t : Fin 49) (i : Fin 256) (j : Fin 128) : 128 * (256 * t.val + i.val) + j.val < 1605632 := by omega

theorem flat_g (x : Vec F S3211264 .bf16) (b : Fin 25088) (j : Fin 128) :
    shapeCast S25088x128 x shapeCasts_S3211264_S25088x128 (ix2 b j) = x (ix1 ⟨128 * b.val + j.val, flat_lt b j⟩) :=
  shapeCast_apply _ _ _ _ (by rw [Shape.rowMajor_val_one, Shape.rowMajor_val_two]; show 128 * b.val + j.val = b.val * 128 + j.val; omega)

theorem half_lt (b : Fin 12544) (j : Fin 128) : 128 * b.val + j.val < 1605632 := by omega

theorem flat_c (x : Vec F S1605632 .i8) (b : Fin 12544) (j : Fin 128) :
    shapeCast S12544x128 x shapeCasts_S1605632_S12544x128 (ix2 b j) = x (ix1 ⟨128 * b.val + j.val, half_lt b j⟩) :=
  shapeCast_apply _ _ _ _ (by rw [Shape.rowMajor_val_one, Shape.rowMajor_val_two]; show 128 * b.val + j.val = b.val * 128 + j.val; omega)

theorem flat_a (x : Vec F S25088 .f32) (t : Fin 49) (r : Fin 4) (j : Fin 128) :
    shapeCast S49x4x128 x shapeCasts_S25088_S49x4x128 (ix3 t r j) = x (ix1 ⟨512 * t.val + 128 * r.val + j.val, flat3 t r j⟩) :=
  shapeCast_apply _ _ _ _ (by rw [Shape.rowMajor_val_one, Shape.rowMajor_val_three]; show 512 * t.val + 128 * r.val + j.val = (t.val * 4 + r.val) * 128 + j.val; omega)

/-- A step's gradients. -/
theorem iblk7 (t : Fin 49) (i : Fin 512) (j : Fin 128) : (iblk m c 7 t : Vec F S512x128 .bf16) (ix2 i j) = (m ((c : Thread nD τ).loc main_arg1) : Vec F S3211264 .bf16) (ix1 ⟨128 * (512 * t.val + i.val) + j.val, flat1 t i j⟩) := by
  have h : (iblk m c 7 t : Vec F S512x128 .bf16) (ix2 i j) = (V m c main_v114 : Vec F S25088x128 .bf16) (ix2 ⟨512 * t.val + i.val, grad_row t i⟩ j) := by
    unfold iblk
    refine congrArg (V m c main_v114 : Vec F S25088x128 .bf16) ?_
    funext a
    apply Fin.ext
    have e := e7 t
    fin_cases a
    · refine (Pipeline.Window.rect_emb_val win0_7 t (ix2 i j) 0).trans ?_
      rw [e]; show t.val * 512 + i.val = 512 * t.val + i.val; omega
    · refine (Pipeline.Window.rect_emb_val win0_7 t (ix2 i j) 1).trans ?_
      rw [e]; show 0 * 128 + j.val = j.val; omega
  rw [h, V_v114]
  exact flat_g _ _ _

/-- A step's codes of m. -/
theorem iblk8 (t : Fin 49) (i : Fin 256) (j : Fin 128) : (iblk m c 8 t : Vec F S256x128 .i8) (ix2 i j) = (m ((c : Thread nD τ).loc main_arg2) : Vec F S1605632 .i8) (ix1 ⟨128 * (256 * t.val + i.val) + j.val, flat2 t i j⟩) := by
  have h : (iblk m c 8 t : Vec F S256x128 .i8) (ix2 i j) = (V m c main_v115 : Vec F S12544x128 .i8) (ix2 ⟨256 * t.val + i.val, code_row t i⟩ j) := by
    unfold iblk
    refine congrArg (V m c main_v115 : Vec F S12544x128 .i8) ?_
    funext a
    apply Fin.ext
    have e := e8 t
    fin_cases a
    · refine (Pipeline.Window.rect_emb_val win0_8 t (ix2 i j) 0).trans ?_
      rw [e]; show t.val * 256 + i.val = 256 * t.val + i.val; omega
    · refine (Pipeline.Window.rect_emb_val win0_8 t (ix2 i j) 1).trans ?_
      rw [e]; show 0 * 128 + j.val = j.val; omega
  rw [h, V_v115]
  exact flat_c _ _ _

/-- A step's codes of v. -/
theorem iblk10 (t : Fin 49) (i : Fin 256) (j : Fin 128) : (iblk m c 10 t : Vec F S256x128 .i8) (ix2 i j) = (m ((c : Thread nD τ).loc main_arg4) : Vec F S1605632 .i8) (ix1 ⟨128 * (256 * t.val + i.val) + j.val, flat2 t i j⟩) := by
  have h : (iblk m c 10 t : Vec F S256x128 .i8) (ix2 i j) = (V m c main_v117 : Vec F S12544x128 .i8) (ix2 ⟨256 * t.val + i.val, code_row t i⟩ j) := by
    unfold iblk
    refine congrArg (V m c main_v117 : Vec F S12544x128 .i8) ?_
    funext a
    apply Fin.ext
    have e := e10 t
    fin_cases a
    · refine (Pipeline.Window.rect_emb_val win0_10 t (ix2 i j) 0).trans ?_
      rw [e]; show t.val * 256 + i.val = 256 * t.val + i.val; omega
    · refine (Pipeline.Window.rect_emb_val win0_10 t (ix2 i j) 1).trans ?_
      rw [e]; show 0 * 128 + j.val = j.val; omega
  rw [h, V_v117]
  exact flat_c _ _ _

/-- A step's absmaxes of m. -/
theorem iblk9 (t : Fin 49) (r : Fin 4) (j : Fin 128) : (iblk m c 9 t : Vec F S1x4x128 .f32) (ix3 (0 : Fin 1) r j) = (m ((c : Thread nD τ).loc main_arg3) : Vec F S25088 .f32) (ix1 ⟨512 * t.val + 128 * r.val + j.val, flat3 t r j⟩) := by
  have h : (iblk m c 9 t : Vec F S1x4x128 .f32) (ix3 (0 : Fin 1) r j) = (V m c main_v116 : Vec F S49x4x128 .f32) (ix3 t r j) := by
    unfold iblk
    refine congrArg (V m c main_v116 : Vec F S49x4x128 .f32) ?_
    funext a
    apply Fin.ext
    have e := e9 t
    fin_cases a
    · refine (Pipeline.Window.rect_emb_val win0_9 t (ix3 (0 : Fin 1) r j) 0).trans ?_
      rw [e]; show t.val * 1 + 0 = t.val; omega
    · refine (Pipeline.Window.rect_emb_val win0_9 t (ix3 (0 : Fin 1) r j) 1).trans ?_
      rw [e]; show 0 * 4 + r.val = r.val; omega
    · refine (Pipeline.Window.rect_emb_val win0_9 t (ix3 (0 : Fin 1) r j) 2).trans ?_
      rw [e]; show 0 * 128 + j.val = j.val; omega
  rw [h, V_v116]
  exact flat_a _ _ _ _

/-- A step's absmaxes of v. -/
theorem iblk11 (t : Fin 49) (r : Fin 4) (j : Fin 128) : (iblk m c 11 t : Vec F S1x4x128 .f32) (ix3 (0 : Fin 1) r j) = (m ((c : Thread nD τ).loc main_arg5) : Vec F S25088 .f32) (ix1 ⟨512 * t.val + 128 * r.val + j.val, flat3 t r j⟩) := by
  have h : (iblk m c 11 t : Vec F S1x4x128 .f32) (ix3 (0 : Fin 1) r j) = (V m c main_v118 : Vec F S49x4x128 .f32) (ix3 t r j) := by
    unfold iblk
    refine congrArg (V m c main_v118 : Vec F S49x4x128 .f32) ?_
    funext a
    apply Fin.ext
    have e := e11 t
    fin_cases a
    · refine (Pipeline.Window.rect_emb_val win0_11 t (ix3 (0 : Fin 1) r j) 0).trans ?_
      rw [e]; show t.val * 1 + 0 = t.val; omega
    · refine (Pipeline.Window.rect_emb_val win0_11 t (ix3 (0 : Fin 1) r j) 1).trans ?_
      rw [e]; show 0 * 4 + r.val = r.val; omega
    · refine (Pipeline.Window.rect_emb_val win0_11 t (ix3 (0 : Fin 1) r j) 2).trans ?_
      rw [e]; show 0 * 128 + j.val = j.val; omega
  rw [h, V_v118]
  exact flat_a _ _ _ _

/-- The tables, whole at every step. -/
theorem iblk5 (t : Fin 49) (i : Fin 4) (j : Fin 128) : (iblk m c 5 t : Vec F S4x128 .f32) (ix2 i j) = (V m c main_v112 : Vec F S4x128 .f32) (ix2 i j) := by
  unfold iblk
  refine congrArg (V m c main_v112 : Vec F S4x128 .f32) ?_
  funext a
  apply Fin.ext
  have e := e5 t
  fin_cases a
  · refine (Pipeline.Window.rect_emb_val win0_5 t (ix2 i j) 0).trans ?_
    rw [e]; show 0 * 4 + i.val = i.val; omega
  · refine (Pipeline.Window.rect_emb_val win0_5 t (ix2 i j) 1).trans ?_
    rw [e]; show 0 * 128 + j.val = j.val; omega

end Blocks

section Arrays
variable (m : (ℓ : Loc nD τ sig) → Buf (Elt Ideal) ℓ) (hO : LastOffset m) (c : Dev nD)

theorem row_of (y : S1x4x128.Idx) : y = ix3 (0 : Fin 1) (y 1) (y 2) := by
  funext a
  fin_cases a
  · exact Fin.ext (by have h : (y 0).val < 1 := (y 0).isLt; show (y 0).val = 0; omega)
  · rfl
  · rfl

/-- A step's table of m. -/
theorem v3_apply (t : Fin 49) (j : Fin 128) : (envAt m hO c t).v3 (ix2 (0 : Fin 1) j) = (m ((c : Thread nD τ).loc main_arg6) : Vec Ideal S16 .f32) (ix1 ⟨j.val % 16, Env.mod_lt _⟩) := by
  refine Eq.trans ?_ (V_v112_0 m c j)
  refine Eq.trans ?_ (iblk5 m c t 0 j)
  unfold envAt
  dsimp only [env]
  unfold k0_pay163
  rw [shapeCast_self]
  refine (Memref.IsWhole.readAt_unread _ _ _ _).trans ?_
  congr 1
  funext a
  fin_cases a
  · rfl
  · exact Fin.ext (by show 0 + 1 * j.val = j.val; omega)

/-- A step's table of v. -/
theorem v5_apply (t : Fin 49) (j : Fin 128) : (envAt m hO c t).v5 (ix2 (0 : Fin 1) j) = (m ((c : Thread nD τ).loc main_arg7) : Vec Ideal S16 .f32) (ix1 ⟨j.val % 16, Env.mod_lt _⟩) := by
  refine Eq.trans ?_ (V_v112_1 m c j)
  refine Eq.trans ?_ (iblk5 m c t 1 j)
  unfold envAt
  dsimp only [env]
  unfold k0_pay164
  rw [shapeCast_self]
  refine (Memref.IsWhole.readAt_unread _ _ _ _).trans ?_
  congr 1
  funext a
  fin_cases a
  · rfl
  · exact Fin.ext (by show 0 + 1 * j.val = j.val; omega)

theorem codes_eq (t : Fin 49) (x : Vec Ideal S256x128 .i8) (cd : Vec Ideal S1605632 .i8) (hx : ∀ i j, x (ix2 i j) = cd (ix1 ⟨128 * (256 * t.val + i.val) + j.val, flat2 t i j⟩)) (r : Fin 4) (L : Fin 128) :
    Env.codes x r L = codesOf cd ⟨512 * t.val + 128 * r.val + L.val, flat3 t r L⟩ := by
  funext l
  unfold Env.codes codesOf
  rw [hx]
  congr 3
  refine Fin.ext ?_
  show 128 * (256 * t.val + (128 * r.val + L.val) / 2) + (l.val / 2 + 64 * (L.val % 2)) = 64 * (512 * t.val + 128 * r.val + L.val) + l.val / 2
  omega

theorem grads_eq (t : Fin 49) (x : Vec Ideal S512x128 .bf16) (g : Vec Ideal S3211264 .bf16) (hx : ∀ i j, x (ix2 i j) = g (ix1 ⟨128 * (512 * t.val + i.val) + j.val, flat1 t i j⟩)) (r : Fin 4) (L : Fin 128) :
    Env.grads x r L = gradsOf g ⟨512 * t.val + 128 * r.val + L.val, flat3 t r L⟩ := by
  funext l
  unfold Env.grads gradsOf
  rw [hx]
  congr 2
  refine Fin.ext ?_
  show 128 * (512 * t.val + (128 * r.val + L.val)) + l.val = 128 * (512 * t.val + 128 * r.val + L.val) + l.val
  omega

/-- The array of m's absmaxes. -/
def arrM : Vec Ideal S49x4x128 .f32 := fun y => absM (m ((c : Thread nD τ).loc main_arg6)) (m ((c : Thread nD τ).loc main_arg3)) (m ((c : Thread nD τ).loc main_arg2)) (m ((c : Thread nD τ).loc main_arg1)) (blockOf y)

/-- The array of v's absmaxes. -/
def arrV : Vec Ideal S49x4x128 .f32 := fun y => absV (m ((c : Thread nD τ).loc main_arg7)) (m ((c : Thread nD τ).loc main_arg5)) (m ((c : Thread nD τ).loc main_arg4)) (m ((c : Thread nD τ).loc main_arg1)) (blockOf y)

/-- What the step loads of m's absmaxes, codes and gradients, and of v's absmaxes and codes. -/
theorem x10_at (t : Fin 49) (r : Fin 4) (L : Fin 128) : (envAt m hO c t).x10 (ix3 (0 : Fin 1) r L) = (m ((c : Thread nD τ).loc main_arg3) : Vec Ideal S25088 .f32) (ix1 ⟨512 * t.val + 128 * r.val + L.val, flat3 t r L⟩) :=
  iblk9 m c t r L
theorem x12_at (t : Fin 49) (r : Fin 4) (L : Fin 128) : (envAt m hO c t).x12 (ix3 (0 : Fin 1) r L) = (m ((c : Thread nD τ).loc main_arg5) : Vec Ideal S25088 .f32) (ix1 ⟨512 * t.val + 128 * r.val + L.val, flat3 t r L⟩) :=
  iblk11 m c t r L
theorem codes_m (t : Fin 49) (r : Fin 4) (L : Fin 128) : Env.codes (envAt m hO c t).x9 r L = codesOf (m ((c : Thread nD τ).loc main_arg2)) ⟨512 * t.val + 128 * r.val + L.val, flat3 t r L⟩ :=
  codes_eq t _ _ (iblk8 m c t) r L
theorem codes_v (t : Fin 49) (r : Fin 4) (L : Fin 128) : Env.codes (envAt m hO c t).x11 r L = codesOf (m ((c : Thread nD τ).loc main_arg4)) ⟨512 * t.val + 128 * r.val + L.val, flat3 t r L⟩ :=
  codes_eq t _ _ (iblk10 m c t) r L
theorem grads_at (t : Fin 49) (r : Fin 4) (L : Fin 128) : Env.grads (envAt m hO c t).x8 r L = gradsOf (m ((c : Thread nD τ).loc main_arg1)) ⟨512 * t.val + 128 * r.val + L.val, flat3 t r L⟩ :=
  grads_eq t _ _ (iblk7 m c t) r L

theorem step_m (t : Fin 49) (r : Fin 4) (L : Fin 128) : (envAt m hO c t).G15 (ix3 (0 : Fin 1) r L) = arrM m c (ix3 t r L) := by
  rw [Env.G15_apply (envAt m hO c t) rfl rfl rfl rfl (fun j => (m ((c : Thread nD τ).loc main_arg6) : Vec Ideal S16 .f32) (ix1 j)) (v3_apply m hO c t) r L]
  rw [x10_at, codes_m, grads_at]
  rfl

theorem x12_nonneg (ha : ∀ j, (0 : EReal) ≤ (m ((c : Thread nD τ).loc main_arg5) : Vec Ideal S25088 .f32) j) (t : Fin 49) (y : S1x4x128.Idx) :
    (0 : EReal) ≤ (iblk m c 11 t : Vec Ideal S1x4x128 .f32) y := by
  have h : (iblk m c 11 t : Vec Ideal S1x4x128 .f32) y = _ := (congrArg (iblk m c 11 t : Vec Ideal S1x4x128 .f32) (row_of y)).trans (iblk11 m c t (y 1) (y 2))
  rw [h]
  exact ha _

theorem step_v (hq : ∀ j, (0 : EReal) ≤ (m ((c : Thread nD τ).loc main_arg7) : Vec Ideal S16 .f32) j) (ha : ∀ j, (0 : EReal) ≤ (m ((c : Thread nD τ).loc main_arg5) : Vec Ideal S25088 .f32) j)
    (t : Fin 49) (r : Fin 4) (L : Fin 128) : (envAt m hO c t).G17 (ix3 (0 : Fin 1) r L) = arrV m c (ix3 t r L) := by
  rw [Env.G17_apply (envAt m hO c t) rfl rfl rfl rfl (fun j => (m ((c : Thread nD τ).loc main_arg7) : Vec Ideal S16 .f32) (ix1 j)) (v5_apply m hO c t) (fun j => hq _) (x12_nonneg m c ha t) r L]
  rw [x12_at, codes_v, grads_at]
  rfl

/-- Where a step's block of absmaxes lies. -/
theorem emb14 (t : Fin 49) (y : S1x4x128.Idx) : (win0_14.blk t).view.emb y = ix3 t (y 1) (y 2) := by
  funext a
  apply Fin.ext
  have e := e14 t
  fin_cases a
  · refine (Pipeline.Window.rect_emb_val win0_14 t y 0).trans ?_
    have h0 : (y 0).val < 1 := (y 0).isLt
    rw [e]; show t.val * 1 + (y 0).val = t.val; omega
  · refine (Pipeline.Window.rect_emb_val win0_14 t y 1).trans ?_
    rw [e]; show 0 * 4 + (y 1).val = (y 1).val; omega
  · refine (Pipeline.Window.rect_emb_val win0_14 t y 2).trans ?_
    rw [e]; show 0 * 128 + (y 2).val = (y 2).val; omega

theorem emb16 (t : Fin 49) (y : S1x4x128.Idx) : (win0_16.blk t).view.emb y = ix3 t (y 1) (y 2) := by
  funext a
  apply Fin.ext
  have e := e16 t
  fin_cases a
  · refine (Pipeline.Window.rect_emb_val win0_16 t y 0).trans ?_
    have h0 : (y 0).val < 1 := (y 0).isLt
    rw [e]; show t.val * 1 + (y 0).val = t.val; omega
  · refine (Pipeline.Window.rect_emb_val win0_16 t y 1).trans ?_
    rw [e]; show 0 * 4 + (y 1).val = (y 1).val; omega
  · refine (Pipeline.Window.rect_emb_val win0_16 t y 2).trans ?_
    rw [e]; show 0 * 128 + (y 2).val = (y 2).val; omega

/-- What the run leaves of m's absmaxes. -/
theorem final_m : (dats m hO 0 c).arrAt 14 (cfg0 (F := Ideal)).N = arrM m c := by
  refine (dats m hO 0 c).arrAt_eq_of_covers 14 _ (by decide +kernel) fun t hf y => ?_
  refine Eq.trans ?_ (congrArg (arrM m c) (emb14 t y).symm)
  refine Eq.trans ?_ (step_m m hO c t (y 1) (y 2))
  show (envAt m hO c t).G15 y = _
  congr 1
  exact row_of y

/-- What the run leaves of v's absmaxes. -/
theorem final_v (hq : ∀ j, (0 : EReal) ≤ (m ((c : Thread nD τ).loc main_arg7) : Vec Ideal S16 .f32) j) (ha : ∀ j, (0 : EReal) ≤ (m ((c : Thread nD τ).loc main_arg5) : Vec Ideal S25088 .f32) j) :
    (dats m hO 0 c).arrAt 16 (cfg0 (F := Ideal)).N = arrV m c := by
  refine (dats m hO 0 c).arrAt_eq_of_covers 16 _ (by decide +kernel) fun t hf y => ?_
  refine Eq.trans ?_ (congrArg (arrV m c) (emb16 t y).symm)
  refine Eq.trans ?_ (step_v m hO c hq ha t (y 1) (y 2))
  show (envAt m hO c t).G17 y = _
  congr 1
  exact row_of y

end Arrays

end Cert.KernelIdeal.Hand

end
-- ==== Proof.CodeOps.lean ====
module

public import proofs.«01_k».proof.Proof.Ops
public import Idealize.ShloMosaic.Lib.Pipeline.FrameBody
public import Idealize.ShloMosaic.Lib.Ring
public import Idealize.ShloMosaic.Lib.Tactic
public import Idealize.ShloMosaic.Lib.WordCmp

/-! The bytes of codes a trip stores, as operations on what the trip loads. -/

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Blocks over their absmaxes: each value by the reciprocal of its row's. -/
def normOp (x : FVec F S8x128 .f32) (top : FVec F S8x1 .f32) : FVec F S8x128 .f32 :=
  mulf x (broadcastTo S8x128 (divf (broadcast S8x1 (Scalar.ofBits .f32 0x3F800000#32)) top) broadcasts_S8x1_S8x128)

/-- Where a value lies above a threshold. -/
def overOp (n t : FVec F S8x128 .f32) : IVec S8x128 1 := xori (cmpf .ole n t) (constantI S8x128 1 1#1)

/-- The entry of a table at each lane's index. -/
def pickOp (tab : FVec F S8x128 .f32) (i : IVec S8x128 32) : FVec F S8x128 .f32 :=
  dynamicGather 1 tab (shapeCast S8x128 (shapeCast S8x128x1 i shapeCasts_S8x128_S8x128x1) shapeCasts_S8x128x1_S8x128)

/-- A weight where a bit is set. -/
def bitOp (b : IVec S8x128 1) (w : BitVec 32) : IVec S8x128 32 := select b (broadcast S8x128 w) (broadcast S8x128 0#32)

/-- The first two steps of the search: the codes' two high bits. -/
def highOp (t7 t11 t3 : Elt F .f32) (n : FVec F S8x128 .f32) : IVec S8x128 32 :=
  addi (bitOp (overOp n (broadcast S8x128 t7)) 8#32)
    (bitOp (overOp n (select (overOp n (broadcast S8x128 t7)) (broadcast S8x128 t11) (broadcast S8x128 t3))) 4#32)

/-- The third step. -/
def midOp (tab : FVec F S8x128 .f32) (n : FVec F S8x128 .f32) (c : IVec S8x128 32) : IVec S8x128 32 :=
  addi c (bitOp (overOp n (pickOp tab c)) 2#32)

/-- The last step. -/
def lowOp (tab : FVec F S8x128 .f32) (n : FVec F S8x128 .f32) (c : IVec S8x128 32) : IVec S8x128 32 :=
  addi c (bitOp (overOp n (pickOp tab (addi c (broadcast S8x128 1#32)))) 1#32)

/-- The search of the fifteen thresholds: three of them at hand, the others in a table. -/
def searchOp (t7 t11 t3 : Elt F .f32) (tab n : FVec F S8x128 .f32) : IVec S8x128 32 := lowOp tab n (midOp tab n (highOp t7 t11 t3 n))

/-- Four units' codes, one below the other. -/
def catOp (a b c d : IVec S8x128 32) : IVec S32x128 32 :=
  concatenate S32x128 0 [⟨S8x128, a⟩, ⟨S8x128, b⟩, ⟨S8x128, c⟩, ⟨S8x128, d⟩] concatenates_S8x128_S8x128_S8x128_S8x128_S32x128_d0

/-- Four rows of codes to a row of words. -/
def wordOp (a : IVec S32x128 32) : IVec S8x128 32 := bitcast S8x128 32 (trunci 8 a natLt_8_32) bitcasts_S32x128_w8_S8x128_w32

/-- Neighbouring lanes' codes in one: the even block's at the even lanes, the odd block's at the odd lanes. -/
def pairOp (a b : IVec S8x128 32) : IVec S8x128 32 :=
  select (cmpi .eq (andi (iota .tc S8x128 32 [1] iota_S8x128_d1_w32) (broadcast S8x128 1#32)) (broadcast S8x128 0#32))
    (ori a (shli (dynamicRotate 1 127#32 none a rotates_S8x128_d1) (broadcast S8x128 4#32)))
    (ori (shli b (broadcast S8x128 4#32)) (dynamicRotate 1 1#32 none b rotates_S8x128_d1))

/-- The lane a byte comes from: the even ones first, then the odd. -/
def srcOp : IVec S8x128 32 :=
  select (cmpi .slt (iota .tc S8x128 32 [1] iota_S8x128_d1_w32) (broadcast S8x128 64#32))
    (muli (broadcast S8x128 2#32) (iota .tc S8x128 32 [1] iota_S8x128_d1_w32))
    (addi (muli (broadcast S8x128 2#32) (subi (iota .tc S8x128 32 [1] iota_S8x128_d1_w32) (broadcast S8x128 64#32))) (broadcast S8x128 1#32))

/-- Two codes to a byte. -/
def packOp (a b : IVec S32x128 32) : IVec S32x128 8 :=
  bitcast S32x128 8 (dynamicGather 1 (pairOp (wordOp a) (wordOp b))
    (shapeCast S8x128 (shapeCast S8x128x1 srcOp shapeCasts_S8x128_S8x128x1) shapeCasts_S8x128x1_S8x128)) bitcasts_S8x128_w32_S32x128_w8

/-- Eight blocks' codes of new m. -/
def mCode (t7 t11 t3 : Elt F .f32) (tab : FVec F S8x128 .f32) (x : FVec F S8x128 .f32) : IVec S8x128 32 := searchOp t7 t11 t3 tab (normOp x (maxOp (absf x)))

/-- Eight blocks' codes of new v. -/
def vCode (t7 t11 t3 : Elt F .f32) (tab : FVec F S8x128 .f32) (x : FVec F S8x128 .f32) : IVec S8x128 32 := searchOp t7 t11 t3 tab (normOp x (maxOp x))

/-- The bytes of new m a trip stores, from what it loads. -/
def mBytes (t7 t11 t3 : Elt F .f32) (mids : FVec F S8x128 .f32) (v19 v31 : IVec S8x128 32) (w : BitVec 32) (tab : FVec F S1x128 .f32) (am : Vec F S1x1x128 .f32) (cd : Vec F S32x128 .i8)
    (g0 g1 g2 g3 : Vec F S16x128 .bf16) : IVec S32x128 8 :=
  let tm := tabOp v31 w 0x3F666666#32 tab am
  let i0 := idxOp v19 cd 0#32 0#32
  let i1 := idxOp v19 cd 64#32 269488144#32
  packOp
    (catOp (mCode t7 t11 t3 mids (mOp ![0, 0] slices_S32x128_o0_0_S8x128 tm i0 (gradOp 0 g0))) (mCode t7 t11 t3 mids (mOp ![8, 0] slices_S32x128_o8_0_S8x128 tm i0 (gradOp 0 g1)))
      (mCode t7 t11 t3 mids (mOp ![16, 0] slices_S32x128_o16_0_S8x128 tm i0 (gradOp 0 g2))) (mCode t7 t11 t3 mids (mOp ![24, 0] slices_S32x128_o24_0_S8x128 tm i0 (gradOp 0 g3))))
    (catOp (mCode t7 t11 t3 mids (mOp ![0, 0] slices_S32x128_o0_0_S8x128 tm i1 (gradOp 1 g0))) (mCode t7 t11 t3 mids (mOp ![8, 0] slices_S32x128_o8_0_S8x128 tm i1 (gradOp 1 g1)))
      (mCode t7 t11 t3 mids (mOp ![16, 0] slices_S32x128_o16_0_S8x128 tm i1 (gradOp 1 g2))) (mCode t7 t11 t3 mids (mOp ![24, 0] slices_S32x128_o24_0_S8x128 tm i1 (gradOp 1 g3))))

/-- The bytes of new v a trip stores, from what it loads. -/
def vBytes (t7 t11 t3 : Elt F .f32) (mids : FVec F S8x128 .f32) (v19 v31 : IVec S8x128 32) (w : BitVec 32) (tab : FVec F S1x128 .f32) (am : Vec F S1x1x128 .f32) (cd : Vec F S32x128 .i8)
    (g0 g1 g2 g3 : Vec F S16x128 .bf16) : IVec S32x128 8 :=
  let tm := tabOp v31 w 0x3F733333#32 tab am
  let i0 := idxOp v19 cd 0#32 0#32
  let i1 := idxOp v19 cd 64#32 269488144#32
  packOp
    (catOp (vCode t7 t11 t3 mids (vOp ![0, 0] slices_S32x128_o0_0_S8x128 tm i0 (gradOp 0 g0))) (vCode t7 t11 t3 mids (vOp ![8, 0] slices_S32x128_o8_0_S8x128 tm i0 (gradOp 0 g1)))
      (vCode t7 t11 t3 mids (vOp ![16, 0] slices_S32x128_o16_0_S8x128 tm i0 (gradOp 0 g2))) (vCode t7 t11 t3 mids (vOp ![24, 0] slices_S32x128_o24_0_S8x128 tm i0 (gradOp 0 g3))))
    (catOp (vCode t7 t11 t3 mids (vOp ![0, 0] slices_S32x128_o0_0_S8x128 tm i1 (gradOp 1 g0))) (vCode t7 t11 t3 mids (vOp ![8, 0] slices_S32x128_o8_0_S8x128 tm i1 (gradOp 1 g1)))
      (vCode t7 t11 t3 mids (vOp ![16, 0] slices_S32x128_o16_0_S8x128 tm i1 (gradOp 1 g2))) (vCode t7 t11 t3 mids (vOp ![24, 0] slices_S32x128_o24_0_S8x128 tm i1 (gradOp 1 g3))))

/-- One threshold, from the fifteen in scalar memory. -/
def tLoad {sp : Space} (v : View sig .tc sp S15 .f32) (f : v.ty.Contents (Elt F)) (o : Fin 1 → ℕ) (ho : ∀ a, o a + S1.size a ≤ S15.size a) : Elt F .f32 :=
  View.readAt (Elt F) v (Rect.unit (s := S15) o S1.size ho).toLoadRect f (Shape.Idx.first (numel1_S1.symm ▸ Nat.one_pos))

section Trip
variable (c : Dev nD) (i : grid0.Coords) (arg1 : Memref sig .tc .smem S97 .i32) (harg1 : arg1.IsWhole) (arg2 : Memref sig .tc .smem S97 .f32) (harg2 : arg2.IsWhole) (arg3 : Memref sig .tc .smem S15 .f32) (harg3 : arg3.IsWhole) (arg4 : Memref sig .tc .smem S15 .f32) (harg4 : arg4.IsWhole) (arg5 : Memref sig .tc .smem S2 .f32) (harg5 : arg5.IsWhole) (arg6 : Memref sig .tc .vmem S4x128 .f32) (harg6 : arg6.IsWhole) (arg7 : Memref sig .tc .vmem S512x128 .f32) (harg7 : arg7.IsWhole) (arg8 : Memref sig .tc .vmem S512x128 .bf16) (harg8 : arg8.IsWhole) (arg9 : Memref sig .tc .vmem S256x128 .i8) (harg9 : arg9.IsWhole) (arg10 : Memref sig .tc .vmem S1x4x128 .f32) (harg10 : arg10.IsWhole) (arg11 : Memref sig .tc .vmem S256x128 .i8) (harg11 : arg11.IsWhole) (arg12 : Memref sig .tc .vmem S1x4x128 .f32) (harg12 : arg12.IsWhole) (arg13 : Memref sig .tc .vmem S512x128 .f32) (harg13 : arg13.IsWhole) (arg14 : Memref sig .tc .vmem S256x128 .i8) (harg14 : arg14.IsWhole) (arg15 : Memref sig .tc .vmem S1x4x128 .f32) (harg15 : arg15.IsWhole) (arg16 : Memref sig .tc .vmem S256x128 .i8) (harg16 : arg16.IsWhole) (arg17 : Memref sig .tc .vmem S1x4x128 .f32) (harg17 : arg17.IsWhole)
  (v0 : IVec S8x128 32) (v1 : IVec S8x128 32) (v3 : FVec F S1x128 .f32) (v5 : FVec F S1x128 .f32) (v9 : FVec F S8x128 .f32) (v13 : FVec F S8x128 .f32) (v14 : Elt F .f32) (v15 : Elt F .f32) (v19 : IVec S8x128 32) (v31 : IVec S8x128 32) (v36 : IVec S8x128 32) (v37 : BitVec 32)
variable (x1 : Vec F S97 .i32) (x2 : Vec F S97 .f32) (x3 : Vec F S15 .f32) (x4 : Vec F S15 .f32) (x7 : Vec F S512x128 .f32) (x8 : Vec F S512x128 .bf16) (x9 : Vec F S256x128 .i8) (x10 : Vec F S1x4x128 .f32) (x11 : Vec F S256x128 .i8) (x12 : Vec F S1x4x128 .f32)
variable (k : Fin k0_t1_loop.trips) (tid T : BitVec 32) (hT : k0_chk3 T) (n : ℕ)
    (hcall : ∀ K, whileSpec (F := F) c arg1 (harg1.unread x1) T K ⊢ wp frame (wpE defs₀ 𝒱₀ (c : Thread nD τ) (some n)) Set.univ (defs₀ .tc 2 ⟨i, k, arg1, harg1, tid⟩) K)

/-- What trip `k` stores of m's codes. -/
theorem row14_eq : ∀ f15 f17, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.1
    = [⟨Rect.unit (s := S256x128) (k0_off10 k) S32x128.size (k0_off10_inb k),
        mBytes (tLoad arg3.view (harg3.unread x3) ![7] inb_S15_S1_7) (tLoad arg3.view (harg3.unread x3) ![11] inb_S15_S1_11) (tLoad arg3.view (harg3.unread x3) ![3] inb_S15_S1_3)
          v9 v19 v31 (BitVec.ofNat 32 (k.val % 2)) v3 (aLoad arg10.view (harg10.unread x10) k) (cLoad arg9.view (harg9.unread x9) k)
          (gLoad arg8.view (harg8.unread x8) k 0) (gLoad arg8.view (harg8.unread x8) k 1) (gLoad arg8.view (harg8.unread x8) k 2) (gLoad arg8.view (harg8.unread x8) k 3)⟩] :=
  fun f15 f17 => by rw [← v67_eq k]; rfl

/-- What trip `k` stores of v's codes. -/
theorem row16_eq : ∀ f15 f17, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v3 v5 v9 v13 v14 v15 v19 v31 v36 v37 x1 x2 x3 x4 x7 x8 x9 x10 x11 x12 k tid T hT n hcall f15 f17).2.2.2.1
    = [⟨Rect.unit (s := S256x128) (k0_off10 k) S32x128.size (k0_off10_inb k),
        vBytes (tLoad arg4.view (harg4.unread x4) ![7] inb_S15_S1_7) (tLoad arg4.view (harg4.unread x4) ![11] inb_S15_S1_11) (tLoad arg4.view (harg4.unread x4) ![3] inb_S15_S1_3)
          v13 v19 v31 (BitVec.ofNat 32 (k.val % 2)) v5 (aLoad arg12.view (harg12.unread x12) k) (cLoad arg11.view (harg11.unread x11) k)
          (gLoad arg8.view (harg8.unread x8) k 0) (gLoad arg8.view (harg8.unread x8) k 1) (gLoad arg8.view (harg8.unread x8) k 2) (gLoad arg8.view (harg8.unread x8) k 3)⟩] :=
  fun f15 f17 => by rw [← v67_eq k]; rfl

end Trip

end Cert.KernelIdeal.Hand

end
-- ==== Proof.Rank.lean ====
module

public import proofs.«01_k».proof.Proof.Absmax

/-! The codes of the new moments over the reals, and the bytes that hold two of them: what both programs are shown to compute. -/

@[expose] public section

noncomputable section

namespace Cert.Absmax

open Idealize.ShloMosaic hiding ix1
open ValueIdx (ix1)

/-- The threshold between a table's entries `k` and `k + 1`: half their sum. -/
def midOf (q : Fin 16 → EReal) (k : Fin 15) : EReal := (q k.castSucc + q k.succ) * cst 0x3F000000#32

theorem cst_half : (0 : EReal) ≤ cst 0x3F000000#32 := by
  show 0 ≤ Ideal.ofBits .f32 0x3F000000#32
  simp [Ideal.ofBits, Ideal.ieee]
  norm_num
  refine mul_nonneg (α := EReal) ?_ ?_
  · exact EReal.coe_nonneg.mpr (by norm_num)
  · exact EReal.coe_nonneg.mpr (by norm_num)

/-- The thresholds of a sorted table are sorted. -/
theorem midOf_mono (q : Fin 16 → EReal) (hq : ∀ k : Fin 15, q k.castSucc ≤ q k.succ) : Monotone (midOf q) := by
  have hm : Monotone q := Fin.monotone_iff_le_succ.2 hq
  intro a b h
  exact mul_le_mul_of_nonneg_right (add_le_add (hm (Fin.castSucc_le_castSucc_iff.2 h)) (hm (Fin.succ_le_succ_iff.2 h))) cst_half

/-- A value's code: how many of the thresholds lie below it. -/
def rank (d : Fin 15 → EReal) (n : EReal) : Fin 16 :=
  ⟨(Finset.univ.filter fun k => d k < n).card, Nat.lt_succ_of_le ((Finset.card_le_univ _).trans (by simp))⟩

/-- The thresholds below a value are the first ones. -/
theorem rank_spec (d : Fin 15 → EReal) (hd : Monotone d) (n : EReal) (k : Fin 15) : d k < n ↔ k.val < (rank d n).val := by
  constructor
  · intro h
    have : (Finset.Iic k).card ≤ (Finset.univ.filter fun k => d k < n).card :=
      Finset.card_le_card fun j hj => Finset.mem_filter.2 ⟨Finset.mem_univ _, (hd (Finset.mem_Iic.1 hj)).trans_lt h⟩
    rw [Fin.card_Iic] at this
    exact this
  · intro h
    by_contra hn
    have : (Finset.univ.filter fun k => d k < n).card ≤ (Finset.Iio k).card :=
      Finset.card_le_card fun j hj => by
        refine Finset.mem_Iio.2 (lt_of_not_ge fun hk => hn ?_)
        exact (hd hk).trans_lt (Finset.mem_filter.1 hj).2
    rw [Fin.card_Iio] at this
    exact absurd h (not_lt.2 this)

/-- Counting in words. -/
theorem count_words : ∀ N : Fin 16,
    (Finset.univ : Finset (Fin 15)).fold IntOp.addi 0#32 (fun k => (BitVec.ofBool (decide (k.val < N.val))).setWidth 32) = BitVec.ofNat 32 N.val := by decide +kernel

/-- A value over its block's absmax: by the reciprocal. -/
def unitOf (x top : EReal) : EReal := x * Ideal.div (cst 0x3F800000#32) top

/-- The byte of two codes, the first in the low half. -/
def byteOf (a b : Fin 16) : BitVec 8 := BitVec.ofNat 8 (a.val + 16 * b.val)

/-- The codes of a block of new m, from the arguments. -/
def codeM (q : Vec Ideal ⟨1, ![16]⟩ .f32) (a : Vec Ideal ⟨1, ![25088]⟩ .f32) (cd : Vec Ideal ⟨1, ![1605632]⟩ .i8) (g : Vec Ideal ⟨1, ![3211264]⟩ .bf16) (B : Fin 25088) (l : Fin 128) : Fin 16 :=
  rank (midOf fun j => q (ix1 j)) (unitOf (mNew (q (ix1 (codesOf cd B l))) (a (ix1 B)) (gradsOf g B l)) (absM q a cd g B))

/-- The codes of a block of new v, from the arguments. -/
def codeV (q : Vec Ideal ⟨1, ![16]⟩ .f32) (a : Vec Ideal ⟨1, ![25088]⟩ .f32) (cd : Vec Ideal ⟨1, ![1605632]⟩ .i8) (g : Vec Ideal ⟨1, ![3211264]⟩ .bf16) (B : Fin 25088) (l : Fin 128) : Fin 16 :=
  rank (midOf fun j => q (ix1 j)) (unitOf (vNew (q (ix1 (codesOf cd B l))) (a (ix1 B)) (gradsOf g B l)) (absV q a cd g B))

theorem pair_blk (R : Fin 12544) (L : Fin 128) : 2 * R.val + L.val / 64 < 25088 := by omega
theorem pair_lo (L : Fin 128) : 2 * (L.val % 64) < 128 := by omega
theorem pair_hi (L : Fin 128) : 2 * (L.val % 64) + 1 < 128 := by omega

/-- The bytes of all blocks' codes: two blocks of 64 bytes to a row. -/
def bytesOf (code : Fin 25088 → Fin 128 → Fin 16) (R : Fin 12544) (L : Fin 128) : BitVec 8 :=
  byteOf (code ⟨2 * R.val + L.val / 64, pair_blk R L⟩ ⟨2 * (L.val % 64), pair_lo L⟩) (code ⟨2 * R.val + L.val / 64, pair_blk R L⟩ ⟨2 * (L.val % 64) + 1, pair_hi L⟩)

end Cert.Absmax

end
-- ==== Proof.CodePoint.lean ====
module

public import proofs.«01_k».proof.Proof.CodeOps
public import proofs.«01_k».proof.Proof.Point
public import proofs.«01_k».proof.Proof.Rank
public import Idealize.ShloMosaic.Lib.BitcastFour
public import Idealize.ShloMosaic.Lib.KernelVsHost

/-! The bytes of codes a trip stores, over the reals, lane by lane. -/

@[expose] public section

set_option maxRecDepth 16384

noncomputable section

namespace Cert.KernelIdeal.Hand

open Cert.KernelIdeal Cert.KernelIdeal.Gen Cert.Absmax
open Idealize.ShloMosaic hiding ix1 ix2 ix3
open ValueIdx (ix1 ix2 ix3 eq_ix2 eq_ix3)

/-! ### The search -/

section Search
variable (d : Fin 15 → EReal) (N : Fin 16) (n : FVec Ideal S8x128 .f32) (s : Fin 8) (l : Fin 128) (h : ∀ k : Fin 15, d k < n (ix2 s l) ↔ k.val < N.val)

include h in
/-- Above a threshold or not, by the code. -/
theorem over_at (t : FVec Ideal S8x128 .f32) (k : Fin 15) (ht : t (ix2 s l) = d k) : overOp (F := Ideal) n t (ix2 s l) = BitVec.ofBool (decide (k.val < N.val)) := by
  show IntOp.xori (BitVec.ofBool (decide (n (ix2 s l) ≤ t (ix2 s l)))) 1#1 = _
  rw [ht]
  by_cases hk : k.val < N.val
  · rw [decide_eq_true hk, decide_eq_false (not_le.2 ((h k).2 hk))]; rfl
  · rw [decide_eq_false hk, decide_eq_true (not_lt.1 fun hd => hk ((h k).1 hd))]; rfl

theorem pick_apply (tab : FVec Ideal S8x128 .f32) (i : IVec S8x128 32) (k : Fin 128) (hi : (i (ix2 s l)).toNat = k.val) : pickOp (F := Ideal) tab i (ix2 s l) = tab (ix2 s k) := by
  unfold pickOp
  rw [shapeCast_shapeCast, dynamicGather_apply]
  congr 1
  funext b
  fin_cases b
  · rfl
  · refine Fin.ext ?_
    show (i (ix2 s l)).toNat % 128 = k.val
    rw [hi]; exact Nat.mod_eq_of_lt k.isLt

theorem top_lt (N : Fin 16) : (if 7 < N.val then 11 else 3) < 15 := by split <;> omega

theorem high_words : ∀ N : Fin 16, IntOp.addi (if BitVec.ofBool (decide (7 < N.val)) = 1#1 then 8#32 else 0#32)
    (if BitVec.ofBool (decide ((if 7 < N.val then 11 else 3) < N.val)) = 1#1 then 4#32 else 0#32) = BitVec.ofNat 32 (N.val / 4 * 4) := by decide +kernel

theorem mid_words : ∀ N : Fin 16, IntOp.addi (BitVec.ofNat 32 (N.val / 4 * 4)) (if BitVec.ofBool (decide (4 * (N.val / 4) + 1 < N.val)) = 1#1 then 2#32 else 0#32)
    = BitVec.ofNat 32 (N.val / 2 * 2) := by decide +kernel

theorem low_words : ∀ N : Fin 16, IntOp.addi (BitVec.ofNat 32 (N.val / 2 * 2)) (if BitVec.ofBool (decide (2 * (N.val / 2) < N.val)) = 1#1 then 1#32 else 0#32)
    = BitVec.ofNat 32 N.val := by decide +kernel

include h in
theorem high_apply : highOp (F := Ideal) (d 7) (d 11) (d 3) n (ix2 s l) = BitVec.ofNat 32 (N.val / 4 * 4) := by
  have e7 := over_at d N n s l h (broadcast S8x128 (d 7)) 7 rfl
  have et : (select (overOp (F := Ideal) n (broadcast S8x128 (d 7))) (broadcast S8x128 (d 11)) (broadcast S8x128 (d 3))) (ix2 s l) = d ⟨if 7 < N.val then 11 else 3, top_lt N⟩ := by
    show (if overOp (F := Ideal) n (broadcast S8x128 (d 7)) (ix2 s l) = 1#1 then d 11 else d 3) = _
    rw [e7]
    by_cases h7 : 7 < N.val
    · rw [show decide ((7 : Fin 15).val < N.val) = true from decide_eq_true h7]
      simp only [h7, if_true]; rfl
    · rw [show decide ((7 : Fin 15).val < N.val) = false from decide_eq_false h7]
      simp only [h7, if_false]; rfl
  have e2 := over_at d N n s l h _ _ et
  show IntOp.addi (if overOp (F := Ideal) n (broadcast S8x128 (d 7)) (ix2 s l) = 1#1 then 8#32 else 0#32)
    (if overOp (F := Ideal) n (select (overOp (F := Ideal) n (broadcast S8x128 (d 7))) (broadcast S8x128 (d 11)) (broadcast S8x128 (d 3))) (ix2 s l) = 1#1 then 4#32 else 0#32) = _
  rw [e7, e2]
  exact high_words N

variable (tab : FVec Ideal S8x128 .f32)

theorem four_lt (k : Fin 4) : 4 * k.val < 128 := by omega
theorem four_lt' (k : Fin 4) : 4 * k.val + 1 < 15 := by omega
theorem two_lt (k : Fin 8) : 2 * k.val + 1 < 128 := by omega
theorem two_lt' (k : Fin 8) : 2 * k.val < 15 := by omega

variable (h4 : ∀ (s : Fin 8) (k : Fin 4), tab (ix2 s ⟨4 * k.val, four_lt k⟩) = d ⟨4 * k.val + 1, four_lt' k⟩)
  (h2 : ∀ (s : Fin 8) (k : Fin 8), tab (ix2 s ⟨2 * k.val + 1, two_lt k⟩) = d ⟨2 * k.val, two_lt' k⟩)

include h h4 in
theorem mid_apply (c : IVec S8x128 32) (hc : c (ix2 s l) = BitVec.ofNat 32 (N.val / 4 * 4)) : midOp (F := Ideal) tab n c (ix2 s l) = BitVec.ofNat 32 (N.val / 2 * 2) := by
  have hN := N.isLt
  have hp : pickOp (F := Ideal) tab c (ix2 s l) = d ⟨4 * (N.val / 4) + 1, by omega⟩ := by
    rw [pick_apply s l tab c ⟨4 * (N.val / 4), by omega⟩ (by rw [hc, BitVec.toNat_ofNat]; show N.val / 4 * 4 % 2 ^ 32 = 4 * (N.val / 4); omega)]
    exact h4 s ⟨N.val / 4, by omega⟩
  have e := over_at d N n s l h _ _ hp
  show IntOp.addi (c (ix2 s l)) (if overOp (F := Ideal) n (pickOp (F := Ideal) tab c) (ix2 s l) = 1#1 then 2#32 else 0#32) = _
  rw [e, hc]
  exact mid_words N

include h h2 in
theorem low_apply (c : IVec S8x128 32) (hc : c (ix2 s l) = BitVec.ofNat 32 (N.val / 2 * 2)) : lowOp (F := Ideal) tab n c (ix2 s l) = BitVec.ofNat 32 N.val := by
  have hN := N.isLt
  have hp : pickOp (F := Ideal) tab (addi c (broadcast S8x128 1#32)) (ix2 s l) = d ⟨2 * (N.val / 2), by omega⟩ := by
    rw [pick_apply s l tab _ ⟨2 * (N.val / 2) + 1, by omega⟩ (by
      show (c (ix2 s l) + 1#32).toNat = 2 * (N.val / 2) + 1
      rw [hc, BitVec.toNat_add, BitVec.toNat_ofNat]
      show (N.val / 2 * 2 % 2 ^ 32 + 1) % 2 ^ 32 = 2 * (N.val / 2) + 1
      omega)]
    exact h2 s ⟨N.val / 2, by omega⟩
  have e := over_at d N n s l h _ _ hp
  show IntOp.addi (c (ix2 s l)) (if overOp (F := Ideal) n (pickOp (F := Ideal) tab (addi c (broadcast S8x128 1#32))) (ix2 s l) = 1#1 then 1#32 else 0#32) = _
  rw [e, hc]
  exact low_words N

include h4 h2 in
/-- The search finds a value's code. -/
theorem search_apply (hd : Monotone d) (s : Fin 8) (l : Fin 128) :
    searchOp (F := Ideal) (d 7) (d 11) (d 3) tab n (ix2 s l) = BitVec.ofNat 32 (rank d (n (ix2 s l))).val := by
  have h := rank_spec d hd (n (ix2 s l))
  exact low_apply d _ n s l h tab h2 _ (mid_apply d _ n s l h tab h4 _ (high_apply d _ n s l h))

theorem norm_apply (x : FVec Ideal S8x128 .f32) (top : FVec Ideal S8x1 .f32) (s : Fin 8) (l : Fin 128) :
    normOp (F := Ideal) x top (ix2 s l) = unitOf (x (ix2 s l)) (top (ix2 s (0 : Fin 1))) := by
  unfold normOp
  show x (ix2 s l) * broadcastTo S8x128 _ broadcasts_S8x1_S8x128 (ix2 s l) = _
  rw [broadcastTo_apply _ _ _ (ix2 s (0 : Fin 1)) (by intro a; fin_cases a <;> rfl)]
  rfl

include h4 h2 in
theorem mCode_apply (hd : Monotone d) (x : FVec Ideal S8x128 .f32) (f : Fin 128 → EReal) (s : Fin 8) (hx : ∀ l, x (ix2 s l) = f l) (l : Fin 128) :
    mCode (F := Ideal) (d 7) (d 11) (d 3) tab x (ix2 s l) = BitVec.ofNat 32 (rank d (unitOf (f l) (rowTop fun l => max (f l) (-f l)))).val := by
  unfold mCode
  rw [search_apply d _ tab h4 h2 hd, norm_apply, maxOp_apply, hx]
  congr 5
  funext l
  exact congrArg (fun x : EReal => max x (-x)) (hx l)

include h4 h2 in
theorem vCode_apply (hd : Monotone d) (x : FVec Ideal S8x128 .f32) (f : Fin 128 → EReal) (s : Fin 8) (hx : ∀ l, x (ix2 s l) = f l) (l : Fin 128) :
    vCode (F := Ideal) (d 7) (d 11) (d 3) tab x (ix2 s l) = BitVec.ofNat 32 (rank d (unitOf (f l) (rowTop f))).val := by
  unfold vCode
  rw [search_apply d _ tab h4 h2 hd, norm_apply, maxOp_apply, hx]
  congr 5
  funext l
  exact hx l

end Search

/-! ### The packing -/

theorem cat_lt (u : Fin 4) (s : Fin 8) : 8 * u.val + s.val < 32 := by omega

/-- Four units' codes at a row. -/
theorem catOp_apply (c : Fin 4 → IVec S8x128 32) (u : Fin 4) (s : Fin 8) (l : Fin 128) : catOp (c 0) (c 1) (c 2) (c 3) (ix2 ⟨8 * u.val + s.val, cat_lt u s⟩ l) = c u (ix2 s l) := by
  unfold catOp
  have key : ∀ (k : ℕ) (hk : k < 4) (x : IVec S8x128 32) (_ : [(⟨S8x128, c 0⟩ : (s : Shape) × (s.Idx → BitVec 32)), ⟨S8x128, c 1⟩, ⟨S8x128, c 2⟩, ⟨S8x128, c 3⟩][k]'hk = ⟨S8x128, x⟩)
      (_ : ((([(⟨S8x128, c 0⟩ : (s : Shape) × (s.Idx → BitVec 32)), ⟨S8x128, c 1⟩, ⟨S8x128, c 2⟩, ⟨S8x128, c 3⟩].take k).map (·.1)).map fun s => if h : s.rank = S32x128.rank then s.size ((0 : Fin 2).cast h.symm) else 0).sum = 8 * u.val),
      concatenate S32x128 0 [⟨S8x128, c 0⟩, ⟨S8x128, c 1⟩, ⟨S8x128, c 2⟩, ⟨S8x128, c 3⟩] concatenates_S8x128_S8x128_S8x128_S8x128_S32x128_d0 (ix2 ⟨8 * u.val + s.val, cat_lt u s⟩ l) = x (ix2 s l) :=
    fun k hk x hx hp => concatenate_apply_piece (t := S32x128) (0 : Fin 2) [(⟨S8x128, c 0⟩ : (s : Shape) × (s.Idx → BitVec 32)), ⟨S8x128, c 1⟩, ⟨S8x128, c 2⟩, ⟨S8x128, c 3⟩] _ _ k hk S8x128 x hx rfl (8 * u.val) hp (ix2 s l)
      (by intro b hb; fin_cases b; exact absurd rfl hb; rfl) rfl
  fin_cases u
  · exact key 0 (by omega) _ rfl rfl
  · exact key 1 (by omega) _ rfl rfl
  · exact key 2 (by omega) _ rfl rfl
  · exact key 3 (by omega) _ rfl rfl

theorem row_div (R : Fin 32) : R.val / 4 < 8 := by omega

/-- A byte of a row of words, as a row of bytes. -/
theorem byteRow (W : IVec S8x128 32) (R : Fin 32) (l : Fin 128) :
    (bitcast S32x128 8 W bitcasts_S8x128_w32_S32x128_w8) (ix2 R l) = (W (ix2 ⟨R.val / 4, row_div R⟩ l)).extractLsb' (8 * (R.val % 4)) 8 := by
  have hR := R.isLt
  apply BitVec.eq_of_getLsbD_eq
  intro i hi
  rw [bitcast_getLsbD W _ _ i hi (by decide), BitVec.getLsbD_extractLsb']
  have hr : S32x128.row (ix2 R l) = R.val := rfl
  simp only [hi, decide_true, Bool.true_and]
  have hbit : (S32x128.row (ix2 R l) * 8 + i) % 32 = 8 * (R.val % 4) + i := by rw [hr]; omega
  rw [hbit]
  congr 2
  funext a
  fin_cases a
  · refine Fin.ext ((Shape.Bitcasts.srcIdx_row _ _ _ _ ⟨0, Nat.zero_lt_two⟩ rfl).trans ?_)
    rw [hr]; show (R.val * 8 + i) / 32 = R.val / 4; omega
  · exact Fin.ext (Shape.Bitcasts.srcIdx_other _ _ _ _ ⟨1, Nat.one_lt_two⟩ (by show ¬ 1 + 2 = 2; omega))

theorem quad_lt (r : Fin 8) (q : ℕ) (hq : q < 32) : 4 * r.val + q / 8 < 32 := by omega

/-- A bit of a word of four codes. -/
theorem word_bit (a : IVec S32x128 32) (A : Fin 32 → Fin 128 → Fin 16) (ha : ∀ R l, a (ix2 R l) = BitVec.ofNat 32 (A R l).val) (r : Fin 8) (l : Fin 128) (q : ℕ) (hq : q < 32) :
    (wordOp a (ix2 r l)).getLsbD q = (BitVec.ofNat 8 (A ⟨4 * r.val + q / 8, quad_lt r q hq⟩ l).val).getLsbD (q % 8) := by
  unfold wordOp
  rw [bitcast_8_32_getLsbD_ix2 _ _ r l q hq ⟨4 * r.val + q / 8, quad_lt r q hq⟩ rfl]
  have e : ∀ c : Fin 16, (BitVec.ofNat 32 c.val).setWidth 8 = BitVec.ofNat 8 c.val := by decide
  have ht : trunci 8 a natLt_8_32 (ix2 ⟨4 * r.val + q / 8, quad_lt r q hq⟩ l) = (a (ix2 ⟨4 * r.val + q / 8, quad_lt r q hq⟩ l)).setWidth 8 := rfl
  rw [ht, ha, e]

/-- A byte of a word of four codes. -/
theorem word_byte (a : IVec S32x128 32) (A : Fin 32 → Fin 128 → Fin 16) (ha : ∀ R l, a (ix2 R l) = BitVec.ofNat 32 (A R l).val) (R : Fin 32) (l : Fin 128) :
    (wordOp a (ix2 ⟨R.val / 4, row_div R⟩ l)).extractLsb' (8 * (R.val % 4)) 8 = BitVec.ofNat 8 (A R l).val := by
  have hR := R.isLt
  apply BitVec.eq_of_getLsbD_eq
  intro i hi
  rw [BitVec.getLsbD_extractLsb', word_bit a A ha _ _ _ (by omega)]
  simp only [hi, decide_true, Bool.true_and]
  have e1 : (⟨4 * (R.val / 4) + (8 * (R.val % 4) + i) / 8, quad_lt ⟨R.val / 4, row_div R⟩ _ (by omega)⟩ : Fin 32) = R :=
    Fin.ext (by show 4 * (R.val / 4) + (8 * (R.val % 4) + i) / 8 = R.val; omega)
  have e2 : (8 * (R.val % 4) + i) % 8 = i := by omega
  exact (congrArg (fun Q => (BitVec.ofNat 8 (A Q l).val).getLsbD ((8 * (R.val % 4) + i) % 8)) e1).trans (by rw [e2])

theorem nib_high : ∀ (c : Fin 16) (i : Fin 4), (BitVec.ofNat 8 c.val).getLsbD (i.val + 4) = false := by decide

/-- A byte of such a word shifted by four: its codes stay in their bytes. -/
theorem word_shl (a : IVec S32x128 32) (A : Fin 32 → Fin 128 → Fin 16) (ha : ∀ R l, a (ix2 R l) = BitVec.ofNat 32 (A R l).val) (R : Fin 32) (l : Fin 128) :
    (wordOp a (ix2 ⟨R.val / 4, row_div R⟩ l) <<< 4).extractLsb' (8 * (R.val % 4)) 8 = BitVec.ofNat 8 (A R l).val <<< 4 := by
  have hR := R.isLt
  apply BitVec.eq_of_getLsbD_eq
  intro i hi
  rw [← word_byte a A ha R l, BitVec.getLsbD_extractLsb', BitVec.getLsbD_shiftLeft, BitVec.getLsbD_shiftLeft]
  by_cases h4 : i < 4
  · have hz : (decide (8 * (R.val % 4) + i < 32) && (!decide (8 * (R.val % 4) + i < 4) && (wordOp a (ix2 ⟨R.val / 4, row_div R⟩ l)).getLsbD (8 * (R.val % 4) + i - 4))) = false := by
      by_cases h0 : 8 * (R.val % 4) + i < 4
      · simp [h0]
      · rw [word_bit a A ha _ _ _ (by omega)]
        have := nib_high (A ⟨4 * (⟨R.val / 4, row_div R⟩ : Fin 8).val + (8 * (R.val % 4) + i - 4) / 8, quad_lt _ _ (by omega)⟩ l) ⟨i, h4⟩
        rw [show (8 * (R.val % 4) + i - 4) % 8 = i + 4 by omega]
        rw [this]; simp
    simp only [hi, h4, decide_true, Bool.true_and, Bool.not_true, Bool.false_and, Bool.and_false]
    simpa [Bool.and_assoc] using hz
  · rw [BitVec.getLsbD_extractLsb']
    have e1 : 8 * (R.val % 4) + i - 4 = 8 * (R.val % 4) + (i - 4) := by omega
    have e2 : decide (8 * (R.val % 4) + i < 32) = true := decide_eq_true (by omega)
    have e3 : decide (8 * (R.val % 4) + i < 4) = false := decide_eq_false (by omega)
    have e4 : decide (i - 4 < 8) = true := decide_eq_true (by omega)
    have e5 : decide (i < 4) = false := decide_eq_false h4
    have e6 : decide (i < 8) = true := decide_eq_true hi
    rw [e1, e2, e3, e4, e5, e6]
    rfl

theorem src_words : ∀ L : Fin 128,
    (if IntOp.cmpi .slt (BitVec.ofNat 32 L.val) 64#32 = 1#1 then IntOp.muli 2#32 (BitVec.ofNat 32 L.val)
      else IntOp.addi (IntOp.muli 2#32 (IntOp.subi (BitVec.ofNat 32 L.val) 64#32)) 1#32).toNat
      = if L.val < 64 then 2 * L.val else 2 * (L.val - 64) + 1 := by decide +kernel

theorem even_words : ∀ l : Fin 128, Iff (IntOp.cmpi .eq (IntOp.andi (BitVec.ofNat 32 l.val) 1#32) 0#32 = 1#1) (l.val % 2 = 0) := by decide +kernel

theorem byte_lo : ∀ a b : Fin 16, BitVec.ofNat 8 a.val ||| (BitVec.ofNat 8 b.val <<< 4) = byteOf a b := by unfold byteOf; decide +kernel
theorem byte_hi : ∀ a b : Fin 16, (BitVec.ofNat 8 b.val <<< 4) ||| BitVec.ofNat 8 a.val = byteOf a b := by unfold byteOf; decide +kernel

theorem extract_or (x y : BitVec 32) (p : ℕ) : (x ||| y).extractLsb' p 8 = x.extractLsb' p 8 ||| y.extractLsb' p 8 := by
  apply BitVec.eq_of_getLsbD_eq
  intro i hi
  simp only [BitVec.getLsbD_extractLsb', BitVec.getLsbD_or, hi, decide_true, Bool.true_and]

theorem shl4 (x : BitVec 32) : IntOp.shli .vector x 4#32 = x <<< 4 := by
  unfold IntOp.shli
  rw [if_pos (by decide)]
  rfl

/-- The lanes beside a lane. -/
theorem rot_up (a : IVec S8x128 32) (r : Fin 8) (l l' : Fin 128) (hl : l'.val = (l.val + 1) % 128) : dynamicRotate 1 127#32 none a rotates_S8x128_d1 (ix2 r l) = a (ix2 r l') :=
  dynamicRotate_apply _ _ _ _ _ _ (by
    intro b; fin_cases b
    · rfl
    · show l'.val = (l.val + 128 - 127 % 128) % 128
      omega)
theorem rot_down (a : IVec S8x128 32) (r : Fin 8) (l l' : Fin 128) (hl : l'.val = (l.val + 127) % 128) : dynamicRotate 1 1#32 none a rotates_S8x128_d1 (ix2 r l) = a (ix2 r l') :=
  dynamicRotate_apply _ _ _ _ _ _ (by
    intro b; fin_cases b
    · rfl
    · show l'.val = (l.val + 128 - 1 % 128) % 128
      omega)

/-- The packed bytes: the even blocks' codes in the first half of the lanes, the odd blocks' in the second. -/
theorem packOp_apply (a b : IVec S32x128 32) (C : Fin 2 → Fin 32 → Fin 128 → Fin 16) (ha : ∀ R l, a (ix2 R l) = BitVec.ofNat 32 (C 0 R l).val)
    (hb : ∀ R l, b (ix2 R l) = BitVec.ofNat 32 (C 1 R l).val) (R : Fin 32) (L : Fin 128) (hh : L.val / 64 < 2) :
    packOp a b (ix2 R L) = byteOf (C ⟨L.val / 64, hh⟩ R ⟨2 * (L.val % 64), pair_lo L⟩) (C ⟨L.val / 64, hh⟩ R ⟨2 * (L.val % 64) + 1, pair_hi L⟩) := by
  unfold packOp
  have hL := L.isLt
  set r : Fin 8 := ⟨R.val / 4, row_div R⟩ with hr
  have hs : (srcOp (ix2 r L)).toNat = if L.val < 64 then 2 * L.val else 2 * (L.val - 64) + 1 := by
    rw [← src_words L, ← lane_iota r L]
    rfl
  rw [byteRow, shapeCast_shapeCast, dynamicGather_apply]
  by_cases h : L.val < 64
  · rw [if_pos h] at hs
    have e : (fun b : Fin 2 => if b = 1 then (⟨(srcOp (ix2 r L)).toNat % S8x128.size b, Nat.mod_lt _ (Fin.pos (ix2 r L b))⟩ : Fin (S8x128.size b)) else ix2 r L b)
        = ix2 r ⟨2 * L.val, by omega⟩ := by
      funext b
      fin_cases b
      · rfl
      · refine Fin.ext ?_
        show (srcOp (ix2 r L)).toNat % 128 = _
        rw [hs]; exact Nat.mod_eq_of_lt (by omega)
    refine (congrArg (fun j => (pairOp (wordOp a) (wordOp b) j).extractLsb' (8 * (R.val % 4)) 8) e).trans ?_
    have hp : pairOp (wordOp a) (wordOp b) (ix2 r ⟨2 * L.val, by omega⟩) = wordOp a (ix2 r ⟨2 * L.val, by omega⟩) ||| (wordOp a (ix2 r ⟨2 * L.val + 1, by omega⟩) <<< 4) := by
      unfold pairOp
      refine (if_pos ?_).trans ?_
      · show IntOp.cmpi .eq (IntOp.andi (iota .tc S8x128 32 [1] iota_S8x128_d1_w32 (ix2 r ⟨2 * L.val, by omega⟩)) 1#32) 0#32 = 1#1
        rw [lane_iota]
        exact (even_words _).2 (by show 2 * L.val % 2 = 0; omega)
      · show _ ||| IntOp.shli .vector (dynamicRotate 1 127#32 none (wordOp a) rotates_S8x128_d1 (ix2 r ⟨2 * L.val, by omega⟩)) 4#32 = _
        rw [shl4, rot_up _ _ _ ⟨2 * L.val + 1, by omega⟩ (by show 2 * L.val + 1 = (2 * L.val + 1) % 128; omega)]
    rw [hp, extract_or, word_byte a (C 0) ha, word_shl a (C 0) ha, byte_lo]
    have hz : (⟨L.val / 64, hh⟩ : Fin 2) = 0 := Fin.ext (by show L.val / 64 = 0; omega)
    rw [hz]
    congr 2 <;> exact Fin.ext (by simp only []; omega)
  · rw [if_neg h] at hs
    have e : (fun b : Fin 2 => if b = 1 then (⟨(srcOp (ix2 r L)).toNat % S8x128.size b, Nat.mod_lt _ (Fin.pos (ix2 r L b))⟩ : Fin (S8x128.size b)) else ix2 r L b)
        = ix2 r ⟨2 * (L.val - 64) + 1, by omega⟩ := by
      funext b
      fin_cases b
      · rfl
      · refine Fin.ext ?_
        show (srcOp (ix2 r L)).toNat % 128 = _
        rw [hs]; exact Nat.mod_eq_of_lt (by omega)
    refine (congrArg (fun j => (pairOp (wordOp a) (wordOp b) j).extractLsb' (8 * (R.val % 4)) 8) e).trans ?_
    have hp : pairOp (wordOp a) (wordOp b) (ix2 r ⟨2 * (L.val - 64) + 1, by omega⟩) = (wordOp b (ix2 r ⟨2 * (L.val - 64) + 1, by omega⟩) <<< 4) ||| wordOp b (ix2 r ⟨2 * (L.val - 64), by omega⟩) := by
      unfold pairOp
      refine (if_neg ?_).trans ?_
      · show ¬ IntOp.cmpi .eq (IntOp.andi (iota .tc S8x128 32 [1] iota_S8x128_d1_w32 (ix2 r ⟨2 * (L.val - 64) + 1, by omega⟩)) 1#32) 0#32 = 1#1
        rw [lane_iota]
        exact fun hc => absurd ((even_words _).1 hc) (by show ¬ (2 * (L.val - 64) + 1) % 2 = 0; omega)
      · show IntOp.shli .vector (wordOp b (ix2 r ⟨2 * (L.val - 64) + 1, by omega⟩)) 4#32 ||| dynamicRotate 1 1#32 none (wordOp b) rotates_S8x128_d1 (ix2 r ⟨2 * (L.val - 64) + 1, by omega⟩) = _
        rw [shl4, rot_down _ _ _ ⟨2 * (L.val - 64), by omega⟩ (by show 2 * (L.val - 64) = (2 * (L.val - 64) + 1 + 127) % 128; omega)]
    rw [hp, extract_or, word_byte b (C 1) hb, word_shl b (C 1) hb, byte_hi]
    have hz : (⟨L.val / 64, hh⟩ : Fin 2) = 1 := Fin.ext (by show L.val / 64 = 1; omega)
    rw [hz]
    congr 2 <;> exact Fin.ext (by simp only []; omega)

end Cert.KernelIdeal.Hand

end
-- ==== Proof.CodeBlock.lean ====
module

public import proofs.«01_k».proof.Proof.CodePoint
public import proofs.«01_k».proof.Proof.Block

/-! The blocks of codes a step leaves, over the reals, from the blocks it is given. -/

@[expose] public section

set_option maxRecDepth 16384

noncomputable section

namespace Cert.KernelIdeal.Hand

open Cert.KernelIdeal Cert.KernelIdeal.Gen Cert.Absmax
open Idealize.ShloMosaic hiding ix1 ix2 ix3
open ValueIdx (ix1 ix2 ix3 eq_ix2 eq_ix3)

/-- What a load of one threshold reads. -/
theorem tLoad_apply {sp : Space} (mr : Memref sig .tc sp S15 .f32) (h : mr.IsWhole) (x : Vec Ideal S15 .f32) (n : Fin 15) (ho : ∀ a, (![n.val] : Fin 1 → ℕ) a + S1.size a ≤ S15.size a) :
    tLoad (F := Ideal) mr.view (h.unread x) ![n.val] ho = x (ix1 n) := by
  unfold tLoad
  rw [h.readAt_unread]
  congr 1
  funext a
  fin_cases a
  exact Fin.ext (by show n.val + 1 * 0 = n.val; omega)

theorem unit_lt (R : Fin 32) : R.val / 8 < 4 := by omega
theorem sub_lt (R : Fin 32) : R.val % 8 < 8 := by omega
theorem row_split (R : Fin 32) : (⟨8 * (⟨R.val / 8, unit_lt R⟩ : Fin 4).val + (⟨R.val % 8, sub_lt R⟩ : Fin 8).val, cat_lt _ _⟩ : Fin 32) = R := Fin.ext (by show 8 * (R.val / 8) + R.val % 8 = R.val; omega)

section Trip
variable (p : Fin 2) (tab : FVec Ideal S1x128 .f32) (am : Vec Ideal S1x1x128 .f32) (cd : Vec Ideal S32x128 .i8) (g : Fin 4 → Vec Ideal S16x128 .bf16)
variable (d : Fin 15 → EReal) (hd : Monotone d) (mids : FVec Ideal S8x128 .f32)
  (h4 : ∀ (s : Fin 8) (k : Fin 4), mids (ix2 s ⟨4 * k.val, four_lt k⟩) = d ⟨4 * k.val + 1, four_lt' k⟩)
  (h2 : ∀ (s : Fin 8) (k : Fin 8), mids (ix2 s ⟨2 * k.val + 1, two_lt k⟩) = d ⟨2 * k.val, two_lt' k⟩)

/-- Eight blocks of new m at a lane. -/
theorem mOp_apply (u : Fin 4) (h : Fin 2) (s : Fin 8) (l : Fin 128) :
    mOp (F := Ideal) (offOf u) (slicesOf u) (tabOp k0_pay168 (BitVec.ofNat 32 p.val) 0x3F666666#32 tab am) (idxOp k0_pay167 cd (h64Of h) (addOf h)) (gradOp h (g u)) (ix2 s l)
      = mNew (tAt tab cd u h s l) (aAt p am u h s) (gAt g u h s l) := by
  show deqOp (F := Ideal) (offOf u) (slicesOf u) _ _ (ix2 s l) + cst 0x3DCCCCCD#32 * gradOp (F := Ideal) h (g u) (ix2 s l) = _
  rw [deqOp_apply (offOf u) (slicesOf u) u rfl h (h64Of h) (addOf h) rfl rfl, gradOp_apply]
  rfl

/-- Eight blocks of new v at a lane. -/
theorem vOp_apply (u : Fin 4) (h : Fin 2) (s : Fin 8) (l : Fin 128) :
    vOp (F := Ideal) (offOf u) (slicesOf u) (tabOp k0_pay168 (BitVec.ofNat 32 p.val) 0x3F733333#32 tab am) (idxOp k0_pay167 cd (h64Of h) (addOf h)) (gradOp h (g u)) (ix2 s l)
      = vNew (tAt tab cd u h s l) (aAt p am u h s) (gAt g u h s l) := by
  show deqOp (F := Ideal) (offOf u) (slicesOf u) _ _ (ix2 s l) + cst 0x3D4CCCCD#32 * gradOp (F := Ideal) h (g u) (ix2 s l) * gradOp (F := Ideal) h (g u) (ix2 s l) = _
  rw [deqOp_apply (offOf u) (slicesOf u) u rfl h (h64Of h) (addOf h) rfl rfl, gradOp_apply]
  rfl

/-- A unit's codes of new m, of one parity. -/
def mUnit (u : Fin 4) (h : Fin 2) : IVec S8x128 32 :=
  mCode (F := Ideal) (d 7) (d 11) (d 3) mids (mOp (offOf u) (slicesOf u) (tabOp k0_pay168 (BitVec.ofNat 32 p.val) 0x3F666666#32 tab am) (idxOp k0_pay167 cd (h64Of h) (addOf h)) (gradOp h (g u)))

/-- A unit's codes of new v, of one parity. -/
def vUnit (u : Fin 4) (h : Fin 2) : IVec S8x128 32 :=
  vCode (F := Ideal) (d 7) (d 11) (d 3) mids (vOp (offOf u) (slicesOf u) (tabOp k0_pay168 (BitVec.ofNat 32 p.val) 0x3F733333#32 tab am) (idxOp k0_pay167 cd (h64Of h) (addOf h)) (gradOp h (g u)))

/-- The code of new m at a lane of the block of unit `u`, parity `h`, sublane `s`. -/
def mAt (u : Fin 4) (h : Fin 2) (s : Fin 8) (l : Fin 128) : Fin 16 :=
  rank d (unitOf (mNew (tAt tab cd u h s l) (aAt p am u h s) (gAt g u h s l))
    (rowTop fun l => max (mNew (tAt tab cd u h s l) (aAt p am u h s) (gAt g u h s l)) (-mNew (tAt tab cd u h s l) (aAt p am u h s) (gAt g u h s l))))

/-- The code of new v there. -/
def vAt (u : Fin 4) (h : Fin 2) (s : Fin 8) (l : Fin 128) : Fin 16 :=
  rank d (unitOf (vNew (tAt tab cd u h s l) (aAt p am u h s) (gAt g u h s l)) (rowTop fun l => vNew (tAt tab cd u h s l) (aAt p am u h s) (gAt g u h s l)))

include hd h4 h2

/-- The bytes of new m a trip stores. -/
theorem mBytes_apply (R : Fin 32) (L : Fin 128) (hh : L.val / 64 < 2) :
    mBytes (F := Ideal) (d 7) (d 11) (d 3) mids k0_pay167 k0_pay168 (BitVec.ofNat 32 p.val) tab am cd (g 0) (g 1) (g 2) (g 3) (ix2 R L)
      = byteOf (mAt p tab am cd g d ⟨R.val / 8, unit_lt R⟩ ⟨L.val / 64, hh⟩ ⟨R.val % 8, sub_lt R⟩ ⟨2 * (L.val % 64), pair_lo L⟩)
          (mAt p tab am cd g d ⟨R.val / 8, unit_lt R⟩ ⟨L.val / 64, hh⟩ ⟨R.val % 8, sub_lt R⟩ ⟨2 * (L.val % 64) + 1, pair_hi L⟩) := by
  have key : ∀ (h : Fin 2) (R : Fin 32) (l : Fin 128), catOp (mUnit p tab am cd g d mids 0 h) (mUnit p tab am cd g d mids 1 h) (mUnit p tab am cd g d mids 2 h) (mUnit p tab am cd g d mids 3 h) (ix2 R l)
      = BitVec.ofNat 32 (mAt p tab am cd g d ⟨R.val / 8, unit_lt R⟩ h ⟨R.val % 8, sub_lt R⟩ l).val := fun h R l => by
    have e := catOp_apply (fun u => mUnit p tab am cd g d mids u h) ⟨R.val / 8, unit_lt R⟩ ⟨R.val % 8, sub_lt R⟩ l
    rw [row_split R] at e
    refine e.trans ?_
    exact mCode_apply d mids h4 h2 hd _ (fun l => mNew (tAt tab cd _ h _ l) (aAt p am _ h _) (gAt g _ h _ l)) _ (mOp_apply p tab am cd g _ h _) l
  exact packOp_apply _ _ (fun h R l => mAt p tab am cd g d ⟨R.val / 8, unit_lt R⟩ h ⟨R.val % 8, sub_lt R⟩ l) (key 0) (key 1) R L hh

/-- The bytes of new v a trip stores. -/
theorem vBytes_apply (R : Fin 32) (L : Fin 128) (hh : L.val / 64 < 2) :
    vBytes (F := Ideal) (d 7) (d 11) (d 3) mids k0_pay167 k0_pay168 (BitVec.ofNat 32 p.val) tab am cd (g 0) (g 1) (g 2) (g 3) (ix2 R L)
      = byteOf (vAt p tab am cd g d ⟨R.val / 8, unit_lt R⟩ ⟨L.val / 64, hh⟩ ⟨R.val % 8, sub_lt R⟩ ⟨2 * (L.val % 64), pair_lo L⟩)
          (vAt p tab am cd g d ⟨R.val / 8, unit_lt R⟩ ⟨L.val / 64, hh⟩ ⟨R.val % 8, sub_lt R⟩ ⟨2 * (L.val % 64) + 1, pair_hi L⟩) := by
  have key : ∀ (h : Fin 2) (R : Fin 32) (l : Fin 128), catOp (vUnit p tab am cd g d mids 0 h) (vUnit p tab am cd g d mids 1 h) (vUnit p tab am cd g d mids 2 h) (vUnit p tab am cd g d mids 3 h) (ix2 R l)
      = BitVec.ofNat 32 (vAt p tab am cd g d ⟨R.val / 8, unit_lt R⟩ h ⟨R.val % 8, sub_lt R⟩ l).val := fun h R l => by
    have e := catOp_apply (fun u => vUnit p tab am cd g d mids u h) ⟨R.val / 8, unit_lt R⟩ ⟨R.val % 8, sub_lt R⟩ l
    rw [row_split R] at e
    refine e.trans ?_
    exact vCode_apply d mids h4 h2 hd _ (fun l => vNew (tAt tab cd _ h _ l) (aAt p am _ h _) (gAt g _ h _ l)) _ (vOp_apply p tab am cd g _ h _) l
  exact packOp_apply _ _ (fun h R l => vAt p tab am cd g d ⟨R.val / 8, unit_lt R⟩ h ⟨R.val % 8, sub_lt R⟩ l) (key 0) (key 1) R L hh

end Trip

namespace Env

section Rows
variable {F : FTy → Type} [FloatOps F] (e : Env F)

/-- A step's bytes of m at a row: the bytes its trip stored there. -/
theorem G14_at (k : Fin k0_t1_loop.trips) (R : Fin 256) (L : Fin 128) (r : Fin 32) (hr : R.val = 32 * k.val + r.val) :
    e.G14 (ix2 R L) = mBytes (tLoad e.arg3.view (e.harg3.unread e.x3) ![7] inb_S15_S1_7) (tLoad e.arg3.view (e.harg3.unread e.x3) ![11] inb_S15_S1_11) (tLoad e.arg3.view (e.harg3.unread e.x3) ![3] inb_S15_S1_3)
          e.v9 e.v19 e.v31 (BitVec.ofNat 32 (k.val % 2)) e.v3 (aLoad e.arg10.view (e.harg10.unread e.x10) k) (cLoad e.arg9.view (e.harg9.unread e.x9) k)
          (gLoad e.arg8.view (e.harg8.unread e.x8) k 0) (gLoad e.arg8.view (e.harg8.unread e.x8) k 1) (gLoad e.arg8.view (e.harg8.unread e.x8) k 2) (gLoad e.arg8.view (e.harg8.unread e.x8) k 3) (ix2 r L) := by
  have hk : (⟨((ix2 R L : S256x128.Idx) 0).val / 32, grp14 (ix2 R L)⟩ : Fin k0_t1_loop.trips) = k := Fin.ext (by show R.val / 32 = k.val; omega)
  have hL : e.L14 k = _ := row14_eq (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
      (e.accAt (k.val + 1) - e.accAt k.val) (e.call k) e.arg15.view.junk e.arg17.view.junk
  unfold G14
  rw [hk, hL]
  exact View.read_writes_cons_unit_of_mem _ _ (k0_off10_inb k) _ [] (ix2 R L) (ix2 r L) (off10_eq k) (by
    intro a; fin_cases a
    · exact hr
    · show L.val = 0 + L.val; omega)

/-- A step's bytes of v at a row. -/
theorem G16_at (k : Fin k0_t1_loop.trips) (R : Fin 256) (L : Fin 128) (r : Fin 32) (hr : R.val = 32 * k.val + r.val) :
    e.G16 (ix2 R L) = vBytes (tLoad e.arg4.view (e.harg4.unread e.x4) ![7] inb_S15_S1_7) (tLoad e.arg4.view (e.harg4.unread e.x4) ![11] inb_S15_S1_11) (tLoad e.arg4.view (e.harg4.unread e.x4) ![3] inb_S15_S1_3)
          e.v13 e.v19 e.v31 (BitVec.ofNat 32 (k.val % 2)) e.v5 (aLoad e.arg12.view (e.harg12.unread e.x12) k) (cLoad e.arg11.view (e.harg11.unread e.x11) k)
          (gLoad e.arg8.view (e.harg8.unread e.x8) k 0) (gLoad e.arg8.view (e.harg8.unread e.x8) k 1) (gLoad e.arg8.view (e.harg8.unread e.x8) k 2) (gLoad e.arg8.view (e.harg8.unread e.x8) k 3) (ix2 r L) := by
  have hk : (⟨((ix2 R L : S256x128.Idx) 0).val / 32, grp16 (ix2 R L)⟩ : Fin k0_t1_loop.trips) = k := Fin.ext (by show R.val / 32 = k.val; omega)
  have hL : e.L16 k = _ := row16_eq (F := F) e.c e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.v0 e.v1 e.v3 e.v5 e.v9 e.v13 e.v14 e.v15 e.v19 e.v31 e.v36 e.v37 e.x1 e.x2 e.x3 e.x4 e.x7 e.x8 e.x9 e.x10 e.x11 e.x12 k (BitVec.ofNat 32 (e.accAt k.val)) (BitVec.ofNat 32 (e.accAt (k.val + 1))) (e.chk k)
      (e.accAt (k.val + 1) - e.accAt k.val) (e.call k) e.arg15.view.junk e.arg17.view.junk
  unfold G16
  rw [hk, hL]
  exact View.read_writes_cons_unit_of_mem _ _ (k0_off10_inb k) _ [] (ix2 R L) (ix2 r L) (off10_eq k) (by
    intro a; fin_cases a
    · exact hr
    · show L.val = 0 + L.val; omega)

end Rows

section Ideal
variable (e : Env Ideal) (h19 : e.v19 = k0_pay167) (h31 : e.v31 = k0_pay168) (q : Fin 16 → EReal) (d : Fin 15 → EReal) (hd : Monotone d)

/-- The code of new m at a lane of block `L` of row `r` of the absmaxes. -/
def codeMAt (r : Fin 4) (L l : Fin 128) : Fin 16 :=
  rank d (unitOf (mNew (q (codes e.x9 r L l)) (e.x10 (ix3 (0 : Fin 1) r L)) (grads e.x8 r L l)) (topM q (e.x10 (ix3 (0 : Fin 1) r L)) (codes e.x9 r L) (grads e.x8 r L)))

/-- The code of new v there. -/
def codeVAt (r : Fin 4) (L l : Fin 128) : Fin 16 :=
  rank d (unitOf (vNew (q (codes e.x11 r L l)) (e.x12 (ix3 (0 : Fin 1) r L)) (grads e.x8 r L l)) (topV q (e.x12 (ix3 (0 : Fin 1) r L)) (codes e.x11 r L) (grads e.x8 r L)))

theorem mAt_eq (ht : ∀ j : Fin 128, e.v3 (ix2 (0 : Fin 1) j) = q ⟨j.val % 16, mod_lt _⟩) (k : Fin k0_t1_loop.trips) (hp : k.val % 2 < 2) (r : Fin 4) (L : Fin 128) (hk : 2 * r.val + L.val / 64 = k.val)
    (u : Fin 4) (h : Fin 2) (s : Fin 8) (hu : u.val = L.val % 64 / 16) (hh : h.val = L.val % 2) (hs : s.val = L.val % 16 / 2) (l : Fin 128) :
    mAt ⟨k.val % 2, hp⟩ e.v3 (aLoad e.arg10.view (e.harg10.unread e.x10) k) (cLoad e.arg9.view (e.harg9.unread e.x9) k) (fun r => gLoad e.arg8.view (e.harg8.unread e.x8) k r) d u h s l = e.codeMAt q d r L l := by
  have eu : u = ⟨L.val % 64 / 16, u_lt L⟩ := Fin.ext hu
  have eh : h = ⟨L.val % 2, h_lt L⟩ := Fin.ext hh
  have es : s = ⟨L.val % 16 / 2, s_lt L⟩ := Fin.ext hs
  subst eu eh es
  have key : ∀ l, mNew (tAt e.v3 (cLoad e.arg9.view (e.harg9.unread e.x9) k) ⟨L.val % 64 / 16, u_lt L⟩ ⟨L.val % 2, h_lt L⟩ ⟨L.val % 16 / 2, s_lt L⟩ l)
      (aAt ⟨k.val % 2, hp⟩ (aLoad e.arg10.view (e.harg10.unread e.x10) k) ⟨L.val % 64 / 16, u_lt L⟩ ⟨L.val % 2, h_lt L⟩ ⟨L.val % 16 / 2, s_lt L⟩)
      (gAt (fun r => gLoad e.arg8.view (e.harg8.unread e.x8) k r) ⟨L.val % 64 / 16, u_lt L⟩ ⟨L.val % 2, h_lt L⟩ ⟨L.val % 16 / 2, s_lt L⟩ l)
      = mNew (q (codes e.x9 r L l)) (e.x10 (ix3 (0 : Fin 1) r L)) (grads e.x8 r L l) := fun l => by
    rw [tab_eq q e.v3 ht e.x9 e.arg9 e.harg9 r L k hk l, abs_eq e.x10 e.arg10 e.harg10 r L k hk hp, grad_eq e.x8 e.arg8 e.harg8 r L k hk l]
  unfold mAt codeMAt topM
  simp only [key]

theorem vAt_eq (ht : ∀ j : Fin 128, e.v5 (ix2 (0 : Fin 1) j) = q ⟨j.val % 16, mod_lt _⟩) (k : Fin k0_t1_loop.trips) (hp : k.val % 2 < 2) (r : Fin 4) (L : Fin 128) (hk : 2 * r.val + L.val / 64 = k.val)
    (u : Fin 4) (h : Fin 2) (s : Fin 8) (hu : u.val = L.val % 64 / 16) (hh : h.val = L.val % 2) (hs : s.val = L.val % 16 / 2) (l : Fin 128) :
    vAt ⟨k.val % 2, hp⟩ e.v5 (aLoad e.arg12.view (e.harg12.unread e.x12) k) (cLoad e.arg11.view (e.harg11.unread e.x11) k) (fun r => gLoad e.arg8.view (e.harg8.unread e.x8) k r) d u h s l = e.codeVAt q d r L l := by
  have eu : u = ⟨L.val % 64 / 16, u_lt L⟩ := Fin.ext hu
  have eh : h = ⟨L.val % 2, h_lt L⟩ := Fin.ext hh
  have es : s = ⟨L.val % 16 / 2, s_lt L⟩ := Fin.ext hs
  subst eu eh es
  have key : ∀ l, vNew (tAt e.v5 (cLoad e.arg11.view (e.harg11.unread e.x11) k) ⟨L.val % 64 / 16, u_lt L⟩ ⟨L.val % 2, h_lt L⟩ ⟨L.val % 16 / 2, s_lt L⟩ l)
      (aAt ⟨k.val % 2, hp⟩ (aLoad e.arg12.view (e.harg12.unread e.x12) k) ⟨L.val % 64 / 16, u_lt L⟩ ⟨L.val % 2, h_lt L⟩ ⟨L.val % 16 / 2, s_lt L⟩)
      (gAt (fun r => gLoad e.arg8.view (e.harg8.unread e.x8) k r) ⟨L.val % 64 / 16, u_lt L⟩ ⟨L.val % 2, h_lt L⟩ ⟨L.val % 16 / 2, s_lt L⟩ l)
      = vNew (q (codes e.x11 r L l)) (e.x12 (ix3 (0 : Fin 1) r L)) (grads e.x8 r L l) := fun l => by
    rw [tab_eq q e.v5 ht e.x11 e.arg11 e.harg11 r L k hk l, abs_eq e.x12 e.arg12 e.harg12 r L k hk hp, grad_eq e.x8 e.arg8 e.harg8 r L k hk l]
  unfold vAt codeVAt topV
  simp only [key]

include h19 h31 hd

/-- A step's bytes of m. -/
theorem G14_apply (ht : ∀ j : Fin 128, e.v3 (ix2 (0 : Fin 1) j) = q ⟨j.val % 16, mod_lt _⟩) (h3 : ∀ k, e.x3 (ix1 k) = d k)
    (h4 : ∀ (s : Fin 8) (k : Fin 4), e.v9 (ix2 s ⟨4 * k.val, four_lt k⟩) = d ⟨4 * k.val + 1, four_lt' k⟩)
    (h2 : ∀ (s : Fin 8) (k : Fin 8), e.v9 (ix2 s ⟨2 * k.val + 1, two_lt k⟩) = d ⟨2 * k.val, two_lt' k⟩)
    (R : Fin 256) (L : Fin 128) (r : Fin 4) (B : Fin 128) (hb : 128 * r.val + B.val = 2 * R.val + L.val / 64) :
    e.G14 (ix2 R L) = byteOf (e.codeMAt q d r B ⟨2 * (L.val % 64), pair_lo L⟩) (e.codeMAt q d r B ⟨2 * (L.val % 64) + 1, pair_hi L⟩) := by
  have hk8 : R.val / 32 < k0_t1_loop.trips := by show _ < 8; omega
  obtain ⟨k, hk⟩ : ∃ k : Fin k0_t1_loop.trips, R.val / 32 = k.val := ⟨⟨_, hk8⟩, rfl⟩
  have hp : k.val % 2 < 2 := Nat.mod_lt _ Nat.two_pos
  have hh : L.val / 64 < 2 := by omega
  have hR : R.val % 32 < 32 := by omega
  refine (e.G14_at k R L ⟨R.val % 32, hR⟩ (by show R.val = 32 * k.val + R.val % 32; omega)).trans ?_
  rw [show tLoad e.arg3.view (e.harg3.unread e.x3) ![7] inb_S15_S1_7 = d 7 from (tLoad_apply e.arg3 e.harg3 e.x3 7 _).trans (h3 7),
    show tLoad e.arg3.view (e.harg3.unread e.x3) ![11] inb_S15_S1_11 = d 11 from (tLoad_apply e.arg3 e.harg3 e.x3 11 _).trans (h3 11),
    show tLoad e.arg3.view (e.harg3.unread e.x3) ![3] inb_S15_S1_3 = d 3 from (tLoad_apply e.arg3 e.harg3 e.x3 3 _).trans (h3 3), h19, h31]
  refine (mBytes_apply ⟨k.val % 2, hp⟩ e.v3 _ _ (fun r => gLoad e.arg8.view (e.harg8.unread e.x8) k r) d hd e.v9 h4 h2 ⟨R.val % 32, hR⟩ L hh).trans ?_
  rw [e.mAt_eq q d ht k hp r B (by omega) _ _ _ (by show R.val % 32 / 8 = _; omega) (by show L.val / 64 = _; omega) (by show R.val % 32 % 8 = _; omega) _,
    e.mAt_eq q d ht k hp r B (by omega) _ _ _ (by show R.val % 32 / 8 = _; omega) (by show L.val / 64 = _; omega) (by show R.val % 32 % 8 = _; omega) _]

/-- A step's bytes of v. -/
theorem G16_apply (ht : ∀ j : Fin 128, e.v5 (ix2 (0 : Fin 1) j) = q ⟨j.val % 16, mod_lt _⟩) (h3 : ∀ k, e.x4 (ix1 k) = d k)
    (h4 : ∀ (s : Fin 8) (k : Fin 4), e.v13 (ix2 s ⟨4 * k.val, four_lt k⟩) = d ⟨4 * k.val + 1, four_lt' k⟩)
    (h2 : ∀ (s : Fin 8) (k : Fin 8), e.v13 (ix2 s ⟨2 * k.val + 1, two_lt k⟩) = d ⟨2 * k.val, two_lt' k⟩)
    (R : Fin 256) (L : Fin 128) (r : Fin 4) (B : Fin 128) (hb : 128 * r.val + B.val = 2 * R.val + L.val / 64) :
    e.G16 (ix2 R L) = byteOf (e.codeVAt q d r B ⟨2 * (L.val % 64), pair_lo L⟩) (e.codeVAt q d r B ⟨2 * (L.val % 64) + 1, pair_hi L⟩) := by
  have hk8 : R.val / 32 < k0_t1_loop.trips := by show _ < 8; omega
  obtain ⟨k, hk⟩ : ∃ k : Fin k0_t1_loop.trips, R.val / 32 = k.val := ⟨⟨_, hk8⟩, rfl⟩
  have hp : k.val % 2 < 2 := Nat.mod_lt _ Nat.two_pos
  have hh : L.val / 64 < 2 := by omega
  have hR : R.val % 32 < 32 := by omega
  refine (e.G16_at k R L ⟨R.val % 32, hR⟩ (by show R.val = 32 * k.val + R.val % 32; omega)).trans ?_
  rw [show tLoad e.arg4.view (e.harg4.unread e.x4) ![7] inb_S15_S1_7 = d 7 from (tLoad_apply e.arg4 e.harg4 e.x4 7 _).trans (h3 7),
    show tLoad e.arg4.view (e.harg4.unread e.x4) ![11] inb_S15_S1_11 = d 11 from (tLoad_apply e.arg4 e.harg4 e.x4 11 _).trans (h3 11),
    show tLoad e.arg4.view (e.harg4.unread e.x4) ![3] inb_S15_S1_3 = d 3 from (tLoad_apply e.arg4 e.harg4 e.x4 3 _).trans (h3 3), h19, h31]
  refine (vBytes_apply ⟨k.val % 2, hp⟩ e.v5 _ _ (fun r => gLoad e.arg8.view (e.harg8.unread e.x8) k r) d hd e.v13 h4 h2 ⟨R.val % 32, hR⟩ L hh).trans ?_
  rw [e.vAt_eq q d ht k hp r B (by omega) _ _ _ (by show R.val % 32 / 8 = _; omega) (by show L.val / 64 = _; omega) (by show R.val % 32 % 8 = _; omega) _,
    e.vAt_eq q d ht k hp r B (by omega) _ _ _ (by show R.val % 32 / 8 = _; omega) (by show L.val / 64 = _; omega) (by show R.val % 32 % 8 = _; omega) _]

end Ideal
end Env

end Cert.KernelIdeal.Hand

end
-- ==== Proof.CodeTables.lean ====
module

public import proofs.«01_k».proof.Proof.Prologue
public import proofs.«01_k».proof.Proof.CodePoint

/-! The thresholds the kernel's arrays hold when its call starts: halfway between the neighbours of a table, and laid out by lanes for the search. -/

@[expose] public section

set_option maxRecDepth 16384

noncomputable section

namespace Cert.KernelIdeal.Hand

open Cert.KernelIdeal Cert.KernelIdeal.Gen Cert.Absmax
open Idealize.ShloMosaic hiding ix1 ix2 ix3
open Idealize.ShloMosaic.TcCoe
open ValueIdx (ix1 ix2 ix3 eq_ix2 eq_ix3)

section Words

/-- Four positions as a column, a negative one taken from the end. -/
def col4 (p : Fin 4 → BitVec 32) (n : BitVec 32) : IVec S4x1 32 :=
  broadcastInDim S4x1 ![0] bcast_S4_S4x1_0 (select (cmpi .slt (fun i => p (S4.rowMajor i) : IVec S4 32) (broadcastInDim S4 ![] bcast_S_S4 (constantI S_ 32 0#32)))
    (addi (fun i => p (S4.rowMajor i) : IVec S4 32) (broadcastInDim S4 ![] bcast_S_S4 (constantI S_ 32 n))) (fun i => p (S4.rowMajor i) : IVec S4 32))

/-- Eight positions as a column, likewise. -/
def col8 (p : IVec S8 32) (n : BitVec 32) : IVec S8x1 32 :=
  broadcastInDim S8x1 ![0] bcast_S8_S8x1_0 (select (cmpi .slt p (broadcastInDim S8 ![] bcast_S_S8 (constantI S_ 32 0#32)))
    (addi p (broadcastInDim S8 ![] bcast_S_S8 (constantI S_ 32 n))) p)

/-- The even positions. -/
def evens : IVec S8 32 := muli (iotaInDim S8 32 0) (broadcastInDim S8 ![] bcast_S_S8 (constantI S_ 32 2#32))

/-- The odd positions. -/
def odds : IVec S8 32 := addi evens (broadcastInDim S8 ![] bcast_S_S8 (constantI S_ 32 1#32))

theorem gat4 : ∀ n : Fin S4.numel, gather_S15_S4x1_S4_n_0_n_n_0_1_1.operandIdx (S4.rowMajor.symm n) (col4 lit1 15#32) = ix1 (⟨4 * n.val % 16 + 1, by omega⟩ : Fin 15) := by
  decide +kernel

theorem gat8 : ∀ n : Fin S8.numel, gather_S15_S8x1_S8_n_0_n_n_0_1_1.operandIdx (S8.rowMajor.symm n) (col8 evens 15#32) = ix1 (⟨2 * n.val % 15, by omega⟩ : Fin 15) := by
  decide +kernel

theorem sca4 : ∀ n : Fin S4.numel, scatter_S16_S4x1_S4_n_0_0_1.resultIdx? (S4.rowMajor.symm n) (col4 lit0 16#32) = some (ix1 (⟨4 * n.val % 16, by omega⟩ : Fin 16)) := by
  decide +kernel

theorem sca8 : ∀ n : Fin S8.numel, scatter_S16_S8x1_S8_n_0_0_1.resultIdx? (S8.rowMajor.symm n) (col8 odds 16#32) = some (ix1 (⟨2 * n.val % 16 + 1, by omega⟩ : Fin 16)) := by
  decide +kernel

end Words

section Set

/-- Writes of one element each leave an element none of them names. -/
theorem foldl_set_other {ι κ α : Type} [DecidableEq κ] (g : ι → κ) (v : ι → α) (i : κ) : ∀ (L : List ι) (x : κ → α), (∀ n ∈ L, g n ≠ i) →
    L.foldl (fun r n i' => if i' = g n then v n else r i') x i = x i
  | [], x, _ => rfl
  | n :: L, x, h => by
    rw [List.foldl_cons, foldl_set_other g v i L _ fun n' hn' => h n' (List.mem_cons_of_mem _ hn')]
    exact if_neg fun hi => h n List.mem_cons_self hi.symm

/-- Writes of one element each, no two to the same, put each where it names. -/
theorem foldl_set_at {ι κ α : Type} [DecidableEq κ] (g : ι → κ) (hg : Function.Injective g) (v : ι → α) (n : ι) : ∀ (L : List ι) (x : κ → α), n ∈ L →
    L.foldl (fun r n i' => if i' = g n then v n else r i') x (g n) = v n
  | [], _, h => absurd h List.not_mem_nil
  | n' :: L, x, h => by
    rw [List.foldl_cons]
    by_cases hL : n ∈ L
    · exact foldl_set_at g hg v n L _ hL
    · have hn : n = n' := by
        rcases List.mem_cons.mp h with h | h
        · exact h
        · exact absurd h hL
      subst hn
      rw [foldl_set_other g v (g n) L _ fun n' hn' he => hL (hg he ▸ hn')]
      exact if_pos rfl

theorem scatter_eq {s si u : Shape} {α : Type} {w : ℕ} (d : ScatterDims s si u) (x : s.Idx → α) (idx : IVec si w) (upd : u.Idx → α) (g : Fin u.numel → s.Idx)
    (hd : ∀ n, d.resultIdx? (u.rowMajor.symm n) idx = some (g n)) :
    Host.scatter d (fun _ b => b) x idx upd = (List.finRange u.numel).foldl (fun r n i' => if i' = g n then upd (u.rowMajor.symm n) else r i') x := by
  unfold Host.scatter
  congr 1
  funext r n
  rw [hd n]

theorem scatter_at {s si u : Shape} {α : Type} {w : ℕ} (d : ScatterDims s si u) (x : s.Idx → α) (idx : IVec si w) (upd : u.Idx → α) (g : Fin u.numel → s.Idx)
    (hd : ∀ n, d.resultIdx? (u.rowMajor.symm n) idx = some (g n)) (hg : Function.Injective g) (n : Fin u.numel) :
    Host.scatter d (fun _ b => b) x idx upd (g n) = upd (u.rowMajor.symm n) := by
  rw [scatter_eq d x idx upd g hd]
  exact foldl_set_at g hg (fun n => upd (u.rowMajor.symm n)) n _ x (List.mem_finRange n)

theorem scatter_other {s si u : Shape} {α : Type} {w : ℕ} (d : ScatterDims s si u) (x : s.Idx → α) (idx : IVec si w) (upd : u.Idx → α) (g : Fin u.numel → s.Idx)
    (hd : ∀ n, d.resultIdx? (u.rowMajor.symm n) idx = some (g n)) (i : s.Idx) (hi : ∀ n, g n ≠ i) :
    Host.scatter d (fun _ b => b) x idx upd i = x i := by
  rw [scatter_eq d x idx upd g hd]
  exact foldl_set_other g (fun n => upd (u.rowMajor.symm n)) i _ x fun n _ => hi n

end Set

section Lanes
variable {F : FTy → Type} [FloatOps F]

/-- The thresholds by lanes: at a lane 4 k the threshold 4 k + 1, at an odd lane the threshold before it. -/
def lanesOp (p0 p1 : Fin 4 → BitVec 32) (d : Vec F S15 .f32) : Vec F S16 .f32 :=
  Host.scatter scatter_S16_S8x1_S8_n_0_0_1 (fun _ b => b)
    (Host.scatter scatter_S16_S4x1_S4_n_0_0_1 (fun _ b => b) (broadcastInDim S16 ![] bcast_S_S16 (constant (F := F) S_ .f32 0x00000000#32)) (col4 p0 16#32)
      (Host.gather gather_S15_S4x1_S4_n_0_n_n_0_1_1 d (col4 p1 15#32)))
    (col8 odds 16#32) (Host.gather gather_S15_S8x1_S8_n_0_n_n_0_1_1 d (col8 evens 15#32))

theorem lane4_lt (k : Fin 4) : 4 * k.val < 16 := by omega
theorem lane2_lt (k : Fin 8) : 2 * k.val + 1 < 16 := by omega

theorem ix1_val {n : ℕ} {a b : Fin n} (h : (ix1 a : (⟨1, ![n]⟩ : Shape).Idx) = ix1 b) : a.val = b.val := congrArg Fin.val (congrFun h 0)

theorem lanes4 (d : Vec F S15 .f32) (k : Fin 4) : lanesOp lit0 lit1 d (ix1 ⟨4 * k.val, lane4_lt k⟩) = d (ix1 ⟨4 * k.val + 1, four_lt' k⟩) := by
  have hn : (S4.rowMajor (ix1 k)).val = k.val := Shape.rowMajor_val_one _
  unfold lanesOp
  rw [scatter_other _ _ _ _ _ sca8 _ (fun n h => by
    have h := ix1_val h
    dsimp only at h
    omega)]
  have h := scatter_at scatter_S16_S4x1_S4_n_0_0_1 (broadcastInDim S16 ![] bcast_S_S16 (constant (F := F) S_ .f32 0x00000000#32)) (col4 lit0 16#32)
      (Host.gather gather_S15_S4x1_S4_n_0_n_n_0_1_1 d (col4 lit1 15#32)) _ sca4 (fun a b h => by
    have h := ix1_val h
    have ha : a.val < 4 := a.isLt
    have hb : b.val < 4 := b.isLt
    dsimp only at h
    exact Fin.ext (by omega)) (S4.rowMajor (ix1 k))
  rw [show (ix1 (⟨4 * k.val, lane4_lt k⟩ : Fin 16) : S16.Idx) = ix1 (⟨4 * (S4.rowMajor (ix1 k)).val % 16, by omega⟩ : Fin 16) from
    congrArg ix1 (Fin.ext (by show 4 * k.val = 4 * (S4.rowMajor (ix1 k)).val % 16; omega))]
  refine h.trans ?_
  unfold Host.gather
  rw [gat4]
  exact congrArg d (congrArg ix1 (Fin.ext (by show 4 * (S4.rowMajor (ix1 k)).val % 16 + 1 = 4 * k.val + 1; omega)))

theorem lanes2 (d : Vec F S15 .f32) (k : Fin 8) : lanesOp lit0 lit1 d (ix1 ⟨2 * k.val + 1, lane2_lt k⟩) = d (ix1 ⟨2 * k.val, two_lt' k⟩) := by
  have hn : (S8.rowMajor (ix1 k)).val = k.val := Shape.rowMajor_val_one _
  unfold lanesOp
  have h := scatter_at scatter_S16_S8x1_S8_n_0_0_1 (Host.scatter scatter_S16_S4x1_S4_n_0_0_1 (fun _ b => b) (broadcastInDim S16 ![] bcast_S_S16 (constant (F := F) S_ .f32 0x00000000#32)) (col4 lit0 16#32)
      (Host.gather gather_S15_S4x1_S4_n_0_n_n_0_1_1 d (col4 lit1 15#32))) (col8 odds 16#32) (Host.gather gather_S15_S8x1_S8_n_0_n_n_0_1_1 d (col8 evens 15#32)) _ sca8 (fun a b h => by
    have h := ix1_val h
    have ha : a.val < 8 := a.isLt
    have hb : b.val < 8 := b.isLt
    dsimp only at h
    exact Fin.ext (by omega)) (S8.rowMajor (ix1 k))
  rw [show (ix1 (⟨2 * k.val + 1, lane2_lt k⟩ : Fin 16) : S16.Idx) = ix1 (⟨2 * (S8.rowMajor (ix1 k)).val % 16 + 1, by omega⟩ : Fin 16) from
    congrArg ix1 (Fin.ext (by show 2 * k.val + 1 = 2 * (S8.rowMajor (ix1 k)).val % 16 + 1; omega))]
  refine h.trans ?_
  unfold Host.gather
  rw [gat8]
  exact congrArg d (congrArg ix1 (Fin.ext (by show 2 * (S8.rowMajor (ix1 k)).val % 15 = 2 * k.val; omega)))

/-- The thresholds of a table. -/
def midsOp (q : Vec F S16 .f32) : Vec F S15 .f32 :=
  mulf (addf (extractStridedSlice S15 ![0] q slices_S16_S15_0) (extractStridedSlice S15 ![1] q slices_S16_S15_1)) (broadcastInDim S15 ![] bcast_S_S15 (constant (F := F) S_ .f32 0x3F000000#32))

theorem midsOp_apply (q : Vec Ideal S16 .f32) (k : Fin 15) : midsOp q (ix1 k) = midOf (fun j => q (ix1 j)) k := by
  show (extractStridedSlice S15 ![0] q slices_S16_S15_0 (ix1 k) + extractStridedSlice S15 ![1] q slices_S16_S15_1 (ix1 k) : EReal) * _ = _
  rw [extractStridedSlice_apply _ _ _ _ (ix1 k.castSucc) (by intro a; fin_cases a; show k.val = 0 + k.val; omega),
    extractStridedSlice_apply _ _ _ _ (ix1 k.succ) (by intro a; fin_cases a; show k.val + 1 = 1 + k.val; omega)]
  rfl

/-- The third row of four. -/
theorem cat4_2 (x y z w : Vec F S1x128 .f32) (h) (j : Fin 128) :
    concatenate S4x128 0 [⟨S1x128, x⟩, ⟨S1x128, y⟩, ⟨S1x128, z⟩, ⟨S1x128, w⟩] h (ix2 (2 : Fin 4) j) = z (ix2 (0 : Fin 1) j) :=
  concatenate_apply_piece (t := S4x128) (0 : Fin 2) [⟨S1x128, x⟩, ⟨S1x128, y⟩, ⟨S1x128, z⟩, ⟨S1x128, w⟩] h (ix2 (2 : Fin 4) j) 2 (show 2 < 4 by omega) S1x128 z rfl rfl 2 rfl (ix2 (0 : Fin 1) j)
    (by intro b hb; fin_cases b; exact absurd rfl hb; rfl) rfl

/-- The fourth row of four. -/
theorem cat4_3 (x y z w : Vec F S1x128 .f32) (h) (j : Fin 128) :
    concatenate S4x128 0 [⟨S1x128, x⟩, ⟨S1x128, y⟩, ⟨S1x128, z⟩, ⟨S1x128, w⟩] h (ix2 (3 : Fin 4) j) = w (ix2 (0 : Fin 1) j) :=
  concatenate_apply_piece (t := S4x128) (0 : Fin 2) [⟨S1x128, x⟩, ⟨S1x128, y⟩, ⟨S1x128, z⟩, ⟨S1x128, w⟩] h (ix2 (3 : Fin 4) j) 3 (show 3 < 4 by omega) S1x128 w rfl rfl 3 rfl (ix2 (0 : Fin 1) j)
    (by intro b hb; fin_cases b; exact absurd rfl hb; rfl) rfl

variable (m : (ℓ : Loc nD τ sig) → Buf (Elt F) ℓ) (c : Dev nD)

/-- m's thresholds. -/
theorem V_v22 : V m c main_v22 = midsOp (m ((c : Thread nD τ).loc main_arg6) : Vec F S16 .f32) := by
  unfold V
  after_reads_simp
  rfl

/-- v's thresholds. -/
theorem V_v27 : V m c main_v27 = midsOp (m ((c : Thread nD τ).loc main_arg7) : Vec F S16 .f32) := by
  unfold V
  after_reads_simp
  rfl

/-- m's thresholds by lanes. -/
theorem V_v112_2 (j : Fin 128) : (V m c main_v112 : Vec F S4x128 .f32) (ix2 (2 : Fin 4) j)
    = lanesOp lit0 lit1 (midsOp (m ((c : Thread nD τ).loc main_arg6) : Vec F S16 .f32)) (ix1 ⟨j.val % 16, Nat.mod_lt _ (by omega)⟩) := by
  refine Eq.trans ?_ (rep8_apply (lanesOp lit0 lit1 (midsOp (m ((c : Thread nD τ).loc main_arg6) : Vec F S16 .f32))) j)
  unfold V
  after_reads_simp
  refine (cat4_2 _ _ _ _ _ j).trans ?_
  show (StableHlo.unary main_v70 main_v110 (broadcastInDim S1x128 ![1] bcast_S128_S1x128_1) _ _).result (StableHlo.upto hostOps0 (fun b => m (c, b)) 146) (Proc.tc.devRef main_v110) (ix2 (0 : Fin 1) j) = _
  after_reads_simp
  rfl

/-- v's thresholds by lanes. -/
theorem V_v112_3 (j : Fin 128) : (V m c main_v112 : Vec F S4x128 .f32) (ix2 (3 : Fin 4) j)
    = lanesOp lit2 lit3 (midsOp (m ((c : Thread nD τ).loc main_arg7) : Vec F S16 .f32)) (ix1 ⟨j.val % 16, Nat.mod_lt _ (by omega)⟩) := by
  refine Eq.trans ?_ (rep8_apply (lanesOp lit2 lit3 (midsOp (m ((c : Thread nD τ).loc main_arg7) : Vec F S16 .f32))) j)
  unfold V
  after_reads_simp
  refine (cat4_3 _ _ _ _ _ j).trans ?_
  show (StableHlo.unary main_v107 main_v111 (broadcastInDim S1x128 ![1] bcast_S128_S1x128_1) _ _).result (StableHlo.upto hostOps0 (fun b => m (c, b)) 147) (Proc.tc.devRef main_v111) (ix2 (0 : Fin 1) j) = _
  after_reads_simp
  rfl

theorem lit2_eq : lit2 = lit0 := rfl
theorem lit3_eq : lit3 = lit1 := rfl

end Lanes

end Cert.KernelIdeal.Hand

end
-- ==== Proof.CodeBlocks.lean ====
module

public import proofs.«01_k».proof.Proof.Blocks
public import proofs.«01_k».proof.Proof.CodeBlock
public import proofs.«01_k».proof.Proof.CodeTables

/-! The arrays of codes the kernel leaves, over the reals, byte by byte from the arguments. -/

@[expose] public section

set_option maxRecDepth 16384

noncomputable section

namespace Cert.KernelIdeal.Hand

open Cert.KernelIdeal Cert.KernelIdeal.Gen Cert.Absmax
open Idealize.ShloMosaic hiding ix1 ix2 ix3 eq_ix1 eq_ix2 eq_ix3
open Idealize.ShloMosaic.TcCoe
open ValueIdx (ix1 ix2 ix3 eq_ix2 eq_ix3)

theorem e2 : ∀ t : Fin grid0.N, win0_2.index t = ![0] := by decide +kernel
theorem e3 : ∀ t : Fin grid0.N, win0_3.index t = ![0] := by decide +kernel
theorem e13 : ∀ t : Fin grid0.N, win0_13.index t = ![t.val, 0] := by decide +kernel
theorem e15 : ∀ t : Fin grid0.N, win0_15.index t = ![t.val, 0] := by decide +kernel

section Blocks
variable {F : FTy → Type} [FloatOps F] (m : (ℓ : Loc nD τ sig) → Buf (Elt F) ℓ) (c : Dev nD)

/-- m's thresholds, whole at every step. -/
theorem iblk2 (t : Fin 49) (k : Fin 15) : (iblk m c 2 t : Vec F S15 .f32) (ix1 k) = midsOp (m ((c : Thread nD τ).loc main_arg6) : Vec F S16 .f32) (ix1 k) := by
  refine Eq.trans ?_ (congrFun (V_v22 m c) (ix1 k))
  unfold iblk
  refine congrArg (V m c main_v22 : Vec F S15 .f32) ?_
  funext a
  apply Fin.ext
  have e := e2 t
  fin_cases a
  refine (Pipeline.Window.rect_emb_val win0_2 t (ix1 k) 0).trans ?_
  rw [e]; show 0 * 15 + k.val = k.val; omega

/-- v's thresholds, whole at every step. -/
theorem iblk3 (t : Fin 49) (k : Fin 15) : (iblk m c 3 t : Vec F S15 .f32) (ix1 k) = midsOp (m ((c : Thread nD τ).loc main_arg7) : Vec F S16 .f32) (ix1 k) := by
  refine Eq.trans ?_ (congrFun (V_v27 m c) (ix1 k))
  unfold iblk
  refine congrArg (V m c main_v27 : Vec F S15 .f32) ?_
  funext a
  apply Fin.ext
  have e := e3 t
  fin_cases a
  refine (Pipeline.Window.rect_emb_val win0_3 t (ix1 k) 0).trans ?_
  rw [e]; show 0 * 15 + k.val = k.val; omega

end Blocks

section Arrays
variable (m : (ℓ : Loc nD τ sig) → Buf (Elt Ideal) ℓ) (hO : LastOffset m) (c : Dev nD)

/-- A step's thresholds of m by lanes. -/
theorem v9_apply (t : Fin 49) (s : Fin 8) (j : Fin 128) : (envAt m hO c t).v9 (ix2 s j)
    = lanesOp lit0 lit1 (midsOp (m ((c : Thread nD τ).loc main_arg6) : Vec Ideal S16 .f32)) (ix1 ⟨j.val % 16, Nat.mod_lt _ (by omega)⟩) := by
  refine Eq.trans ?_ (V_v112_2 m c j)
  refine Eq.trans ?_ (iblk5 m c t 2 j)
  unfold envAt
  dsimp only [env]
  unfold k0_pay165
  simp only [shapeCast_self]
  refine (broadcastTo_apply _ _ _ (ix2 (0 : Fin 1) j) (by intro a; fin_cases a <;> rfl)).trans ?_
  refine (Memref.IsWhole.readAt_unread _ _ _ _).trans ?_
  congr 1
  funext a
  fin_cases a
  · rfl
  · exact Fin.ext (by show 0 + 1 * j.val = j.val; omega)

/-- A step's thresholds of v by lanes. -/
theorem v13_apply (t : Fin 49) (s : Fin 8) (j : Fin 128) : (envAt m hO c t).v13 (ix2 s j)
    = lanesOp lit0 lit1 (midsOp (m ((c : Thread nD τ).loc main_arg7) : Vec Ideal S16 .f32)) (ix1 ⟨j.val % 16, Nat.mod_lt _ (by omega)⟩) := by
  rw [← lit2_eq, ← lit3_eq]
  refine Eq.trans ?_ (V_v112_3 m c j)
  refine Eq.trans ?_ (iblk5 m c t 3 j)
  unfold envAt
  dsimp only [env]
  unfold k0_pay166
  simp only [shapeCast_self]
  refine (broadcastTo_apply _ _ _ (ix2 (0 : Fin 1) j) (by intro a; fin_cases a <;> rfl)).trans ?_
  refine (Memref.IsWhole.readAt_unread _ _ _ _).trans ?_
  congr 1
  funext a
  fin_cases a
  · rfl
  · exact Fin.ext (by show 0 + 1 * j.val = j.val; omega)

/-- The lane of every fourth threshold. -/
theorem at4 (d : Vec Ideal S15 .f32) (k : Fin 4) (h) : lanesOp lit0 lit1 d (ix1 (⟨4 * k.val % 16, h⟩ : Fin 16)) = d (ix1 ⟨4 * k.val + 1, four_lt' k⟩) := by
  refine Eq.trans (congrArg (fun i => lanesOp lit0 lit1 d (ix1 i)) (Fin.ext ?_)) (lanes4 d k)
  show 4 * k.val % 16 = 4 * k.val
  omega

/-- The lane of every second threshold. -/
theorem at2 (d : Vec Ideal S15 .f32) (k : Fin 8) (h) : lanesOp lit0 lit1 d (ix1 (⟨(2 * k.val + 1) % 16, h⟩ : Fin 16)) = d (ix1 ⟨2 * k.val, two_lt' k⟩) := by
  refine Eq.trans (congrArg (fun i => lanesOp lit0 lit1 d (ix1 i)) (Fin.ext ?_)) (lanes2 d k)
  show (2 * k.val + 1) % 16 = 2 * k.val + 1
  omega

/-- A table in ascending order. -/
def InOrder (q : Vec Ideal S16 .f32) : Prop := ∀ k : Fin 15, (q (ix1 k.castSucc) : EReal) ≤ q (ix1 k.succ)

/-- The array of m's codes. -/
def arrMC : Vec Ideal S12544x128 .i8 := fun y => bytesOf (codeM (m ((c : Thread nD τ).loc main_arg6)) (m ((c : Thread nD τ).loc main_arg3)) (m ((c : Thread nD τ).loc main_arg2)) (m ((c : Thread nD τ).loc main_arg1))) (y 0) (y 1)

/-- The array of v's codes. -/
def arrVC : Vec Ideal S12544x128 .i8 := fun y => bytesOf (codeV (m ((c : Thread nD τ).loc main_arg7)) (m ((c : Thread nD τ).loc main_arg5)) (m ((c : Thread nD τ).loc main_arg4)) (m ((c : Thread nD τ).loc main_arg1))) (y 0) (y 1)

theorem row_hi (R : Fin 256) (L : Fin 128) : (2 * R.val + L.val / 64) / 128 < 4 := by omega
theorem row_lo (R : Fin 256) (L : Fin 128) : (2 * R.val + L.val / 64) % 128 < 128 := by omega

/-- The block of a byte, counted from the step and from the whole array. -/
theorem blk_eq (t : Fin 49) (R : Fin 256) (L : Fin 128) :
    (⟨512 * t.val + 128 * ((2 * R.val + L.val / 64) / 128) + (2 * R.val + L.val / 64) % 128, flat3 t ⟨_, row_hi R L⟩ ⟨_, row_lo R L⟩⟩ : Fin 25088)
      = ⟨2 * (256 * t.val + R.val) + L.val / 64, pair_blk ⟨256 * t.val + R.val, code_row t R⟩ L⟩ :=
  Fin.ext (by show 512 * t.val + 128 * ((2 * R.val + L.val / 64) / 128) + (2 * R.val + L.val / 64) % 128 = 2 * (256 * t.val + R.val) + L.val / 64; omega)

theorem step_mc (hq : InOrder (m ((c : Thread nD τ).loc main_arg6)))
    (t : Fin 49) (R : Fin 256) (L : Fin 128) : (envAt m hO c t).G14 (ix2 R L) = arrMC m c (ix2 ⟨256 * t.val + R.val, code_row t R⟩ L) := by
  have hm := midsOp_apply (m ((c : Thread nD τ).loc main_arg6) : Vec Ideal S16 .f32)
  refine (Env.G14_apply (envAt m hO c t) rfl rfl (fun j => (m ((c : Thread nD τ).loc main_arg6) : Vec Ideal S16 .f32) (ix1 j)) (midOf fun j => (m ((c : Thread nD τ).loc main_arg6) : Vec Ideal S16 .f32) (ix1 j))
    (midOf_mono _ hq) (v3_apply m hO c t) (fun k => (iblk2 m c t k).trans (hm k))
    (fun s k => (v9_apply m hO c t s _).trans ((at4 _ k _).trans (hm _))) (fun s k => (v9_apply m hO c t s _).trans ((at2 _ k _).trans (hm _)))
    R L ⟨_, row_hi R L⟩ ⟨_, row_lo R L⟩ (Nat.div_add_mod _ 128)).trans ?_
  unfold Env.codeMAt
  rw [x10_at, codes_m, grads_at]
  refine (?_ : _ = byteOf (codeM (m ((c : Thread nD τ).loc main_arg6)) (m ((c : Thread nD τ).loc main_arg3)) (m ((c : Thread nD τ).loc main_arg2)) (m ((c : Thread nD τ).loc main_arg1))
    ⟨512 * t.val + 128 * ((2 * R.val + L.val / 64) / 128) + (2 * R.val + L.val / 64) % 128, flat3 t ⟨_, row_hi R L⟩ ⟨_, row_lo R L⟩⟩ ⟨2 * (L.val % 64), pair_lo L⟩) (codeM (m ((c : Thread nD τ).loc main_arg6)) (m ((c : Thread nD τ).loc main_arg3)) (m ((c : Thread nD τ).loc main_arg2)) (m ((c : Thread nD τ).loc main_arg1))
    ⟨512 * t.val + 128 * ((2 * R.val + L.val / 64) / 128) + (2 * R.val + L.val / 64) % 128, flat3 t ⟨_, row_hi R L⟩ ⟨_, row_lo R L⟩⟩ ⟨2 * (L.val % 64) + 1, pair_hi L⟩)).trans ?_
  · rfl
  · rw [blk_eq]; rfl

theorem step_vc (hq : InOrder (m ((c : Thread nD τ).loc main_arg7)))
    (t : Fin 49) (R : Fin 256) (L : Fin 128) : (envAt m hO c t).G16 (ix2 R L) = arrVC m c (ix2 ⟨256 * t.val + R.val, code_row t R⟩ L) := by
  have hm := midsOp_apply (m ((c : Thread nD τ).loc main_arg7) : Vec Ideal S16 .f32)
  refine (Env.G16_apply (envAt m hO c t) rfl rfl (fun j => (m ((c : Thread nD τ).loc main_arg7) : Vec Ideal S16 .f32) (ix1 j)) (midOf fun j => (m ((c : Thread nD τ).loc main_arg7) : Vec Ideal S16 .f32) (ix1 j))
    (midOf_mono _ hq) (v5_apply m hO c t) (fun k => (iblk3 m c t k).trans (hm k))
    (fun s k => (v13_apply m hO c t s _).trans ((at4 _ k _).trans (hm _))) (fun s k => (v13_apply m hO c t s _).trans ((at2 _ k _).trans (hm _)))
    R L ⟨_, row_hi R L⟩ ⟨_, row_lo R L⟩ (Nat.div_add_mod _ 128)).trans ?_
  unfold Env.codeVAt
  rw [x12_at, codes_v, grads_at]
  refine (?_ : _ = byteOf (codeV (m ((c : Thread nD τ).loc main_arg7)) (m ((c : Thread nD τ).loc main_arg5)) (m ((c : Thread nD τ).loc main_arg4)) (m ((c : Thread nD τ).loc main_arg1))
    ⟨512 * t.val + 128 * ((2 * R.val + L.val / 64) / 128) + (2 * R.val + L.val / 64) % 128, flat3 t ⟨_, row_hi R L⟩ ⟨_, row_lo R L⟩⟩ ⟨2 * (L.val % 64), pair_lo L⟩) (codeV (m ((c : Thread nD τ).loc main_arg7)) (m ((c : Thread nD τ).loc main_arg5)) (m ((c : Thread nD τ).loc main_arg4)) (m ((c : Thread nD τ).loc main_arg1))
    ⟨512 * t.val + 128 * ((2 * R.val + L.val / 64) / 128) + (2 * R.val + L.val / 64) % 128, flat3 t ⟨_, row_hi R L⟩ ⟨_, row_lo R L⟩⟩ ⟨2 * (L.val % 64) + 1, pair_hi L⟩)).trans ?_
  · rfl
  · rw [blk_eq]; rfl

/-- Where a step's block of codes lies. -/
theorem emb13 (t : Fin 49) (y : S256x128.Idx) : (win0_13.blk t).view.emb y = ix2 ⟨256 * t.val + (y 0).val, code_row t (y 0)⟩ (y 1) := by
  funext a
  apply Fin.ext
  have e := e13 t
  fin_cases a
  · refine (Pipeline.Window.rect_emb_val win0_13 t y 0).trans ?_
    rw [e]; show t.val * 256 + (y 0).val = 256 * t.val + (y 0).val; omega
  · refine (Pipeline.Window.rect_emb_val win0_13 t y 1).trans ?_
    rw [e]; show 0 * 128 + (y 1).val = (y 1).val; omega
theorem emb15 (t : Fin 49) (y : S256x128.Idx) : (win0_15.blk t).view.emb y = ix2 ⟨256 * t.val + (y 0).val, code_row t (y 0)⟩ (y 1) := by
  funext a
  apply Fin.ext
  have e := e15 t
  fin_cases a
  · refine (Pipeline.Window.rect_emb_val win0_15 t y 0).trans ?_
    rw [e]; show t.val * 256 + (y 0).val = 256 * t.val + (y 0).val; omega
  · refine (Pipeline.Window.rect_emb_val win0_15 t y 1).trans ?_
    rw [e]; show 0 * 128 + (y 1).val = (y 1).val; omega

/-- What the run leaves of m's codes. -/
theorem final_mc (hq : InOrder (m ((c : Thread nD τ).loc main_arg6))) :
    (dats m hO 0 c).arrAt 13 (cfg0 (F := Ideal)).N = arrMC m c := by
  refine (dats m hO 0 c).arrAt_eq_of_covers 13 _ (by decide +kernel) fun t hf y => ?_
  refine Eq.trans ?_ (congrArg (arrMC m c) (emb13 t y).symm)
  refine Eq.trans ?_ (step_mc m hO c hq t (y 0) (y 1))
  show (envAt m hO c t).G14 y = _
  exact congrArg (envAt m hO c t).G14 (eq_ix2 y)

/-- What the run leaves of v's codes. -/
theorem final_vc (hq : InOrder (m ((c : Thread nD τ).loc main_arg7))) :
    (dats m hO 0 c).arrAt 15 (cfg0 (F := Ideal)).N = arrVC m c := by
  refine (dats m hO 0 c).arrAt_eq_of_covers 15 _ (by decide +kernel) fun t hf y => ?_
  refine Eq.trans ?_ (congrArg (arrVC m c) (emb15 t y).symm)
  refine Eq.trans ?_ (step_vc m hO c hq t (y 0) (y 1))
  show (envAt m hO c t).G16 y = _
  exact congrArg (envAt m hO c t).G16 (eq_ix2 y)

end Arrays

end Cert.KernelIdeal.Hand

end
-- ==== Proof.Ref.lean ====
module

public import proofs.«01_k».proof.Proof.Absmax
public import proofs.«01_k».proof.Proof.Gen.ReferenceIdeal.Read

/-! The reference's moments and two of its results, read at an index: the absmaxes of the new moments. -/

@[expose] public section

set_option maxRecDepth 16384

noncomputable section

namespace Cert.ReferenceIdeal.Hand

open Cert.ReferenceIdeal Cert.ReferenceIdeal.Gen Cert.ReferenceIdeal.Read Cert.Absmax
open Idealize.ShloMosaic hiding ix1 ix2 ix3
open ValueIdx (ix1 ix2 ix3)

/-! ### The table's lookup: one bit of the code at a time -/

/-- Bit `b` of the codes. -/
def bitOp (code : IVec S1605632 32) (b : BitVec 32) : IVec S1605632x1 1 :=
  broadcastInDim S1605632x1 ![0] bcast_S1605632_S1605632x1_0 (id (cmpi .ne
    (andi (Host.shrsi code (broadcastInDim S1605632 ![] bcast_S_S1605632 (constantI S_ 32 b))) (broadcastInDim S1605632 ![] bcast_S_S1605632 (constantI S_ 32 1#32)))
    (broadcastInDim S1605632 ![] bcast_S_S1605632 (constantI S_ 32 0#32))))

/-- Eight candidates of the sixteen. -/
def lut8 (code : IVec S1605632 32) (x : FVec Ideal S16 .f32) : FVec Ideal S1605632x8 .f32 :=
  select (broadcastInDim S1605632x8 ![0, 1] bcast_S1605632x1_S1605632x8_0_1 (bitOp code 0#32))
    (broadcastInDim S1605632x8 ![1] bcast_S8_S1605632x8_1 (shapeCast S8 (extractStridedSlice S8x1 ![0, 1] (shapeCast S8x2 x shapeCasts_S16_S8x2) slices_S8x2_S8x1_0_1) shapeCasts_S8x1_S8))
    (broadcastInDim S1605632x8 ![1] bcast_S8_S1605632x8_1 (shapeCast S8 (extractStridedSlice S8x1 ![0, 0] (shapeCast S8x2 x shapeCasts_S16_S8x2) slices_S8x2_S8x1_0_0) shapeCasts_S8x1_S8))

/-- Four candidates of the eight. -/
def lut4 (code : IVec S1605632 32) (x : FVec Ideal S1605632x8 .f32) : FVec Ideal S1605632x4 .f32 :=
  select (broadcastInDim S1605632x4 ![0, 1] bcast_S1605632x1_S1605632x4_0_1 (bitOp code 1#32))
    (shapeCast S1605632x4 (extractStridedSlice S1605632x4x1 ![0, 0, 1] (shapeCast S1605632x4x2 x shapeCasts_S1605632x8_S1605632x4x2) slices_S1605632x4x2_S1605632x4x1_0_0_1) shapeCasts_S1605632x4x1_S1605632x4)
    (shapeCast S1605632x4 (extractStridedSlice S1605632x4x1 ![0, 0, 0] (shapeCast S1605632x4x2 x shapeCasts_S1605632x8_S1605632x4x2) slices_S1605632x4x2_S1605632x4x1_0_0_0) shapeCasts_S1605632x4x1_S1605632x4)

/-- Two of the four. -/
def lut2 (code : IVec S1605632 32) (x : FVec Ideal S1605632x4 .f32) : FVec Ideal S1605632x2 .f32 :=
  select (broadcastInDim S1605632x2 ![0, 1] bcast_S1605632x1_S1605632x2_0_1 (bitOp code 2#32))
    (shapeCast S1605632x2 (extractStridedSlice S1605632x2x1 ![0, 0, 1] (shapeCast S1605632x2x2 x shapeCasts_S1605632x4_S1605632x2x2) slices_S1605632x2x2_S1605632x2x1_0_0_1) shapeCasts_S1605632x2x1_S1605632x2)
    (shapeCast S1605632x2 (extractStridedSlice S1605632x2x1 ![0, 0, 0] (shapeCast S1605632x2x2 x shapeCasts_S1605632x4_S1605632x2x2) slices_S1605632x2x2_S1605632x2x1_0_0_0) shapeCasts_S1605632x2x1_S1605632x2)

/-- One of the two. -/
def lut1 (code : IVec S1605632 32) (x : FVec Ideal S1605632x2 .f32) : FVec Ideal S1605632x1 .f32 :=
  select (bitOp code 3#32)
    (shapeCast S1605632x1 (extractStridedSlice S1605632x1x1 ![0, 0, 1] (shapeCast S1605632x1x2 x shapeCasts_S1605632x2_S1605632x1x2) slices_S1605632x1x2_S1605632x1x1_0_0_1) shapeCasts_S1605632x1x1_S1605632x1)
    (shapeCast S1605632x1 (extractStridedSlice S1605632x1x1 ![0, 0, 0] (shapeCast S1605632x1x2 x shapeCasts_S1605632x2_S1605632x1x2) slices_S1605632x1x2_S1605632x1x1_0_0_0) shapeCasts_S1605632x1x1_S1605632x1)

/-- The table's value of every code. -/
def lutOp (code : IVec S1605632 32) (x : FVec Ideal S16 .f32) : FVec Ideal S1605632 .f32 :=
  shapeCast S1605632 (lut1 code (lut2 code (lut4 code (lut8 code x)))) shapeCasts_S1605632x1_S1605632

theorem v59_eq (x2 : IVec S1605632 8) (x6 : FVec Ideal S16 .f32) : val_main_v59 (F := Ideal) x2 x6 = lutOp (val_main_v2 (F := Ideal) x2) x6 := rfl
theorem v118_eq (x2 : IVec S1605632 8) (x6 : FVec Ideal S16 .f32) : val_main_v118 (F := Ideal) x2 x6 = lutOp (val_main_v61 (F := Ideal) x2) x6 := rfl
theorem v185_eq (x4 : IVec S1605632 8) (x7 : FVec Ideal S16 .f32) : val_main_v185 (F := Ideal) x4 x7 = lutOp (val_main_v128 (F := Ideal) x4) x7 := rfl
theorem v244_eq (x4 : IVec S1605632 8) (x7 : FVec Ideal S16 .f32) : val_main_v244 (F := Ideal) x4 x7 = lutOp (val_main_v187 (F := Ideal) x4) x7 := rfl

/-- A bit of a code, as the words compute it. -/
theorem bit_word : ∀ (n : Fin 16) (b : Fin 4),
    IntOp.cmpi .ne (IntOp.andi (IntOp.shrsi .host (BitVec.ofNat 32 n.val) (BitVec.ofNat 32 b.val)) 1#32) 0#32 = if n.val / 2 ^ b.val % 2 = 1 then 1#1 else 0#1 := by decide +kernel

theorem bitOp_apply (code : IVec S1605632 32) (i : Fin 1605632) (n : Fin 16) (h : code (ix1 i) = BitVec.ofNat 32 n.val) (b : Fin 4) :
    bitOp code (BitVec.ofNat 32 b.val) (ix2 i (0 : Fin 1)) = if n.val / 2 ^ b.val % 2 = 1 then 1#1 else 0#1 := by
  unfold bitOp
  rw [broadcastInDim_apply _ _ _ _ (ix1 i) (by intro a; fin_cases a; rfl), ← bit_word n b, ← h]
  rfl

theorem select_apply {s : Shape} (w : IVec s 1) (x y : FVec Ideal s .f32) (i : s.Idx) : select w x y i = Scalar.select (w i) (x i) (y i) := rfl

/-- A select by such a bit, between the odd and the even one of a pair. -/
theorem pick (f : ℕ → EReal) (j p : ℕ) (w : BitVec 1) (hw : w = if p % 2 = 1 then 1#1 else 0#1) :
    Scalar.select w (f (2 * j + 1)) (f (2 * j)) = f (2 * j + p % 2) := by
  rcases Nat.mod_two_eq_zero_or_one p with e | e
  · rw [hw, e]; rfl
  · rw [hw, e]; rfl

variable (code : IVec S1605632 32) (i : Fin 1605632) (n : Fin 16) (h : code (ix1 i) = BitVec.ofNat 32 n.val)
include h

theorem lut8_apply (x : FVec Ideal S16 .f32) (f : ℕ → EReal) (hf : ∀ k : Fin 16, x (ix1 k) = f k.val) (j : Fin 8) :
    lut8 code x (ix2 i j) = f (2 * j.val + n.val % 2) := by
  refine Eq.trans ?_ (pick f j.val n.val _ ((bitOp_apply code i n h 0).trans (by show (if n.val / 1 % 2 = 1 then _ else _) = _; rw [Nat.div_one])))
  unfold lut8
  rw [select_apply, broadcastInDim_apply _ _ _ _ (ix2 i (0 : Fin 1)) (by intro a; fin_cases a <;> rfl)]
  rw [broadcastInDim_apply _ _ _ _ (ix1 j) (by intro a; fin_cases a; rfl), broadcastInDim_apply _ _ _ _ (ix1 j) (by intro a; fin_cases a; rfl)]
  rw [shapeCast_apply _ _ _ (ix2 j (0 : Fin 1)) (by rw [Shape.rowMajor_val_one, Shape.rowMajor_val_two]; show j.val * 1 + 0 = j.val; omega),
    shapeCast_apply _ _ _ (ix2 j (0 : Fin 1)) (by rw [Shape.rowMajor_val_one, Shape.rowMajor_val_two]; show j.val * 1 + 0 = j.val; omega)]
  rw [extractStridedSlice_apply _ _ _ _ (ix2 j (1 : Fin 2)) (by intro a; fin_cases a <;> simp),
    extractStridedSlice_apply _ _ _ _ (ix2 j (0 : Fin 2)) (by intro a; fin_cases a <;> simp)]
  rw [shapeCast_apply _ _ _ (ix1 (⟨2 * j.val + 1, by omega⟩ : Fin 16)) (by rw [Shape.rowMajor_val_one, Shape.rowMajor_val_two]; show 2 * j.val + 1 = j.val * 2 + 1; omega),
    shapeCast_apply _ _ _ (ix1 (⟨2 * j.val, by omega⟩ : Fin 16)) (by rw [Shape.rowMajor_val_one, Shape.rowMajor_val_two]; show 2 * j.val = j.val * 2 + 0; omega)]
  rw [hf, hf]
  rfl

theorem lut4_apply (x : FVec Ideal S1605632x8 .f32) (f : ℕ → EReal) (hf : ∀ k : Fin 8, x (ix2 i k) = f k.val) (j : Fin 4) :
    lut4 code x (ix2 i j) = f (2 * j.val + n.val / 2 % 2) := by
  refine Eq.trans ?_ (pick f j.val (n.val / 2) _ (bitOp_apply code i n h 1))
  unfold lut4
  rw [select_apply, broadcastInDim_apply _ _ _ _ (ix2 i (0 : Fin 1)) (by intro a; fin_cases a <;> rfl)]
  rw [shapeCast_apply _ _ _ (ix3 i j (0 : Fin 1)) (by rw [Shape.rowMajor_val_two, Shape.rowMajor_val_three]; show (i.val * 4 + j.val) * 1 + 0 = i.val * 4 + j.val; omega),
    shapeCast_apply _ _ _ (ix3 i j (0 : Fin 1)) (by rw [Shape.rowMajor_val_two, Shape.rowMajor_val_three]; show (i.val * 4 + j.val) * 1 + 0 = i.val * 4 + j.val; omega)]
  rw [extractStridedSlice_apply _ _ _ _ (ix3 i j (1 : Fin 2)) (by intro a; fin_cases a <;> simp),
    extractStridedSlice_apply _ _ _ _ (ix3 i j (0 : Fin 2)) (by intro a; fin_cases a <;> simp)]
  rw [shapeCast_apply _ _ _ (ix2 i (⟨2 * j.val + 1, by omega⟩ : Fin 8)) (by rw [Shape.rowMajor_val_two, Shape.rowMajor_val_three]; show i.val * 8 + (2 * j.val + 1) = (i.val * 4 + j.val) * 2 + 1; omega),
    shapeCast_apply _ _ _ (ix2 i (⟨2 * j.val, by omega⟩ : Fin 8)) (by rw [Shape.rowMajor_val_two, Shape.rowMajor_val_three]; show i.val * 8 + 2 * j.val = (i.val * 4 + j.val) * 2 + 0; omega)]
  rw [hf, hf]
  rfl

theorem lut2_apply (x : FVec Ideal S1605632x4 .f32) (f : ℕ → EReal) (hf : ∀ k : Fin 4, x (ix2 i k) = f k.val) (j : Fin 2) :
    lut2 code x (ix2 i j) = f (2 * j.val + n.val / 4 % 2) := by
  refine Eq.trans ?_ (pick f j.val (n.val / 4) _ (bitOp_apply code i n h 2))
  unfold lut2
  rw [select_apply, broadcastInDim_apply _ _ _ _ (ix2 i (0 : Fin 1)) (by intro a; fin_cases a <;> rfl)]
  rw [shapeCast_apply _ _ _ (ix3 i j (0 : Fin 1)) (by rw [Shape.rowMajor_val_two, Shape.rowMajor_val_three]; show (i.val * 2 + j.val) * 1 + 0 = i.val * 2 + j.val; omega),
    shapeCast_apply _ _ _ (ix3 i j (0 : Fin 1)) (by rw [Shape.rowMajor_val_two, Shape.rowMajor_val_three]; show (i.val * 2 + j.val) * 1 + 0 = i.val * 2 + j.val; omega)]
  rw [extractStridedSlice_apply _ _ _ _ (ix3 i j (1 : Fin 2)) (by intro a; fin_cases a <;> simp),
    extractStridedSlice_apply _ _ _ _ (ix3 i j (0 : Fin 2)) (by intro a; fin_cases a <;> simp)]
  rw [shapeCast_apply _ _ _ (ix2 i (⟨2 * j.val + 1, by omega⟩ : Fin 4)) (by rw [Shape.rowMajor_val_two, Shape.rowMajor_val_three]; show i.val * 4 + (2 * j.val + 1) = (i.val * 2 + j.val) * 2 + 1; omega),
    shapeCast_apply _ _ _ (ix2 i (⟨2 * j.val, by omega⟩ : Fin 4)) (by rw [Shape.rowMajor_val_two, Shape.rowMajor_val_three]; show i.val * 4 + 2 * j.val = (i.val * 2 + j.val) * 2 + 0; omega)]
  rw [hf, hf]
  rfl

theorem lut1_apply (x : FVec Ideal S1605632x2 .f32) (f : ℕ → EReal) (hf : ∀ k : Fin 2, x (ix2 i k) = f k.val) :
    lut1 code x (ix2 i (0 : Fin 1)) = f (n.val / 8 % 2) := by
  refine Eq.trans ?_ ((pick f 0 (n.val / 8) _ (bitOp_apply code i n h 3)).trans (by rw [Nat.mul_zero, Nat.zero_add]))
  unfold lut1
  rw [select_apply]
  rw [shapeCast_apply _ _ _ (ix3 i (0 : Fin 1) (0 : Fin 1)) (by rw [Shape.rowMajor_val_two, Shape.rowMajor_val_three]; show (i.val * 1 + 0) * 1 + 0 = i.val * 1 + 0; omega),
    shapeCast_apply _ _ _ (ix3 i (0 : Fin 1) (0 : Fin 1)) (by rw [Shape.rowMajor_val_two, Shape.rowMajor_val_three]; show (i.val * 1 + 0) * 1 + 0 = i.val * 1 + 0; omega)]
  rw [extractStridedSlice_apply _ _ _ _ (ix3 i (0 : Fin 1) (1 : Fin 2)) (by intro a; fin_cases a <;> simp),
    extractStridedSlice_apply _ _ _ _ (ix3 i (0 : Fin 1) (0 : Fin 2)) (by intro a; fin_cases a <;> simp)]
  rw [shapeCast_apply _ _ _ (ix2 i (1 : Fin 2)) (by rw [Shape.rowMajor_val_two, Shape.rowMajor_val_three]; show i.val * 2 + 1 = (i.val * 1 + 0) * 2 + 1; omega),
    shapeCast_apply _ _ _ (ix2 i (0 : Fin 2)) (by rw [Shape.rowMajor_val_two, Shape.rowMajor_val_three]; show i.val * 2 + 0 = (i.val * 1 + 0) * 2 + 0; omega)]
  rw [hf, hf]
  rfl

/-- The lookup reads the table at the code. -/
theorem lutOp_apply (x : FVec Ideal S16 .f32) : lutOp code x (ix1 i) = x (ix1 n) := by
  unfold lutOp
  rw [shapeCast_apply _ _ _ (ix2 i (0 : Fin 1)) (by rw [Shape.rowMajor_val_one, Shape.rowMajor_val_two]; show i.val * 1 + 0 = i.val; omega)]
  let f : ℕ → EReal := fun k => if hk : k < 16 then x (ix1 ⟨k, hk⟩) else 0
  have hf : ∀ k : Fin 16, x (ix1 k) = f k.val := fun k => (show f k.val = x (ix1 k) from dif_pos k.isLt).symm
  rw [lut1_apply code i n h _ (fun k => f (2 * (2 * (2 * k + n.val / 4 % 2) + n.val / 2 % 2) + n.val % 2))
    (fun k => lut2_apply code i n h _ (fun k => f (2 * (2 * k + n.val / 2 % 2) + n.val % 2))
      (fun k => lut4_apply code i n h _ (fun k => f (2 * k + n.val % 2)) (fun k => lut8_apply code i n h x f hf k) k) k), hf n]
  show f _ = f _
  congr 1
  omega

omit h

/-! ### The old moments -/

/-- The table's values of the low and of the high codes, interleaved, one block in each row. -/
def pairOp (lo hi : FVec Ideal S1605632 .f32) : FVec Ideal S25088x128 .f32 :=
  shapeCast S25088x128 (concatenate S1605632x2 1 [⟨S1605632x1, broadcastInDim S1605632x1 ![0] bcast_S1605632_S1605632x1_0 lo⟩, ⟨S1605632x1, broadcastInDim S1605632x1 ![0] bcast_S1605632_S1605632x1_0 hi⟩]
    concatenates_S1605632x1_S1605632x1_S1605632x2_d1) shapeCasts_S1605632x2_S25088x128

theorem cat_lo (x y : FVec Ideal S1605632x1 .f32) (hc) (i : Fin 1605632) :
    concatenate S1605632x2 1 [⟨S1605632x1, x⟩, ⟨S1605632x1, y⟩] hc (ix2 i (0 : Fin 2)) = x (ix2 i (0 : Fin 1)) :=
  concatenate_apply_piece (t := S1605632x2) (1 : Fin 2) [⟨S1605632x1, x⟩, ⟨S1605632x1, y⟩] hc (ix2 i (0 : Fin 2)) 0 (show 0 < 2 by omega) S1605632x1 x rfl rfl 0 rfl (ix2 i (0 : Fin 1))
    (by intro b hb; fin_cases b; rfl; exact absurd rfl hb) rfl

theorem cat_hi (x y : FVec Ideal S1605632x1 .f32) (hc) (i : Fin 1605632) :
    concatenate S1605632x2 1 [⟨S1605632x1, x⟩, ⟨S1605632x1, y⟩] hc (ix2 i (1 : Fin 2)) = y (ix2 i (0 : Fin 1)) :=
  concatenate_apply_piece (t := S1605632x2) (1 : Fin 2) [⟨S1605632x1, x⟩, ⟨S1605632x1, y⟩] hc (ix2 i (1 : Fin 2)) 1 (show 1 < 2 by omega) S1605632x1 y rfl rfl 1 rfl (ix2 i (0 : Fin 1))
    (by intro b hb; fin_cases b; rfl; exact absurd rfl hb) rfl

theorem pairOp_apply (lo hi : FVec Ideal S1605632 .f32) (B : Fin 25088) (l : Fin 128) (e : EReal)
    (hlo : l.val % 2 = 0 → lo (ix1 ⟨64 * B.val + l.val / 2, byte_lt B l⟩) = e) (hhi : l.val % 2 = 1 → hi (ix1 ⟨64 * B.val + l.val / 2, byte_lt B l⟩) = e) :
    pairOp lo hi (ix2 B l) = e := by
  unfold pairOp
  rw [shapeCast_apply _ _ _ (ix2 (⟨64 * B.val + l.val / 2, byte_lt B l⟩ : Fin 1605632) (⟨l.val % 2, Nat.mod_lt _ Nat.two_pos⟩ : Fin 2)) (by
    rw [Shape.rowMajor_val_two, Shape.rowMajor_val_two]; show (64 * B.val + l.val / 2) * 2 + l.val % 2 = B.val * 128 + l.val; omega)]
  rcases Nat.mod_two_eq_zero_or_one l.val with q | q
  · rw [show (⟨l.val % 2, Nat.mod_lt _ Nat.two_pos⟩ : Fin 2) = 0 from Fin.ext q, cat_lo, broadcastInDim_apply _ _ _ _ (ix1 ⟨64 * B.val + l.val / 2, byte_lt B l⟩) (by intro a; fin_cases a; rfl)]
    exact hlo q
  · rw [show (⟨l.val % 2, Nat.mod_lt _ Nat.two_pos⟩ : Fin 2) = 1 from Fin.ext q, cat_hi, broadcastInDim_apply _ _ _ _ (ix1 ⟨64 * B.val + l.val / 2, byte_lt B l⟩) (by intro a; fin_cases a; rfl)]
    exact hhi q

/-- The two codes of a byte, as the words compute them. -/
theorem byte_words : ∀ b : Fin 256,
    IntOp.andi ((BitVec.ofNat 8 b.val).setWidth 32) 15#32 = BitVec.ofNat 32 (nib (BitVec.ofNat 8 b.val) 0)
      ∧ IntOp.shrsi .host ((BitVec.ofNat 8 b.val).setWidth 32) 4#32 = BitVec.ofNat 32 (nib (BitVec.ofNat 8 b.val) 1) := by decide +kernel

theorem word_lo (b : BitVec 8) : IntOp.andi (b.setWidth 32) 15#32 = BitVec.ofNat 32 (nib b 0) := by
  have e := (byte_words ⟨b.toNat, b.isLt⟩).1
  rwa [show BitVec.ofNat 8 (⟨b.toNat, b.isLt⟩ : Fin 256).val = b from BitVec.eq_of_toNat_eq (by rw [BitVec.toNat_ofNat]; exact Nat.mod_eq_of_lt b.isLt)] at e

theorem word_hi (b : BitVec 8) : IntOp.shrsi .host (b.setWidth 32) 4#32 = BitVec.ofNat 32 (nib b 1) := by
  have e := (byte_words ⟨b.toNat, b.isLt⟩).2
  rwa [show BitVec.ofNat 8 (⟨b.toNat, b.isLt⟩ : Fin 256).val = b from BitVec.eq_of_toNat_eq (by rw [BitVec.toNat_ofNat]; exact Nat.mod_eq_of_lt b.isLt)] at e

/-- An old moment over its block's absmax. -/
theorem lut_pair (lo hi : IVec S1605632 32) (cd : IVec S1605632 8) (x : FVec Ideal S16 .f32)
    (hlo : ∀ i, lo i = IntOp.andi ((cd i).setWidth 32) 15#32) (hhi : ∀ i, hi i = IntOp.shrsi .host ((cd i).setWidth 32) 4#32) (B : Fin 25088) (l : Fin 128) :
    pairOp (lutOp lo x) (lutOp hi x) (ix2 B l) = x (ix1 (codesOf cd B l)) := by
  refine pairOp_apply _ _ B l _ (fun q => ?_) (fun q => ?_)
  · refine (lutOp_apply lo _ ⟨nib (cd (ix1 ⟨64 * B.val + l.val / 2, byte_lt B l⟩)) 0, nib_lt _ _⟩ ((hlo _).trans (word_lo _)) x).trans ?_
    refine congrArg (fun k : Fin 16 => x (ix1 k)) (Fin.ext ?_)
    show nib _ 0 = nib _ (l.val % 2)
    rw [q]
  · refine (lutOp_apply hi _ ⟨nib (cd (ix1 ⟨64 * B.val + l.val / 2, byte_lt B l⟩)) 1, nib_lt _ _⟩ ((hhi _).trans (word_hi _)) x).trans ?_
    refine congrArg (fun k : Fin 16 => x (ix1 k)) (Fin.ext ?_)
    show nib _ 1 = nib _ (l.val % 2)
    rw [q]

/-- The absmaxes, along the rows. -/
def rowsOp (a : FVec Ideal S25088 .f32) : FVec Ideal S25088x128 .f32 :=
  broadcastInDim S25088x128 ![0, 1] bcast_S25088x1_S25088x128_0_1 (broadcastInDim S25088x1 ![0] bcast_S25088_S25088x1_0 a)

theorem rowsOp_apply (a : FVec Ideal S25088 .f32) (B : Fin 25088) (l : Fin 128) : rowsOp a (ix2 B l) = a (ix1 B) := by
  unfold rowsOp
  rw [broadcastInDim_apply _ _ _ _ (ix2 B (0 : Fin 1)) (by intro a; fin_cases a <;> rfl), broadcastInDim_apply _ _ _ _ (ix1 B) (by intro a; fin_cases a; rfl)]

theorem v122_apply (x2 : IVec S1605632 8) (x6 : FVec Ideal S16 .f32) (B : Fin 25088) (l : Fin 128) :
    val_main_v122 (F := Ideal) x2 x6 (ix2 B l) = x6 (ix1 (codesOf x2 B l)) := by
  refine Eq.trans ?_ (lut_pair (val_main_v2 (F := Ideal) x2) (val_main_v61 (F := Ideal) x2) x2 x6 (fun _ => rfl) (fun _ => rfl) B l)
  unfold val_main_v122 val_main_v121 val_main_v119 val_main_v120
  rw [v59_eq, v118_eq]
  rfl

theorem v248_apply (x4 : IVec S1605632 8) (x7 : FVec Ideal S16 .f32) (B : Fin 25088) (l : Fin 128) :
    val_main_v248 (F := Ideal) x4 x7 (ix2 B l) = x7 (ix1 (codesOf x4 B l)) := by
  refine Eq.trans ?_ (lut_pair (val_main_v128 (F := Ideal) x4) (val_main_v187 (F := Ideal) x4) x4 x7 (fun _ => rfl) (fun _ => rfl) B l)
  unfold val_main_v248 val_main_v247 val_main_v245 val_main_v246
  rw [v185_eq, v244_eq]
  rfl

/-! ### The new moments -/

theorem v253_apply (x1 : FVec Ideal S3211264 .bf16) (B : Fin 25088) (l : Fin 128) : val_main_v253 (F := Ideal) x1 (ix2 B l) = gradsOf x1 B l := by
  unfold val_main_v253
  rw [shapeCast_apply _ _ _ (ix1 (⟨128 * B.val + l.val, flat_lt B l⟩ : Fin 3211264)) (by
    rw [Shape.rowMajor_val_one, Shape.rowMajor_val_two]; show 128 * B.val + l.val = B.val * 128 + l.val; omega)]
  rfl

theorem v258_apply (x1 : FVec Ideal S3211264 .bf16) (x2 : IVec S1605632 8) (x3 : FVec Ideal S25088 .f32) (x6 : FVec Ideal S16 .f32) (B : Fin 25088) (l : Fin 128) :
    val_main_v258 (F := Ideal) x1 x2 x3 x6 (ix2 B l) = mNew (x6 (ix1 (codesOf x2 B l))) (x3 (ix1 B)) (gradsOf x1 B l) := by
  rw [← v122_apply x2 x6 B l, ← v253_apply x1 B l, ← rowsOp_apply x3 B l]
  rfl

theorem v264_apply (x1 : FVec Ideal S3211264 .bf16) (x4 : IVec S1605632 8) (x5 : FVec Ideal S25088 .f32) (x7 : FVec Ideal S16 .f32) (B : Fin 25088) (l : Fin 128) :
    val_main_v264 (F := Ideal) x1 x4 x5 x7 (ix2 B l) = vNew (x7 (ix1 (codesOf x4 B l))) (x5 (ix1 B)) (gradsOf x1 B l) := by
  rw [← v248_apply x4 x7 B l, ← v253_apply x1 B l, ← rowsOp_apply x5 B l]
  rfl

/-! ### Their largest, block by block -/

theorem reduces : S25088x128.Reduces [1] S25088 := by decide

/-- The maxima of the rows. -/
theorem rowMax_apply (x : FVec Ideal S25088x128 .f32) (B : Fin 25088) :
    Host.reduce FloatOps.maximumf x (constant S_ .f32 0xFF800000#32) reducesTo_S25088x128_S25088_d1 h_S_ (ix1 B) = rowTop fun l => x (ix2 B l) := by
  rw [Host.reduce_eq_fold_single FloatOps.maximumf x _ _ reduces]
  unfold rowTop
  rw [show constant (F := Ideal) S_ .f32 0xFF800000#32 (Shape.Idx.first h_S_) = ⊥ by
    show Ideal.ofBits .f32 0xFF800000#32 = ⊥
    simp [Ideal.ofBits, Ideal.ieee]]
  show Finset.fold max _ _ _ = Finset.fold max _ _ _
  congr 1
  funext l
  show x _ = x _
  congr 1
  funext a
  fin_cases a <;> rfl

/-- The maxima of the rows, laid out as the results are. -/
theorem maxOp_apply (x : FVec Ideal S25088x128 .f32) (y : S49x4x128.Idx) :
    shapeCast S49x4x128 (Host.reduce FloatOps.maximumf x (constant S_ .f32 0xFF800000#32) reducesTo_S25088x128_S25088_d1 h_S_) shapeCasts_S25088_S49x4x128 y
      = rowTop fun l => x (ix2 (blockOf y) l) := by
  rw [shapeCast_apply _ _ _ (ix1 (blockOf y)) (by
    rw [Shape.rowMajor_val_one, Shape.rowMajor_val_three]; show 512 * (y 0).val + 128 * (y 1).val + (y 2).val = ((y 0).val * 4 + (y 1).val) * 128 + (y 2).val; omega)]
  exact rowMax_apply x (blockOf y)

/-- The second result: the absmaxes of new m. -/
theorem v294_apply (x1 : FVec Ideal S3211264 .bf16) (x2 : IVec S1605632 8) (x3 : FVec Ideal S25088 .f32) (x6 : FVec Ideal S16 .f32) (y : S49x4x128.Idx) :
    val_main_v294 (F := Ideal) x1 x2 x3 x6 y = absM x6 x3 x2 x1 (blockOf y) := by
  refine (maxOp_apply (val_main_v265 (F := Ideal) x1 x2 x3 x6) y).trans ?_
  unfold absM topM
  congr 1
  funext l
  rw [← v258_apply x1 x2 x3 x6 (blockOf y) l]
  rfl

/-- The fourth result: the absmaxes of new v. -/
theorem v323_apply (x1 : FVec Ideal S3211264 .bf16) (x4 : IVec S1605632 8) (x5 : FVec Ideal S25088 .f32) (x7 : FVec Ideal S16 .f32) (y : S49x4x128.Idx) :
    val_main_v323 (F := Ideal) x1 x4 x5 x7 y = absV x7 x5 x4 x1 (blockOf y) := by
  refine (maxOp_apply (val_main_v264 (F := Ideal) x1 x4 x5 x7) y).trans ?_
  unfold absV topV
  congr 1
  funext l
  exact v264_apply x1 x4 x5 x7 (blockOf y) l

/-- Equal arguments have equal absmaxes. -/
theorem absM_congr {q q' : FVec Ideal S16 .f32} {a a' : FVec Ideal S25088 .f32} {cd cd' : IVec S1605632 8} {g g' : FVec Ideal S3211264 .bf16}
    (hq : q = q') (ha : a = a') (hc : cd = cd') (hg : g = g') : absM q a cd g = absM q' a' cd' g' := by rw [hq, ha, hc, hg]

theorem absV_congr {q q' : FVec Ideal S16 .f32} {a a' : FVec Ideal S25088 .f32} {cd cd' : IVec S1605632 8} {g g' : FVec Ideal S3211264 .bf16}
    (hq : q = q') (ha : a = a') (hc : cd = cd') (hg : g = g') : absV q a cd g = absV q' a' cd' g' := by rw [hq, ha, hc, hg]

end Cert.ReferenceIdeal.Hand

end
-- ==== Proof.RefCodes.lean ====
module

public import proofs.«01_k».proof.Proof.Ref
public import proofs.«01_k».proof.Proof.Rank

/-! The reference's two arrays of codes, read at an index: for each number of a new moment, over its block's absmax, how many thresholds lie below it, two such codes in each byte. -/

@[expose] public section

set_option maxRecDepth 16384

noncomputable section

namespace Cert.ReferenceIdeal.Hand

open Cert.ReferenceIdeal Cert.ReferenceIdeal.Gen Cert.ReferenceIdeal.Read Cert.Absmax
open Idealize.ShloMosaic hiding ix1 ix2 ix3
open ValueIdx (ix1 ix2 ix3 eq_ix2)

/-- The numbers over their rows' largest. -/
def overOp (x : FVec Ideal S25088x128 .f32) (top : FVec Ideal S25088 .f32) : FVec Ideal S25088x128 .f32 :=
  mulf x (rowsOp (Host.divf (broadcastInDim S25088 ![] bcast_S_S25088 (constant S_ .f32 0x3F800000#32)) top))

theorem overOp_apply (x : FVec Ideal S25088x128 .f32) (top : FVec Ideal S25088 .f32) (B : Fin 25088) (l : Fin 128) :
    overOp x top (ix2 B l) = unitOf (x (ix2 B l)) (top (ix1 B)) := by
  show x (ix2 B l) * rowsOp _ (ix2 B l) = _
  rw [rowsOp_apply]
  rfl

/-- The thresholds of a table. -/
def midsOp (q : FVec Ideal S16 .f32) : FVec Ideal S15 .f32 :=
  mulf (addf (extractStridedSlice S15 ![0] q slices_S16_S15_0) (extractStridedSlice S15 ![1] q slices_S16_S15_1)) (broadcastInDim S15 ![] bcast_S_S15 (constant (F := Ideal) S_ .f32 0x3F000000#32))

theorem midsOp_apply (q : FVec Ideal S16 .f32) (k : Fin 15) : midsOp q (ix1 k) = midOf (fun j => q (ix1 j)) k := by
  show (extractStridedSlice S15 ![0] q slices_S16_S15_0 (ix1 k) + extractStridedSlice S15 ![1] q slices_S16_S15_1 (ix1 k) : EReal) * _ = _
  rw [extractStridedSlice_apply _ _ _ _ (ix1 k.castSucc) (by intro a; fin_cases a; show k.val = 0 + k.val; omega),
    extractStridedSlice_apply _ _ _ _ (ix1 k.succ) (by intro a; fin_cases a; show k.val + 1 = 1 + k.val; omega)]
  rfl

/-- Whether a threshold lies below a number, as a word. -/
def belowOp (d : FVec Ideal S15 .f32) (n : FVec Ideal S25088x128 .f32) : IVec S25088x128x15 32 :=
  extui 32 (cmpf .olt (broadcastInDim S25088x128x15 ![0, 1, 2] bcast_S1x1x15_S25088x128x15_0_1_2 (broadcastInDim S1x1x15 ![2] bcast_S15_S1x1x15_2 d))
    (broadcastInDim S25088x128x15 ![0, 1, 2] bcast_S25088x128x1_S25088x128x15_0_1_2 (broadcastInDim S25088x128x1 ![0, 1] bcast_S25088x128_S25088x128x1_0_1 n)))

theorem belowOp_apply (d : FVec Ideal S15 .f32) (n : FVec Ideal S25088x128 .f32) (B : Fin 25088) (l : Fin 128) (k : Fin 15) :
    belowOp d n (ix3 B l k) = (BitVec.ofBool (decide (d (ix1 k) < n (ix2 B l)))).setWidth 32 := by
  show (BitVec.ofBool (decide ((broadcastInDim S25088x128x15 ![0, 1, 2] bcast_S1x1x15_S25088x128x15_0_1_2 (broadcastInDim S1x1x15 ![2] bcast_S15_S1x1x15_2 d) (ix3 B l k) : EReal)
    < broadcastInDim S25088x128x15 ![0, 1, 2] bcast_S25088x128x1_S25088x128x15_0_1_2 (broadcastInDim S25088x128x1 ![0, 1] bcast_S25088x128_S25088x128x1_0_1 n) (ix3 B l k)))).setWidth 32 = _
  rw [broadcastInDim_apply _ _ _ _ (ix3 (0 : Fin 1) (0 : Fin 1) k) (by intro a; fin_cases a <;> rfl),
    broadcastInDim_apply _ _ _ _ (ix1 k) (by intro a; fin_cases a; rfl),
    broadcastInDim_apply _ _ _ _ (ix3 B l (0 : Fin 1)) (by intro a; fin_cases a <;> rfl),
    broadcastInDim_apply _ _ _ _ (ix2 B l) (by intro a; fin_cases a <;> rfl)]

theorem reduces3 : S25088x128x15.Reduces [2] S25088x128 := by decide

instance : Std.Commutative (IntOp.addi (w := 32)) := ⟨fun a b => BitVec.add_comm a b⟩
instance : Std.Associative (IntOp.addi (w := 32)) := ⟨fun a b c => BitVec.add_assoc a b c⟩

/-- How many thresholds lie below each number. -/
def countOp (d : FVec Ideal S15 .f32) (n : FVec Ideal S25088x128 .f32) : IVec S25088x128 32 :=
  Host.reduce IntOp.addi (belowOp d n) (constantI S_ 32 0#32) reducesTo_S25088x128x15_S25088x128_d2 h_S_

theorem countOp_apply (d : FVec Ideal S15 .f32) (n : FVec Ideal S25088x128 .f32) (D : Fin 15 → EReal) (hd : ∀ k, d (ix1 k) = D k) (hD : Monotone D) (B : Fin 25088) (l : Fin 128) :
    countOp d n (ix2 B l) = BitVec.ofNat 32 (rank D (n (ix2 B l))).val := by
  rw [← count_words]
  unfold countOp
  rw [Host.reduce_eq_fold_single IntOp.addi (belowOp d n) _ _ reduces3]
  show Finset.fold IntOp.addi 0#32 _ _ = Finset.fold IntOp.addi 0#32 _ _
  congr 1
  funext k
  show belowOp d n _ = _
  refine Eq.trans (congrArg (belowOp d n) ?_) ((belowOp_apply d n B l k).trans ?_)
  · funext a
    fin_cases a <;> rfl
  · rw [hd k, decide_eq_decide.mpr (rank_spec D hD (n (ix2 B l)) k)]

/-- The codes two in a byte, the first of a pair in the lower half. -/
def bytesOp (c : IVec S25088x128 32) : IVec S12544x128 8 :=
  shapeCast S12544x128 (trunci 8 (ori
      (shapeCast S1605632 (extractStridedSlice S1605632x1 ![0, 0] (shapeCast S1605632x2 c shapeCasts_S25088x128_S1605632x2) slices_S1605632x2_S1605632x1_0_0) shapeCasts_S1605632x1_S1605632)
      (Host.shli (shapeCast S1605632 (extractStridedSlice S1605632x1 ![0, 1] (shapeCast S1605632x2 c shapeCasts_S25088x128_S1605632x2) slices_S1605632x2_S1605632x1_0_1) shapeCasts_S1605632x1_S1605632)
        (broadcastInDim S1605632 ![] bcast_S_S1605632 (constantI S_ 32 4#32)))) ) shapeCasts_S1605632_S12544x128

theorem byte_word : ∀ a b : Fin 16, (IntOp.ori (BitVec.ofNat 32 a.val) (IntOp.shli .host (BitVec.ofNat 32 b.val) 4#32)).setWidth 8 = byteOf a b := by decide +kernel

theorem flat_byte (R : Fin 12544) (L : Fin 128) : 128 * R.val + L.val < 1605632 := by omega

theorem bytesOp_apply (c : IVec S25088x128 32) (C : Fin 25088 → Fin 128 → Fin 16) (hc : ∀ B l, c (ix2 B l) = BitVec.ofNat 32 (C B l).val) (R : Fin 12544) (L : Fin 128) :
    bytesOp c (ix2 R L) = bytesOf C R L := by
  unfold bytesOp bytesOf
  rw [← byte_word, ← hc, ← hc]
  rw [shapeCast_apply _ _ _ (ix1 (⟨128 * R.val + L.val, flat_byte R L⟩ : Fin 1605632)) (by
    rw [Shape.rowMajor_val_one, Shape.rowMajor_val_two]; show 128 * R.val + L.val = R.val * 128 + L.val; omega)]
  show (IntOp.ori (shapeCast S1605632 _ shapeCasts_S1605632x1_S1605632 (ix1 _)) (IntOp.shli .host (shapeCast S1605632 _ shapeCasts_S1605632x1_S1605632 (ix1 _)) 4#32)).setWidth 8 = _
  rw [shapeCast_apply _ _ _ (ix2 (⟨128 * R.val + L.val, flat_byte R L⟩ : Fin 1605632) (0 : Fin 1)) (by
      rw [Shape.rowMajor_val_one, Shape.rowMajor_val_two]; show (128 * R.val + L.val) * 1 + 0 = 128 * R.val + L.val; omega),
    shapeCast_apply _ _ _ (ix2 (⟨128 * R.val + L.val, flat_byte R L⟩ : Fin 1605632) (0 : Fin 1)) (by
      rw [Shape.rowMajor_val_one, Shape.rowMajor_val_two]; show (128 * R.val + L.val) * 1 + 0 = 128 * R.val + L.val; omega)]
  rw [extractStridedSlice_apply _ _ _ _ (ix2 (⟨128 * R.val + L.val, flat_byte R L⟩ : Fin 1605632) (0 : Fin 2)) (by intro a; fin_cases a <;> simp),
    extractStridedSlice_apply _ _ _ _ (ix2 (⟨128 * R.val + L.val, flat_byte R L⟩ : Fin 1605632) (1 : Fin 2)) (by intro a; fin_cases a <;> simp)]
  rw [shapeCast_apply _ _ _ (ix2 (⟨2 * R.val + L.val / 64, pair_blk R L⟩ : Fin 25088) (⟨2 * (L.val % 64), pair_lo L⟩ : Fin 128)) (by
      rw [Shape.rowMajor_val_two, Shape.rowMajor_val_two]; show (2 * R.val + L.val / 64) * 128 + 2 * (L.val % 64) = (128 * R.val + L.val) * 2 + 0; omega),
    shapeCast_apply _ _ _ (ix2 (⟨2 * R.val + L.val / 64, pair_blk R L⟩ : Fin 25088) (⟨2 * (L.val % 64) + 1, pair_hi L⟩ : Fin 128)) (by
      rw [Shape.rowMajor_val_two, Shape.rowMajor_val_two]; show (2 * R.val + L.val / 64) * 128 + (2 * (L.val % 64) + 1) = (128 * R.val + L.val) * 2 + 1; omega)]

/-- The first result: the codes of new m. -/
theorem v293_apply (x1 : FVec Ideal S3211264 .bf16) (x2 : IVec S1605632 8) (x3 : FVec Ideal S25088 .f32) (x6 : FVec Ideal S16 .f32)
    (hq : ∀ k : Fin 15, x6 (ix1 k.castSucc) ≤ x6 (ix1 k.succ)) (R : Fin 12544) (L : Fin 128) :
    val_main_v293 (F := Ideal) x1 x2 x3 x6 (ix2 R L) = bytesOf (codeM x6 x3 x2 x1) R L := by
  refine Eq.trans (b := bytesOp (countOp (midsOp x6) (overOp (val_main_v258 (F := Ideal) x1 x2 x3 x6) (val_main_v266 (F := Ideal) x1 x2 x3 x6))) (ix2 R L)) rfl ?_
  refine bytesOp_apply _ _ (fun B l => ?_) R L
  rw [countOp_apply (midsOp x6) _ (midOf fun j => x6 (ix1 j)) (midsOp_apply x6) (midOf_mono _ hq) B l, overOp_apply, v258_apply]
  rw [show val_main_v266 (F := Ideal) x1 x2 x3 x6 (ix1 B) = absM x6 x3 x2 x1 B by
    refine (rowMax_apply (val_main_v265 (F := Ideal) x1 x2 x3 x6) B).trans ?_
    unfold absM topM
    congr 1
    funext l
    rw [← v258_apply x1 x2 x3 x6 B l]
    rfl]
  rfl

/-- The third result: the codes of new v. -/
theorem v322_apply (x1 : FVec Ideal S3211264 .bf16) (x4 : IVec S1605632 8) (x5 : FVec Ideal S25088 .f32) (x7 : FVec Ideal S16 .f32)
    (hq : ∀ k : Fin 15, x7 (ix1 k.castSucc) ≤ x7 (ix1 k.succ)) (R : Fin 12544) (L : Fin 128) :
    val_main_v322 (F := Ideal) x1 x4 x5 x7 (ix2 R L) = bytesOf (codeV x7 x5 x4 x1) R L := by
  refine Eq.trans (b := bytesOp (countOp (midsOp x7) (overOp (val_main_v264 (F := Ideal) x1 x4 x5 x7) (val_main_v295 (F := Ideal) x1 x4 x5 x7))) (ix2 R L)) rfl ?_
  refine bytesOp_apply _ _ (fun B l => ?_) R L
  rw [countOp_apply (midsOp x7) _ (midOf fun j => x7 (ix1 j)) (midsOp_apply x7) (midOf_mono _ hq) B l, overOp_apply, v264_apply]
  rw [show val_main_v295 (F := Ideal) x1 x4 x5 x7 (ix1 B) = absV x7 x5 x4 x1 B by
    refine (rowMax_apply (val_main_v264 (F := Ideal) x1 x4 x5 x7) B).trans ?_
    unfold absV topV
    congr 1
    funext l
    exact v264_apply x1 x4 x5 x7 B l]
  rfl

/-- Equal arguments have equal codes. -/
theorem bytesM_congr {q q' : FVec Ideal S16 .f32} {a a' : FVec Ideal S25088 .f32} {cd cd' : IVec S1605632 8} {g g' : FVec Ideal S3211264 .bf16}
    (hq : q = q') (ha : a = a') (hc : cd = cd') (hg : g = g') : codeM q a cd g = codeM q' a' cd' g' := by rw [hq, ha, hc, hg]

theorem bytesV_congr {q q' : FVec Ideal S16 .f32} {a a' : FVec Ideal S25088 .f32} {cd cd' : IVec S1605632 8} {g g' : FVec Ideal S3211264 .bf16}
    (hq : q = q') (ha : a = a') (hc : cd = cd') (hg : g = g') : codeV q a cd g = codeV q' a' cd' g' := by rw [hq, ha, hc, hg]

end Cert.ReferenceIdeal.Hand

end
-- ==== Proof.Last.lean ====
module

public import proofs.«01_k».proof.Proof.Gen.Pre_last_offset
public import Idealize.ShloMosaic.Lib.WordCmp

/-! The precondition on the offsets, read as an inequality. -/

@[expose] public section

noncomputable section

namespace Cert.Proof

open Idealize.ShloMosaic

variable {F : FTy → Type} [FloatOps F]

/-- If `last_offset` is all ones, the offset at every index whose coordinate is 96 exceeds 3203072. -/
theorem lt_of_last_offset (x0 : FVec F Pre_last_offset.S3211264 .f32) (x1 : FVec F Pre_last_offset.S3211264 .bf16)
    (x2 : IVec Pre_last_offset.S1605632 8) (x3 : FVec F Pre_last_offset.S25088 .f32) (x4 : IVec Pre_last_offset.S1605632 8)
    (x5 : FVec F Pre_last_offset.S25088 .f32) (x6 x7 : FVec F Pre_last_offset.S16 .f32) (x8 : IVec Pre_last_offset.S97 32)
    (x9 : FVec F Pre_last_offset.S96 .f32) (x10 : IVec Pre_last_offset.S_ 32)
    (h : Pre_last_offset.fn x0 x1 x2 x3 x4 x5 x6 x7 x8 x9 x10 = fun _ => 1#1)
    (i : Pre_last_offset.S97.Idx) (hi : (i 0).val = 96) : 3203072 < (x8 i).toInt := by
  have e := congrFun h (fun a => Fin.elim0 a)
  have e' := (WordCmp.ofBool_decide_eq_one_iff _).1 e
  refine lt_of_lt_of_eq e' (congrArg (fun j => (x8 j).toInt) ?_)
  funext a
  obtain ⟨a, ha⟩ := a
  have h0 : a = 0 := by have : a < 1 := ha; omega
  subst h0
  refine Fin.ext ?_
  refine Eq.trans ?_ hi.symm
  show 96 + _ = 96
  exact congrArg (96 + ·) (Nat.lt_one_iff.1 (Fin.isLt (n := 1) _))

end Cert.Proof

end
-- ==== Proof.NonNeg.lean ====
module

public import proofs.«01_k».proof.Proof.Gen.Pre_ordered_tables
public import proofs.«01_k».proof.Proof.Rank
public import Idealize.ShloMosaic.Lib.WordCmp
public import Idealize.ShloMosaic.Lib.ReduceAll
public import Idealize.ShloMosaic.PureOps.Ideal.Laws

/-! The precondition of the value claim, read as inequalities. -/

@[expose] public section

noncomputable section

namespace Cert.Proof

open Idealize.ShloMosaic

variable (x0 : FVec Ideal Pre_ordered_tables.S3211264 .f32) (x1 : FVec Ideal Pre_ordered_tables.S3211264 .bf16)
  (x2 : IVec Pre_ordered_tables.S1605632 8) (x3 : FVec Ideal Pre_ordered_tables.S25088 .f32) (x4 : IVec Pre_ordered_tables.S1605632 8)
  (x5 : FVec Ideal Pre_ordered_tables.S25088 .f32) (x6 x7 : FVec Ideal Pre_ordered_tables.S16 .f32) (x8 : IVec Pre_ordered_tables.S97 32)
  (x9 : FVec Ideal Pre_ordered_tables.S96 .f32) (x10 : IVec Pre_ordered_tables.S_ 32)

/-- A comparison with zero that came out 1. -/
theorem nonneg_of_oge (a : EReal) (h : FloatOps.cmpf (F := Ideal) (φ := .f32) .oge a (FloatOps.ofBits (F := Ideal) .f32 0x00000000#32) = 1#1) : 0 ≤ a := by
  have hz : FloatOps.ofBits (F := Ideal) .f32 0x00000000#32 = (0 : EReal) := by
    show Ideal.ofBits .f32 0x00000000#32 = 0
    simp [Ideal.ofBits, Ideal.ieee]
  rw [hz] at h
  exact (WordCmp.ofBool_decide_eq_one_iff _).1 h

/-- Two neighbours of a table whose comparison came out 1. -/
theorem le_of_ole (q : FVec Ideal Pre_ordered_tables.S16 .f32) (k : Fin 15)
    (h : FloatOps.cmpf (F := Ideal) (φ := .f32) .ole (q (ValueIdx.ix1 k.castSucc)) (q (ValueIdx.ix1 k.succ)) = 1#1) :
    q (ValueIdx.ix1 k.castSucc) ≤ q (ValueIdx.ix1 k.succ) :=
  (WordCmp.ofBool_decide_eq_one_iff _).1 h

/-- A table is in order if its first fifteen entries, compared with its last fifteen, all came out 1. -/
theorem sorted_of_slices (q : FVec Ideal Pre_ordered_tables.S16 .f32) (h0 h1)
    (h : ∀ j, cmpf .ole (extractStridedSlice Pre_ordered_tables.S15 ![0] q h0) (extractStridedSlice Pre_ordered_tables.S15 ![1] q h1) j = 1#1) (k : Fin 15) :
    q (ValueIdx.ix1 k.castSucc) ≤ q (ValueIdx.ix1 k.succ) := by
  refine le_of_ole q k ?_
  refine Eq.trans ?_ (h (ValueIdx.ix1 k))
  refine congrArg₂ (FloatOps.cmpf (F := Ideal) (φ := .f32) .ole) (congrArg q ?_) (congrArg q ?_)
  · funext a
    fin_cases a
    exact Fin.ext (by show k.val = 0 + k.val; omega)
  · funext a
    fin_cases a
    exact Fin.ext (by show k.val + 1 = 1 + k.val; omega)

/-- If `ordered_tables` is all ones, the last offset exceeds 3203072, both tables are in order, and v's table and absmaxes are
    nowhere negative. -/
theorem of_ordered_tables (h : Pre_ordered_tables.fn x0 x1 x2 x3 x4 x5 x6 x7 x8 x9 x10 = fun _ => 1#1) :
    (∀ i : Pre_ordered_tables.S97.Idx, (i 0).val = 96 → 3203072 < (x8 i).toInt)
      ∧ (∀ k : Fin 15, x6 (ValueIdx.ix1 k.castSucc) ≤ x6 (ValueIdx.ix1 k.succ)) ∧ (∀ k : Fin 15, x7 (ValueIdx.ix1 k.castSucc) ≤ x7 (ValueIdx.ix1 k.succ))
      ∧ (∀ j, (0 : EReal) ≤ x7 j) ∧ ∀ j, (0 : EReal) ≤ x5 j := by
  have e := congrFun h (fun a => Fin.elim0 a)
  obtain ⟨e1, e5⟩ := IntOp.andi_eq_one.1 e
  obtain ⟨e2, e7⟩ := IntOp.andi_eq_one.1 e1
  obtain ⟨e3, s7⟩ := IntOp.andi_eq_one.1 e2
  obtain ⟨e8, s6⟩ := IntOp.andi_eq_one.1 e3
  haveI : Subsingleton Pre_ordered_tables.S_.Idx := ⟨fun a b => funext fun i => Fin.elim0 i⟩
  refine ⟨fun i hi => ?_, sorted_of_slices x6 _ _ fun j => Host.reduce_andi_all _ _ _ _ _ s6 j, sorted_of_slices x7 _ _ fun j => Host.reduce_andi_all _ _ _ _ _ s7 j,
    fun j => nonneg_of_oge _ (Host.reduce_andi_all _ _ _ _ _ e7 j), fun j => nonneg_of_oge _ (Host.reduce_andi_all _ _ _ _ _ e5 j)⟩
  have e' := (WordCmp.ofBool_decide_eq_one_iff _).1 e8
  refine lt_of_lt_of_eq e' (congrArg (fun j => (x8 j).toInt) ?_)
  funext a
  obtain ⟨a, ha⟩ := a
  have h0 : a = 0 := by have : a < 1 := ha; omega
  subst h0
  refine Fin.ext ?_
  refine Eq.trans ?_ hi.symm
  show 96 + _ = 96
  exact congrArg (96 + ·) (Nat.lt_one_iff.1 (Fin.isLt (n := 1) _))

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.Pre_last_offset
public import proofs.«01_k».proof.Proof.Gen.Pre_ordered_tables
public import proofs.«01_k».proof.Proof.Gen.ReferenceIdeal.Run
public import proofs.«01_k».proof.Proof.Gen.ReferenceIdeal.Read
public import proofs.«01_k».proof.Proof.Run
public import proofs.«01_k».proof.Proof.KRun
public import proofs.«01_k».proof.Proof.Blocks
public import proofs.«01_k».proof.Proof.CodeBlocks
public import proofs.«01_k».proof.Proof.Ref
public import proofs.«01_k».proof.Proof.RefCodes
public import proofs.«01_k».proof.Proof.Last
public import proofs.«01_k».proof.Proof.NonNeg
public import Idealize.ShloMosaic.Lib.Bf16Pair
public import Idealize.ShloMosaic.Lib.Quiescent
public import Idealize.ShloMosaic.Lib.Claim

@[expose] public section

noncomputable section

namespace Cert.Proof

open Idealize.ShloMosaic Idealize.SL.Sem

/-- The precondition of the kernel, read as an inequality on the last offset. -/
theorem last_offset_kernel (m : (ℓ : Loc Cert.Kernel.nD Cert.Kernel.τ Cert.Kernel.sig) → Buf (Elt Bits) ℓ)
    (h : Cert.Pre_Kernel m) : Cert.Kernel.Hand.LastOffset m := fun c => by
  exact lt_of_last_offset _ _ _ _ _ _ _ _ _ _ _ (h c) _ rfl

section Ideal

variable (m : (ℓ : Loc Cert.KernelIdeal.nD Cert.KernelIdeal.τ Cert.KernelIdeal.sig) → Buf (Elt Ideal) ℓ)

/-- The precondition of the idealized kernel, read the same way. -/
theorem last_offset_ideal (h : Cert.Pre_KernelIdeal m) : Cert.KernelIdeal.Hand.LastOffset m := fun c => by
  exact lt_of_last_offset _ _ _ _ _ _ _ _ _ _ _ (h c) _ rfl

/-- The value claim's precondition bounds the last offset too. -/
theorem last_offset_value (h : Cert.Pre_KernelIdeal_ordered_tables m) : Cert.KernelIdeal.Hand.LastOffset m := fun c => by
  exact (of_ordered_tables _ _ _ _ _ _ _ _ _ _ _ (h c)).1 _ rfl

end Ideal

/-- The reference's frame: its run, and no counter to read. -/
theorem quiescent_reference : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

/-- The four results of the idealized kernel are the reference's. -/
theorem algebraic : Cert.algebraic_KernelIdeal_ReferenceIdeal_pre_ordered_tables := by
  intro m g m' g' hpre hagree
  have hO := last_offset_value m hpre
  refine ⟨fun c => Cert.KernelIdeal.Hand.arrMC m c, fun c => Cert.KernelIdeal.Hand.arrM m c, fun c => Cert.KernelIdeal.Hand.arrVC m c, fun c => Cert.KernelIdeal.Hand.arrV m c, ?_, ?_⟩
  · refine (θ_run _ _ _).mono (fun r h c => ⟨?_, ?_, ?_, ?_, (h.1.1 c)⟩) (θ_run_and (Cert.KernelIdeal.Hand.frame_of m g _ (Cert.KernelIdeal.Hand.A_eq m hO) (Cert.KernelIdeal.Hand.run_main m g hO)) (Cert.KernelIdeal.Hand.run_main m g hO))
    · have hp := of_ordered_tables _ _ _ _ _ _ _ _ _ _ _ (hpre c)
      exact ((h.2.1 c).1 13).trans (Cert.KernelIdeal.Hand.final_mc m hO c hp.2.1)
    · exact ((h.2.1 c).1 14).trans (Cert.KernelIdeal.Hand.final_m m hO c)
    · have hp := of_ordered_tables _ _ _ _ _ _ _ _ _ _ _ (hpre c)
      exact ((h.2.1 c).1 15).trans (Cert.KernelIdeal.Hand.final_vc m hO c hp.2.2.1)
    · have hp := of_ordered_tables _ _ _ _ _ _ _ _ _ _ _ (hpre c)
      exact ((h.2.1 c).1 16).trans (Cert.KernelIdeal.Hand.final_v m hO c hp.2.2.2.1 hp.2.2.2.2)
  · refine (θ_run _ _ _).mono (fun r h c => ⟨?_, ?_, ?_, ?_, (h c).2.2.2.2⟩) (Cert.ReferenceIdeal.Value.run (F := Ideal) m' g')
    · have hp := of_ordered_tables _ _ _ _ _ _ _ _ _ _ _ (hpre c)
      obtain ⟨-, a1, a2, a3, -, -, a6, -, -, -, -⟩ := hagree c
      refine (h c).1.trans ((Cert.ReferenceIdeal.Read.val_main_v293_eq _).trans (funext fun y => ?_))
      refine (congrArg _ (ValueIdx.eq_ix2 y)).trans ?_
      refine (Cert.ReferenceIdeal.Hand.v293_apply _ _ _ _ (fun k => ?_) (y 0) (y 1)).trans ?_
      · have e := hp.2.1 k
        rw [← a6] at e
        exact e
      · exact congrArg (fun f => Cert.Absmax.bytesOf f (y 0) (y 1)) (Cert.ReferenceIdeal.Hand.bytesM_congr a6 a3 a2 a1)
    · obtain ⟨-, a1, a2, a3, -, -, a6, -, -, -, -⟩ := hagree c
      refine (h c).2.1.trans ((Cert.ReferenceIdeal.Read.val_main_v294_eq _).trans (funext fun y => ?_))
      refine (Cert.ReferenceIdeal.Hand.v294_apply _ _ _ _ y).trans ?_
      exact congrFun (Cert.ReferenceIdeal.Hand.absM_congr a6 a3 a2 a1) (Cert.Absmax.blockOf y)
    · have hp := of_ordered_tables _ _ _ _ _ _ _ _ _ _ _ (hpre c)
      obtain ⟨-, a1, -, -, a4, a5, -, a7, -, -, -⟩ := hagree c
      refine (h c).2.2.1.trans ((Cert.ReferenceIdeal.Read.val_main_v322_eq _).trans (funext fun y => ?_))
      refine (congrArg _ (ValueIdx.eq_ix2 y)).trans ?_
      refine (Cert.ReferenceIdeal.Hand.v322_apply _ _ _ _ (fun k => ?_) (y 0) (y 1)).trans ?_
      · have e := hp.2.2.1 k
        rw [← a7] at e
        exact e
      · exact congrArg (fun f => Cert.Absmax.bytesOf f (y 0) (y 1)) (Cert.ReferenceIdeal.Hand.bytesV_congr a7 a5 a4 a1)
    · obtain ⟨-, a1, -, -, a4, a5, -, a7, -, -, -⟩ := hagree c
      refine (h c).2.2.2.1.trans ((Cert.ReferenceIdeal.Read.val_main_v323_eq _).trans (funext fun y => ?_))
      refine (Cert.ReferenceIdeal.Hand.v323_apply _ _ _ _ y).trans ?_
      exact congrFun (Cert.ReferenceIdeal.Hand.absV_congr a7 a5 a4 a1) (Cert.Absmax.blockOf y)

theorem claim : Cert.Claim := ⟨Cert.Kernel.Gen.facts, Cert.KernelIdeal.Gen.facts, Cert.ReferenceIdeal.Gen.facts, Cert.Pre_last_offset.Gen.facts,
  Cert.Pre_ordered_tables.Gen.facts,
  fun m g h => Cert.Kernel.Hand.frame_of m g _ (Cert.Kernel.Hand.A_eq m (last_offset_kernel m h))
    (Cert.Kernel.Hand.run_main m g (last_offset_kernel m h)),
  fun m g h => Cert.KernelIdeal.Hand.frame_of m g _ (Cert.KernelIdeal.Hand.A_eq m (last_offset_ideal m h))
    (Cert.KernelIdeal.Hand.run_main m g (last_offset_ideal m h)),
  fun m g h => Cert.KernelIdeal.Hand.frame_of m g _ (Cert.KernelIdeal.Hand.A_eq m (last_offset_value m h))
    (Cert.KernelIdeal.Hand.run_main m g (last_offset_value m h)),
  quiescent_reference,
  fun m g _ => quiescent_reference m g trivial,
  algebraic,
  IdealRules.bf16_pair.statement _ _⟩

end Cert.Proof

end
